-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_tables : Cert.Pre_tables.Facts] (m : (ℓ : Loc Cert.Kernel5.nD Cert.Kernel5.τ Cert.Kernel5.sig) → Buf (Elt Bits) ℓ) : Prop :=
  ∀ c : Dev Cert.Kernel5.nD,
    (Cert.Pre_tables.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_tables : Cert.Pre_tables.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_tables [hPre_tables : Cert.Pre_tables.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 [hPre_tables_down : Cert.Pre_tables_down.Facts] (m : (ℓ : Loc Cert.Kernel6.nD Cert.Kernel6.τ Cert.Kernel6.sig) → Buf (Elt Bits) ℓ) : Prop :=
  ∀ c : Dev Cert.Kernel6.nD,
    (Cert.Pre_tables_down.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3))) = (fun _ => 1#1)

def Pre_Kernel6Ideal [hPre_tables_down : Cert.Pre_tables_down.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_tables_down.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_tables_down [hPre_tables_down : Cert.Pre_tables_down.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_tables_down.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_prep [hPre_finite_prep : Cert.Pre_finite_prep.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_prep.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_prep [hPre_finite_prep : Cert.Pre_finite_prep.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_prep.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_mod [hPre_finite_mod : Cert.Pre_finite_mod.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_mod.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_mod [hPre_finite_mod : Cert.Pre_finite_mod.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_mod.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_prompt [hPre_finite_prompt : Cert.Pre_finite_prompt.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_prompt.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_prompt [hPre_finite_prompt : Cert.Pre_finite_prompt.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_prompt.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] [hPre_tables : Cert.Pre_tables.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_tables : Cert.Pre_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_tables [hReference5Ideal : Cert.Reference5Ideal.Facts] [hPre_tables : Cert.Pre_tables.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_tables m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] [hPre_tables_down : Cert.Pre_tables_down.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] [hPre_tables_down : Cert.Pre_tables_down.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_tables_down [hReference6Ideal : Cert.Reference6Ideal.Facts] [hPre_tables_down : Cert.Pre_tables_down.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_tables_down m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_prep [hKernel7Ideal : Cert.Kernel7Ideal.Facts] [hPre_finite_prep : Cert.Pre_finite_prep.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_prep m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_prep [hReference7Ideal : Cert.Reference7Ideal.Facts] [hPre_finite_prep : Cert.Pre_finite_prep.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_prep m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_mod [hKernel8Ideal : Cert.Kernel8Ideal.Facts] [hPre_finite_mod : Cert.Pre_finite_mod.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_mod m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_mod [hReference8Ideal : Cert.Reference8Ideal.Facts] [hPre_finite_mod : Cert.Pre_finite_mod.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_mod m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_prompt [hKernel9Ideal : Cert.Kernel9Ideal.Facts] [hPre_finite_prompt : Cert.Pre_finite_prompt.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_prompt m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_prompt [hReference9Ideal : Cert.Reference9Ideal.Facts] [hPre_finite_prompt : Cert.Pre_finite_prompt.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_prompt m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] [hPre_tables : Cert.Pre_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] [hPre_tables_down : Cert.Pre_tables_down.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v68) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite_prep [hKernel7Ideal : Cert.Kernel7Ideal.Facts] [hReference7Ideal : Cert.Reference7Ideal.Facts] [hPre_finite_prep : Cert.Pre_finite_prep.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_prep m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v21_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_mod [hKernel8Ideal : Cert.Kernel8Ideal.Facts] [hReference8Ideal : Cert.Reference8Ideal.Facts] [hPre_finite_mod : Cert.Pre_finite_mod.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_mod m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_prompt [hKernel9Ideal : Cert.Kernel9Ideal.Facts] [hReference9Ideal : Cert.Reference9Ideal.Facts] [hPre_finite_prompt : Cert.Pre_finite_prompt.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_prompt m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v13)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v26)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v26) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_tables : Cert.Pre_tables.Facts) (hPre_tables_down : Cert.Pre_tables_down.Facts) (hPre_finite_prep : Cert.Pre_finite_prep.Facts) (hPre_finite_mod : Cert.Pre_finite_mod.Facts) (hPre_finite_prompt : Cert.Pre_finite_prompt.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_tables := hPre_tables)
    ∧ quiescent_Kernel5Ideal (hKernel5Ideal := hKernel5Ideal) (hPre_tables := hPre_tables)
    ∧ quiescent_Reference5Ideal (hReference5Ideal := hReference5Ideal)
    ∧ quiescent_Reference5Ideal_pre_tables (hReference5Ideal := hReference5Ideal) (hPre_tables := hPre_tables)
    ∧ quiescent_Kernel6 (hKernel6 := hKernel6) (hPre_tables_down := hPre_tables_down)
    ∧ quiescent_Kernel6Ideal (hKernel6Ideal := hKernel6Ideal) (hPre_tables_down := hPre_tables_down)
    ∧ quiescent_Reference6Ideal (hReference6Ideal := hReference6Ideal)
    ∧ quiescent_Reference6Ideal_pre_tables_down (hReference6Ideal := hReference6Ideal) (hPre_tables_down := hPre_tables_down)
    ∧ quiescent_Kernel7 (hKernel7 := hKernel7)
    ∧ quiescent_Kernel7Ideal (hKernel7Ideal := hKernel7Ideal)
    ∧ quiescent_Kernel7Ideal_pre_finite_prep (hKernel7Ideal := hKernel7Ideal) (hPre_finite_prep := hPre_finite_prep)
    ∧ quiescent_Reference7Ideal (hReference7Ideal := hReference7Ideal)
    ∧ quiescent_Reference7Ideal_pre_finite_prep (hReference7Ideal := hReference7Ideal) (hPre_finite_prep := hPre_finite_prep)
    ∧ quiescent_Kernel8 (hKernel8 := hKernel8)
    ∧ quiescent_Kernel8Ideal (hKernel8Ideal := hKernel8Ideal)
    ∧ quiescent_Kernel8Ideal_pre_finite_mod (hKernel8Ideal := hKernel8Ideal) (hPre_finite_mod := hPre_finite_mod)
    ∧ quiescent_Reference8Ideal (hReference8Ideal := hReference8Ideal)
    ∧ quiescent_Reference8Ideal_pre_finite_mod (hReference8Ideal := hReference8Ideal) (hPre_finite_mod := hPre_finite_mod)
    ∧ quiescent_Kernel9 (hKernel9 := hKernel9)
    ∧ quiescent_Kernel9Ideal (hKernel9Ideal := hKernel9Ideal)
    ∧ quiescent_Kernel9Ideal_pre_finite_prompt (hKernel9Ideal := hKernel9Ideal) (hPre_finite_prompt := hPre_finite_prompt)
    ∧ quiescent_Reference9Ideal (hReference9Ideal := hReference9Ideal)
    ∧ quiescent_Reference9Ideal_pre_finite_prompt (hReference9Ideal := hReference9Ideal) (hPre_finite_prompt := hPre_finite_prompt)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_tables := hPre_tables)
    ∧ preserves_Kernel6_Kernel6Ideal
    ∧ algebraic_Kernel6Ideal_Reference6Ideal (hKernel6Ideal := hKernel6Ideal) (hReference6Ideal := hReference6Ideal) (hPre_tables_down := hPre_tables_down)
    ∧ preserves_Kernel7_Kernel7Ideal
    ∧ algebraic_Kernel7Ideal_Reference7Ideal_pre_finite_prep (hKernel7Ideal := hKernel7Ideal) (hReference7Ideal := hReference7Ideal) (hPre_finite_prep := hPre_finite_prep)
    ∧ preserves_Kernel8_Kernel8Ideal
    ∧ algebraic_Kernel8Ideal_Reference8Ideal_pre_finite_mod (hKernel8Ideal := hKernel8Ideal) (hReference8Ideal := hReference8Ideal) (hPre_finite_mod := hPre_finite_mod)
    ∧ preserves_Kernel9_Kernel9Ideal
    ∧ algebraic_Kernel9Ideal_Reference9Ideal_pre_finite_prompt (hKernel9Ideal := hKernel9Ideal) (hReference9Ideal := hReference9Ideal) (hPre_finite_prompt := hPre_finite_prompt)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S12288x512 : Shape := ⟨2, ![12288, 512]⟩
abbrev S12288x128 : Shape := ⟨2, ![12288, 128]⟩
abbrev S2x512x2x64 : Shape := ⟨4, ![2, 512, 2, 64]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S12288x128 : S_.BroadcastsInDim S12288x128 (![] : Fin 0 → Fin S12288x128.rank)
  reducesTo_S12288x128_S_d0_1 : S12288x128.ReducesTo [0, 1] S_
  bcast_S_S2x512x2x64 : S_.BroadcastsInDim S2x512x2x64 (![] : Fin 0 → Fin S2x512x2x64.rank)
  reducesTo_S2x512x2x64_S_d0_1_2_3 : S2x512x2x64.ReducesTo [0, 1, 2, 3] S_

variable [Facts]

def fn {F : FTy → Type} [FloatOps F] (main_arg0 : FVec F S12288x512 .f32) (main_arg1 : FVec F S12288x128 .f32) (main_arg2 : FVec F S12288x128 .f32) (main_arg3 : FVec F S2x512x2x64 .f32) (main_arg4 : FVec F S2x512x2x64 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S12288x128 .f32 := Host.absf main_arg1
  let main_cst_0 : FVec F S_ .f32 := constant S_ .f32 0x7F800000#32
  let main_v5 : FVec F S12288x128 .f32 := broadcastInDim S12288x128 ![] bcast_S_S12288x128 main_cst_0
  let main_v6 : IVec S12288x128 1 := cmpf .olt main_v4 main_v5
  let main_c_1 : IVec S_ 1 := constantI S_ 1 1#1
  let main_v7 : IVec S_ 1 := (fun x v => Host.reduce IntOp.andi x v reducesTo_S12288x128_S_d0_1 h_S_) main_v6 main_c_1
  let main_v8 : IVec S_ 1 := andi main_v3 main_v7
  let main_v9 : FVec F S2x512x2x64 .f32 := Host.absf main_arg3
  let main_cst_2 : FVec F S_ .f32 := constant S_ .f32 0x7F800000#32
  let main_v10 : FVec F S2x512x2x64 .f32 := broadcastInDim S2x512x2x64 ![] bcast_S_S2x512x2x64 main_cst_2
  let main_v11 : IVec S2x512x2x64 1 := cmpf .olt main_v9 main_v10
  let main_c_3 : IVec S_ 1 := constantI S_ 1 1#1
  let main_v12 : IVec S_ 1 := (fun x v => Host.reduce IntOp.andi x v reducesTo_S2x512x2x64_S_d0_1_2_3 h_S_) main_v11 main_c_3
  let main_v13 : IVec S_ 1 := andi main_v8 main_v12
  main_v13
-- ==== Pre_finite_mod.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S8x1024 .f32) (main_arg1 : FVec F S4x1024x6144 .f32) (main_arg2 : FVec F S4x6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S4x1024x6144 .f32 := Host.absf main_arg1
  let main_cst_0 : FVec F S_ .f32 := constant S_ .f32 0x7F800000#32
  let main_v5 : FVec F S4x1024x6144 .f32 := broadcastInDim S4x1024x6144 ![] bcast_S_S4x1024x6144 main_cst_0
  let main_v6 : IVec S4x1024x6144 1 := cmpf .olt main_v4 main_v5
  let main_c_1 : IVec S_ 1 := constantI S_ 1 1#1
  let main_v7 : IVec S_ 1 := (fun x v => Host.reduce IntOp.andi x v reducesTo_S4x1024x6144_S_d0_1_2 h_S_) main_v6 main_c_1
  let main_v8 : IVec S_ 1 := andi main_v3 main_v7
  main_v8
-- ==== Pre_finite_prep.lean ====
abbrev S12288x6144 : Shape := ⟨2, ![12288, 6144]⟩
abbrev S2x4096x128 : Shape := ⟨3, ![2, 4096, 128]⟩
abbrev S4x64 : Shape := ⟨2, ![4, 64]⟩
abbrev S_ : Shape := ⟨0, ![]⟩

class Facts : Prop where
  bitsLt_bf16_f32 : FTy.bits .bf16 < FTy.bits .f32
  bcast_S_S12288x6144 : S_.BroadcastsInDim S12288x6144 (![] : Fin 0 → Fin S12288x6144.rank)
  reducesTo_S12288x6144_S_d0_1 : S12288x6144.ReducesTo [0, 1] S_
  h_S_ : 0 < S_.numel

variable [Facts]

def fn {F : FTy → Type} [FloatOps F] (main_arg0 : FVec F S12288x6144 .bf16) (main_arg1 : FVec F S2x4096x128 .f32) (main_arg2 : FVec F S2x4096x128 .f32) (main_arg3 : FVec F S4x64 .f32) (main_arg4 : FVec F S4x64 .f32) : IVec S_ 1 :=
  let main_v0 : FVec F S12288x6144 .f32 := (extf .f32 · bitsLt_bf16_f32) main_arg0
  let main_v1 : FVec F S12288x6144 .f32 := Host.absf main_v0
  let main_cst : FVec F S_ .f32 := constant S_ .f32 0x7F800000#32
  let main_v2 : FVec F S12288x6144 .f32 := broadcastInDim S12288x6144 ![] bcast_S_S12288x6144 main_cst
  let main_v3 : IVec S12288x6144 1 := cmpf .olt main_v1 main_v2
  let main_c : IVec S_ 1 := constantI S_ 1 1#1
  let main_v4 : IVec S_ 1 := (fun x v => Host.reduce IntOp.andi x v reducesTo_S12288x6144_S_d0_1 h_S_) main_v3 main_c
  main_v4
-- ==== Pre_finite_prompt.lean ====
abbrev S12288x512 : Shape := ⟨2, ![12288, 512]⟩
abbrev S12288x128 : Shape := ⟨2, ![12288, 128]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S12288x128 : S_.BroadcastsInDim S12288x128 (![] : Fin 0 → Fin S12288x128.rank)
  reducesTo_S12288x128_S_d0_1 : S12288x128.ReducesTo [0, 1] S_

variable [Facts]

def fn {F : FTy → Type} [FloatOps F] (main_arg0 : FVec F S12288x512 .f32) (main_arg1 : FVec F S12288x128 .f32) (main_arg2 : FVec F S12288x128 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S12288x128 .f32 := Host.absf main_arg1
  let main_cst_0 : FVec F S_ .f32 := constant S_ .f32 0x7F800000#32
  let main_v5 : FVec F S12288x128 .f32 := broadcastInDim S12288x128 ![] bcast_S_S12288x128 main_cst_0
  let main_v6 : IVec S12288x128 1 := cmpf .olt main_v4 main_v5
  let main_c_1 : IVec S_ 1 := constantI S_ 1 1#1
  let main_v7 : IVec S_ 1 := (fun x v => Host.reduce IntOp.andi x v reducesTo_S12288x128_S_d0_1 h_S_) main_v6 main_c_1
  let main_v8 : IVec S_ 1 := andi main_v3 main_v7
  main_v8
-- ==== Pre_tables.lean ====
abbrev S28672x1024 : Shape := ⟨2, ![28672, 1024]⟩
abbrev S56 : Shape := ⟨1, ![56]⟩
abbrev S1 : Shape := ⟨1, ![1]⟩
abbrev S2x8x1024x3584 : Shape := ⟨4, ![2, 8, 1024, 3584]⟩
abbrev S_ : Shape := ⟨0, ![]⟩

class Facts : Prop where
  bcast_S_S56 : S_.BroadcastsInDim S56 (![] : Fin 0 → Fin S56.rank)
  reducesTo_S56_S_d0 : S56.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S28672x1024 .bf16) (main_arg1 : IVec S56 32) (main_arg2 : IVec S1 32) (main_arg3 : FVec F S2x8x1024x3584 .f32) (main_arg4 : FVec F S2x8x1024x3584 .f32) : IVec S_ 1 :=
  let main_c : IVec S_ 32 := constantI S_ 32 0#32
  let main_v0 : IVec S56 32 := broadcastInDim S56 ![] bcast_S_S56 main_c
  let main_v1 : IVec S56 1 := cmpi .sge main_arg1 main_v0
  let main_c_0 : IVec S_ 32 := constantI S_ 32 8#32
  let main_v2 : IVec S56 32 := broadcastInDim S56 ![] bcast_S_S56 main_c_0
  let main_v3 : IVec S56 1 := cmpi .slt main_arg1 main_v2
  let main_v4 : IVec S56 1 := andi main_v1 main_v3
  let main_c_1 : IVec S_ 1 := constantI S_ 1 1#1
  let main_v5 : IVec S_ 1 := (fun x v => Host.reduce IntOp.andi x v reducesTo_S56_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 56#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_tables_down.lean ====
abbrev S28672x3584 : Shape := ⟨2, ![28672, 3584]⟩
abbrev S56 : Shape := ⟨1, ![56]⟩
abbrev S1 : Shape := ⟨1, ![1]⟩
abbrev S2x8x3584x1024 : Shape := ⟨4, ![2, 8, 3584, 1024]⟩
abbrev S_ : Shape := ⟨0, ![]⟩

class Facts : Prop where
  bcast_S_S56 : S_.BroadcastsInDim S56 (![] : Fin 0 → Fin S56.rank)
  reducesTo_S56_S_d0 : S56.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S28672x3584 .bf16) (main_arg1 : IVec S56 32) (main_arg2 : IVec S1 32) (main_arg3 : FVec F S2x8x3584x1024 .f32) : IVec S_ 1 :=
  let main_c : IVec S_ 32 := constantI S_ 32 0#32
  let main_v0 : IVec S56 32 := broadcastInDim S56 ![] bcast_S_S56 main_c
  let main_v1 : IVec S56 1 := cmpi .sge main_arg1 main_v0
  let main_c_0 : IVec S_ 32 := constantI S_ 32 8#32
  let main_v2 : IVec S56 32 := broadcastInDim S56 ![] bcast_S_S56 main_c_0
  let main_v3 : IVec S56 1 := cmpi .slt main_arg1 main_v2
  let main_v4 : IVec S56 1 := andi main_v1 main_v3
  let main_c_1 : IVec S_ 1 := constantI S_ 1 1#1
  let main_v5 : IVec S_ 1 := (fun x v => Host.reduce IntOp.andi x v reducesTo_S56_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 56#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S12288x512 : Shape := ⟨2, ![12288, 512]⟩
abbrev S12288x128 : Shape := ⟨2, ![12288, 128]⟩
abbrev S2x512x2x64 : Shape := ⟨4, ![2, 512, 2, 64]⟩
abbrev S_ : Shape := ⟨0, ![]⟩
abbrev S12288x2x1x64 : Shape := ⟨4, ![12288, 2, 1, 64]⟩
abbrev S12288x2x2x64 : Shape := ⟨4, ![12288, 2, 2, 64]⟩
abbrev S12288x256 : Shape := ⟨2, ![12288, 256]⟩
abbrev S12288x2x64 : Shape := ⟨3, ![12288, 2, 64]⟩
abbrev S2x64x12288 : Shape := ⟨3, ![2, 64, 12288]⟩
abbrev S2x128x12288 : Shape := ⟨3, ![2, 128, 12288]⟩
abbrev S256x12288 : Shape := ⟨2, ![256, 12288]⟩
abbrev S2x512x2x1x64 : Shape := ⟨5, ![2, 512, 2, 1, 64]⟩
abbrev S2x512x2x2x64 : Shape := ⟨5, ![2, 512, 2, 2, 64]⟩
abbrev S2x512x256 : Shape := ⟨3, ![2, 512, 256]⟩
abbrev S2x2x64x512 : Shape := ⟨4, ![2, 2, 64, 512]⟩
abbrev S2x2x128x512 : Shape := ⟨4, ![2, 2, 128, 512]⟩
abbrev S2x256x512 : Shape := ⟨3, ![2, 256, 512]⟩
abbrev S8192x512 : Shape := ⟨2, ![8192, 512]⟩
abbrev S512x256 : Shape := ⟨2, ![512, 256]⟩
abbrev S4096x128 : Shape := ⟨2, ![4096, 128]⟩
abbrev S128x4096 : Shape := ⟨2, ![128, 4096]⟩
abbrev S1x512x128 : Shape := ⟨3, ![1, 512, 128]⟩
abbrev S1x128x512 : Shape := ⟨3, ![1, 128, 512]⟩
abbrev S512x128 : Shape := ⟨2, ![512, 128]⟩
abbrev S2048x128 : Shape := ⟨2, ![2048, 128]⟩
abbrev S512x2048 : Shape := ⟨2, ![512, 2048]⟩
abbrev S2048 : Shape := ⟨1, ![2048]⟩
abbrev S1x2048 : Shape := ⟨2, ![1, 2048]⟩
abbrev S80x512 : Shape := ⟨2, ![80, 512]⟩
abbrev S80x2048 : Shape := ⟨2, ![80, 2048]⟩
abbrev S128x512 : Shape := ⟨2, ![128, 512]⟩
abbrev S64x2048 : Shape := ⟨2, ![64, 2048]⟩
abbrev S64x512 : Shape := ⟨2, ![64, 512]⟩
abbrev S256x512 : Shape := ⟨2, ![256, 512]⟩

abbrev nBuf : Space → Nat
  | .hbm => 31
  | .vmem => 12
  | .smem => 0
  | _ => 0

abbrev bufTy : (tb : Table) → Fin (tcTables nBuf tb) → BufTy
  | .hbm, ⟨0, _⟩ => ⟨S12288x512, .f32⟩
  | .hbm, ⟨1, _⟩ => ⟨S12288x128, .f32⟩
  | .hbm, ⟨2, _⟩ => ⟨S12288x128, .f32⟩
  | .hbm, ⟨3, _⟩ => ⟨S2x512x2x64, .f32⟩
  | .hbm, ⟨4, _⟩ => ⟨S2x512x2x64, .f32⟩
  | .hbm, ⟨5, _⟩ => ⟨S_, .f32⟩
  | .hbm, ⟨6, _⟩ => ⟨S12288x512, .f32⟩
  | .hbm, ⟨7, _⟩ => ⟨S12288x512, .f32⟩
  | .hbm, ⟨8, _⟩ => ⟨S12288x512, .bf16⟩
  | .hbm, ⟨9, _⟩ => ⟨S12288x128, .bf16⟩
  | .hbm, ⟨10, _⟩ => ⟨S12288x2x1x64, .bf16⟩
  | .hbm, ⟨11, _⟩ => ⟨S12288x2x2x64, .bf16⟩
  | .hbm, ⟨12, _⟩ => ⟨S12288x256, .bf16⟩
  | .hbm, ⟨13, _⟩ => ⟨S12288x128, .bf16⟩
  | .hbm, ⟨14, _⟩ => ⟨S12288x2x64, .bf16⟩
  | .hbm, ⟨15, _⟩ => ⟨S2x64x12288, .bf16⟩
  | .hbm, ⟨16, _⟩ => ⟨S_, .bf16⟩
  | .hbm, ⟨17, _⟩ => ⟨S2x64x12288, .bf16⟩
  | .hbm, ⟨18, _⟩ => ⟨S2x128x12288, .bf16⟩
  | .hbm, ⟨19, _⟩ => ⟨S256x12288, .bf16⟩
  | .hbm, ⟨20, _⟩ => ⟨S2x512x2x64, .bf16⟩
  | .hbm, ⟨21, _⟩ => ⟨S2x512x2x1x64, .bf16⟩
  | .hbm, ⟨22, _⟩ => ⟨S2x512x2x2x64, .bf16⟩
  | .hbm, ⟨23, _⟩ => ⟨S2x512x256, .bf16⟩
  | .hbm, ⟨24, _⟩ => ⟨S2x512x2x64, .bf16⟩
  | .hbm, ⟨25, _⟩ => ⟨S2x2x64x512, .bf16⟩
  | .hbm, ⟨26, _⟩ => ⟨S_, .bf16⟩
  | .hbm, ⟨27, _⟩ => ⟨S2x2x64x512, .bf16⟩
  | .hbm, ⟨28, _⟩ => ⟨S2x2x128x512, .bf16⟩
  | .hbm, ⟨29, _⟩ => ⟨S2x256x512, .bf16⟩
  | .hbm, ⟨30, _⟩ => ⟨S8192x512, .bf16⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S128x4096, .bf16⟩
  | .local _ .vmem, ⟨5, _⟩ => ⟨S128x4096, .bf16⟩
  | .local _ .vmem, ⟨6, _⟩ => ⟨S1x512x128, .bf16⟩
  | .local _ .vmem, ⟨7, _⟩ => ⟨S1x512x128, .bf16⟩
  | .local _ .vmem, ⟨8, _⟩ => ⟨S1x128x512, .bf16⟩
  | .local _ .vmem, ⟨9, _⟩ => ⟨S1x128x512, .bf16⟩
  | .local _ .vmem, ⟨10, _⟩ => ⟨S512x256, .bf16⟩
  | .local _ .vmem, ⟨11, _⟩ => ⟨S512x256, .bf16⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S12288x512 : Shape := ⟨2, ![12288, 512]⟩
abbrev S12288x128 : Shape := ⟨2, ![12288, 128]⟩
abbrev S2x512x2x64 : Shape := ⟨4, ![2, 512, 2, 64]⟩
abbrev S8192x512 : Shape := ⟨2, ![8192, 512]⟩
abbrev S2x4096x2x4x64 : Shape := ⟨5, ![2, 4096, 2, 4, 64]⟩
abbrev S8192x128 : Shape := ⟨2, ![8192, 128]⟩
abbrev S2x4096x2x64 : Shape := ⟨4, ![2, 4096, 2, 64]⟩
abbrev S2x4608x2x64 : Shape := ⟨4, ![2, 4608, 2, 64]⟩
abbrev S2x2x4608x4096x4 : Shape := ⟨5, ![2, 2, 4608, 4096, 4]⟩
abbrev S2x2x4x4096x4608 : Shape := ⟨5, ![2, 2, 4, 4096, 4608]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x64x4x4096 : Shape := ⟨5, ![2, 2, 64, 4, 4096]⟩

abbrev nBuf : Space → Nat
  | .hbm => 36
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S12288x128, .f32⟩
  | .hbm, ⟨2, _⟩ => ⟨S12288x128, .f32⟩
  | .hbm, ⟨3, _⟩ => ⟨S2x512x2x64, .f32⟩
  | .hbm, ⟨4, _⟩ => ⟨S2x512x2x64, .f32⟩
  | .hbm, ⟨5, _⟩ => ⟨S8192x512, .f32⟩
  | .hbm, ⟨6, _⟩ => ⟨S2x4096x2x4x64, .f32⟩
  | .hbm, ⟨7, _⟩ => ⟨S8192x128, .f32⟩
  | .hbm, ⟨8, _⟩ => ⟨S2x4096x2x64, .f32⟩
  | .hbm, ⟨9, _⟩ => ⟨S8192x128, .f32⟩
  | .hbm, ⟨10, _⟩ => ⟨S2x4096x2x64, .f32⟩
  | .hbm, ⟨11, _⟩ => ⟨S2x4608x2x64, .f32⟩
  | .hbm, ⟨12, _⟩ => ⟨S2x4608x2x64, .f32⟩
  | .hbm, ⟨13, _⟩ => ⟨S2x2x4608x4096x4, .f32⟩
  | .hbm, ⟨14, _⟩ => ⟨S2x2x4x4096x4608, .f32⟩
  | .hbm, ⟨15, _⟩ => ⟨S_, .f32⟩
  | .hbm, ⟨16, _⟩ => ⟨S2x2x4x4096x4608, .f32⟩
  | .hbm, ⟨17, _⟩ => ⟨S2x2x4x4096x4608, .f32⟩
  | .hbm, ⟨18, _⟩ => ⟨S_, .f32⟩
  | .hbm, ⟨19, _⟩ => ⟨S2x2x4x4096, .f32⟩
  | .hbm, ⟨20, _⟩ => ⟨S_, .f32⟩
  | .hbm, ⟨21, _⟩ => ⟨S2x2x4x4096, .f32⟩
  | .hbm, ⟨22, _⟩ => ⟨S2x2x4x4096, .f32⟩
  | .hbm, ⟨23, _⟩ => ⟨S2x2x4x4096x1, .f32⟩
  | .hbm, ⟨24, _⟩ => ⟨S2x2x4x4096x4608, .f32⟩
  | .hbm, ⟨25, _⟩ => ⟨S2x2x4x4096x4608, .f32⟩
  | .hbm, ⟨26, _⟩ => ⟨S2x2x4x4096x4608, .f32⟩
  | .hbm, ⟨27, _⟩ => ⟨S_, .f32⟩
  | .hbm, ⟨28, _⟩ => ⟨S2x2x4x4096, .f32⟩
  | .hbm, ⟨29, _⟩ => ⟨S2x2x4x4096x1, .f32⟩
  | .hbm, ⟨30, _⟩ => ⟨S2x2x4x4096x4608, .f32⟩
  | .hbm, ⟨31, _⟩ => ⟨S2x2x4x4096x4608, .f32⟩
  | .hbm, ⟨32, _⟩ => ⟨S2x2x64x4x4096, .f32⟩
  | .hbm, ⟨33, _⟩ => ⟨S2x4096x2x4x64, .f32⟩
  | .hbm, ⟨34, _⟩ => ⟨S8192x512, .f32⟩
  | .hbm, ⟨35, _⟩ => ⟨S8192x512, .bf16⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel2.lean ====
abbrev S12288x1024 : Shape := ⟨2, ![12288, 1024]⟩
abbrev S3x1x6144 : Shape := ⟨3, ![3, 1, 6144]⟩
abbrev S1024 : Shape := ⟨1, ![1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S512x1024 : Shape := ⟨2, ![512, 1024]⟩
abbrev S1x1x6144 : Shape := ⟨3, ![1, 1, 6144]⟩
abbrev S1x1024x2816 : Shape := ⟨3, ![1, 1024, 2816]⟩
abbrev S1x2816x1024 : Shape := ⟨3, ![1, 2816, 1024]⟩
abbrev S1x1x1024 : Shape := ⟨3, ![1, 1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 11
  | .vmem => 10
  | .smem => 0
  | _ => 0

abbrev bufTy : (tb : Table) → Fin (tcTables nBuf tb) → BufTy
  | .hbm, ⟨0, _⟩ => ⟨S12288x1024, .f32⟩
  | .hbm, ⟨1, _⟩ => ⟨S3x1x6144, .f32⟩
  | .hbm, ⟨2, _⟩ => ⟨S1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S2x1024x2816, .bf16⟩
  | .hbm, ⟨7, _⟩ => ⟨S2x1024x2816, .bf16⟩
  | .hbm, ⟨8, _⟩ => ⟨S2x2816x1024, .bf16⟩
  | .hbm, ⟨9, _⟩ => ⟨S1x1024, .f32⟩
  | .hbm, ⟨10, _⟩ => ⟨S12288x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S512x1024, .f32⟩
  | .local _ .vmem, ⟨9, _⟩ => ⟨S512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S12288x1024 : Shape := ⟨2, ![12288, 1024]⟩
abbrev S3x1x6144 : Shape := ⟨3, ![3, 1, 6144]⟩
abbrev S1024 : Shape := ⟨1, ![1024]⟩
abbrev S2x1024x2816 : Shape := ⟨3, ![2, 1024, 2816]⟩
abbrev S2x2816x1024 : Shape := ⟨3, ![2, 2816, 1024]⟩
abbrev S3x1x1024 : Shape := ⟨3, ![3, 1, 1024]⟩
abbrev S3x4096x1024 : Shape := ⟨3, ![3, 4096, 1024]⟩
abbrev S_ : Shape := ⟨0, ![]⟩
abbrev S3x4096 : Shape := ⟨2, ![3, 4096]⟩
abbrev S3x4096x1 : Shape := ⟨3, ![3, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S3x4096x2816 : Shape := ⟨3, ![3, 4096, 2816]⟩
abbrev S1x2816x1024 : Shape := ⟨3, ![1, 2816, 1024]⟩
abbrev S2816x1024 : Shape := ⟨2, ![2816, 1024]⟩

abbrev nBuf : Space → Nat
  | .hbm => 59
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S3x1x6144, .f32⟩
  | .hbm, ⟨2, _⟩ => ⟨S1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S3x1x1024, .f32⟩
  | .hbm, ⟨7, _⟩ => ⟨S3x1x1024, .f32⟩
  | .hbm, ⟨8, _⟩ => ⟨S3x1x1024, .f32⟩
  | .hbm, ⟨9, _⟩ => ⟨S3x1x1024, .f32⟩
  | .hbm, ⟨10, _⟩ => ⟨S3x1x1024, .f32⟩
  | .hbm, ⟨11, _⟩ => ⟨S3x1x1024, .f32⟩
  | .hbm, ⟨12, _⟩ => ⟨S3x4096x1024, .f32⟩
  | .hbm, ⟨13, _⟩ => ⟨S3x4096x1024, .f32⟩
  | .hbm, ⟨14, _⟩ => ⟨S_, .f32⟩
  | .hbm, ⟨15, _⟩ => ⟨S3x4096, .f32⟩
  | .hbm, ⟨16, _⟩ => ⟨S3x4096x1, .f32⟩
  | .hbm, ⟨17, _⟩ => ⟨S_, .f32⟩
  | .hbm, ⟨18, _⟩ => ⟨S3x4096x1, .f32⟩
  | .hbm, ⟨19, _⟩ => ⟨S3x4096x1, .f32⟩
  | .hbm, ⟨20, _⟩ => ⟨S_, .f32⟩
  | .hbm, ⟨21, _⟩ => ⟨S3x4096x1, .f32⟩
  | .hbm, ⟨22, _⟩ => ⟨S3x4096x1, .f32⟩
  | .hbm, ⟨23, _⟩ => ⟨S3x4096x1, .f32⟩
  | .hbm, ⟨24, _⟩ => ⟨S3x4096x1024, .f32⟩
  | .hbm, ⟨25, _⟩ => ⟨S3x4096x1024, .f32⟩
  | .hbm, ⟨26, _⟩ => ⟨S1x1x1024, .f32⟩
  | .hbm, ⟨27, _⟩ => ⟨S3x4096x1024, .f32⟩
  | .hbm, ⟨28, _⟩ => ⟨S3x4096x1024, .f32⟩
  | .hbm, ⟨29, _⟩ => ⟨S_, .f32⟩
  | .hbm, ⟨30, _⟩ => ⟨S3x1x1024, .f32⟩
  | .hbm, ⟨31, _⟩ => ⟨S3x1x1024, .f32⟩
  | .hbm, ⟨32, _⟩ => ⟨S3x4096x1024, .f32⟩
  | .hbm, ⟨33, _⟩ => ⟨S3x4096x1024, .f32⟩
  | .hbm, ⟨34, _⟩ => ⟨S3x4096x1024, .f32⟩
  | .hbm, ⟨35, _⟩ => ⟨S3x4096x1024, .f32⟩
  | .hbm, ⟨36, _⟩ => ⟨S1x1024x2816, .f32⟩
  | .hbm, ⟨37, _⟩ => ⟨S1024x2816, .f32⟩
  | .hbm, ⟨38, _⟩ => ⟨S3x4096x2816, .f32⟩
  | .hbm, ⟨39, _⟩ => ⟨S3x4096x2816, .f32⟩
  | .hbm, ⟨40, _⟩ => ⟨S3x4096x2816, .f32⟩
  | .hbm, ⟨41, _⟩ => ⟨S_, .f32⟩
  | .hbm, ⟨42, _⟩ => ⟨S3x4096x2816, .f32⟩
  | .hbm, ⟨43, _⟩ => ⟨S3x4096x2816, .f32⟩
  | .hbm, ⟨44, _⟩ => ⟨S_, .f32⟩
  | .hbm, ⟨45, _⟩ => ⟨S3x4096x2816, .f32⟩
  | .hbm, ⟨46, _⟩ => ⟨S3x4096x2816, .f32⟩
  | .hbm, ⟨47, _⟩ => ⟨S3x4096x2816, .f32⟩
  | .hbm, ⟨48, _⟩ => ⟨S1x1024x2816, .f32⟩
  | .hbm, ⟨49, _⟩ => ⟨S1024x2816, .f32⟩
  | .hbm, ⟨50, _⟩ => ⟨S3x4096x2816, .f32⟩
  | .hbm, ⟨51, _⟩ => ⟨S3x4096x2816, .f32⟩
  | .hbm, ⟨52, _⟩ => ⟨S1x2816x1024, .f32⟩
  | .hbm, ⟨53, _⟩ => ⟨S2816x1024, .f32⟩
  | .hbm, ⟨54, _⟩ => ⟨S3x4096x1024, .f32⟩
  | .hbm, ⟨55, _⟩ => ⟨S3x4096x1024, .f32⟩
  | .hbm, ⟨56, _⟩ => ⟨S3x4096x1024, .f32⟩
  | .hbm, ⟨57, _⟩ => ⟨S3x4096x1024, .f32⟩
  | .hbm, ⟨58, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Kernel3.lean ====
abbrev S12288x1024 : Shape := ⟨2, ![12288, 1024]⟩
abbrev S3x1x6144 : Shape := ⟨3, ![3, 1, 6144]⟩
abbrev S1024 : Shape := ⟨1, ![1024]⟩
abbrev S4x1024x6144 : Shape := ⟨3, ![4, 1024, 6144]⟩
abbrev S1x1024 : Shape := ⟨2, ![1, 1024]⟩
abbrev S12288x6144 : Shape := ⟨2, ![12288, 6144]⟩
abbrev S1024x1024 : Shape := ⟨2, ![1024, 1024]⟩
abbrev S1x1x6144 : Shape := ⟨3, ![1, 1, 6144]⟩
abbrev S1x1024x3072 : Shape := ⟨3, ![1, 1024, 3072]⟩
abbrev S1024x3072 : Shape := ⟨2, ![1024, 3072]⟩
abbrev S1x1x1024 : Shape := ⟨3, ![1, 1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S12288x1024, .f32⟩
  | .hbm, ⟨1, _⟩ => ⟨S3x1x6144, .f32⟩
  | .hbm, ⟨2, _⟩ => ⟨S1024, .f32⟩
  | .hbm, ⟨3, _⟩ => ⟨S4x1024x6144, .f32⟩
  | .hbm, ⟨4, _⟩ => ⟨S4x1024x6144, .bf16⟩
  | .hbm, ⟨5, _⟩ => ⟨S1x1024, .f32⟩
  | .hbm, ⟨6, _⟩ => ⟨S12288x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1x1024x3072, .bf16⟩
  | .local _ .vmem, ⟨6, _⟩ => ⟨S1x1024x3072, .bf16⟩
  | .local _ .vmem, ⟨7, _⟩ => ⟨S1024x3072, .bf16⟩
  | .local _ .vmem, ⟨8, _⟩ => ⟨S1024x3072, .bf16⟩
  | .local _ .vmem, ⟨9, _⟩ => ⟨S1024x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S12288x1024 : Shape := ⟨2, ![12288, 1024]⟩
abbrev S3x1x6144 : Shape := ⟨3, ![3, 1, 6144]⟩
abbrev S1024 : Shape := ⟨1, ![1024]⟩
abbrev S4x1024x6144 : Shape := ⟨3, ![4, 1024, 6144]⟩
abbrev S3x1x1024 : Shape := ⟨3, ![3, 1, 1024]⟩
abbrev S3x4096x1024 : Shape := ⟨3, ![3, 4096, 1024]⟩
abbrev S_ : Shape := ⟨0, ![]⟩
abbrev S3x4096 : Shape := ⟨2, ![3, 4096]⟩
abbrev S3x4096x1 : Shape := ⟨3, ![3, 4096, 1]⟩
abbrev S1x1x1024 : Shape := ⟨3, ![1, 1, 1024]⟩
abbrev S1x1024x6144 : Shape := ⟨3, ![1, 1024, 6144]⟩
abbrev S1024x6144 : Shape := ⟨2, ![1024, 6144]⟩
abbrev S3x4096x6144 : Shape := ⟨3, ![3, 4096, 6144]⟩
abbrev S12288x6144 : Shape := ⟨2, ![12288, 6144]⟩

abbrev nBuf : Space → Nat
  | .hbm => 39
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S3x1x6144, .f32⟩
  | .hbm, ⟨2, _⟩ => ⟨S1024, .f32⟩
  | .hbm, ⟨3, _⟩ => ⟨S4x1024x6144, .f32⟩
  | .hbm, ⟨4, _⟩ => ⟨S3x1x1024, .f32⟩
  | .hbm, ⟨5, _⟩ => ⟨S3x1x1024, .f32⟩
  | .hbm, ⟨6, _⟩ => ⟨S3x1x1024, .f32⟩
  | .hbm, ⟨7, _⟩ => ⟨S3x1x1024, .f32⟩
  | .hbm, ⟨8, _⟩ => ⟨S3x1x1024, .f32⟩
  | .hbm, ⟨9, _⟩ => ⟨S3x1x1024, .f32⟩
  | .hbm, ⟨10, _⟩ => ⟨S3x4096x1024, .f32⟩
  | .hbm, ⟨11, _⟩ => ⟨S3x4096x1024, .f32⟩
  | .hbm, ⟨12, _⟩ => ⟨S_, .f32⟩
  | .hbm, ⟨13, _⟩ => ⟨S3x4096, .f32⟩
  | .hbm, ⟨14, _⟩ => ⟨S3x4096x1, .f32⟩
  | .hbm, ⟨15, _⟩ => ⟨S_, .f32⟩
  | .hbm, ⟨16, _⟩ => ⟨S3x4096x1, .f32⟩
  | .hbm, ⟨17, _⟩ => ⟨S3x4096x1, .f32⟩
  | .hbm, ⟨18, _⟩ => ⟨S_, .f32⟩
  | .hbm, ⟨19, _⟩ => ⟨S3x4096x1, .f32⟩
  | .hbm, ⟨20, _⟩ => ⟨S3x4096x1, .f32⟩
  | .hbm, ⟨21, _⟩ => ⟨S3x4096x1, .f32⟩
  | .hbm, ⟨22, _⟩ => ⟨S3x4096x1024, .f32⟩
  | .hbm, ⟨23, _⟩ => ⟨S3x4096x1024, .f32⟩
  | .hbm, ⟨24, _⟩ => ⟨S1x1x1024, .f32⟩
  | .hbm, ⟨25, _⟩ => ⟨S3x4096x1024, .f32⟩
  | .hbm, ⟨26, _⟩ => ⟨S3x4096x1024, .f32⟩
  | .hbm, ⟨27, _⟩ => ⟨S_, .f32⟩
  | .hbm, ⟨28, _⟩ => ⟨S3x1x1024, .f32⟩
  | .hbm, ⟨29, _⟩ => ⟨S3x1x1024, .f32⟩
  | .hbm, ⟨30, _⟩ => ⟨S3x4096x1024, .f32⟩
  | .hbm, ⟨31, _⟩ => ⟨S3x4096x1024, .f32⟩
  | .hbm, ⟨32, _⟩ => ⟨S3x4096x1024, .f32⟩
  | .hbm, ⟨33, _⟩ => ⟨S3x4096x1024, .f32⟩
  | .hbm, ⟨34, _⟩ => ⟨S1x1024x6144, .f32⟩
  | .hbm, ⟨35, _⟩ => ⟨S1024x6144, .f32⟩
  | .hbm, ⟨36, _⟩ => ⟨S3x4096x6144, .f32⟩
  | .hbm, ⟨37, _⟩ => ⟨S12288x6144, .f32⟩
  | .hbm, ⟨38, _⟩ => ⟨S12288x6144, .bf16⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel4.lean ====
abbrev S4096x512 : Shape := ⟨2, ![4096, 512]⟩
abbrev S8192x512 : Shape := ⟨2, ![8192, 512]⟩
abbrev S12288x512 : Shape := ⟨2, ![12288, 512]⟩
abbrev S12288x6144 : Shape := ⟨2, ![12288, 6144]⟩
abbrev S12288x1024 : Shape := ⟨2, ![12288, 1024]⟩
abbrev S3x1x6144 : Shape := ⟨3, ![3, 1, 6144]⟩
abbrev S128 : Shape := ⟨1, ![128]⟩
abbrev S4x3x512x1024 : Shape := ⟨4, ![4, 3, 512, 1024]⟩
abbrev S4x1024x1024 : Shape := ⟨3, ![4, 1024, 1024]⟩
abbrev S1x128 : Shape := ⟨2, ![1, 128]⟩
abbrev S512x512 : Shape := ⟨2, ![512, 512]⟩
abbrev S512x1024 : Shape := ⟨2, ![512, 1024]⟩
abbrev S1x1x6144 : Shape := ⟨3, ![1, 1, 6144]⟩
abbrev S1x3x512x1024 : Shape := ⟨4, ![1, 3, 512, 1024]⟩
abbrev S1x1024x1024 : Shape := ⟨3, ![1, 1024, 1024]⟩
abbrev S512x128 : Shape := ⟨2, ![512, 128]⟩
abbrev S512 : Shape := ⟨1, ![512]⟩
abbrev S512x1 : Shape := ⟨2, ![512, 1]⟩
abbrev S1x1x512x1024 : Shape := ⟨4, ![1, 1, 512, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 21
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S12288x512, .f32⟩
  | .hbm, ⟨3, _⟩ => ⟨S12288x512, .f32⟩
  | .hbm, ⟨4, _⟩ => ⟨S12288x6144, .f32⟩
  | .hbm, ⟨5, _⟩ => ⟨S4096x512, .f32⟩
  | .hbm, ⟨6, _⟩ => ⟨S8192x512, .f32⟩
  | .hbm, ⟨7, _⟩ => ⟨S12288x1024, .f32⟩
  | .hbm, ⟨8, _⟩ => ⟨S3x1x6144, .f32⟩
  | .hbm, ⟨9, _⟩ => ⟨S128, .f32⟩
  | .hbm, ⟨10, _⟩ => ⟨S4x3x512x1024, .f32⟩
  | .hbm, ⟨11, _⟩ => ⟨S4x1024x1024, .f32⟩
  | .hbm, ⟨12, _⟩ => ⟨S4096x512, .bf16⟩
  | .hbm, ⟨13, _⟩ => ⟨S8192x512, .bf16⟩
  | .hbm, ⟨14, _⟩ => ⟨S12288x6144, .bf16⟩
  | .hbm, ⟨15, _⟩ => ⟨S4096x512, .bf16⟩
  | .hbm, ⟨16, _⟩ => ⟨S8192x512, .bf16⟩
  | .hbm, ⟨17, _⟩ => ⟨S4x3x512x1024, .bf16⟩
  | .hbm, ⟨18, _⟩ => ⟨S4x1024x1024, .bf16⟩
  | .hbm, ⟨19, _⟩ => ⟨S1x128, .f32⟩
  | .hbm, ⟨20, _⟩ => ⟨S12288x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S1x1x6144, .f32⟩
  | .local _ .vmem, ⟨23, _⟩ => ⟨S1x1x6144, .f32⟩
  | .local _ .vmem, ⟨24, _⟩ => ⟨S1x128, .f32⟩
  | .local _ .vmem, ⟨25, _⟩ => ⟨S1x3x512x1024, .bf16⟩
  | .local _ .vmem, ⟨26, _⟩ => ⟨S1x1024x1024, .bf16⟩
  | .local _ .vmem, ⟨27, _⟩ => ⟨S512x1024, .f32⟩
  | .local _ .vmem, ⟨28, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x6144 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S4096x512 : Shape := ⟨2, ![4096, 512]⟩
abbrev S8192x512 : Shape := ⟨2, ![8192, 512]⟩
abbrev S12288x512 : Shape := ⟨2, ![12288, 512]⟩
abbrev S12288x6144 : Shape := ⟨2, ![12288, 6144]⟩
abbrev S12288x1024 : Shape := ⟨2, ![12288, 1024]⟩
abbrev S3x1x6144 : Shape := ⟨3, ![3, 1, 6144]⟩
abbrev S128 : Shape := ⟨1, ![128]⟩
abbrev S4x3x512x1024 : Shape := ⟨4, ![4, 3, 512, 1024]⟩
abbrev S4x1024x1024 : Shape := ⟨3, ![4, 1024, 1024]⟩
abbrev S3x1x1024 : Shape := ⟨3, ![3, 1, 1024]⟩
abbrev S12288x3072 : Shape := ⟨2, ![12288, 3072]⟩
abbrev S12288x4x128 : Shape := ⟨3, ![12288, 4, 128]⟩
abbrev S_ : Shape := ⟨0, ![]⟩
abbrev S12288x4 : Shape := ⟨2, ![12288, 4]⟩
abbrev S12288x4x1 : Shape := ⟨3, ![12288, 4, 1]⟩
abbrev S1x1x128 : Shape := ⟨3, ![1, 1, 128]⟩
abbrev S12288x3x1024 : Shape := ⟨3, ![12288, 3, 1024]⟩
abbrev S12288x1x1024 : Shape := ⟨3, ![12288, 1, 1024]⟩
abbrev S1x1x512x1024 : Shape := ⟨4, ![1, 1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S3x4096x1024 : Shape := ⟨3, ![3, 4096, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S12288x512, .f32⟩
  | .hbm, ⟨3, _⟩ => ⟨S12288x512, .f32⟩
  | .hbm, ⟨4, _⟩ => ⟨S12288x6144, .f32⟩
  | .hbm, ⟨5, _⟩ => ⟨S4096x512, .f32⟩
  | .hbm, ⟨6, _⟩ => ⟨S8192x512, .f32⟩
  | .hbm, ⟨7, _⟩ => ⟨S12288x1024, .f32⟩
  | .hbm, ⟨8, _⟩ => ⟨S3x1x6144, .f32⟩
  | .hbm, ⟨9, _⟩ => ⟨S128, .f32⟩
  | .hbm, ⟨10, _⟩ => ⟨S4x3x512x1024, .f32⟩
  | .hbm, ⟨11, _⟩ => ⟨S4x1024x1024, .f32⟩
  | .hbm, ⟨12, _⟩ => ⟨S3x1x1024, .f32⟩
  | .hbm, ⟨13, _⟩ => ⟨S3x1x1024, .f32⟩
  | .hbm, ⟨14, _⟩ => ⟨S3x1x1024, .f32⟩
  | .hbm, ⟨15, _⟩ => ⟨S3x1x1024, .f32⟩
  | .hbm, ⟨16, _⟩ => ⟨S3x1x1024, .f32⟩
  | .hbm, ⟨17, _⟩ => ⟨S3x1x1024, .f32⟩
  | .hbm, ⟨18, _⟩ => ⟨S12288x512, .f32⟩
  | .hbm, ⟨19, _⟩ => ⟨S12288x3072, .f32⟩
  | .hbm, ⟨20, _⟩ => ⟨S12288x512, .f32⟩
  | .hbm, ⟨21, _⟩ => ⟨S12288x512, .f32⟩
  | .hbm, ⟨22, _⟩ => ⟨S12288x4x128, .f32⟩
  | .hbm, ⟨23, _⟩ => ⟨S12288x4x128, .f32⟩
  | .hbm, ⟨24, _⟩ => ⟨S_, .f32⟩
  | .hbm, ⟨25, _⟩ => ⟨S12288x4, .f32⟩
  | .hbm, ⟨26, _⟩ => ⟨S12288x4x1, .f32⟩
  | .hbm, ⟨27, _⟩ => ⟨S_, .f32⟩
  | .hbm, ⟨28, _⟩ => ⟨S12288x4x1, .f32⟩
  | .hbm, ⟨29, _⟩ => ⟨S12288x4x1, .f32⟩
  | .hbm, ⟨30, _⟩ => ⟨S_, .f32⟩
  | .hbm, ⟨31, _⟩ => ⟨S12288x4x1, .f32⟩
  | .hbm, ⟨32, _⟩ => ⟨S12288x4x1, .f32⟩
  | .hbm, ⟨33, _⟩ => ⟨S12288x4x1, .f32⟩
  | .hbm, ⟨34, _⟩ => ⟨S12288x4x128, .f32⟩
  | .hbm, ⟨35, _⟩ => ⟨S12288x4x128, .f32⟩
  | .hbm, ⟨36, _⟩ => ⟨S1x1x128, .f32⟩
  | .hbm, ⟨37, _⟩ => ⟨S12288x4x128, .f32⟩
  | .hbm, ⟨38, _⟩ => ⟨S12288x4x128, .f32⟩
  | .hbm, ⟨39, _⟩ => ⟨S12288x4x128, .f32⟩
  | .hbm, ⟨40, _⟩ => ⟨S12288x4x128, .f32⟩
  | .hbm, ⟨41, _⟩ => ⟨S12288x4x128, .f32⟩
  | .hbm, ⟨42, _⟩ => ⟨S_, .f32⟩
  | .hbm, ⟨43, _⟩ => ⟨S12288x4x128, .f32⟩
  | .hbm, ⟨44, _⟩ => ⟨S12288x4x128, .f32⟩
  | .hbm, ⟨45, _⟩ => ⟨S_, .f32⟩
  | .hbm, ⟨46, _⟩ => ⟨S12288x4x128, .f32⟩
  | .hbm, ⟨47, _⟩ => ⟨S12288x4x128, .f32⟩
  | .hbm, ⟨48, _⟩ => ⟨S12288x4x128, .f32⟩
  | .hbm, ⟨49, _⟩ => ⟨S12288x4x128, .f32⟩
  | .hbm, ⟨50, _⟩ => ⟨S12288x512, .f32⟩
  | .hbm, ⟨51, _⟩ => ⟨S12288x512, .f32⟩
  | .hbm, ⟨52, _⟩ => ⟨S12288x3x1024, .f32⟩
  | .hbm, ⟨53, _⟩ => ⟨S12288x3x1024, .f32⟩
  | .hbm, ⟨54, _⟩ => ⟨S12288x3x1024, .f32⟩
  | .hbm, ⟨55, _⟩ => ⟨S_, .f32⟩
  | .hbm, ⟨56, _⟩ => ⟨S12288x3x1024, .f32⟩
  | .hbm, ⟨57, _⟩ => ⟨S12288x3x1024, .f32⟩
  | .hbm, ⟨58, _⟩ => ⟨S_, .f32⟩
  | .hbm, ⟨59, _⟩ => ⟨S12288x3x1024, .f32⟩
  | .hbm, ⟨60, _⟩ => ⟨S12288x3x1024, .f32⟩
  | .hbm, ⟨61, _⟩ => ⟨S12288x1x1024, .f32⟩
  | .hbm, ⟨62, _⟩ => ⟨S12288x1024, .f32⟩
  | .hbm, ⟨63, _⟩ => ⟨S1x1x512x1024, .f32⟩
  | .hbm, ⟨64, _⟩ => ⟨S512x1024, .f32⟩
  | .hbm, ⟨65, _⟩ => ⟨S12288x1024, .f32⟩
  | .hbm, ⟨66, _⟩ => ⟨S12288x1024, .f32⟩
  | .hbm, ⟨67, _⟩ => ⟨S12288x1x1024, .f32⟩
  | .hbm, ⟨68, _⟩ => ⟨S12288x1024, .f32⟩
  | .hbm, ⟨69, _⟩ => ⟨S1x1x512x1024, .f32⟩
  | .hbm, ⟨70, _⟩ => ⟨S512x1024, .f32⟩
  | .hbm, ⟨71, _⟩ => ⟨S12288x1024, .f32⟩
  | .hbm, ⟨72, _⟩ => ⟨S12288x1024, .f32⟩
  | .hbm, ⟨73, _⟩ => ⟨S12288x1024, .f32⟩
  | .hbm, ⟨74, _⟩ => ⟨S12288x1x1024, .f32⟩
  | .hbm, ⟨75, _⟩ => ⟨S12288x1024, .f32⟩
  | .hbm, ⟨76, _⟩ => ⟨S1x1x512x1024, .f32⟩
  | .hbm, ⟨77, _⟩ => ⟨S512x1024, .f32⟩
  | .hbm, ⟨78, _⟩ => ⟨S12288x1024, .f32⟩
  | .hbm, ⟨79, _⟩ => ⟨S12288x1024, .f32⟩
  | .hbm, ⟨80, _⟩ => ⟨S12288x1024, .f32⟩
  | .hbm, ⟨81, _⟩ => ⟨S1x1024x1024, .f32⟩
  | .hbm, ⟨82, _⟩ => ⟨S1024x1024, .f32⟩
  | .hbm, ⟨83, _⟩ => ⟨S12288x1024, .f32⟩
  | .hbm, ⟨84, _⟩ => ⟨S3x4096x1024, .f32⟩
  | .hbm, ⟨85, _⟩ => ⟨S3x4096x1024, .f32⟩
  | .hbm, ⟨86, _⟩ => ⟨S3x4096x1024, .f32⟩
  | .hbm, ⟨87, _⟩ => ⟨S3x4096x1024, .f32⟩
  | .hbm, ⟨88, _⟩ => ⟨S3x4096x1024, .f32⟩
  | .hbm, ⟨89, _⟩ => ⟨S12288x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== Kernel5.lean ====
abbrev S28672x1024 : Shape := ⟨2, ![28672, 1024]⟩
abbrev S56 : Shape := ⟨1, ![56]⟩
abbrev S1 : Shape := ⟨1, ![1]⟩
abbrev S2x8x1024x3584 : Shape := ⟨4, ![2, 8, 1024, 3584]⟩
abbrev S28672x3584 : Shape := ⟨2, ![28672, 3584]⟩
abbrev S512x1024 : Shape := ⟨2, ![512, 1024]⟩
abbrev S1x1x1024x1792 : Shape := ⟨4, ![1, 1, 1024, 1792]⟩
abbrev S512x1792 : Shape := ⟨2, ![512, 1792]⟩
abbrev S1024x1792 : Shape := ⟨2, ![1024, 1792]⟩

abbrev nBuf : Space → Nat
  | .hbm => 4
  | .vmem => 10
  | .smem => 2
  | _ => 0

abbrev bufTy : (tb : Table) → Fin (tcTables nBuf tb) → BufTy
  | .hbm, ⟨0, _⟩ => ⟨S28672x1024, .bf16⟩
  | .hbm, ⟨1, _⟩ => ⟨S2x8x1024x3584, .f32⟩
  | .hbm, ⟨2, _⟩ => ⟨S2x8x1024x3584, .f32⟩
  | .hbm, ⟨3, _⟩ => ⟨S28672x3584, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1792, .f32⟩
  | .local _ .vmem, ⟨3, _⟩ => ⟨S1x1x1024x1792, .f32⟩
  | .local _ .vmem, ⟨4, _⟩ => ⟨S1x1x1024x1792, .f32⟩
  | .local _ .vmem, ⟨5, _⟩ => ⟨S1x1x1024x1792, .f32⟩
  | .local _ .vmem, ⟨6, _⟩ => ⟨S512x1792, .bf16⟩
  | .local _ .vmem, ⟨7, _⟩ => ⟨S512x1792, .bf16⟩
  | .local _ .vmem, ⟨8, _⟩ => ⟨S1024x1792, .bf16⟩
  | .local _ .vmem, ⟨9, _⟩ => ⟨S1024x1792, .bf16⟩
  | .local _ .smem, ⟨0, _⟩ => ⟨S56, .i32⟩
  | .local _ .smem, ⟨1, _⟩ => ⟨S1, .i32⟩
  | _, _ => ⟨S28672x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 56], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S56.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S56) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S56.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S56) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S28672x1024 : Shape := ⟨2, ![28672, 1024]⟩
abbrev S56 : Shape := ⟨1, ![56]⟩
abbrev S1 : Shape := ⟨1, ![1]⟩
abbrev S2x8x1024x3584 : Shape := ⟨4, ![2, 8, 1024, 3584]⟩
abbrev S56x1 : Shape := ⟨2, ![56, 1]⟩
abbrev S56x512 : Shape := ⟨2, ![56, 512]⟩
abbrev S28672x1 : Shape := ⟨2, ![28672, 1]⟩
abbrev S_ : Shape := ⟨0, ![]⟩
abbrev S28672x3584 : Shape := ⟨2, ![28672, 3584]⟩
abbrev S1x1x1024x3584 : Shape := ⟨4, ![1, 1, 1024, 3584]⟩
abbrev S1024x3584 : Shape := ⟨2, ![1024, 3584]⟩

abbrev nBuf : Space → Nat
  | .hbm => 195
  | .vmem => 0
  | .smem => 0
  | _ => 0

abbrev hbmTy0_0 (i : Nat) : BufTy := match i % 128 with
  | 0 => ⟨S28672x1024, .bf16⟩
  | 1 => ⟨S56, .i32⟩
  | 2 => ⟨S1, .i32⟩
  | 3 => ⟨S2x8x1024x3584, .f32⟩
  | 4 => ⟨S2x8x1024x3584, .f32⟩
  | 5 => ⟨S28672x1024, .f32⟩
  | 6 => ⟨S56x1, .i32⟩
  | 7 => ⟨S56x512, .i32⟩
  | 8 => ⟨S28672x1, .i32⟩
  | 9 => ⟨S56, .i32⟩
  | 10 => ⟨S_, .i32⟩
  | 11 => ⟨S56, .i32⟩
  | 12 => ⟨S56, .i1⟩
  | 13 => ⟨S56x1, .i1⟩
  | 14 => ⟨S56x512, .i1⟩
  | 15 => ⟨S28672x1, .i1⟩
  | 16 => ⟨S_, .f32⟩
  | 17 => ⟨S28672x3584, .f32⟩
  | 18 => ⟨S_, .i32⟩
  | 19 => ⟨S28672x1, .i32⟩
  | 20 => ⟨S28672x1, .i1⟩
  | 21 => ⟨S28672x1, .i1⟩
  | 22 => ⟨S1x1x1024x3584, .f32⟩
  | 23 => ⟨S1024x3584, .f32⟩
  | 24 => ⟨S28672x3584, .f32⟩
  | 25 => ⟨S28672x3584, .f32⟩
  | 26 => ⟨S28672x3584, .f32⟩
  | 27 => ⟨S_, .f32⟩
  | 28 => ⟨S28672x3584, .f32⟩
  | 29 => ⟨S28672x3584, .f32⟩
  | 30 => ⟨S_, .f32⟩
  | 31 => ⟨S28672x3584, .f32⟩
  | 32 => ⟨S28672x3584, .f32⟩
  | 33 => ⟨S28672x3584, .f32⟩
  | 34 => ⟨S1x1x1024x3584, .f32⟩
  | 35 => ⟨S1024x3584, .f32⟩
  | 36 => ⟨S28672x3584, .f32⟩
  | 37 => ⟨S28672x3584, .f32⟩
  | 38 => ⟨S28672x3584, .i1⟩
  | 39 => ⟨S28672x3584, .f32⟩
  | 40 => ⟨S_, .i32⟩
  | 41 => ⟨S28672x1, .i32⟩
  | 42 => ⟨S28672x1, .i1⟩
  | 43 => ⟨S28672x1, .i1⟩
  | 44 => ⟨S1x1x1024x3584, .f32⟩
  | 45 => ⟨S1024x3584, .f32⟩
  | 46 => ⟨S28672x3584, .f32⟩
  | 47 => ⟨S28672x3584, .f32⟩
  | 48 => ⟨S28672x3584, .f32⟩
  | 49 => ⟨S_, .f32⟩
  | 50 => ⟨S28672x3584, .f32⟩
  | 51 => ⟨S28672x3584, .f32⟩
  | 52 => ⟨S_, .f32⟩
  | 53 => ⟨S28672x3584, .f32⟩
  | 54 => ⟨S28672x3584, .f32⟩
  | 55 => ⟨S28672x3584, .f32⟩
  | 56 => ⟨S1x1x1024x3584, .f32⟩
  | 57 => ⟨S1024x3584, .f32⟩
  | 58 => ⟨S28672x3584, .f32⟩
  | 59 => ⟨S28672x3584, .f32⟩
  | 60 => ⟨S28672x3584, .i1⟩
  | 61 => ⟨S28672x3584, .f32⟩
  | 62 => ⟨S_, .i32⟩
  | 63 => ⟨S28672x1, .i32⟩
  | 64 => ⟨S28672x1, .i1⟩
  | 65 => ⟨S28672x1, .i1⟩
  | 66 => ⟨S1x1x1024x3584, .f32⟩
  | 67 => ⟨S1024x3584, .f32⟩
  | 68 => ⟨S28672x3584, .f32⟩
  | 69 => ⟨S28672x3584, .f32⟩
  | 70 => ⟨S28672x3584, .f32⟩
  | 71 => ⟨S_, .f32⟩
  | 72 => ⟨S28672x3584, .f32⟩
  | 73 => ⟨S28672x3584, .f32⟩
  | 74 => ⟨S_, .f32⟩
  | 75 => ⟨S28672x3584, .f32⟩
  | 76 => ⟨S28672x3584, .f32⟩
  | 77 => ⟨S28672x3584, .f32⟩
  | 78 => ⟨S1x1x1024x3584, .f32⟩
  | 79 => ⟨S1024x3584, .f32⟩
  | 80 => ⟨S28672x3584, .f32⟩
  | 81 => ⟨S28672x3584, .f32⟩
  | 82 => ⟨S28672x3584, .i1⟩
  | 83 => ⟨S28672x3584, .f32⟩
  | 84 => ⟨S_, .i32⟩
  | 85 => ⟨S28672x1, .i32⟩
  | 86 => ⟨S28672x1, .i1⟩
  | 87 => ⟨S28672x1, .i1⟩
  | 88 => ⟨S1x1x1024x3584, .f32⟩
  | 89 => ⟨S1024x3584, .f32⟩
  | 90 => ⟨S28672x3584, .f32⟩
  | 91 => ⟨S28672x3584, .f32⟩
  | 92 => ⟨S28672x3584, .f32⟩
  | 93 => ⟨S_, .f32⟩
  | 94 => ⟨S28672x3584, .f32⟩
  | 95 => ⟨S28672x3584, .f32⟩
  | 96 => ⟨S_, .f32⟩
  | 97 => ⟨S28672x3584, .f32⟩
  | 98 => ⟨S28672x3584, .f32⟩
  | 99 => ⟨S28672x3584, .f32⟩
  | 100 => ⟨S1x1x1024x3584, .f32⟩
  | 101 => ⟨S1024x3584, .f32⟩
  | 102 => ⟨S28672x3584, .f32⟩
  | 103 => ⟨S28672x3584, .f32⟩
  | 104 => ⟨S28672x3584, .i1⟩
  | 105 => ⟨S28672x3584, .f32⟩
  | 106 => ⟨S_, .i32⟩
  | 107 => ⟨S28672x1, .i32⟩
  | 108 => ⟨S28672x1, .i1⟩
  | 109 => ⟨S28672x1, .i1⟩
  | 110 => ⟨S1x1x1024x3584, .f32⟩
  | 111 => ⟨S1024x3584, .f32⟩
  | 112 => ⟨S28672x3584, .f32⟩
  | 113 => ⟨S28672x3584, .f32⟩
  | 114 => ⟨S28672x3584, .f32⟩
  | 115 => ⟨S_, .f32⟩
  | 116 => ⟨S28672x3584, .f32⟩
  | 117 => ⟨S28672x3584, .f32⟩
  | 118 => ⟨S_, .f32⟩
  | 119 => ⟨S28672x3584, .f32⟩
  | 120 => ⟨S28672x3584, .f32⟩
  | 121 => ⟨S28672x3584, .f32⟩
  | 122 => ⟨S1x1x1024x3584, .f32⟩
  | 123 => ⟨S1024x3584, .f32⟩
  | 124 => ⟨S28672x3584, .f32⟩
  | 125 => ⟨S28672x3584, .f32⟩
  | 126 => ⟨S28672x3584, .i1⟩
  | 127 => ⟨S28672x3584, .f32⟩
  | _ => ⟨S28672x1024, .bf16⟩

abbrev hbmTy0_1 (i : Nat) : BufTy := match i % 128 with
  | 0 => ⟨S_, .i32⟩
  | 1 => ⟨S28672x1, .i32⟩
  | 2 => ⟨S28672x1, .i1⟩
  | 3 => ⟨S28672x1, .i1⟩
  | 4 => ⟨S1x1x1024x3584, .f32⟩
  | 5 => ⟨S1024x3584, .f32⟩
  | 6 => ⟨S28672x3584, .f32⟩
  | 7 => ⟨S28672x3584, .f32⟩
  | 8 => ⟨S28672x3584, .f32⟩
  | 9 => ⟨S_, .f32⟩
  | 10 => ⟨S28672x3584, .f32⟩
  | 11 => ⟨S28672x3584, .f32⟩
  | 12 => ⟨S_, .f32⟩
  | 13 => ⟨S28672x3584, .f32⟩
  | 14 => ⟨S28672x3584, .f32⟩
  | 15 => ⟨S28672x3584, .f32⟩
  | 16 => ⟨S1x1x1024x3584, .f32⟩
  | 17 => ⟨S1024x3584, .f32⟩
  | 18 => ⟨S28672x3584, .f32⟩
  | 19 => ⟨S28672x3584, .f32⟩
  | 20 => ⟨S28672x3584, .i1⟩
  | 21 => ⟨S28672x3584, .f32⟩
  | 22 => ⟨S_, .i32⟩
  | 23 => ⟨S28672x1, .i32⟩
  | 24 => ⟨S28672x1, .i1⟩
  | 25 => ⟨S28672x1, .i1⟩
  | 26 => ⟨S1x1x1024x3584, .f32⟩
  | 27 => ⟨S1024x3584, .f32⟩
  | 28 => ⟨S28672x3584, .f32⟩
  | 29 => ⟨S28672x3584, .f32⟩
  | 30 => ⟨S28672x3584, .f32⟩
  | 31 => ⟨S_, .f32⟩
  | 32 => ⟨S28672x3584, .f32⟩
  | 33 => ⟨S28672x3584, .f32⟩
  | 34 => ⟨S_, .f32⟩
  | 35 => ⟨S28672x3584, .f32⟩
  | 36 => ⟨S28672x3584, .f32⟩
  | 37 => ⟨S28672x3584, .f32⟩
  | 38 => ⟨S1x1x1024x3584, .f32⟩
  | 39 => ⟨S1024x3584, .f32⟩
  | 40 => ⟨S28672x3584, .f32⟩
  | 41 => ⟨S28672x3584, .f32⟩
  | 42 => ⟨S28672x3584, .i1⟩
  | 43 => ⟨S28672x3584, .f32⟩
  | 44 => ⟨S_, .i32⟩
  | 45 => ⟨S28672x1, .i32⟩
  | 46 => ⟨S28672x1, .i1⟩
  | 47 => ⟨S28672x1, .i1⟩
  | 48 => ⟨S1x1x1024x3584, .f32⟩
  | 49 => ⟨S1024x3584, .f32⟩
  | 50 => ⟨S28672x3584, .f32⟩
  | 51 => ⟨S28672x3584, .f32⟩
  | 52 => ⟨S28672x3584, .f32⟩
  | 53 => ⟨S_, .f32⟩
  | 54 => ⟨S28672x3584, .f32⟩
  | 55 => ⟨S28672x3584, .f32⟩
  | 56 => ⟨S_, .f32⟩
  | 57 => ⟨S28672x3584, .f32⟩
  | 58 => ⟨S28672x3584, .f32⟩
  | 59 => ⟨S28672x3584, .f32⟩
  | 60 => ⟨S1x1x1024x3584, .f32⟩
  | 61 => ⟨S1024x3584, .f32⟩
  | 62 => ⟨S28672x3584, .f32⟩
  | 63 => ⟨S28672x3584, .f32⟩
  | 64 => ⟨S28672x3584, .i1⟩
  | 65 => ⟨S28672x3584, .f32⟩
  | 66 => ⟨S28672x3584, .bf16⟩
  | _ => ⟨S28672x1024, .bf16⟩

abbrev hbmTy (i : Nat) : BufTy := match i / 128 with
  | 0 => hbmTy0_0 i
  | 1 => hbmTy0_1 i
  | _ => ⟨S28672x1024, .bf16⟩

abbrev bufTy : (tb : Table) → Fin (tcTables nBuf tb) → BufTy
  | .hbm, ⟨i, _⟩ => hbmTy i
  | _, _ => ⟨S28672x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_v0 : Ref sig .tc := ⟨.hbm, 38, rfl⟩
abbrev main_v23 : Ref sig .tc := ⟨.hbm, 39, rfl⟩
abbrev main_c_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call3_v0 : Ref sig .tc := ⟨.hbm, 60, rfl⟩
abbrev main_v35 : Ref sig .tc := ⟨.hbm, 61, rfl⟩
abbrev main_c_1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call4_v0 : Ref sig .tc := ⟨.hbm, 69, rfl⟩
abbrev main_call4_v1 : Ref sig .tc := ⟨.hbm, 70, rfl⟩
abbrev main_call4_cst : Ref sig .tc := ⟨.hbm, 71, rfl⟩
abbrev main_call4_v2 : Ref sig .tc := ⟨.hbm, 72, rfl⟩
abbrev main_call4_v3 : Ref sig .tc := ⟨.hbm, 73, rfl⟩
abbrev main_call4_cst_0 : Ref sig .tc := ⟨.hbm, 74, rfl⟩
abbrev main_call4_v4 : Ref sig .tc := ⟨.hbm, 75, rfl⟩
abbrev main_call4_v5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call5_v0 : Ref sig .tc := ⟨.hbm, 82, rfl⟩
abbrev main_v47 : Ref sig .tc := ⟨.hbm, 83, rfl⟩
abbrev main_c_2 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call6_v0 : Ref sig .tc := ⟨.hbm, 91, rfl⟩
abbrev main_call6_v1 : Ref sig .tc := ⟨.hbm, 92, rfl⟩
abbrev main_call6_cst : Ref sig .tc := ⟨.hbm, 93, rfl⟩
abbrev main_call6_v2 : Ref sig .tc := ⟨.hbm, 94, rfl⟩
abbrev main_call6_v3 : Ref sig .tc := ⟨.hbm, 95, rfl⟩
abbrev main_call6_cst_0 : Ref sig .tc := ⟨.hbm, 96, rfl⟩
abbrev main_call6_v4 : Ref sig .tc := ⟨.hbm, 97, rfl⟩
abbrev main_call6_v5 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_call7_v0 : Ref sig .tc := ⟨.hbm, 104, rfl⟩
abbrev main_v59 : Ref sig .tc := ⟨.hbm, 105, rfl⟩
abbrev main_c_3 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_call8_v0 : Ref sig .tc := ⟨.hbm, 113, rfl⟩
abbrev main_call8_v1 : Ref sig .tc := ⟨.hbm, 114, rfl⟩
abbrev main_call8_cst : Ref sig .tc := ⟨.hbm, 115, rfl⟩
abbrev main_call8_v2 : Ref sig .tc := ⟨.hbm, 116, rfl⟩
abbrev main_call8_v3 : Ref sig .tc := ⟨.hbm, 117, rfl⟩
abbrev main_call8_cst_0 : Ref sig .tc := ⟨.hbm, 118, rfl⟩
abbrev main_call8_v4 : Ref sig .tc := ⟨.hbm, 119, rfl⟩
abbrev main_call8_v5 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_call9_v0 : Ref sig .tc := ⟨.hbm, 126, rfl⟩
abbrev main_v71 : Ref sig .tc := ⟨.hbm, 127, rfl⟩
abbrev main_c_4 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_call10_v0 : Ref sig .tc := ⟨.hbm, 135, rfl⟩
abbrev main_call10_v1 : Ref sig .tc := ⟨.hbm, 136, rfl⟩
abbrev main_call10_cst : Ref sig .tc := ⟨.hbm, 137, rfl⟩
abbrev main_call10_v2 : Ref sig .tc := ⟨.hbm, 138, rfl⟩
abbrev main_call10_v3 : Ref sig .tc := ⟨.hbm, 139, rfl⟩
abbrev main_call10_cst_0 : Ref sig .tc := ⟨.hbm, 140, rfl⟩
abbrev main_call10_v4 : Ref sig .tc := ⟨.hbm, 141, rfl⟩
abbrev main_call10_v5 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_call11_v0 : Ref sig .tc := ⟨.hbm, 148, rfl⟩
abbrev main_v83 : Ref sig .tc := ⟨.hbm, 149, rfl⟩
abbrev main_c_5 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_call12_v0 : Ref sig .tc := ⟨.hbm, 157, rfl⟩
abbrev main_call12_v1 : Ref sig .tc := ⟨.hbm, 158, rfl⟩
abbrev main_call12_cst : Ref sig .tc := ⟨.hbm, 159, rfl⟩
abbrev main_call12_v2 : Ref sig .tc := ⟨.hbm, 160, rfl⟩
abbrev main_call12_v3 : Ref sig .tc := ⟨.hbm, 161, rfl⟩
abbrev main_call12_cst_0 : Ref sig .tc := ⟨.hbm, 162, rfl⟩
abbrev main_call12_v4 : Ref sig .tc := ⟨.hbm, 163, rfl⟩
abbrev main_call12_v5 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_call13_v0 : Ref sig .tc := ⟨.hbm, 170, rfl⟩
abbrev main_v95 : Ref sig .tc := ⟨.hbm, 171, rfl⟩
abbrev main_c_6 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_call14_v0 : Ref sig .tc := ⟨.hbm, 179, rfl⟩
abbrev main_call14_v1 : Ref sig .tc := ⟨.hbm, 180, rfl⟩
abbrev main_call14_cst : Ref sig .tc := ⟨.hbm, 181, rfl⟩
abbrev main_call14_v2 : Ref sig .tc := ⟨.hbm, 182, rfl⟩
abbrev main_call14_v3 : Ref sig .tc := ⟨.hbm, 183, rfl⟩
abbrev main_call14_cst_0 : Ref sig .tc := ⟨.hbm, 184, rfl⟩
abbrev main_call14_v4 : Ref sig .tc := ⟨.hbm, 185, rfl⟩
abbrev main_call14_v5 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_call15_v0 : Ref sig .tc := ⟨.hbm, 192, rfl⟩
abbrev main_v107 : Ref sig .tc := ⟨.hbm, 193, rfl⟩
abbrev main_v108 : Ref sig .tc := ⟨.hbm, 194, rfl⟩

abbrev nD : Nat := 1
abbrev τ : Topo := Topo.v7x

variable {F : FTy → Type} [FloatOps F]
-- ==== Kernel6.lean ====
abbrev S28672x3584 : Shape := ⟨2, ![28672, 3584]⟩
abbrev S56 : Shape := ⟨1, ![56]⟩
abbrev S1 : Shape := ⟨1, ![1]⟩
abbrev S2x8x3584x1024 : Shape := ⟨4, ![2, 8, 3584, 1024]⟩
abbrev S229376x128 : Shape := ⟨2, ![229376, 128]⟩
abbrev S512x3584 : Shape := ⟨2, ![512, 3584]⟩
abbrev S1x1x3584x1024 : Shape := ⟨4, ![1, 1, 3584, 1024]⟩
abbrev S4096x128 : Shape := ⟨2, ![4096, 128]⟩
abbrev S3584x1024 : Shape := ⟨2, ![3584, 1024]⟩
abbrev S512x1024 : Shape := ⟨2, ![512, 1024]⟩
abbrev S512x128 : Shape := ⟨2, ![512, 128]⟩

abbrev nBuf : Space → Nat
  | .hbm => 3
  | .vmem => 7
  | .smem => 2
  | _ => 0

abbrev bufTy : (tb : Table) → Fin (tcTables nBuf tb) → BufTy
  | .hbm, ⟨0, _⟩ => ⟨S28672x3584, .bf16⟩
  | .hbm, ⟨1, _⟩ => ⟨S2x8x3584x1024, .f32⟩
  | .hbm, ⟨2, _⟩ => ⟨S229376x128, .f32⟩
  | .local _ .vmem, ⟨0, _⟩ => ⟨S512x3584, .bf16⟩
  | .local _ .vmem, ⟨1, _⟩ => ⟨S512x3584, .bf16⟩
  | .local _ .vmem, ⟨2, _⟩ => ⟨S1x1x3584x1024, .f32⟩
  | .local _ .vmem, ⟨3, _⟩ => ⟨S1x1x3584x1024, .f32⟩
  | .local _ .vmem, ⟨4, _⟩ => ⟨S4096x128, .f32⟩
  | .local _ .vmem, ⟨5, _⟩ => ⟨S4096x128, .f32⟩
  | .local _ .vmem, ⟨6, _⟩ => ⟨S3584x1024, .bf16⟩
  | .local _ .smem, ⟨0, _⟩ => ⟨S56, .i32⟩
  | .local _ .smem, ⟨1, _⟩ => ⟨S1, .i32⟩
  | _, _ => ⟨S28672x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 56], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S56.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S56) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x3584x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference6Ideal.lean ====
abbrev S28672x3584 : Shape := ⟨2, ![28672, 3584]⟩
abbrev S56 : Shape := ⟨1, ![56]⟩
abbrev S1 : Shape := ⟨1, ![1]⟩
abbrev S2x8x3584x1024 : Shape := ⟨4, ![2, 8, 3584, 1024]⟩
abbrev S56x1 : Shape := ⟨2, ![56, 1]⟩
abbrev S56x512 : Shape := ⟨2, ![56, 512]⟩
abbrev S28672x1 : Shape := ⟨2, ![28672, 1]⟩
abbrev S_ : Shape := ⟨0, ![]⟩
abbrev S28672x1024 : Shape := ⟨2, ![28672, 1024]⟩
abbrev S1x1x3584x1024 : Shape := ⟨4, ![1, 1, 3584, 1024]⟩
abbrev S3584x1024 : Shape := ⟨2, ![3584, 1024]⟩
abbrev S229376x128 : Shape := ⟨2, ![229376, 128]⟩

abbrev nBuf : Space → Nat
  | .hbm => 90
  | .vmem => 0
  | .smem => 0
  | _ => 0

abbrev bufTy : (tb : Table) → Fin (tcTables nBuf tb) → BufTy
  | .hbm, ⟨0, _⟩ => ⟨S28672x3584, .bf16⟩
  | .hbm, ⟨1, _⟩ => ⟨S56, .i32⟩
  | .hbm, ⟨2, _⟩ => ⟨S1, .i32⟩
  | .hbm, ⟨3, _⟩ => ⟨S2x8x3584x1024, .f32⟩
  | .hbm, ⟨4, _⟩ => ⟨S28672x3584, .f32⟩
  | .hbm, ⟨5, _⟩ => ⟨S56x1, .i32⟩
  | .hbm, ⟨6, _⟩ => ⟨S56x512, .i32⟩
  | .hbm, ⟨7, _⟩ => ⟨S28672x1, .i32⟩
  | .hbm, ⟨8, _⟩ => ⟨S56, .i32⟩
  | .hbm, ⟨9, _⟩ => ⟨S_, .i32⟩
  | .hbm, ⟨10, _⟩ => ⟨S56, .i32⟩
  | .hbm, ⟨11, _⟩ => ⟨S56, .i1⟩
  | .hbm, ⟨12, _⟩ => ⟨S56x1, .i1⟩
  | .hbm, ⟨13, _⟩ => ⟨S56x512, .i1⟩
  | .hbm, ⟨14, _⟩ => ⟨S28672x1, .i1⟩
  | .hbm, ⟨15, _⟩ => ⟨S_, .f32⟩
  | .hbm, ⟨16, _⟩ => ⟨S28672x1024, .f32⟩
  | .hbm, ⟨17, _⟩ => ⟨S_, .i32⟩
  | .hbm, ⟨18, _⟩ => ⟨S28672x1, .i32⟩
  | .hbm, ⟨19, _⟩ => ⟨S28672x1, .i1⟩
  | .hbm, ⟨20, _⟩ => ⟨S28672x1, .i1⟩
  | .hbm, ⟨21, _⟩ => ⟨S1x1x3584x1024, .f32⟩
  | .hbm, ⟨22, _⟩ => ⟨S3584x1024, .f32⟩
  | .hbm, ⟨23, _⟩ => ⟨S28672x1024, .f32⟩
  | .hbm, ⟨24, _⟩ => ⟨S28672x1024, .i1⟩
  | .hbm, ⟨25, _⟩ => ⟨S28672x1024, .f32⟩
  | .hbm, ⟨26, _⟩ => ⟨S_, .i32⟩
  | .hbm, ⟨27, _⟩ => ⟨S28672x1, .i32⟩
  | .hbm, ⟨28, _⟩ => ⟨S28672x1, .i1⟩
  | .hbm, ⟨29, _⟩ => ⟨S28672x1, .i1⟩
  | .hbm, ⟨30, _⟩ => ⟨S1x1x3584x1024, .f32⟩
  | .hbm, ⟨31, _⟩ => ⟨S3584x1024, .f32⟩
  | .hbm, ⟨32, _⟩ => ⟨S28672x1024, .f32⟩
  | .hbm, ⟨33, _⟩ => ⟨S28672x1024, .i1⟩
  | .hbm, ⟨34, _⟩ => ⟨S28672x1024, .f32⟩
  | .hbm, ⟨35, _⟩ => ⟨S_, .i32⟩
  | .hbm, ⟨36, _⟩ => ⟨S28672x1, .i32⟩
  | .hbm, ⟨37, _⟩ => ⟨S28672x1, .i1⟩
  | .hbm, ⟨38, _⟩ => ⟨S28672x1, .i1⟩
  | .hbm, ⟨39, _⟩ => ⟨S1x1x3584x1024, .f32⟩
  | .hbm, ⟨40, _⟩ => ⟨S3584x1024, .f32⟩
  | .hbm, ⟨41, _⟩ => ⟨S28672x1024, .f32⟩
  | .hbm, ⟨42, _⟩ => ⟨S28672x1024, .i1⟩
  | .hbm, ⟨43, _⟩ => ⟨S28672x1024, .f32⟩
  | .hbm, ⟨44, _⟩ => ⟨S_, .i32⟩
  | .hbm, ⟨45, _⟩ => ⟨S28672x1, .i32⟩
  | .hbm, ⟨46, _⟩ => ⟨S28672x1, .i1⟩
  | .hbm, ⟨47, _⟩ => ⟨S28672x1, .i1⟩
  | .hbm, ⟨48, _⟩ => ⟨S1x1x3584x1024, .f32⟩
  | .hbm, ⟨49, _⟩ => ⟨S3584x1024, .f32⟩
  | .hbm, ⟨50, _⟩ => ⟨S28672x1024, .f32⟩
  | .hbm, ⟨51, _⟩ => ⟨S28672x1024, .i1⟩
  | .hbm, ⟨52, _⟩ => ⟨S28672x1024, .f32⟩
  | .hbm, ⟨53, _⟩ => ⟨S_, .i32⟩
  | .hbm, ⟨54, _⟩ => ⟨S28672x1, .i32⟩
  | .hbm, ⟨55, _⟩ => ⟨S28672x1, .i1⟩
  | .hbm, ⟨56, _⟩ => ⟨S28672x1, .i1⟩
  | .hbm, ⟨57, _⟩ => ⟨S1x1x3584x1024, .f32⟩
  | .hbm, ⟨58, _⟩ => ⟨S3584x1024, .f32⟩
  | .hbm, ⟨59, _⟩ => ⟨S28672x1024, .f32⟩
  | .hbm, ⟨60, _⟩ => ⟨S28672x1024, .i1⟩
  | .hbm, ⟨61, _⟩ => ⟨S28672x1024, .f32⟩
  | .hbm, ⟨62, _⟩ => ⟨S_, .i32⟩
  | .hbm, ⟨63, _⟩ => ⟨S28672x1, .i32⟩
  | .hbm, ⟨64, _⟩ => ⟨S28672x1, .i1⟩
  | .hbm, ⟨65, _⟩ => ⟨S28672x1, .i1⟩
  | .hbm, ⟨66, _⟩ => ⟨S1x1x3584x1024, .f32⟩
  | .hbm, ⟨67, _⟩ => ⟨S3584x1024, .f32⟩
  | .hbm, ⟨68, _⟩ => ⟨S28672x1024, .f32⟩
  | .hbm, ⟨69, _⟩ => ⟨S28672x1024, .i1⟩
  | .hbm, ⟨70, _⟩ => ⟨S28672x1024, .f32⟩
  | .hbm, ⟨71, _⟩ => ⟨S_, .i32⟩
  | .hbm, ⟨72, _⟩ => ⟨S28672x1, .i32⟩
  | .hbm, ⟨73, _⟩ => ⟨S28672x1, .i1⟩
  | .hbm, ⟨74, _⟩ => ⟨S28672x1, .i1⟩
  | .hbm, ⟨75, _⟩ => ⟨S1x1x3584x1024, .f32⟩
  | .hbm, ⟨76, _⟩ => ⟨S3584x1024, .f32⟩
  | .hbm, ⟨77, _⟩ => ⟨S28672x1024, .f32⟩
  | .hbm, ⟨78, _⟩ => ⟨S28672x1024, .i1⟩
  | .hbm, ⟨79, _⟩ => ⟨S28672x1024, .f32⟩
  | .hbm, ⟨80, _⟩ => ⟨S_, .i32⟩
  | .hbm, ⟨81, _⟩ => ⟨S28672x1, .i32⟩
  | .hbm, ⟨82, _⟩ => ⟨S28672x1, .i1⟩
  | .hbm, ⟨83, _⟩ => ⟨S28672x1, .i1⟩
  | .hbm, ⟨84, _⟩ => ⟨S1x1x3584x1024, .f32⟩
  | .hbm, ⟨85, _⟩ => ⟨S3584x1024, .f32⟩
  | .hbm, ⟨86, _⟩ => ⟨S28672x1024, .f32⟩
  | .hbm, ⟨87, _⟩ => ⟨S28672x1024, .i1⟩
  | .hbm, ⟨88, _⟩ => ⟨S28672x1024, .f32⟩
  | .hbm, ⟨89, _⟩ => ⟨S229376x128, .f32⟩
  | _, _ => ⟨S28672x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call1_v0 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call2_v0 : Ref sig .tc := ⟨.hbm, 42, rfl⟩
abbrev main_v32 : Ref sig .tc := ⟨.hbm, 43, rfl⟩
abbrev main_c_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call3_v0 : Ref sig .tc := ⟨.hbm, 51, rfl⟩
abbrev main_v39 : Ref sig .tc := ⟨.hbm, 52, rfl⟩
abbrev main_c_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call4_v0 : Ref sig .tc := ⟨.hbm, 60, rfl⟩
abbrev main_v46 : Ref sig .tc := ⟨.hbm, 61, rfl⟩
abbrev main_c_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call5_v0 : Ref sig .tc := ⟨.hbm, 69, rfl⟩
abbrev main_v53 : Ref sig .tc := ⟨.hbm, 70, rfl⟩
abbrev main_c_5 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call6_v0 : Ref sig .tc := ⟨.hbm, 78, rfl⟩
abbrev main_v60 : Ref sig .tc := ⟨.hbm, 79, rfl⟩
abbrev main_c_6 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_call7_v0 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Kernel7.lean ====
abbrev S12288x6144 : Shape := ⟨2, ![12288, 6144]⟩
abbrev S2x4096x128 : Shape := ⟨3, ![2, 4096, 128]⟩
abbrev S4x64 : Shape := ⟨2, ![4, 64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x4x1x64 : Shape := ⟨4, ![1, 4, 1, 64]⟩
abbrev S1x4x8x64 : Shape := ⟨4, ![1, 4, 8, 64]⟩
abbrev S4x512 : Shape := ⟨2, ![4, 512]⟩
abbrev S4x1x512 : Shape := ⟨3, ![4, 1, 512]⟩
abbrev S1x4x2x64 : Shape := ⟨4, ![1, 4, 2, 64]⟩
abbrev S4x128 : Shape := ⟨2, ![4, 128]⟩
abbrev S4x1x128 : Shape := ⟨3, ![4, 1, 128]⟩
abbrev S1x1x512 : Shape := ⟨3, ![1, 1, 512]⟩
abbrev S1x512 : Shape := ⟨2, ![1, 512]⟩
abbrev S1x1x128 : Shape := ⟨3, ![1, 1, 128]⟩
abbrev S1x128 : Shape := ⟨2, ![1, 128]⟩
abbrev S12288x512 : Shape := ⟨2, ![12288, 512]⟩
abbrev S12288x128 : Shape := ⟨2, ![12288, 128]⟩
abbrev S12288x256 : Shape := ⟨2, ![12288, 256]⟩
abbrev S256x12288 : Shape := ⟨2, ![256, 12288]⟩
abbrev S512x256 : Shape := ⟨2, ![512, 256]⟩
abbrev S1x512x128 : Shape := ⟨3, ![1, 512, 128]⟩
abbrev S512x128 : Shape := ⟨2, ![512, 128]⟩
abbrev S256x512 : Shape := ⟨2, ![256, 512]⟩
abbrev S128x128 : Shape := ⟨2, ![128, 128]⟩
abbrev S128x512 : Shape := ⟨2, ![128, 512]⟩
abbrev S64x512 : Shape := ⟨2, ![64, 512]⟩

abbrev nBuf : Space → Nat
  | .hbm => 37
  | .vmem => 19
  | .smem => 0
  | _ => 0

abbrev bufTy : (tb : Table) → Fin (tcTables nBuf tb) → BufTy
  | .hbm, ⟨0, _⟩ => ⟨S12288x6144, .bf16⟩
  | .hbm, ⟨1, _⟩ => ⟨S2x4096x128, .f32⟩
  | .hbm, ⟨2, _⟩ => ⟨S2x4096x128, .f32⟩
  | .hbm, ⟨3, _⟩ => ⟨S4x64, .f32⟩
  | .hbm, ⟨4, _⟩ => ⟨S4x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S_, .f32⟩
  | .hbm, ⟨13, _⟩ => ⟨S64x64, .f32⟩
  | .hbm, ⟨14, _⟩ => ⟨S8x1x8x1, .f32⟩
  | .hbm, ⟨15, _⟩ => ⟨S1x64x1x64, .f32⟩
  | .hbm, ⟨16, _⟩ => ⟨S8x64x8x64, .f32⟩
  | .hbm, ⟨17, _⟩ => ⟨S8x64x8x64, .f32⟩
  | .hbm, ⟨18, _⟩ => ⟨S8x64x8x64, .f32⟩
  | .hbm, ⟨19, _⟩ => ⟨S512x512, .f32⟩
  | .hbm, ⟨20, _⟩ => ⟨S512x512, .bf16⟩
  | .hbm, ⟨21, _⟩ => ⟨S1x4x1x64, .f32⟩
  | .hbm, ⟨22, _⟩ => ⟨S1x4x8x64, .f32⟩
  | .hbm, ⟨23, _⟩ => ⟨S4x512, .f32⟩
  | .hbm, ⟨24, _⟩ => ⟨S4x1x512, .f32⟩
  | .hbm, ⟨25, _⟩ => ⟨S1x4x1x64, .f32⟩
  | .hbm, ⟨26, _⟩ => ⟨S1x4x2x64, .f32⟩
  | .hbm, ⟨27, _⟩ => ⟨S4x128, .f32⟩
  | .hbm, ⟨28, _⟩ => ⟨S4x1x128, .f32⟩
  | .hbm, ⟨29, _⟩ => ⟨S1x1x512, .f32⟩
  | .hbm, ⟨30, _⟩ => ⟨S1x512, .f32⟩
  | .hbm, ⟨31, _⟩ => ⟨S1x1x128, .f32⟩
  | .hbm, ⟨32, _⟩ => ⟨S1x128, .f32⟩
  | .hbm, ⟨33, _⟩ => ⟨S12288x512, .bf16⟩
  | .hbm, ⟨34, _⟩ => ⟨S12288x128, .f32⟩
  | .hbm, ⟨35, _⟩ => ⟨S12288x256, .bf16⟩
  | .hbm, ⟨36, _⟩ => ⟨S256x12288, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512, .f32⟩
  | .local _ .vmem, ⟨9, _⟩ => ⟨S1x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x128, .f32⟩
  | .local _ .vmem, ⟨14, _⟩ => ⟨S512x128, .f32⟩
  | .local _ .vmem, ⟨15, _⟩ => ⟨S512x256, .bf16⟩
  | .local _ .vmem, ⟨16, _⟩ => ⟨S512x256, .bf16⟩
  | .local _ .vmem, ⟨17, _⟩ => ⟨S256x512, .bf16⟩
  | .local _ .vmem, ⟨18, _⟩ => ⟨S256x512, .bf16⟩
  | _, _ => ⟨S12288x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S12288x6144 : Shape := ⟨2, ![12288, 6144]⟩
abbrev S2x4096x128 : Shape := ⟨3, ![2, 4096, 128]⟩
abbrev S4x64 : Shape := ⟨2, ![4, 64]⟩
abbrev S12288x128 : Shape := ⟨2, ![12288, 128]⟩
abbrev S12288x2x64 : Shape := ⟨3, ![12288, 2, 64]⟩
abbrev S_ : Shape := ⟨0, ![]⟩
abbrev S12288x2 : Shape := ⟨2, ![12288, 2]⟩
abbrev S12288x2x1 : Shape := ⟨3, ![12288, 2, 1]⟩
abbrev S1x64 : Shape := ⟨2, ![1, 64]⟩
abbrev S64 : Shape := ⟨1, ![64]⟩
abbrev S1x1x64 : Shape := ⟨3, ![1, 1, 64]⟩

abbrev nBuf : Space → Nat
  | .hbm => 27
  | .vmem => 0
  | .smem => 0
  | _ => 0

abbrev bufTy : (tb : Table) → Fin (tcTables nBuf tb) → BufTy
  | .hbm, ⟨0, _⟩ => ⟨S12288x6144, .bf16⟩
  | .hbm, ⟨1, _⟩ => ⟨S2x4096x128, .f32⟩
  | .hbm, ⟨2, _⟩ => ⟨S2x4096x128, .f32⟩
  | .hbm, ⟨3, _⟩ => ⟨S4x64, .f32⟩
  | .hbm, ⟨4, _⟩ => ⟨S4x64, .f32⟩
  | .hbm, ⟨5, _⟩ => ⟨S12288x128, .bf16⟩
  | .hbm, ⟨6, _⟩ => ⟨S12288x128, .f32⟩
  | .hbm, ⟨7, _⟩ => ⟨S12288x2x64, .f32⟩
  | .hbm, ⟨8, _⟩ => ⟨S12288x2x64, .f32⟩
  | .hbm, ⟨9, _⟩ => ⟨S_, .f32⟩
  | .hbm, ⟨10, _⟩ => ⟨S12288x2, .f32⟩
  | .hbm, ⟨11, _⟩ => ⟨S12288x2x1, .f32⟩
  | .hbm, ⟨12, _⟩ => ⟨S_, .f32⟩
  | .hbm, ⟨13, _⟩ => ⟨S12288x2x1, .f32⟩
  | .hbm, ⟨14, _⟩ => ⟨S12288x2x1, .f32⟩
  | .hbm, ⟨15, _⟩ => ⟨S_, .f32⟩
  | .hbm, ⟨16, _⟩ => ⟨S12288x2x1, .f32⟩
  | .hbm, ⟨17, _⟩ => ⟨S12288x2x1, .f32⟩
  | .hbm, ⟨18, _⟩ => ⟨S12288x2x1, .f32⟩
  | .hbm, ⟨19, _⟩ => ⟨S12288x2x64, .f32⟩
  | .hbm, ⟨20, _⟩ => ⟨S12288x2x64, .f32⟩
  | .hbm, ⟨21, _⟩ => ⟨S1x64, .f32⟩
  | .hbm, ⟨22, _⟩ => ⟨S64, .f32⟩
  | .hbm, ⟨23, _⟩ => ⟨S1x1x64, .f32⟩
  | .hbm, ⟨24, _⟩ => ⟨S12288x2x64, .f32⟩
  | .hbm, ⟨25, _⟩ => ⟨S12288x2x64, .f32⟩
  | .hbm, ⟨26, _⟩ => ⟨S12288x128, .f32⟩
  | _, _ => ⟨S12288x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel8.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel9.lean ====
abbrev S12288x512 : Shape := ⟨2, ![12288, 512]⟩
abbrev S12288x128 : Shape := ⟨2, ![12288, 128]⟩
abbrev S_ : Shape := ⟨0, ![]⟩
abbrev S12288x2x1x64 : Shape := ⟨4, ![12288, 2, 1, 64]⟩
abbrev S12288x2x2x64 : Shape := ⟨4, ![12288, 2, 2, 64]⟩
abbrev S12288x256 : Shape := ⟨2, ![12288, 256]⟩
abbrev S12288x2x64 : Shape := ⟨3, ![12288, 2, 64]⟩
abbrev S2x64x12288 : Shape := ⟨3, ![2, 64, 12288]⟩
abbrev S2x128x12288 : Shape := ⟨3, ![2, 128, 12288]⟩
abbrev S256x12288 : Shape := ⟨2, ![256, 12288]⟩
abbrev S4096x512 : Shape := ⟨2, ![4096, 512]⟩
abbrev S256x256 : Shape := ⟨2, ![256, 256]⟩
abbrev S256x128 : Shape := ⟨2, ![256, 128]⟩
abbrev S128x256 : Shape := ⟨2, ![128, 256]⟩
abbrev S1024x128 : Shape := ⟨2, ![1024, 128]⟩
abbrev S256x1024 : Shape := ⟨2, ![256, 1024]⟩
abbrev S1024 : Shape := ⟨1, ![1024]⟩
abbrev S1x1024 : Shape := ⟨2, ![1, 1024]⟩
abbrev S80x256 : Shape := ⟨2, ![80, 256]⟩
abbrev S80x1024 : Shape := ⟨2, ![80, 1024]⟩
abbrev S64x1024 : Shape := ⟨2, ![64, 1024]⟩
abbrev S64x256 : Shape := ⟨2, ![64, 256]⟩

abbrev nBuf : Space → Nat
  | .hbm => 19
  | .vmem => 8
  | .smem => 0
  | _ => 0

abbrev bufTy : (tb : Table) → Fin (tcTables nBuf tb) → BufTy
  | .hbm, ⟨0, _⟩ => ⟨S12288x512, .f32⟩
  | .hbm, ⟨1, _⟩ => ⟨S12288x128, .f32⟩
  | .hbm, ⟨2, _⟩ => ⟨S12288x128, .f32⟩
  | .hbm, ⟨3, _⟩ => ⟨S_, .f32⟩
  | .hbm, ⟨4, _⟩ => ⟨S12288x512, .f32⟩
  | .hbm, ⟨5, _⟩ => ⟨S12288x512, .f32⟩
  | .hbm, ⟨6, _⟩ => ⟨S12288x512, .bf16⟩
  | .hbm, ⟨7, _⟩ => ⟨S12288x128, .bf16⟩
  | .hbm, ⟨8, _⟩ => ⟨S12288x2x1x64, .bf16⟩
  | .hbm, ⟨9, _⟩ => ⟨S12288x2x2x64, .bf16⟩
  | .hbm, ⟨10, _⟩ => ⟨S12288x256, .bf16⟩
  | .hbm, ⟨11, _⟩ => ⟨S12288x128, .bf16⟩
  | .hbm, ⟨12, _⟩ => ⟨S12288x2x64, .bf16⟩
  | .hbm, ⟨13, _⟩ => ⟨S2x64x12288, .bf16⟩
  | .hbm, ⟨14, _⟩ => ⟨S_, .bf16⟩
  | .hbm, ⟨15, _⟩ => ⟨S2x64x12288, .bf16⟩
  | .hbm, ⟨16, _⟩ => ⟨S2x128x12288, .bf16⟩
  | .hbm, ⟨17, _⟩ => ⟨S256x12288, .bf16⟩
  | .hbm, ⟨18, _⟩ => ⟨S4096x512, .bf16⟩
  | .local _ .vmem, ⟨0, _⟩ => ⟨S256x256, .bf16⟩
  | .local _ .vmem, ⟨1, _⟩ => ⟨S256x256, .bf16⟩
  | .local _ .vmem, ⟨2, _⟩ => ⟨S256x128, .bf16⟩
  | .local _ .vmem, ⟨3, _⟩ => ⟨S256x128, .bf16⟩
  | .local _ .vmem, ⟨4, _⟩ => ⟨S128x256, .bf16⟩
  | .local _ .vmem, ⟨5, _⟩ => ⟨S128x256, .bf16⟩
  | .local _ .vmem, ⟨6, _⟩ => ⟨S256x256, .bf16⟩
  | .local _ .vmem, ⟨7, _⟩ => ⟨S256x256, .bf16⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference9Ideal.lean ====
abbrev S12288x512 : Shape := ⟨2, ![12288, 512]⟩
abbrev S12288x128 : Shape := ⟨2, ![12288, 128]⟩
abbrev S4096x512 : Shape := ⟨2, ![4096, 512]⟩
abbrev S16x256x2x4x64 : Shape := ⟨5, ![16, 256, 2, 4, 64]⟩
abbrev S4096x128 : Shape := ⟨2, ![4096, 128]⟩
abbrev S16x256x2x64 : Shape := ⟨4, ![16, 256, 2, 64]⟩
abbrev S16x2x256x256x4 : Shape := ⟨5, ![16, 2, 256, 256, 4]⟩
abbrev S16x2x4x256x256 : Shape := ⟨5, ![16, 2, 4, 256, 256]⟩
abbrev S_ : Shape := ⟨0, ![]⟩
abbrev S16x2x4x256 : Shape := ⟨4, ![16, 2, 4, 256]⟩
abbrev S16x2x4x256x1 : Shape := ⟨5, ![16, 2, 4, 256, 1]⟩
abbrev S16x2x64x4x256 : Shape := ⟨5, ![16, 2, 64, 4, 256]⟩

abbrev nBuf : Space → Nat
  | .hbm => 32
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S12288x128, .f32⟩
  | .hbm, ⟨2, _⟩ => ⟨S12288x128, .f32⟩
  | .hbm, ⟨3, _⟩ => ⟨S4096x512, .f32⟩
  | .hbm, ⟨4, _⟩ => ⟨S16x256x2x4x64, .f32⟩
  | .hbm, ⟨5, _⟩ => ⟨S4096x128, .f32⟩
  | .hbm, ⟨6, _⟩ => ⟨S16x256x2x64, .f32⟩
  | .hbm, ⟨7, _⟩ => ⟨S4096x128, .f32⟩
  | .hbm, ⟨8, _⟩ => ⟨S16x256x2x64, .f32⟩
  | .hbm, ⟨9, _⟩ => ⟨S16x2x256x256x4, .f32⟩
  | .hbm, ⟨10, _⟩ => ⟨S16x2x4x256x256, .f32⟩
  | .hbm, ⟨11, _⟩ => ⟨S_, .f32⟩
  | .hbm, ⟨12, _⟩ => ⟨S16x2x4x256x256, .f32⟩
  | .hbm, ⟨13, _⟩ => ⟨S16x2x4x256x256, .f32⟩
  | .hbm, ⟨14, _⟩ => ⟨S_, .f32⟩
  | .hbm, ⟨15, _⟩ => ⟨S16x2x4x256, .f32⟩
  | .hbm, ⟨16, _⟩ => ⟨S_, .f32⟩
  | .hbm, ⟨17, _⟩ => ⟨S16x2x4x256, .f32⟩
  | .hbm, ⟨18, _⟩ => ⟨S16x2x4x256, .f32⟩
  | .hbm, ⟨19, _⟩ => ⟨S16x2x4x256x1, .f32⟩
  | .hbm, ⟨20, _⟩ => ⟨S16x2x4x256x256, .f32⟩
  | .hbm, ⟨21, _⟩ => ⟨S16x2x4x256x256, .f32⟩
  | .hbm, ⟨22, _⟩ => ⟨S16x2x4x256x256, .f32⟩
  | .hbm, ⟨23, _⟩ => ⟨S_, .f32⟩
  | .hbm, ⟨24, _⟩ => ⟨S16x2x4x256, .f32⟩
  | .hbm, ⟨25, _⟩ => ⟨S16x2x4x256x1, .f32⟩
  | .hbm, ⟨26, _⟩ => ⟨S16x2x4x256x256, .f32⟩
  | .hbm, ⟨27, _⟩ => ⟨S16x2x4x256x256, .f32⟩
  | .hbm, ⟨28, _⟩ => ⟨S16x2x64x4x256, .f32⟩
  | .hbm, ⟨29, _⟩ => ⟨S16x256x2x4x64, .f32⟩
  | .hbm, ⟨30, _⟩ => ⟨S4096x512, .f32⟩
  | .hbm, ⟨31, _⟩ => ⟨S4096x512, .bf16⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel10.lean ====
abbrev S12288x6144 : Shape := ⟨2, ![12288, 6144]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x4 : Shape := ⟨2, ![4, 4]⟩
abbrev S4x1x4x1 : Shape := ⟨4, ![4, 1, 4, 1]⟩
abbrev S1x128x1x128 : Shape := ⟨4, ![1, 128, 1, 128]⟩
abbrev S4x128x4x128 : Shape := ⟨4, ![4, 128, 4, 128]⟩
abbrev S512x512 : Shape := ⟨2, ![512, 512]⟩
abbrev S512x1024 : Shape := ⟨2, ![512, 1024]⟩
abbrev S12288x1024 : Shape := ⟨2, ![12288, 1024]⟩

abbrev nBuf : Space → Nat
  | .hbm => 63
  | .vmem => 5
  | .smem => 0
  | _ => 0

abbrev bufTy : (tb : Table) → Fin (tcTables nBuf tb) → BufTy
  | .hbm, ⟨0, _⟩ => ⟨S12288x6144, .bf16⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S_, .i32⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S128x128, .i1⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S4x4, .i32⟩
  | .hbm, ⟨34, _⟩ => ⟨S4x4, .i32⟩
  | .hbm, ⟨35, _⟩ => ⟨S_, .i32⟩
  | .hbm, ⟨36, _⟩ => ⟨S4x4, .i32⟩
  | .hbm, ⟨37, _⟩ => ⟨S4x4, .i32⟩
  | .hbm, ⟨38, _⟩ => ⟨S4x4, .i1⟩
  | .hbm, ⟨39, _⟩ => ⟨S4x4, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S4x1x4x1, .f32⟩
  | .hbm, ⟨45, _⟩ => ⟨S1x128x1x128, .f32⟩
  | .hbm, ⟨46, _⟩ => ⟨S4x128x4x128, .f32⟩
  | .hbm, ⟨47, _⟩ => ⟨S4x128x4x128, .f32⟩
  | .hbm, ⟨48, _⟩ => ⟨S4x128x4x128, .f32⟩
  | .hbm, ⟨49, _⟩ => ⟨S512x512, .f32⟩
  | .hbm, ⟨50, _⟩ => ⟨S128x128, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S4x1x4x1, .f32⟩
  | .hbm, ⟨55, _⟩ => ⟨S1x128x1x128, .f32⟩
  | .hbm, ⟨56, _⟩ => ⟨S4x128x4x128, .f32⟩
  | .hbm, ⟨57, _⟩ => ⟨S4x128x4x128, .f32⟩
  | .hbm, ⟨58, _⟩ => ⟨S4x128x4x128, .f32⟩
  | .hbm, ⟨59, _⟩ => ⟨S512x512, .f32⟩
  | .hbm, ⟨60, _⟩ => ⟨S512x1024, .f32⟩
  | .hbm, ⟨61, _⟩ => ⟨S512x1024, .bf16⟩
  | .hbm, ⟨62, _⟩ => ⟨S12288x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | _, _ => ⟨S12288x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v19 : Ref sig .tc := ⟨.hbm, 49, rfl⟩
abbrev main_v20 : Ref sig .tc := ⟨.hbm, 50, rfl⟩
abbrev main_cst_2 : Ref sig .tc := ⟨.hbm, 51, rfl⟩
abbrev main_v21 : Ref sig .tc := ⟨.hbm, 52, rfl⟩
abbrev main_v22 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S12288x6144 : Shape := ⟨2, ![12288, 6144]⟩
abbrev S12288x512 : Shape := ⟨2, ![12288, 512]⟩
abbrev S12288x4x128 : Shape := ⟨3, ![12288, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S12288x1024 : Shape := ⟨2, ![12288, 1024]⟩

abbrev nBuf : Space → Nat
  | .hbm => 50
  | .vmem => 0
  | .smem => 0
  | _ => 0

abbrev bufTy : (tb : Table) → Fin (tcTables nBuf tb) → BufTy
  | .hbm, ⟨0, _⟩ => ⟨S12288x6144, .bf16⟩
  | .hbm, ⟨1, _⟩ => ⟨S12288x512, .bf16⟩
  | .hbm, ⟨2, _⟩ => ⟨S12288x512, .f32⟩
  | .hbm, ⟨3, _⟩ => ⟨S12288x4x128, .f32⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S_, .i32⟩
  | .hbm, ⟨22, _⟩ => ⟨S128x128, .i32⟩
  | .hbm, ⟨23, _⟩ => ⟨S128x128, .i1⟩
  | .hbm, ⟨24, _⟩ => ⟨S_, .i32⟩
  | .hbm, ⟨25, _⟩ => ⟨S_, .i1⟩
  | .hbm, ⟨26, _⟩ => ⟨S128x128, .i1⟩
  | .hbm, ⟨27, _⟩ => ⟨S128x128, .i1⟩
  | .hbm, ⟨28, _⟩ => ⟨S128x128, .i1⟩
  | .hbm, ⟨29, _⟩ => ⟨S128x128, .i32⟩
  | .hbm, ⟨30, _⟩ => ⟨S128x128, .i32⟩
  | .hbm, ⟨31, _⟩ => ⟨S128x128, .i32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S12288x4x128, .f32⟩
  | .hbm, ⟨41, _⟩ => ⟨S12288x512, .f32⟩
  | .hbm, ⟨42, _⟩ => ⟨S128x128, .f32⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S12288x4x128, .f32⟩
  | .hbm, ⟨47, _⟩ => ⟨S12288x512, .f32⟩
  | .hbm, ⟨48, _⟩ => ⟨S12288x1024, .f32⟩
  | .hbm, ⟨49, _⟩ => ⟨S12288x1024, .bf16⟩
  | _, _ => ⟨S12288x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== Kernel11.lean ====
abbrev S12288x1024 : Shape := ⟨2, ![12288, 1024]⟩
abbrev S4096x4096 : Shape := ⟨2, ![4096, 4096]⟩
abbrev S8192x512 : Shape := ⟨2, ![8192, 512]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S12288x1024, .bf16⟩
  | .hbm, ⟨1, _⟩ => ⟨S4096x4096, .bf16⟩
  | .hbm, ⟨2, _⟩ => ⟨S4096x4096, .bf16⟩
  | .hbm, ⟨3, _⟩ => ⟨S8192x512, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c1_i32_0 : BitVec 32 := 1#32
  let c0_i32 : BitVec 32 := 0#32
  ![v0.toNat, c1_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S12288x1024 : Shape := ⟨2, ![12288, 1024]⟩
abbrev S4096x4096 : Shape := ⟨2, ![4096, 4096]⟩
abbrev S8192x1024 : Shape := ⟨2, ![8192, 1024]⟩
abbrev S2x4096x2x512 : Shape := ⟨4, ![2, 4096, 2, 512]⟩
abbrev S2x4096x1x512 : Shape := ⟨4, ![2, 4096, 1, 512]⟩
abbrev S2x4096x512 : Shape := ⟨3, ![2, 4096, 512]⟩
abbrev S2x512x4096 : Shape := ⟨3, ![2, 512, 4096]⟩
abbrev S8192x512 : Shape := ⟨2, ![8192, 512]⟩

abbrev nBuf : Space → Nat
  | .hbm => 19
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S4096x4096, .bf16⟩
  | .hbm, ⟨2, _⟩ => ⟨S4096x4096, .bf16⟩
  | .hbm, ⟨3, _⟩ => ⟨S8192x1024, .bf16⟩
  | .hbm, ⟨4, _⟩ => ⟨S8192x1024, .f32⟩
  | .hbm, ⟨5, _⟩ => ⟨S2x4096x2x512, .f32⟩
  | .hbm, ⟨6, _⟩ => ⟨S4096x4096, .f32⟩
  | .hbm, ⟨7, _⟩ => ⟨S2x4096x1x512, .f32⟩
  | .hbm, ⟨8, _⟩ => ⟨S2x4096x512, .f32⟩
  | .hbm, ⟨9, _⟩ => ⟨S2x512x4096, .f32⟩
  | .hbm, ⟨10, _⟩ => ⟨S2x4096x512, .f32⟩
  | .hbm, ⟨11, _⟩ => ⟨S4096x4096, .f32⟩
  | .hbm, ⟨12, _⟩ => ⟨S2x4096x1x512, .f32⟩
  | .hbm, ⟨13, _⟩ => ⟨S2x4096x512, .f32⟩
  | .hbm, ⟨14, _⟩ => ⟨S2x512x4096, .f32⟩
  | .hbm, ⟨15, _⟩ => ⟨S2x4096x512, .f32⟩
  | .hbm, ⟨16, _⟩ => ⟨S2x4096x512, .f32⟩
  | .hbm, ⟨17, _⟩ => ⟨S8192x512, .f32⟩
  | .hbm, ⟨18, _⟩ => ⟨S8192x512, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel12.lean ====
abbrev S12288x1024 : Shape := ⟨2, ![12288, 1024]⟩
abbrev S256x256 : Shape := ⟨2, ![256, 256]⟩
abbrev S4096x512 : Shape := ⟨2, ![4096, 512]⟩
abbrev S256x512 : Shape := ⟨2, ![256, 512]⟩

abbrev nBuf : Space → Nat
  | .hbm => 4
  | .vmem => 8
  | .smem => 0
  | _ => 0

abbrev bufTy : (tb : Table) → Fin (tcTables nBuf tb) → BufTy
  | .hbm, ⟨0, _⟩ => ⟨S12288x1024, .bf16⟩
  | .hbm, ⟨1, _⟩ => ⟨S256x256, .bf16⟩
  | .hbm, ⟨2, _⟩ => ⟨S256x256, .bf16⟩
  | .hbm, ⟨3, _⟩ => ⟨S4096x512, .bf16⟩
  | .local _ .vmem, ⟨0, _⟩ => ⟨S256x256, .bf16⟩
  | .local _ .vmem, ⟨1, _⟩ => ⟨S256x256, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S12288x1024 : Shape := ⟨2, ![12288, 1024]⟩
abbrev S256x256 : Shape := ⟨2, ![256, 256]⟩
abbrev S4096x1024 : Shape := ⟨2, ![4096, 1024]⟩
abbrev S16x256x2x512 : Shape := ⟨4, ![16, 256, 2, 512]⟩
abbrev S16x256x1x512 : Shape := ⟨4, ![16, 256, 1, 512]⟩
abbrev S16x256x512 : Shape := ⟨3, ![16, 256, 512]⟩
abbrev S16x512x256 : Shape := ⟨3, ![16, 512, 256]⟩
abbrev S4096x512 : Shape := ⟨2, ![4096, 512]⟩

abbrev nBuf : Space → Nat
  | .hbm => 19
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S256x256, .bf16⟩
  | .hbm, ⟨2, _⟩ => ⟨S256x256, .bf16⟩
  | .hbm, ⟨3, _⟩ => ⟨S4096x1024, .bf16⟩
  | .hbm, ⟨4, _⟩ => ⟨S4096x1024, .f32⟩
  | .hbm, ⟨5, _⟩ => ⟨S16x256x2x512, .f32⟩
  | .hbm, ⟨6, _⟩ => ⟨S256x256, .f32⟩
  | .hbm, ⟨7, _⟩ => ⟨S16x256x1x512, .f32⟩
  | .hbm, ⟨8, _⟩ => ⟨S16x256x512, .f32⟩
  | .hbm, ⟨9, _⟩ => ⟨S16x512x256, .f32⟩
  | .hbm, ⟨10, _⟩ => ⟨S16x256x512, .f32⟩
  | .hbm, ⟨11, _⟩ => ⟨S256x256, .f32⟩
  | .hbm, ⟨12, _⟩ => ⟨S16x256x1x512, .f32⟩
  | .hbm, ⟨13, _⟩ => ⟨S16x256x512, .f32⟩
  | .hbm, ⟨14, _⟩ => ⟨S16x512x256, .f32⟩
  | .hbm, ⟨15, _⟩ => ⟨S16x256x512, .f32⟩
  | .hbm, ⟨16, _⟩ => ⟨S16x256x512, .f32⟩
  | .hbm, ⟨17, _⟩ => ⟨S4096x512, .f32⟩
  | .hbm, ⟨18, _⟩ => ⟨S4096x512, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Proof.Softmax.lean ====
/- The algebra of a softmax taken in blocks, over the extended reals.  A block of scores is shifted by a maximum of its own,
   the weighted sums of all blocks are brought to one common shift, and the quotient is taken once at the end.  With finite
   scores this is the plain softmax-weighted sum, whatever finite shifts are used and whatever the weighted values are. -/
module

public import Idealize.ShloMosaic.PureOps.Ideal
public import Idealize.ShloMosaic.Lib.Pipeline.ValueKit

@[expose] public section

noncomputable section

namespace Cert.Softmax

open Idealize.ShloMosaic

/-- A finite sum of reals, taken among the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor distributes over a finite sum of extended reals. -/
theorem mul_sum {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (by exact_mod_cast hr) (EReal.coe_ne_top r)]

/-- The maximum, from −∞ on, of finitely many reals, at least one, is a real. -/
theorem exists_fold_max {n : ℕ} (f : Fin (n + 1) → ℝ) (b : EReal) (hb : b = ⊥) :
    ∃ μ : ℝ, (Finset.univ.fold max b fun k => ((f k : ℝ) : EReal)) = (μ : EReal) := by
  subst hb
  classical
  suffices h : ∀ s : Finset (Fin (n + 1)), s.Nonempty → ∃ μ : ℝ, (s.fold max ⊥ fun k => ((f k : ℝ) : EReal)) = (μ : EReal) from
    h _ Finset.univ_nonempty
  intro s hs
  induction hs using Finset.Nonempty.cons_induction with
  | singleton a => exact ⟨f a, by simp⟩
  | cons a s ha _ ih =>
    obtain ⟨μ, h⟩ := ih
    refine ⟨max (f a) μ, ?_⟩
    rw [Finset.fold_cons, h, EReal.coe_strictMono.monotone.map_max]

/-- The exponential of a difference of two reals. -/
theorem exp_sub (a b : ℝ) : Ideal.exp ((a : EReal) - (b : EReal)) = ((Real.exp (a - b) : ℝ) : EReal) := by
  rw [← EReal.coe_sub, Ideal.exp_coe]

variable {C n : ℕ} (σ : Fin C → Fin n → ℝ) (μ : Fin C → ℝ) (m : ℝ)

/-- The weighted sums of the blocks, each brought from its own shift to the common one, are one weighted sum. -/
theorem blocks_sum (v : Fin C → Fin n → EReal) :
    ∑ c, Ideal.exp ((μ c : EReal) - (m : EReal)) * ∑ k, v c k * Ideal.exp ((σ c k : EReal) - (μ c : EReal))
      = ∑ c, ∑ k, v c k * ((Real.exp (σ c k - m) : ℝ) : EReal) := by
  refine Finset.sum_congr rfl fun c _ => ?_
  rw [exp_sub, mul_sum _ (Real.exp_pos _).le]
  refine Finset.sum_congr rfl fun k _ => ?_
  rw [exp_sub, mul_left_comm, ← EReal.coe_mul, ← Real.exp_add]
  congr 3
  ring

/-- **The softmax in blocks.**  The quotient of the two blocked sums, the second over the weights alone, is the
    softmax-weighted sum of the values at any one finite shift. -/
theorem blocked (hC : 0 < C) (hn : 0 < n) (v o : Fin C → Fin n → EReal) (ho : ∀ c k, o c k = 1) (M : ℝ) :
    Ideal.div
        (∑ c, Ideal.exp ((μ c : EReal) - (m : EReal)) * ∑ k, v c k * Ideal.exp ((σ c k : EReal) - (μ c : EReal)))
        (∑ c, Ideal.exp ((μ c : EReal) - (m : EReal)) * ∑ k, o c k * Ideal.exp ((σ c k : EReal) - (μ c : EReal)))
      = ∑ c, ∑ k, v c k * Ideal.div (Ideal.exp ((σ c k : EReal) - (M : EReal)))
          (∑ c, ∑ k, Ideal.exp ((σ c k : EReal) - (M : EReal))) := by
  have : NeZero C := ⟨hC.ne'⟩
  have : NeZero n := ⟨hn.ne'⟩
  have pos : ∀ a : ℝ, 0 < ∑ c, ∑ k, Real.exp (σ c k - a) := fun a =>
    Finset.sum_pos (fun c _ => Finset.sum_pos (fun k _ => Real.exp_pos _) Finset.univ_nonempty) Finset.univ_nonempty
  rw [blocks_sum, blocks_sum]
  simp only [ho, one_mul, exp_sub, coe_sum]
  rw [Ideal.div_coe (pos m).ne', mul_comm, mul_sum _ (one_div_nonneg.2 (pos m).le)]
  refine Finset.sum_congr rfl fun c _ => ?_
  rw [mul_sum _ (one_div_nonneg.2 (pos m).le)]
  refine Finset.sum_congr rfl fun k _ => ?_
  rw [Ideal.div_coe (pos M).ne', mul_left_comm, ← EReal.coe_mul, ← EReal.coe_mul]
  congr 2
  have e : ∀ c k, Real.exp (σ c k - M) = Real.exp (m - M) * Real.exp (σ c k - m) := fun c k => by
    rw [← Real.exp_add]; congr 1; ring
  have p := pos m
  simp only [e, ← Finset.mul_sum]
  have := Real.exp_pos (m - M)
  field_simp

/-- A sum over `C·n` positions is the sum over the blocks of the sums within a block. -/
theorem sum_blocks (f : Fin (C * n) → EReal) :
    ∑ k, f k = ∑ c : Fin C, ∑ k : Fin n, f ⟨c.val * n + k.val, by
      have := c.isLt; have := k.isLt
      calc c.val * n + k.val < c.val * n + n := by omega
        _ = (c.val + 1) * n := by ring
        _ ≤ C * n := Nat.mul_le_mul_right _ (by omega)⟩ := by
  rw [← Fintype.sum_prod_type', ← (finProdFinEquiv (m := C) (n := n)).sum_comp]
  refine Finset.sum_congr rfl fun x _ => congrArg f (Fin.ext ?_)
  simp [finProdFinEquiv]; ring

end Cert.Softmax

end
-- ==== Proof.AttnBody.lean ====
module

public import proofs.«01_k».proof.Proof.Gen.KernelIdeal.Value
public import proofs.«01_k».proof.Proof.Softmax
public import Idealize.ShloMosaic.Lib.Pipeline.ValueKit
public import Idealize.ShloMosaic.Lib.Pointwise

@[expose] public section

set_option maxRecDepth 16384

noncomputable section

namespace Cert.Attn

open Idealize.ShloMosaic Idealize.SL.Sem Cert.KernelIdeal Cert.KernelIdeal.Gen

/-- The scores of one block of keys against the stacked queries. -/
def scores (K : FVec Ideal S512x128 .bf16) (w : FVec Ideal S2048x128 .bf16) : FVec Ideal S512x2048 .f32 :=
  matmul dot_S512x128_S2048x128_S512x2048_1_1_0_0_n_n none (shapeCast S512x128 K shapeCasts_S512x128_S512x128) w
    (constant S512x2048 .f32 0x00000000#32)

/-- A block's maximum score, query by query. -/
def top (s : FVec Ideal S512x2048 .f32) : FVec Ideal S1x2048 .f32 :=
  shapeCast S1x2048 (multiReduction .maximumf [0] S2048 s 0xFF800000#32 reduces_S512x2048_S2048 (.inl rfl) rfl) shapeCasts_S2048_S1x2048

/-- A block's exponentials under its own maximum, contracted with its values. -/
def part (s : FVec Ideal S512x2048 .f32) (v : FVec Ideal S80x512 .bf16) : FVec Ideal S80x2048 .f32 :=
  matmul dot_S80x512_S512x2048_S80x2048_1_0_0_1_n_n none (shapeCast S80x512 v shapeCasts_S80x512_S80x512)
    (truncf .bf16 (exp (subf s (broadcastTo S512x2048 (top s) broadcasts_S1x2048_S512x2048))) bitsLt_bf16_f32)
    (constant S80x2048 .f32 0x00000000#32)

/-- A block's contribution to the sums, brought to the common shift. -/
def term (t M : FVec Ideal S1x2048 .f32) (p : FVec Ideal S80x2048 .f32) : FVec Ideal S80x2048 .f32 :=
  mulf (broadcastTo S80x2048 (exp (subf t M)) broadcasts_S1x2048_S80x2048) p

/-- The quotient of the sums by their row 64, head by head along the columns. -/
def heads (a : FVec Ideal S80x2048 .f32) : FVec Ideal S512x256 .bf16 :=
  have v183 := extractStridedSlice S64x2048 ![0, 0] a slices_S80x2048_o0_0_S64x2048
  have v184 := extractStridedSlice S1x2048 ![64, 0] a slices_S80x2048_o64_0_S1x2048
  have v185 := broadcastTo S64x2048 v184 broadcasts_S1x2048_S64x2048
  have v186 : FVec Ideal S64x2048 .f32 := divf v183 v185
  truncf .bf16 (transpose S512x256 [1, 0] (concatenate S256x512 0
    [⟨S64x512, extractStridedSlice S64x512 ![0, 0] v186 slices_S64x2048_o0_0_S64x512⟩,
     ⟨S64x512, extractStridedSlice S64x512 ![0, 512] v186 slices_S64x2048_o0_512_S64x512⟩,
     ⟨S64x512, extractStridedSlice S64x512 ![0, 1024] v186 slices_S64x2048_o0_1024_S64x512⟩,
     ⟨S64x512, extractStridedSlice S64x512 ![0, 1536] v186 slices_S64x2048_o0_1536_S64x512⟩]
    concatenates_S64x512_S64x512_S64x512_S64x512_S256x512_d0) transposes_S256x512_p1_0_S512x256) bitsLt_bf16_f32

/-- The common shift of nine blocks of scores. -/
def tops (s : Fin 9 → FVec Ideal S512x2048 .f32) : FVec Ideal S1x2048 .f32 :=
  maximumf (maximumf (maximumf (maximumf (maximumf (maximumf (maximumf (maximumf (top (s 0)) (top (s 1))) (top (s 2))) (top (s 3))) (top (s 4)))
    (top (s 5))) (top (s 6))) (top (s 7))) (top (s 8))

/-- The sums of nine blocks under their common shift. -/
def sums (s : Fin 9 → FVec Ideal S512x2048 .f32) (v : Fin 9 → FVec Ideal S80x512 .bf16) : FVec Ideal S80x2048 .f32 :=
  have e := fun c => term (top (s c)) (tops s) (part (s c) (v c))
  addf (addf (addf (addf (addf (addf (addf (addf (addf (broadcast S80x2048 (Scalar.ofBits (F := Ideal) .f32 0x00000000#32)) (e 0)) (e 1)) (e 2)) (e 3)) (e 4)) (e 5)) (e 6)) (e 7)) (e 8)

/-- The nine blocks of keys: eight of the sequence's own, then the cached one. -/
def keys (x1 : FVec Ideal S4096x128 .bf16) (x3 : FVec Ideal S1x512x128 .bf16) : Fin 9 → FVec Ideal S512x128 .bf16 :=
  ![View.ld (Val := Elt Ideal) (e' := .bf16) x1 r0_2, View.ld (Val := Elt Ideal) (e' := .bf16) x1 r0_3,
    View.ld (Val := Elt Ideal) (e' := .bf16) x1 r0_5, View.ld (Val := Elt Ideal) (e' := .bf16) x1 r0_7,
    View.ld (Val := Elt Ideal) (e' := .bf16) x1 r0_9, View.ld (Val := Elt Ideal) (e' := .bf16) x1 r0_11,
    View.ld (Val := Elt Ideal) (e' := .bf16) x1 r0_13, View.ld (Val := Elt Ideal) (e' := .bf16) x1 r0_15,
    View.ld (Val := Elt Ideal) (e' := .bf16) (shapeCast S512x128 (View.ld (Val := Elt Ideal) (e' := .bf16) x3 r0_17)
      squeezes_S1x512x128_S512x128.numel_eq) r0_18]

/-- The nine blocks of values, their rows beside the rows of ones. -/
def vals (x2 : FVec Ideal S128x4096 .bf16) (x4 : FVec Ideal S1x128x512 .bf16) : Fin 9 → FVec Ideal S80x512 .bf16 :=
  ![View.ld (Val := Elt Ideal) (e' := .bf16) x2 r0_4, View.ld (Val := Elt Ideal) (e' := .bf16) x2 r0_6,
    View.ld (Val := Elt Ideal) (e' := .bf16) x2 r0_8, View.ld (Val := Elt Ideal) (e' := .bf16) x2 r0_10,
    View.ld (Val := Elt Ideal) (e' := .bf16) x2 r0_12, View.ld (Val := Elt Ideal) (e' := .bf16) x2 r0_14,
    View.ld (Val := Elt Ideal) (e' := .bf16) x2 r0_16, View.ld (Val := Elt Ideal) (e' := .bf16) x2 r0_19,
    View.ld (Val := Elt Ideal) (e' := .bf16) (shapeCast S128x512 (View.ld (Val := Elt Ideal) (e' := .bf16) x4 r0_20)
      squeezes_S1x128x512_S128x512.numel_eq) r0_21]

/-- The stacked queries of a block. -/
def stacked (x0 : FVec Ideal S512x256 .bf16) : FVec Ideal S2048x128 .bf16 :=
  k0_pay2 (View.ld x0 r0_0) (View.ld x0 r0_0) (View.ld x0 r0_1) (View.ld x0 r0_1)

/-- The body's result is the heads of the sums of the nine blocks. -/
theorem out_eq (x0 : FVec Ideal S512x256 .bf16) (x1 : FVec Ideal S4096x128 .bf16) (x2 : FVec Ideal S128x4096 .bf16)
    (x3 : FVec Ideal S1x512x128 .bf16) (x4 : FVec Ideal S1x128x512 .bf16) :
    out0_5 x0 x1 x2 x3 x4 = View.canon (Val := Elt Ideal) (s := S512x256) (e := .bf16)
      [⟨r0_22, heads (sums (fun c => scores (keys x1 x3 c) (stacked x0)) (vals x2 x4))⟩] := by
  unfold_out out0_5
  rfl

/-- A score is the sum of the products of a key's lanes with the stacked query's. -/
theorem scores_apply (K : FVec Ideal S512x128 .bf16) (w : FVec Ideal S2048x128 .bf16) (k : Fin 512) (j : Fin 2048) :
    scores K w (ix2 k j) = ∑ l : Fin 128, K (ix2 k l) * w (ix2 j l) := by
  pointwise [scores]

/-- The pattern a maximum starts from is −∞. -/
theorem neg_inf : Ideal.ofBits .f32 0xFF800000#32 = ⊥ := by
  simp [Ideal.ofBits, Ideal.ieee]

/-- A block's maximum, read at a query. -/
theorem top_apply (s : FVec Ideal S512x2048 .f32) (j : Fin 2048) :
    top s (ix2 0 j) = Finset.univ.fold max (Ideal.ofBits .f32 0xFF800000#32) fun k : Fin 512 => s (ix2 k j) := by
  pointwise [top]

/-- The maximum of a block of finite scores is finite. -/
theorem top_real (s : FVec Ideal S512x2048 .f32) (j : Fin 2048) (σ : Fin 512 → ℝ) (h : ∀ k, s (ix2 k j) = (σ k : EReal)) :
    ∃ μ : ℝ, top s (ix2 0 j) = (μ : EReal) := by
  rw [top_apply]
  simp only [h]
  exact Softmax.exists_fold_max (n := 511) σ _ neg_inf

/-- A block's contribution, read at a row of values and a query. -/
theorem part_apply (s : FVec Ideal S512x2048 .f32) (v : FVec Ideal S80x512 .bf16) (e : Fin 80) (j : Fin 2048) :
    part s v (ix2 e j) = ∑ k : Fin 512, v (ix2 e k) * Ideal.exp (s (ix2 k j) - top s (ix2 0 j)) := by
  pointwise [part]

/-- The result at a row and at lane `d` of head `h`: the quotient of the sums of row `d` and row 64 at that query. -/
theorem heads_apply (a : FVec Ideal S80x2048 .f32) (r : Fin 512) (h : Fin 4) (d : Fin 64) :
    heads a (ix2 r ⟨h.val * 64 + d.val, by omega⟩)
      = Ideal.div (a (ix2 ⟨d.val, by omega⟩ ⟨h.val * 512 + r.val, by omega⟩)) (a (ix2 64 ⟨h.val * 512 + r.val, by omega⟩)) := by
  pointwise [heads]
  fin_vals h with hh
  · rw [dif_pos (by omega)]; simp only [hh, Nat.zero_mul, Nat.zero_add]
  · rw [dif_neg (by omega), dif_pos (by omega)]; simp only [hh, Nat.one_mul, Nat.add_sub_cancel_left]
  · rw [dif_neg (by omega), dif_neg (by omega), dif_pos (by omega)]
    have e : h.val * 64 + d.val - 64 - 64 = d.val := by omega
    simp only [e]; simp only [hh, Nat.reduceMul]
  · rw [dif_neg (by omega), dif_neg (by omega), dif_neg (by omega)]
    have e : h.val * 64 + d.val - 64 - 64 - 64 = d.val := by omega
    simp only [e]; simp only [hh, Nat.reduceMul]

/-- The sums of the nine blocks, read at a row of values and a query. -/
theorem sums_apply (s : Fin 9 → FVec Ideal S512x2048 .f32) (v : Fin 9 → FVec Ideal S80x512 .bf16) (e : Fin 80) (j : Fin 2048) :
    sums s v (ix2 e j) = ∑ c : Fin 9, Ideal.exp (top (s c) (ix2 0 j) - tops s (ix2 0 j)) * part (s c) (v c) (ix2 e j) := by
  pointwise [sums, term]
  simp only [Fin.sum_univ_castSucc, Finset.univ_eq_empty, Finset.sum_empty, zero_add]
  rfl

/-- The common shift of finite block maxima is finite. -/
theorem tops_real (s : Fin 9 → FVec Ideal S512x2048 .f32) (j : Fin 2048) (μ : Fin 9 → ℝ) (h : ∀ c, top (s c) (ix2 0 j) = (μ c : EReal)) :
    ∃ m : ℝ, tops s (ix2 0 j) = (m : EReal) := by
  have mx : ∀ a b : ℝ, max (a : EReal) (b : EReal) = ((max a b : ℝ) : EReal) := fun a b =>
    (EReal.coe_strictMono.monotone.map_max).symm
  pointwise [tops]
  simp only [h, mx]
  exact ⟨_, rfl⟩

/-- The signed comparison of a lane with 64. -/
theorem lane_lt (l : Fin 128) : IntOp.cmpi .slt (BitVec.ofNat 32 l.val) 64#32 = if l.val < 64 then 1#1 else 0#1 := by
  revert l; decide +kernel

/-- The stacked query of head `h` and row `r`: the head's own 64 lanes in the half that it lies in, zero in the other. -/
theorem stacked_apply (x0 : FVec Ideal S512x256 .bf16) (r : Fin 512) (h : Fin 4) (l : Fin 128) :
    stacked x0 (ix2 ⟨h.val * 512 + r.val, by omega⟩ l)
      = if l.val / 64 = h.val % 2 then x0 (ix2 r ⟨h.val / 2 * 128 + l.val, by omega⟩) else 0 := by
  pointwise [stacked, k0_pay2]
  rw [lane_lt]
  have hl : l.val < 64 ∧ l.val / 64 = 0 ∨ ¬ l.val < 64 ∧ l.val / 64 = 1 := by omega
  have e2 : h.val = 2 → h.val * 512 + r.val - 512 - 512 = r.val := by omega
  have e3 : h.val = 3 → h.val * 512 + r.val - 512 - 512 - 512 = r.val := by omega
  fin_vals h with hh
  · rw [dif_pos (by omega)]
    rcases hl with ⟨hl, hd⟩ | ⟨hl, hd⟩
    · simp only [Scalar.select, hl, hd, hh, ↓reduceIte, Nat.zero_mod, Nat.zero_mul, Nat.zero_add, Nat.zero_div]; rfl
    · simp only [Scalar.select, hl, hd, hh, ↓reduceIte, Nat.zero_mod, one_ne_zero]; rfl
  · rw [dif_neg (by omega), dif_pos (by omega)]
    rcases hl with ⟨hl, hd⟩ | ⟨hl, hd⟩
    · simp only [Scalar.select, hl, hd, hh, ↓reduceIte, Nat.reduceMod, zero_ne_one]; rfl
    · simp only [Scalar.select, hl, hd, hh, ↓reduceIte, Nat.reduceMod, Nat.reduceDiv, Nat.one_mul, Nat.zero_mul, Nat.zero_add,
        Nat.add_sub_cancel_left]; rfl
  · rw [dif_neg (by omega), dif_neg (by omega), dif_pos (by omega)]
    simp only [e2 hh]
    rcases hl with ⟨hl, hd⟩ | ⟨hl, hd⟩
    · simp only [Scalar.select, hl, hd, hh, ↓reduceIte, Nat.reduceMod, Nat.reduceDiv, Nat.one_mul]; rfl
    · simp only [Scalar.select, hl, hd, hh, ↓reduceIte, Nat.reduceMod, one_ne_zero]; rfl
  · rw [dif_neg (by omega), dif_neg (by omega), dif_neg (by omega)]
    simp only [e3 hh]
    rcases hl with ⟨hl, hd⟩ | ⟨hl, hd⟩
    · simp only [Scalar.select, hl, hd, hh, ↓reduceIte, Nat.reduceMod, zero_ne_one]; rfl
    · simp only [Scalar.select, hl, hd, hh, ↓reduceIte, Nat.reduceMod, Nat.reduceDiv, Nat.one_mul]; rfl

/-- The keys of the nine blocks, read at a key and a lane. -/
theorem keys_apply (x1 : FVec Ideal S4096x128 .bf16) (x3 : FVec Ideal S1x512x128 .bf16) (c : Fin 9) (k : Fin 512) (l : Fin 128) :
    keys x1 x3 c (ix2 k l) = if h : c.val < 8 then x1 (ix2 ⟨c.val * 512 + k.val, by omega⟩ l) else x3 (ix3 0 k l) := by
  fin_cases c <;> pointwise [keys]

/-- The values of the nine blocks, read at a row and a key. -/
theorem vals_apply (x2 : FVec Ideal S128x4096 .bf16) (x4 : FVec Ideal S1x128x512 .bf16) (c : Fin 9) (e : Fin 80) (k : Fin 512) :
    vals x2 x4 c (ix2 e k) = if h : c.val < 8 then x2 (ix2 ⟨e.val, by omega⟩ ⟨c.val * 512 + k.val, by omega⟩)
      else x4 (ix3 0 ⟨e.val, by omega⟩ k) := by
  fin_cases c <;> pointwise [vals]

end Cert.Attn

end
-- ==== Proof.AttnBlock.lean ====
/- One block's attention as a softmax: the body's result at a row and a lane, from what its five blocks hold. -/
module

public import proofs.«01_k».proof.Proof.AttnBody

@[expose] public section

set_option maxRecDepth 16384

noncomputable section

namespace Cert.Attn

open Idealize.ShloMosaic Idealize.SL.Sem Cert.KernelIdeal Cert.KernelIdeal.Gen

/-- Lanes given twice, against a vector that is zero outside half `p`: the sum over the 64 lanes. -/
theorem lanes (f : Fin 64 → ℝ) (X : Fin 128 → EReal) (p : ℕ) (hp : p < 2) :
    (∑ l : Fin 128, (f ⟨l.val % 64, by omega⟩ : EReal) * (if l.val / 64 = p then X l else 0))
      = ∑ e : Fin 64, (f e : EReal) * X ⟨p * 64 + e.val, by omega⟩ := by
  rw [Softmax.sum_blocks (C := 2) (n := 64), Fin.sum_univ_two]
  have hm : ∀ (c : ℕ) (e : Fin 64), (c * 64 + e.val) % 64 = e.val := by omega
  have hd : ∀ (c : ℕ) (e : Fin 64), (c * 64 + e.val) / 64 = c := by omega
  simp only [Fin.val_zero, Fin.val_one, hm, hd]
  obtain rfl | rfl : p = 0 ∨ p = 1 := by omega
  · simp only [↓reduceIte, one_ne_zero, mul_zero, Finset.sum_const_zero, add_zero]
  · simp only [↓reduceIte, zero_ne_one, mul_zero, Finset.sum_const_zero, zero_add]

/-- **One block.**  From blocks that hold scaled queries, keys with their lanes twice, and values above ones, the body computes the
    softmax-weighted sum of the values, at any finite shift of the exponentials. -/
theorem block_value (x0 : FVec Ideal S512x256 .bf16) (x1 : FVec Ideal S4096x128 .bf16) (x2 : FVec Ideal S128x4096 .bf16)
    (x3 : FVec Ideal S1x512x128 .bf16) (x4 : FVec Ideal S1x128x512 .bf16) (r : Fin 512) (h : Fin 4) (d : Fin 64)
    (key : Fin 4608 → Fin 64 → ℝ) (qv : Fin 64 → ℝ) (val : Fin 4608 → EReal) (s : ℝ)
    (h0 : ∀ e : Fin 64, x0 (ix2 r ⟨h.val * 64 + e.val, by omega⟩) = (qv e : EReal) * (s : EReal))
    (h1 : ∀ (k : Fin 4096) (l : Fin 128), x1 (ix2 k l) = (key ⟨k.val, by omega⟩ ⟨l.val % 64, by omega⟩ : EReal))
    (h2 : ∀ k : Fin 4096, x2 (ix2 ⟨d.val, by omega⟩ k) = val ⟨k.val, by omega⟩) (h2' : ∀ k : Fin 4096, x2 (ix2 ⟨64, by omega⟩ k) = 1)
    (h3 : ∀ (k : Fin 512) (l : Fin 128), x3 (ix3 0 k l) = (key ⟨4096 + k.val, by omega⟩ ⟨l.val % 64, by omega⟩ : EReal))
    (h4 : ∀ k : Fin 512, x4 (ix3 0 ⟨d.val, by omega⟩ k) = val ⟨4096 + k.val, by omega⟩) (h4' : ∀ k : Fin 512, x4 (ix3 0 ⟨64, by omega⟩ k) = 1)
    (M : ℝ) :
    heads (sums (fun c => scores (keys x1 x3 c) (stacked x0)) (vals x2 x4)) (ix2 r ⟨h.val * 64 + d.val, by omega⟩)
      = ∑ k, val k * Ideal.div (Ideal.exp ((((∑ e, key k e * qv e) * s : ℝ) : EReal) - (M : EReal)))
          (∑ k', Ideal.exp ((((∑ e, key k' e * qv e) * s : ℝ) : EReal) - (M : EReal))) := by
  have hk : ∀ (c : Fin 9) (k : Fin 512) (l : Fin 128),
      keys x1 x3 c (ix2 k l) = (key ⟨c.val * 512 + k.val, by omega⟩ ⟨l.val % 64, by omega⟩ : EReal) := by
    intro c k l
    rw [keys_apply]
    split
    · rw [h1]
    · have e : 4096 + k.val = c.val * 512 + k.val := by omega
      rw [h3]; simp only [e]
  have hv : ∀ (c : Fin 9) (k : Fin 512), vals x2 x4 c (ix2 ⟨d.val, by omega⟩ k) = val ⟨c.val * 512 + k.val, by omega⟩ := by
    intro c k
    rw [vals_apply]
    split
    · rw [h2]
    · have e : 4096 + k.val = c.val * 512 + k.val := by omega
      rw [h4]; simp only [e]
  have ho : ∀ (c : Fin 9) (k : Fin 512), vals x2 x4 c (ix2 64 k) = 1 := by
    intro c k
    rw [vals_apply]
    split
    · exact h2' _
    · exact h4' _
  have hσ : ∀ (c : Fin 9) (k : Fin 512), scores (keys x1 x3 c) (stacked x0) (ix2 k ⟨h.val * 512 + r.val, by omega⟩)
      = (((∑ e, key ⟨c.val * 512 + k.val, by omega⟩ e * qv e) * s : ℝ) : EReal) := by
    intro c k
    rw [scores_apply]
    simp only [stacked_apply, hk]
    rw [lanes _ (fun l => x0 (ix2 r ⟨h.val / 2 * 128 + l.val, by omega⟩)) _ (by omega)]
    have e : ∀ e : Fin 64, h.val / 2 * 128 + (h.val % 2 * 64 + e.val) = h.val * 64 + e.val := by omega
    simp only [e, h0, ← EReal.coe_mul, Softmax.coe_sum, Finset.sum_mul, mul_assoc]
  choose μ hμ using fun c => top_real (scores (keys x1 x3 c) (stacked x0)) ⟨h.val * 512 + r.val, by omega⟩ _ (hσ c)
  obtain ⟨m, hm⟩ := tops_real (fun c => scores (keys x1 x3 c) (stacked x0)) ⟨h.val * 512 + r.val, by omega⟩ μ hμ
  rw [heads_apply, sums_apply, sums_apply]
  simp only [part_apply, hμ, hm, hσ]
  rw [Softmax.blocked _ μ m (by norm_num) (by norm_num) _ _ ho M]
  simp only [hv]
  rw [Softmax.sum_blocks (C := 9) (n := 512)]
  rw [Softmax.sum_blocks (C := 9) (n := 512) (fun k' => Ideal.exp ((((∑ e, key k' e * qv e) * s : ℝ) : EReal) - (M : EReal)))]

end Cert.Attn

end
-- ==== Proof.AttnHost.lean ====
/- The five arrays the attention kernel is given, each of one argument, read at an index. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.AttnHost

open Idealize.ShloMosaic Idealize.ShloMosaic.TcCoe Idealize.SL.Sem Cert.KernelIdeal Cert.KernelIdeal.Gen

/-- The scaled queries. -/
def queries (q : FVec Ideal S12288x512 .f32) : FVec Ideal S12288x512 .bf16 :=
  truncf .bf16 (mulf q (broadcastInDim S12288x512 ![] bcast_S_S12288x512 (constant S_ .f32 0x3E000000#32))) bitsLt_bf16_f32

/-- The keys, each head's lanes twice. -/
def keys (k : FVec Ideal S12288x128 .f32) : FVec Ideal S12288x256 .bf16 :=
  shapeCast _ (broadcastInDim S12288x2x2x64 ![0, 1, 2, 3] bcast_S12288x2x1x64_S12288x2x2x64_0_1_2_3
    (shapeCast _ (truncf .bf16 k bitsLt_bf16_f32) shapeCasts_S12288x128_S12288x2x1x64)) shapeCasts_S12288x2x2x64_S12288x256

/-- The values transposed, each head's lanes above as many ones. -/
def vals (v : FVec Ideal S12288x128 .f32) : FVec Ideal S256x12288 .bf16 :=
  shapeCast _ (concatenate S2x128x12288 1 [⟨S2x64x12288, transpose S2x64x12288 [1, 2, 0]
      (shapeCast _ (truncf .bf16 v bitsLt_bf16_f32) shapeCasts_S12288x128_S12288x2x64) transposes_S12288x2x64_S2x64x12288_1_2_0⟩,
    ⟨S2x64x12288, broadcastInDim S2x64x12288 ![] bcast_S_S2x64x12288 (constant S_ .bf16 0x3F80#16)⟩]
    concatenates_S2x64x12288_S2x64x12288_S2x128x12288_d1) shapeCasts_S2x128x12288_S256x12288

/-- The cached keys, each head's lanes twice. -/
def cachedKeys (k : FVec Ideal S2x512x2x64 .f32) : FVec Ideal S2x512x256 .bf16 :=
  shapeCast _ (broadcastInDim S2x512x2x2x64 ![0, 1, 2, 3, 4] bcast_S2x512x2x1x64_S2x512x2x2x64_0_1_2_3_4
    (broadcastInDim S2x512x2x1x64 ![0, 1, 2, 4] bcast_S2x512x2x64_S2x512x2x1x64_0_1_2_4 (truncf .bf16 k bitsLt_bf16_f32)))
    shapeCasts_S2x512x2x2x64_S2x512x256

/-- The cached values transposed, each head's lanes above as many ones. -/
def cachedVals (v : FVec Ideal S2x512x2x64 .f32) : FVec Ideal S2x256x512 .bf16 :=
  shapeCast _ (concatenate S2x2x128x512 2 [⟨S2x2x64x512, transpose S2x2x64x512 [0, 2, 3, 1]
      (truncf .bf16 v bitsLt_bf16_f32) transposes_S2x512x2x64_S2x2x64x512_0_2_3_1⟩,
    ⟨S2x2x64x512, broadcastInDim S2x2x64x512 ![] bcast_S_S2x2x64x512 (constant S_ .bf16 0x3F80#16)⟩]
    concatenates_S2x2x64x512_S2x2x64x512_S2x2x128x512_d2) shapeCasts_S2x2x128x512_S2x256x512

variable (m : (ℓ : Loc nD τ sig) → Buf (Elt Ideal) ℓ) (c : Dev nD)

/-- The first array the kernel finds: the scaled queries. -/
theorem entry_queries : V m c main_v2 = queries (m ((c : Thread nD τ).loc main_arg0)) := by
  entry_read; rfl

/-- The second array: the keys. -/
theorem entry_keys : V m c main_v6 = keys (m ((c : Thread nD τ).loc main_arg1)) := by
  entry_read; rfl

/-- The third array: the values. -/
theorem entry_vals : V m c main_v12 = vals (m ((c : Thread nD τ).loc main_arg2)) := by
  entry_read; rfl

/-- The fourth array: the cached keys. -/
theorem entry_cachedKeys : V m c main_v16 = cachedKeys (m ((c : Thread nD τ).loc main_arg3)) := by
  entry_read; rfl

/-- The fifth array: the cached values. -/
theorem entry_cachedVals : V m c main_v21 = cachedVals (m ((c : Thread nD τ).loc main_arg4)) := by
  entry_read; rfl

/-- A scaled query, read. -/
theorem queries_apply (q : FVec Ideal S12288x512 .f32) (i : Fin 12288) (j : Fin 512) :
    queries q (ix2 i j) = q (ix2 i j) * Ideal.ofBits .f32 0x3E000000#32 := by
  pointwise [queries]

/-- A key, read at lane `l` of head `g`. -/
theorem keys_apply (k : FVec Ideal S12288x128 .f32) (i : Fin 12288) (g : Fin 2) (l : Fin 128) :
    keys k (ix2 i ⟨g.val * 128 + l.val, by omega⟩) = k (ix2 i ⟨g.val * 64 + l.val % 64, by omega⟩) := by
  pointwise [keys]
  have e : (g.val * 128 + l.val) % 64 = l.val % 64 := by omega
  simp only [e]

/-- A value, read at lane `d` of head `g`. -/
theorem vals_apply (v : FVec Ideal S12288x128 .f32) (g : Fin 2) (d : Fin 64) (i : Fin 12288) :
    vals v (ix2 ⟨g.val * 128 + d.val, by omega⟩ i) = v (ix2 i ⟨g.val * 64 + d.val, by omega⟩) := by
  pointwise [vals]
  have e : (g.val * 128 + d.val) % 128 = d.val := by omega
  rw [dif_pos (by omega)]
  simp only [e]

/-- The row below a head's values holds ones. -/
theorem vals_one (v : FVec Ideal S12288x128 .f32) (g : Fin 2) (i : Fin 12288) :
    vals v (ix2 ⟨g.val * 128 + 64, by omega⟩ i) = 1 := by
  pointwise [vals]
  rw [dif_neg (by omega)]

/-- A cached key, read at lane `l` of head `g`. -/
theorem cachedKeys_apply (k : FVec Ideal S2x512x2x64 .f32) (b : Fin 2) (i : Fin 512) (g : Fin 2) (l : Fin 128) :
    cachedKeys k (ix3 b i ⟨g.val * 128 + l.val, by omega⟩) = k (ix4 b i g ⟨l.val % 64, by omega⟩) := by
  pointwise [cachedKeys]
  have e : (g.val * 128 + l.val) % 64 = l.val % 64 := by omega
  simp only [e]

/-- A cached value, read at lane `d` of head `g`. -/
theorem cachedVals_apply (v : FVec Ideal S2x512x2x64 .f32) (b : Fin 2) (g : Fin 2) (d : Fin 64) (i : Fin 512) :
    cachedVals v (ix3 b ⟨g.val * 128 + d.val, by omega⟩ i) = v (ix4 b i g d) := by
  pointwise [cachedVals]
  have e : (g.val * 128 + d.val) % 128 = d.val := by omega
  rw [dif_pos (by omega)]
  simp only [e]

/-- The row below a head's cached values holds ones. -/
theorem cachedVals_one (v : FVec Ideal S2x512x2x64 .f32) (b : Fin 2) (g : Fin 2) (i : Fin 512) :
    cachedVals v (ix3 b ⟨g.val * 128 + 64, by omega⟩ i) = 1 := by
  pointwise [cachedVals]
  rw [dif_neg (by omega)]

end Cert.AttnHost

end
-- ==== Proof.AttnRef.lean ====
/- The reference's attention, operation by operation over its five arrays, and read at an index. -/
module

public import proofs.«01_k».proof.Proof.Gen.ReferenceIdeal.Run
public import proofs.«01_k».proof.Proof.Softmax
public import Idealize.ShloMosaic.Lib.Pipeline.ValueKit
public import Idealize.ShloMosaic.Lib.Pointwise

@[expose] public section

set_option maxRecDepth 16384

noncomputable section

namespace Cert.AttnRef

open Idealize.ShloMosaic Idealize.SL.Sem Cert.ReferenceIdeal Cert.ReferenceIdeal.Gen

/-- A sequence's own rows of keys or values, then its cached ones. -/
def joined (k : FVec Ideal S12288x128 .f32) (ck : FVec Ideal S2x512x2x64 .f32) : FVec Ideal S2x4608x2x64 .f32 :=
  concatenate S2x4608x2x64 1 [⟨S2x4096x2x64, (shapeCast _ (extractStridedSlice S8192x128 ![4096, 0] k slices_S12288x128_S8192x128_4096_0)
    shapeCasts_S8192x128_S2x4096x2x64)⟩, ⟨S2x512x2x64, ck⟩] concatenates_S2x4096x2x64_S2x512x2x64_S2x4608x2x64_d1

/-- The scaled scores. -/
def scores (q : FVec Ideal S12288x512 .f32) (K : FVec Ideal S2x4608x2x64 .f32) : FVec Ideal S2x2x4x4096x4608 .f32 :=
  mulf (transpose S2x2x4x4096x4608 [0, 1, 4, 3, 2] (Host.dotGeneral dot_S2x4608x2x64_S2x4096x2x4x64_S2x2x4608x4096x4_3_4_1_13_02_02 none K
      (shapeCast _ (extractStridedSlice S8192x512 ![4096, 0] q slices_S12288x512_S8192x512_4096_0) shapeCasts_S8192x512_S2x4096x2x4x64))
      transposes_S2x2x4608x4096x4_S2x2x4x4096x4608_0_1_4_3_2)
    (broadcastInDim S2x2x4x4096x4608 ![] bcast_S_S2x2x4x4096x4608 (constant S_ .f32 0x3E000000#32))

/-- The maximum over the keys. -/
def over (s : FVec Ideal S2x2x4x4096x4608 .f32) : FVec Ideal S2x2x4x4096 .f32 :=
  Host.reduce FloatOps.maximumf s (constant S_ .f32 0xFF800000#32) reducesTo_S2x2x4x4096x4608_S2x2x4x4096_d4 h_S_

/-- The larger of −∞ and a maximum. -/
def floored (t : FVec Ideal S2x2x4x4096 .f32) : FVec Ideal S2x2x4x4096 .f32 :=
  maximumf (broadcastInDim S2x2x4x4096 ![] bcast_S_S2x2x4x4096 (constant S_ .f32 0xFF800000#32)) t

/-- The largest score of each query. -/
def top (s : FVec Ideal S2x2x4x4096x4608 .f32) : FVec Ideal S2x2x4x4096 .f32 :=
  floored (over s)

/-- The exponentials under the largest score. -/
def exps (s : FVec Ideal S2x2x4x4096x4608 .f32) : FVec Ideal S2x2x4x4096x4608 .f32 :=
  Host.exp (subf s (broadcastInDim S2x2x4x4096x4608 ![0, 1, 2, 3, 4] bcast_S2x2x4x4096x1_S2x2x4x4096x4608_0_1_2_3_4
    (broadcastInDim S2x2x4x4096x1 ![0, 1, 2, 3] bcast_S2x2x4x4096_S2x2x4x4096x1_0_1_2_3 (top s))))

/-- The softmax of exponentials. -/
def weights (e : FVec Ideal S2x2x4x4096x4608 .f32) : FVec Ideal S2x2x4x4096x4608 .f32 :=
  Host.divf e (broadcastInDim S2x2x4x4096x4608 ![0, 1, 2, 3, 4] bcast_S2x2x4x4096x1_S2x2x4x4096x4608_0_1_2_3_4
    (broadcastInDim S2x2x4x4096x1 ![0, 1, 2, 3] bcast_S2x2x4x4096_S2x2x4x4096x1_0_1_2_3
      (Host.reduceAdd e (constant S_ .f32 0x00000000#32) reducesTo_S2x2x4x4096x4608_S2x2x4x4096_d4 h_S_)))

/-- The weighted values, laid out row by row. -/
def rows (V : FVec Ideal S2x4608x2x64 .f32) (p : FVec Ideal S2x2x4x4096x4608 .f32) : FVec Ideal S8192x512 .bf16 :=
  truncf .bf16 (shapeCast _ (transpose S2x4096x2x4x64 [0, 4, 1, 3, 2]
    (Host.dotGeneral dot_S2x4608x2x64_S2x2x4x4096x4608_S2x2x64x4x4096_1_4_3_23_02_01 none V p)
    transposes_S2x2x64x4x4096_S2x4096x2x4x64_0_4_1_3_2) shapeCasts_S2x4096x2x4x64_S8192x512) bitsLt_bf16_f32

/-- The reference's result of its five arrays. -/
def attention (q : FVec Ideal S12288x512 .f32) (k v : FVec Ideal S12288x128 .f32) (ck cv : FVec Ideal S2x512x2x64 .f32) :
    FVec Ideal S8192x512 .bf16 :=
  rows (joined v cv) (weights (exps (scores q (joined k ck))))

/-- The reference's run leaves that result. -/
theorem res_eq (m : (ℓ : Loc nD τ sig) → Buf (Elt Ideal) ℓ) (c : Dev nD) :
    Value.res_out0 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v26
  rfl

/-- A joined row: the sequence's own, past them the cached one. -/
theorem joined_apply (k : FVec Ideal S12288x128 .f32) (ck : FVec Ideal S2x512x2x64 .f32) (b : Fin 2) (j : Fin 4608) (h : Fin 2) (d : Fin 64) :
    joined k ck (ix4 b j h d) = if hj : j.val < 4096 then k (ix2 ⟨4096 + (b.val * 4096 + j.val), by omega⟩ ⟨h.val * 64 + d.val, by omega⟩)
      else ck (ix4 b ⟨j.val - 4096, by omega⟩ h d) := by
  pointwise [joined]

/-- A scaled score. -/
theorem scores_apply (q : FVec Ideal S12288x512 .f32) (K : FVec Ideal S2x4608x2x64 .f32) (b h : Fin 2) (g : Fin 4) (i : Fin 4096) (j : Fin 4608) :
    scores q K (ix5 b h g i j) = (∑ d : Fin 64, K (ix4 b j h d)
      * q (ix2 ⟨4096 + (b.val * 4096 + i.val), by omega⟩ ⟨h.val * 256 + g.val * 64 + d.val, by omega⟩)) * Ideal.ofBits .f32 0x3E000000#32 := by
  pointwise [scores]

/-- A maximum over the keys. -/
theorem over_apply (s : FVec Ideal S2x2x4x4096x4608 .f32) (b h : Fin 2) (g : Fin 4) (i : Fin 4096) :
    over s (ix4 b h g i) = Finset.univ.fold max (Ideal.ofBits .f32 0xFF800000#32) fun j : Fin 4608 => s (ix5 b h g i j) := by
  pointwise [over]

/-- The larger of −∞ and a maximum, read. -/
theorem floored_apply (t : FVec Ideal S2x2x4x4096 .f32) (b h : Fin 2) (g : Fin 4) (i : Fin 4096) :
    floored t (ix4 b h g i) = max (Ideal.ofBits .f32 0xFF800000#32) (t (ix4 b h g i)) := by
  pointwise [floored]

/-- The largest score. -/
theorem top_apply (s : FVec Ideal S2x2x4x4096x4608 .f32) (b h : Fin 2) (g : Fin 4) (i : Fin 4096) :
    top s (ix4 b h g i) = max (Ideal.ofBits .f32 0xFF800000#32)
      (Finset.univ.fold max (Ideal.ofBits .f32 0xFF800000#32) fun j : Fin 4608 => s (ix5 b h g i j)) := by
  rw [top, floored_apply, over_apply]

/-- An exponential. -/
theorem exps_apply (s : FVec Ideal S2x2x4x4096x4608 .f32) (b h : Fin 2) (g : Fin 4) (i : Fin 4096) (j : Fin 4608) :
    exps s (ix5 b h g i j) = Ideal.exp (s (ix5 b h g i j) - top s (ix4 b h g i)) := by
  pointwise [exps]

/-- A weight. -/
theorem weights_apply (e : FVec Ideal S2x2x4x4096x4608 .f32) (b h : Fin 2) (g : Fin 4) (i : Fin 4096) (j : Fin 4608) :
    weights e (ix5 b h g i j) = Ideal.div (e (ix5 b h g i j)) (∑ j' : Fin 4608, e (ix5 b h g i j')) := by
  pointwise [weights]

/-- A result. -/
theorem rows_apply (V : FVec Ideal S2x4608x2x64 .f32) (p : FVec Ideal S2x2x4x4096x4608 .f32) (b h : Fin 2) (g : Fin 4) (i : Fin 4096) (d : Fin 64) :
    rows V p (ix2 ⟨b.val * 4096 + i.val, by omega⟩ ⟨h.val * 256 + g.val * 64 + d.val, by omega⟩)
      = ∑ j : Fin 4608, V (ix4 b j h d) * p (ix5 b h g i j) := by
  pointwise [rows]

/-- **The reference.**  Over finite queries and keys the result is the softmax-weighted sum of the values, the exponentials at some
    finite shift. -/
theorem attention_apply (q : FVec Ideal S12288x512 .f32) (k v : FVec Ideal S12288x128 .f32) (ck cv : FVec Ideal S2x512x2x64 .f32)
    (b h : Fin 2) (g : Fin 4) (i : Fin 4096) (d : Fin 64) (key : Fin 4608 → Fin 64 → ℝ) (qv : Fin 64 → ℝ) (s : ℝ)
    (hs : Ideal.ofBits .f32 0x3E000000#32 = (s : EReal)) (hk : ∀ j e, joined k ck (ix4 b j h e) = (key j e : EReal))
    (hq : ∀ e : Fin 64, q (ix2 ⟨4096 + (b.val * 4096 + i.val), by omega⟩ ⟨h.val * 256 + g.val * 64 + e.val, by omega⟩) = (qv e : EReal)) :
    ∃ M : ℝ, attention q k v ck cv (ix2 ⟨b.val * 4096 + i.val, by omega⟩ ⟨h.val * 256 + g.val * 64 + d.val, by omega⟩)
      = ∑ j, joined v cv (ix4 b j h d) * Ideal.div (Ideal.exp ((((∑ e, key j e * qv e) * s : ℝ) : EReal) - (M : EReal)))
          (∑ j', Ideal.exp ((((∑ e, key j' e * qv e) * s : ℝ) : EReal) - (M : EReal))) := by
  have hσ : ∀ j, scores q (joined k ck) (ix5 b h g i j) = (((∑ e, key j e * qv e) * s : ℝ) : EReal) := by
    intro j
    rw [scores_apply]
    simp only [hk, hq, hs, ← EReal.coe_mul, Softmax.coe_sum]
  have hb : Ideal.ofBits .f32 0xFF800000#32 = ⊥ := by simp [Ideal.ofBits, Ideal.ieee]
  obtain ⟨M, hM⟩ := Softmax.exists_fold_max (n := 4607) (fun j => (∑ e, key j e * qv e) * s) _ hb
  have ht : top (scores q (joined k ck)) (ix4 b h g i) = (M : EReal) := by
    rw [top_apply]
    simp only [hσ]
    rw [hM, hb]
    exact bot_sup_eq _
  refine ⟨M, ?_⟩
  rw [attention, rows_apply]
  simp only [weights_apply, exps_apply, hσ, ht]

end Cert.AttnRef

end
-- ==== Proof.AttnFinite.lean ====
/- What the precondition says: queries and keys, own and cached, are real numbers. -/
module

public import proofs.«01_k».proof.Pre_finite
public import proofs.«01_k».proof.Proof.Gen.Pre_finite
public import Idealize.ShloMosaic.Lib.ReduceAll
public import Idealize.ShloMosaic.Lib.Affine
public import Idealize.ShloMosaic.Lib.Pointwise

@[expose] public section

set_option maxRecDepth 16384

noncomputable section

namespace Cert.Finite

open Idealize.ShloMosaic Cert.Pre_finite Cert.Pre_finite.Gen

/-- The pattern compared with is +∞. -/
theorem pos_inf : Ideal.ofBits .f32 0x7F800000#32 = ⊤ := by
  simp [Ideal.ofBits, Ideal.ieee]

/-- A magnitude below +∞ is a real number's. -/
theorem real_of_lt (x : EReal) (h : Ideal.cmp .olt (max x (-x)) (Ideal.ofBits .f32 0x7F800000#32) = 1#1) : ∃ a : ℝ, x = (a : EReal) := by
  rw [pos_inf] at h
  induction x using EReal.rec with
  | coe a => exact ⟨a, rfl⟩
  | bot => simp [Ideal.cmp] at h
  | top => simp [Ideal.cmp] at h

variable {q : FVec Ideal S12288x512 .f32} {k v : FVec Ideal S12288x128 .f32} {ck cv : FVec Ideal S2x512x2x64 .f32}

/-- The precondition, taken apart: every query, key and cached key is a real number. -/
theorem reals (h : Cert.Pre_finite.fn (F := Ideal) q k v ck cv = fun _ => 1#1) :
    (∀ i, ∃ a : ℝ, q i = (a : EReal)) ∧ (∀ i, ∃ a : ℝ, k i = (a : EReal)) ∧ ∀ i, ∃ a : ℝ, ck i = (a : EReal) := by
  have h0 := congrFun h ix0
  dsimp only [Cert.Pre_finite.fn] at h0
  obtain ⟨h1, h2⟩ := IntOp.andi_eq_one.1 h0
  obtain ⟨h3, h4⟩ := IntOp.andi_eq_one.1 h1
  exact ⟨fun i => real_of_lt _ (Host.reduce_andi_all _ _ _ _ _ h3 i), fun i => real_of_lt _ (Host.reduce_andi_all _ _ _ _ _ h4 i),
    fun i => real_of_lt _ (Host.reduce_andi_all _ _ _ _ _ h2 i)⟩

end Cert.Finite

end
-- ==== Proof.AttnValue.lean ====
/- The attention kernel's result array is the reference's. -/
module

public import proofs.«01_k».proof.Proof.AttnBlock
public import proofs.«01_k».proof.Proof.AttnHost
public import proofs.«01_k».proof.Proof.AttnRef
public import proofs.«01_k».proof.Proof.AttnFinite

@[expose] public section

set_option maxRecDepth 16384

noncomputable section

namespace Cert.AttnValue

open Idealize.ShloMosaic Idealize.ShloMosaic.TcCoe Idealize.SL.Sem Cert.KernelIdeal Cert.KernelIdeal.Gen
open Idealize.ShloMosaic.Pipeline (Dat)

/-- The factor of the scores is a real number. -/
theorem factor : ∃ s : ℝ, Ideal.ofBits .f32 0x3E000000#32 = (s : EReal) := by
  simp only [Ideal.ofBits, Ideal.ieee]
  simp
  exact ⟨_, (EReal.coe_mul _ _).symm⟩

/-- The body's result block, as the heads of the sums. -/
theorem out_read (x0 : FVec Ideal S512x256 .bf16) (x1 : FVec Ideal S4096x128 .bf16) (x2 : FVec Ideal S128x4096 .bf16)
    (x3 : FVec Ideal S1x512x128 .bf16) (x4 : FVec Ideal S1x128x512 .bf16) :
    out0_5 (F := Ideal) x0 x1 x2 x3 x4 = Attn.heads (Attn.sums (fun c => Attn.scores (Attn.keys x1 x3 c) (Attn.stacked x0)) (Attn.vals x2 x4)) := by
  rw [Attn.out_eq]
  exact View.canon_unit_zero (Val := Elt Ideal) (e := .bf16) (S := S512x256) (by funext a; fin_cases a <;> rfl) _ _

/-- The windows' block indices: batch `t / 16`, head group `t / 8 % 2`, query tile `t % 8`. -/
theorem idx : ∀ t : Fin cfg0.N, win0_0.index t = ![8 + t.val / 16 * 8 + t.val % 8, t.val / 8 % 2]
    ∧ win0_1.index t = ![1 + t.val / 16, t.val / 8 % 2] ∧ win0_2.index t = ![t.val / 8 % 2, 1 + t.val / 16]
    ∧ win0_3.index t = ![t.val / 16, 0, t.val / 8 % 2] ∧ win0_4.index t = ![t.val / 16, t.val / 8 % 2, 0]
    ∧ win0_5.index t = ![t.val / 16 * 8 + t.val % 8, t.val / 8 % 2] ∧ t.val < 32 :=
  (by decide +kernel : ∀ t : Fin grid0.N, _)

variable (m : (ℓ : Loc nD τ sig) → Buf (Elt Ideal) ℓ) (c : Dev nD) (t : Fin cfg0.N)

/-- The grid has 32 points. -/
theorem t_lt : t.val < 32 := (idx t).2.2.2.2.2.2

/-- The queries in memory. -/
abbrev Q : FVec Ideal S12288x512 .f32 := m ((c : Thread nD τ).loc main_arg0)

/-- The queries' block. -/
theorem block0 (r : Fin 512) (j : Fin 256) : iblk m c 0 t (ix2 r j)
    = Q m c (ix2 ⟨4096 + (t.val / 16 * 4096 + (t.val % 8 * 512 + r.val)), by have := t_lt t; omega⟩
        ⟨t.val / 8 % 2 * 256 + j.val, by omega⟩) * Ideal.ofBits .f32 0x3E000000#32 := by
  have h : iblk m c 0 t (ix2 r j) = V m c main_v2 (ix2 ⟨4096 + (t.val / 16 * 4096 + (t.val % 8 * 512 + r.val)), by have := t_lt t; omega⟩
        ⟨t.val / 8 % 2 * 256 + j.val, by omega⟩) := by
    blk_ext [iblk, idx t]
  rw [h, AttnHost.entry_queries, AttnHost.queries_apply]

/-- The keys' block. -/
theorem block1 (k : Fin 4096) (l : Fin 128) : iblk m c 1 t (ix2 k l)
    = m ((c : Thread nD τ).loc main_arg1) (ix2 ⟨4096 + (t.val / 16 * 4096 + k.val), by have := t_lt t; omega⟩
        ⟨t.val / 8 % 2 * 64 + l.val % 64, by omega⟩) := by
  have h : iblk m c 1 t (ix2 k l) = V m c main_v6 (ix2 ⟨4096 + (t.val / 16 * 4096 + k.val), by have := t_lt t; omega⟩
        ⟨t.val / 8 % 2 * 128 + l.val, by omega⟩) := by
    blk_ext [iblk, idx t]
  rw [h, AttnHost.entry_keys]
  exact AttnHost.keys_apply _ _ ⟨t.val / 8 % 2, by omega⟩ l

/-- The values' block, in its rows of values. -/
theorem block2 (d : Fin 64) (k : Fin 4096) : iblk m c 2 t (ix2 ⟨d.val, by omega⟩ k)
    = m ((c : Thread nD τ).loc main_arg2) (ix2 ⟨4096 + (t.val / 16 * 4096 + k.val), by have := t_lt t; omega⟩
        ⟨t.val / 8 % 2 * 64 + d.val, by omega⟩) := by
  have h : iblk m c 2 t (ix2 ⟨d.val, by omega⟩ k) = V m c main_v12 (ix2 ⟨t.val / 8 % 2 * 128 + d.val, by omega⟩
        ⟨4096 + (t.val / 16 * 4096 + k.val), by have := t_lt t; omega⟩) := by
    blk_ext [iblk, idx t]
  rw [h, AttnHost.entry_vals]
  exact AttnHost.vals_apply _ ⟨t.val / 8 % 2, by omega⟩ d _

/-- The values' block, in its row 64. -/
theorem block2_one (k : Fin 4096) : iblk m c 2 t (ix2 ⟨64, by omega⟩ k) = (1 : EReal) := by
  have h : iblk m c 2 t (ix2 ⟨64, by omega⟩ k) = V m c main_v12 (ix2 ⟨t.val / 8 % 2 * 128 + 64, by omega⟩
        ⟨4096 + (t.val / 16 * 4096 + k.val), by have := t_lt t; omega⟩) := by
    blk_ext [iblk, idx t]
  rw [h, AttnHost.entry_vals]
  exact AttnHost.vals_one _ ⟨t.val / 8 % 2, by omega⟩ _

/-- The cached keys' block. -/
theorem block3 (k : Fin 512) (l : Fin 128) : iblk m c 3 t (ix3 0 k l)
    = m ((c : Thread nD τ).loc main_arg3) (ix4 ⟨t.val / 16, by have := t_lt t; omega⟩ k ⟨t.val / 8 % 2, by omega⟩ ⟨l.val % 64, by omega⟩) := by
  have h : iblk m c 3 t (ix3 0 k l) = V m c main_v16 (ix3 ⟨t.val / 16, by have := t_lt t; omega⟩ k
        ⟨t.val / 8 % 2 * 128 + l.val, by omega⟩) := by
    blk_ext [iblk, idx t]
  rw [h, AttnHost.entry_cachedKeys]
  exact AttnHost.cachedKeys_apply _ _ _ ⟨t.val / 8 % 2, by omega⟩ l

/-- The cached values' block, in its rows of values. -/
theorem block4 (d : Fin 64) (k : Fin 512) : iblk m c 4 t (ix3 0 ⟨d.val, by omega⟩ k)
    = m ((c : Thread nD τ).loc main_arg4) (ix4 ⟨t.val / 16, by have := t_lt t; omega⟩ k ⟨t.val / 8 % 2, by omega⟩ d) := by
  have h : iblk m c 4 t (ix3 0 ⟨d.val, by omega⟩ k) = V m c main_v21 (ix3 ⟨t.val / 16, by have := t_lt t; omega⟩
        ⟨t.val / 8 % 2 * 128 + d.val, by omega⟩ k) := by
    blk_ext [iblk, idx t]
  rw [h, AttnHost.entry_cachedVals]
  exact AttnHost.cachedVals_apply _ _ ⟨t.val / 8 % 2, by omega⟩ d _

/-- The cached values' block, in its row 64. -/
theorem block4_one (k : Fin 512) : iblk m c 4 t (ix3 0 ⟨64, by omega⟩ k) = (1 : EReal) := by
  have h : iblk m c 4 t (ix3 0 ⟨64, by omega⟩ k) = V m c main_v21 (ix3 ⟨t.val / 16, by have := t_lt t; omega⟩
        ⟨t.val / 8 % 2 * 128 + 64, by omega⟩ k) := by
    blk_ext [iblk, idx t]
  rw [h, AttnHost.entry_cachedVals]
  exact AttnHost.cachedVals_one _ _ ⟨t.val / 8 % 2, by omega⟩ _

/-- The reference's result of the arguments in memory. -/
abbrev REF : FVec Ideal S8192x512 .bf16 := AttnRef.attention (m ((c : Thread nD τ).loc main_arg0)) (m ((c : Thread nD τ).loc main_arg1))
  (m ((c : Thread nD τ).loc main_arg2)) (m ((c : Thread nD τ).loc main_arg3)) (m ((c : Thread nD τ).loc main_arg4))

/-- One element of one block is the reference's there. -/
theorem point (hpre : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1)
    (r : Fin 512) (h : Fin 4) (d : Fin 64) :
    out0_5 (iblk m c 0 t) (iblk m c 1 t) (iblk m c 2 t) (iblk m c 3 t) (iblk m c 4 t) (ix2 r ⟨h.val * 64 + d.val, by omega⟩)
      = REF m c (ix2 ⟨t.val / 16 * 4096 + (t.val % 8 * 512 + r.val), by have := t_lt t; omega⟩
          ⟨t.val / 8 % 2 * 256 + h.val * 64 + d.val, by omega⟩) := by
  have ht := t_lt t
  obtain ⟨s, hs⟩ := factor
  obtain ⟨hq, hk, hck⟩ := Finite.reals hpre
  choose q hq using hq
  choose k hk using hk
  choose ck hck using hck
  obtain ⟨b, hb⟩ : ∃ b : Fin 2, b.val = t.val / 16 := ⟨⟨t.val / 16, by omega⟩, rfl⟩
  obtain ⟨g, hg⟩ : ∃ g : Fin 2, g.val = t.val / 8 % 2 := ⟨⟨t.val / 8 % 2, by omega⟩, rfl⟩
  obtain ⟨i, hi⟩ : ∃ i : Fin 4096, i.val = t.val % 8 * 512 + r.val := ⟨⟨t.val % 8 * 512 + r.val, by omega⟩, rfl⟩
  let key : Fin 4608 → Fin 64 → ℝ := fun j e => if hj : j.val < 4096
    then k (ix2 ⟨4096 + (b.val * 4096 + j.val), by omega⟩ ⟨g.val * 64 + e.val, by omega⟩) else ck (ix4 b ⟨j.val - 4096, by omega⟩ g e)
  let qv : Fin 64 → ℝ := fun e => q (ix2 ⟨4096 + (b.val * 4096 + i.val), by omega⟩ ⟨g.val * 256 + h.val * 64 + e.val, by omega⟩)
  have hkey : ∀ j e, AttnRef.joined (m ((c : Thread nD τ).loc main_arg1)) (m ((c : Thread nD τ).loc main_arg3)) (ix4 b j g e)
      = (key j e : EReal) := by
    intro j e
    rw [AttnRef.joined_apply]
    simp only [key]
    split
    · exact hk _
    · exact hck _
  obtain ⟨M, hM⟩ := AttnRef.attention_apply (m ((c : Thread nD τ).loc main_arg0)) (m ((c : Thread nD τ).loc main_arg1))
    (m ((c : Thread nD τ).loc main_arg2)) (m ((c : Thread nD τ).loc main_arg3)) (m ((c : Thread nD τ).loc main_arg4))
    b g h i d key qv s hs hkey (fun e => hq _)
  simp only [← hb, ← hg, ← hi]
  rw [REF, hM, out_read]
  refine Attn.block_value _ _ _ _ _ r h d key qv (fun j => AttnRef.joined (m ((c : Thread nD τ).loc main_arg2))
    (m ((c : Thread nD τ).loc main_arg4)) (ix4 b j g d)) s ?_ ?_ ?_ (block2_one m c t) ?_ ?_ (block4_one m c t) M
  · intro e
    rw [block0, hs, Q, hq]
    simp only [qv, hb, hg, hi, Nat.add_assoc]
  · intro j l
    rw [block1, hk]
    simp only [key, hb, hg]
    rw [dif_pos j.isLt]
  · intro j
    rw [block2, AttnRef.joined_apply, dif_pos j.isLt]
    simp only [hb, hg]
  · intro j l
    rw [block3, hck]
    simp only [key]
    rw [dif_neg (by simp)]
    simp only [Nat.add_sub_cancel_left, ← hb, ← hg]
  · intro j
    rw [block4, AttnRef.joined_apply, dif_neg (by simp)]
    simp only [Nat.add_sub_cancel_left, ← hb, ← hg]

/-- **The kernel's result array is the reference's.** -/
theorem final (hpre : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (dats m 0 c).arrAt 5 (cfgs 0).N = REF m c := by
  refine (dats m 0 c).arrAt_eq_of_covers 5 _ (by decide +kernel) fun t _ y => ?_
  blk_simp
  rw [after0_5]
  have ht := t_lt t
  obtain ⟨r, hr⟩ : ∃ r : Fin 512, r.val = (y 0).val := ⟨⟨_, (y 0).isLt⟩, rfl⟩
  have hy : (y 1).val < 256 := (y 1).isLt
  obtain ⟨h, hh⟩ : ∃ h : Fin 4, h.val = (y 1).val / 64 := ⟨⟨(y 1).val / 64, by omega⟩, rfl⟩
  obtain ⟨d, hd⟩ : ∃ d : Fin 64, d.val = (y 1).val % 64 := ⟨⟨(y 1).val % 64, by omega⟩, rfl⟩
  have e : y = ix2 r ⟨h.val * 64 + d.val, by omega⟩ := by
    blk_ext []
  rw [e]
  refine (point m c t hpre r h d).trans ?_
  blk_ext [idx t]

end Cert.AttnValue

end
-- ==== Proof.Rows.lean ====
/- A row under its root mean square, shifted and scaled, and the gated product of two sums, as functions of the rows' numbers. -/
module

public import Idealize.ShloMosaic.Lib.Pipeline.ValueKit
public import Idealize.ShloMosaic.Lib.Pointwise

@[expose] public section

noncomputable section

namespace Cert.Rows

open Idealize.ShloMosaic

/-- Element `k` of the row `x` of 1024 numbers over the row's root mean square, times `g`, times one more than `scale`, plus `shift`. -/
def modulated (x : Fin 1024 → EReal) (g shift scale : EReal) (k : Fin 1024) : EReal :=
  x k * Ideal.rsqrt (Ideal.div (∑ j, x j * x j) (Ideal.ofBits .f32 0x44800000#32) + Ideal.ofBits .f32 0x358637BD#32) * g
    * (Ideal.ofBits .f32 0x3F800000#32 + scale) + shift

/-- The logistic function, written with one exponential. -/
def sigmoid (a : EReal) : EReal :=
  Ideal.div (Ideal.ofBits .f32 0x3F800000#32) (Ideal.ofBits .f32 0x3F800000#32 + Ideal.exp (-a))

/-- Element `d` of head `h` of a row of four heads of 128 numbers, over the head's root mean square, times `g`, times `z` through the gate. -/
def headed (o : Fin 4 → Fin 128 → EReal) (g z : EReal) (h : Fin 4) (d : Fin 128) : EReal :=
  o h d * Ideal.rsqrt (Ideal.div (∑ j, o h j * o h j) (Ideal.ofBits .f32 0x43000000#32) + Ideal.ofBits .f32 0x358637BD#32) * g
    * (z * sigmoid z)

end Cert.Rows

end
-- ==== Proof.FfnBody.lean ====
/- The dense feed-forward kernel's block, read at an index. -/
module

public import proofs.«01_k».proof.Proof.Gen.Kernel2Ideal.Value
public import proofs.«01_k».proof.Proof.Rows

@[expose] public section

set_option maxRecDepth 16384

noncomputable section

namespace Cert.Ffn

open Idealize.ShloMosaic Idealize.ShloMosaic.TcCoe Idealize.SL.Sem Cert.Kernel2Ideal Cert.Kernel2Ideal.Gen

/-- The modulated rows. -/
theorem pay2_apply (x : FVec Ideal S512x1024 .f32) (g : FVec Ideal S1x1024 .f32) (b s : FVec Ideal S1x1x1024 .f32) (r : Fin 512) (k : Fin 1024) :
    k0_pay2 (F := Ideal) x g b s (ix2 r k)
      = Rows.modulated (fun j => x (ix2 r j)) (g (ix2 0 k)) (b (ix3 0 0 k)) (s (ix3 0 0 k)) k := by
  pointwise [k0_pay2, Rows.modulated]

/-- The first product through the gate. -/
theorem pay3_apply (x : FVec Ideal S512x1024 .f32) (g : FVec Ideal S1x1024 .f32) (b s : FVec Ideal S1x1x1024 .f32)
    (w : FVec Ideal S1x1024x2816 .bf16) (r : Fin 512) (f : Fin 2816) :
    k0_pay3 (F := Ideal) x g b s w (ix2 r f)
      = (∑ k : Fin 1024, k0_pay2 (F := Ideal) x g b s (ix2 r k) * w (ix3 0 k f))
        * Rows.sigmoid (∑ k : Fin 1024, k0_pay2 (F := Ideal) x g b s (ix2 r k) * w (ix3 0 k f)) := by
  pointwise [k0_pay3, Rows.sigmoid]
  rw [zero_sub]

/-- The block's sum. -/
theorem pay1_apply (x : FVec Ideal S512x1024 .f32) (h : FVec Ideal S512x1024 .bf16) (a : FVec Ideal S512x2816 .f32)
    (w3 : FVec Ideal S1x1024x2816 .bf16) (gate : FVec Ideal S1x1x1024 .f32) (w2 : FVec Ideal S1x2816x1024 .bf16) (r : Fin 512) (j : Fin 1024) :
    k0_pay1 (F := Ideal) x h a w3 gate w2 (ix2 r j)
      = x (ix2 r j) + gate (ix3 0 0 j) * ∑ f : Fin 2816, (a (ix2 r f) * ∑ k : Fin 1024, h (ix2 r k) * w3 (ix3 0 k f)) * w2 (ix3 0 f j) := by
  pointwise [k0_pay1]

end Cert.Ffn

end
-- ==== Proof.FfnRef.lean ====
/- The reference's dense feed-forward layer, operation by operation over its six arrays, and read at an index. -/
module

public import proofs.«01_k».proof.Proof.Gen.Reference2Ideal.Run
public import proofs.«01_k».proof.Proof.Rows

@[expose] public section

set_option maxRecDepth 16384

noncomputable section

namespace Cert.FfnRef

open Idealize.ShloMosaic Idealize.SL.Sem Cert.Reference2Ideal Cert.Reference2Ideal.Gen

/-- The rows over their root mean square, times the weight. -/
def normed (x : FVec Ideal S3x4096x1024 .f32) (g : FVec Ideal S1024 .f32) : FVec Ideal S3x4096x1024 .f32 :=
  mulf (mulf x (broadcastInDim S3x4096x1024 ![0, 1, 2] bcast_S3x4096x1_S3x4096x1024_0_1_2 (Host.rsqrt (addf (Host.divf
      (broadcastInDim S3x4096x1 ![0, 1] bcast_S3x4096_S3x4096x1_0_1 (Host.reduceAdd (mulf x x) (constant S_ .f32 0x00000000#32)
        reducesTo_S3x4096x1024_S3x4096_d2 h_S_)) (broadcastInDim S3x4096x1 ![] bcast_S_S3x4096x1 (constant S_ .f32 0x44800000#32)))
      (broadcastInDim S3x4096x1 ![] bcast_S_S3x4096x1 (constant S_ .f32 0x358637BD#32))))))
    (broadcastInDim S3x4096x1024 ![0, 1, 2] bcast_S1x1x1024_S3x4096x1024_0_1_2 (broadcastInDim S1x1x1024 ![2] bcast_S1024_S1x1x1024_2 g))

/-- The rows scaled and shifted. -/
def hidden (y : FVec Ideal S3x4096x1024 .f32) (mod3 : FVec Ideal S3x1x6144 .f32) : FVec Ideal S3x4096x1024 .f32 :=
  addf (mulf y (broadcastInDim S3x4096x1024 ![0, 1, 2] bcast_S3x1x1024_S3x4096x1024_0_1_2 (addf
      (broadcastInDim S3x1x1024 ![] bcast_S_S3x1x1024 (constant S_ .f32 0x3F800000#32))
      (extractStridedSlice S3x1x1024 ![0, 0, 4096] mod3 slices_S3x1x6144_S3x1x1024_0_0_4096))))
    (broadcastInDim S3x4096x1024 ![0, 1, 2] bcast_S3x1x1024_S3x4096x1024_0_1_2
      (extractStridedSlice S3x1x1024 ![0, 0, 3072] mod3 slices_S3x1x6144_S3x1x1024_0_0_3072))

/-- The product with a weight. -/
def product (h : FVec Ideal S3x4096x1024 .f32) (w : FVec Ideal S2x1024x2816 .f32) : FVec Ideal S3x4096x2816 .f32 :=
  Host.dotGeneral dot_S3x4096x1024_S1024x2816_S3x4096x2816_2_0_01_1_n_n none h
    (shapeCast _ (extractStridedSlice S1x1024x2816 ![0, 0, 0] w slices_S2x1024x2816_S1x1024x2816_0_0_0) shapeCasts_S1x1024x2816_S1024x2816)

/-- A product through the gate. -/
def gated (a : FVec Ideal S3x4096x2816 .f32) : FVec Ideal S3x4096x2816 .f32 :=
  mulf a (Host.divf (broadcastInDim S3x4096x2816 ![] bcast_S_S3x4096x2816 (constant S_ .f32 0x3F800000#32))
    (addf (broadcastInDim S3x4096x2816 ![] bcast_S_S3x4096x2816 (constant S_ .f32 0x3F800000#32)) (Host.exp (Host.negf a))))

/-- The rows with the gated product added. -/
def added (x : FVec Ideal S3x4096x1024 .f32) (mod3 : FVec Ideal S3x1x6144 .f32) (u : FVec Ideal S3x4096x2816 .f32)
    (w2 : FVec Ideal S2x2816x1024 .f32) : FVec Ideal S12288x1024 .f32 :=
  shapeCast _ (addf x (mulf (broadcastInDim S3x4096x1024 ![0, 1, 2] bcast_S3x1x1024_S3x4096x1024_0_1_2
      (extractStridedSlice S3x1x1024 ![0, 0, 5120] mod3 slices_S3x1x6144_S3x1x1024_0_0_5120))
    (Host.dotGeneral dot_S3x4096x2816_S2816x1024_S3x4096x1024_2_0_01_1_n_n none u
      (shapeCast _ (extractStridedSlice S1x2816x1024 ![0, 0, 0] w2 slices_S2x2816x1024_S1x2816x1024_0_0_0) shapeCasts_S1x2816x1024_S2816x1024))))
    shapeCasts_S3x4096x1024_S12288x1024

/-- The rows by segment. -/
def segments (x : FVec Ideal S12288x1024 .f32) : FVec Ideal S3x4096x1024 .f32 :=
  shapeCast _ x shapeCasts_S12288x1024_S3x4096x1024

/-- The reference's result of its six arrays. -/
def ffn (x : FVec Ideal S12288x1024 .f32) (mod3 : FVec Ideal S3x1x6144 .f32) (g : FVec Ideal S1024 .f32) (w1 w3 : FVec Ideal S2x1024x2816 .f32)
    (w2 : FVec Ideal S2x2816x1024 .f32) : FVec Ideal S12288x1024 .f32 :=
  added (segments x) mod3 (mulf (gated (product (hidden (normed (segments x) g) mod3) w1))
    (product (hidden (normed (segments x) g) mod3) w3)) w2

/-- The reference's run leaves that result. -/
theorem res_eq (m : (ℓ : Loc nD τ sig) → Buf (Elt Ideal) ℓ) (c : Dev nD) :
    Value.res_out0 m c = ffn (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_out0 Value.res_main_v40
  rfl

/-- A hidden row's element. -/
theorem hidden_apply (x : FVec Ideal S12288x1024 .f32) (mod3 : FVec Ideal S3x1x6144 .f32) (g : FVec Ideal S1024 .f32)
    (b : Fin 3) (i : Fin 4096) (k : Fin 1024) :
    hidden (normed (segments x) g) mod3 (ix3 b i k)
      = Rows.modulated (fun j => x (ix2 ⟨b.val * 4096 + i.val, by omega⟩ j)) (g (ix1 k)) (mod3 (ix3 b 0 ⟨3072 + k.val, by omega⟩))
        (mod3 (ix3 b 0 ⟨4096 + k.val, by omega⟩)) k := by
  pointwise [hidden, normed, segments, Rows.modulated]

/-- An element of a product. -/
theorem product_apply (h : FVec Ideal S3x4096x1024 .f32) (w : FVec Ideal S2x1024x2816 .f32) (b : Fin 3) (i : Fin 4096) (f : Fin 2816) :
    product h w (ix3 b i f) = ∑ k : Fin 1024, h (ix3 b i k) * w (ix3 0 k f) := by
  pointwise [product]

/-- An element through the gate. -/
theorem gated_apply (a : FVec Ideal S3x4096x2816 .f32) (b : Fin 3) (i : Fin 4096) (f : Fin 2816) :
    gated a (ix3 b i f) = a (ix3 b i f) * Rows.sigmoid (a (ix3 b i f)) := by
  pointwise [gated, Rows.sigmoid]

/-- An element of the result. -/
theorem added_apply (x : FVec Ideal S12288x1024 .f32) (mod3 : FVec Ideal S3x1x6144 .f32) (u v : FVec Ideal S3x4096x2816 .f32)
    (w2 : FVec Ideal S2x2816x1024 .f32) (b : Fin 3) (i : Fin 4096) (j : Fin 1024) :
    added (segments x) mod3 (mulf u v) w2 (ix2 ⟨b.val * 4096 + i.val, by omega⟩ j)
      = x (ix2 ⟨b.val * 4096 + i.val, by omega⟩ j) + mod3 (ix3 b 0 ⟨5120 + j.val, by omega⟩)
        * ∑ f : Fin 2816, (u (ix3 b i f) * v (ix3 b i f)) * w2 (ix3 0 f j) := by
  pointwise [added, segments]

end Cert.FfnRef

end
-- ==== Proof.FfnValue.lean ====
/- The dense feed-forward kernel's result array is the reference's. -/
module

public import proofs.«01_k».proof.Proof.FfnBody
public import proofs.«01_k».proof.Proof.FfnRef

@[expose] public section

set_option maxRecDepth 16384

noncomputable section

namespace Cert.Ffn

open Idealize.ShloMosaic Idealize.ShloMosaic.TcCoe Idealize.SL.Sem Cert.Kernel2Ideal Cert.Kernel2Ideal.Gen
open Idealize.ShloMosaic.Pipeline (Dat)

/-- The windows' block indices: row tile `t`, segment `t / 8`. -/
theorem idx : ∀ t : Fin cfg0.N, win0_0.index t = ![t.val, 0] ∧ win0_1.index t = ![t.val / 8, 0, 0] ∧ win0_2.index t = ![0, 0]
    ∧ win0_3.index t = ![0, 0, 0] ∧ win0_4.index t = ![0, 0, 0] ∧ win0_5.index t = ![0, 0, 0] ∧ win0_6.index t = ![t.val, 0] ∧ t.val < 24 :=
  (by decide +kernel : ∀ t : Fin grid0.N, _)

/-- A weight into the hidden width, narrowed. -/
def up (w : FVec Ideal S2x1024x2816 .f32) : FVec Ideal S2x1024x2816 .bf16 := truncf .bf16 w bitsLt_bf16_f32

/-- The weight out of the hidden width, narrowed. -/
def down (w : FVec Ideal S2x2816x1024 .f32) : FVec Ideal S2x2816x1024 .bf16 := truncf .bf16 w bitsLt_bf16_f32

/-- The norm's weight as one row. -/
def row (g : FVec Ideal S1024 .f32) : FVec Ideal S1x1024 .f32 := shapeCast _ g shapeCasts_S1024_S1x1024

/-- That row, read. -/
theorem row_apply (g : FVec Ideal S1024 .f32) (k : Fin 1024) : row g (ix2 0 k) = g (ix1 k) := by
  pointwise [row]

variable (m : (ℓ : Loc nD τ sig) → Buf (Elt Ideal) ℓ) (c : Dev nD) (t : Fin cfg0.N)

/-- The grid has 24 points. -/
theorem t_lt : t.val < 24 := (idx t).2.2.2.2.2.2.2

/-- The rows in memory. -/
abbrev X : FVec Ideal S12288x1024 .f32 := m ((c : Thread nD τ).loc main_arg0)

/-- The modulation in memory. -/
abbrev MOD : FVec Ideal S3x1x6144 .f32 := m ((c : Thread nD τ).loc main_arg1)

/-- The first array the kernel finds of a host operation: the first weight. -/
theorem entry_w1 : V m c main_v0 = up (m ((c : Thread nD τ).loc main_arg3)) := by
  entry_read; rfl

/-- The second weight. -/
theorem entry_w3 : V m c main_v1 = up (m ((c : Thread nD τ).loc main_arg4)) := by
  entry_read; rfl

/-- The third weight. -/
theorem entry_w2 : V m c main_v2 = down (m ((c : Thread nD τ).loc main_arg5)) := by
  entry_read; rfl

/-- The norm's weight as one row. -/
theorem entry_g : V m c main_v3 = row (m ((c : Thread nD τ).loc main_arg2)) := by
  entry_read; rfl

/-- The rows' block. -/
theorem block0 (r : Fin 512) (k : Fin 1024) : iblk m c 0 t (ix2 r k) = X m c (ix2 ⟨t.val * 512 + r.val, by have := t_lt t; omega⟩ k) := by
  have h : iblk m c 0 t (ix2 r k) = V m c main_arg0 (ix2 ⟨t.val * 512 + r.val, by have := t_lt t; omega⟩ k) := by
    blk_ext [iblk, idx t]
  rw [h, V_main_arg0]

/-- The modulation's block. -/
theorem block1 (k : Fin 6144) : iblk m c 1 t (ix3 0 0 k) = MOD m c (ix3 ⟨t.val / 8, by have := t_lt t; omega⟩ 0 k) := by
  have h : iblk m c 1 t (ix3 0 0 k) = V m c main_arg1 (ix3 ⟨t.val / 8, by have := t_lt t; omega⟩ 0 k) := by
    blk_ext [iblk, idx t]
  rw [h, V_main_arg1]

/-- The norm weight's block. -/
theorem block2 (k : Fin 1024) : iblk m c 2 t (ix2 0 k) = m ((c : Thread nD τ).loc main_arg2) (ix1 k) := by
  have h : iblk m c 2 t (ix2 0 k) = V m c main_v3 (ix2 0 k) := by
    blk_ext [iblk, idx t]
  rw [h, entry_g]
  exact row_apply _ k

/-- The first weight's block. -/
theorem block3 (k : Fin 1024) (f : Fin 2816) : iblk m c 3 t (ix3 0 k f) = m ((c : Thread nD τ).loc main_arg3) (ix3 0 k f) := by
  have h : iblk m c 3 t (ix3 0 k f) = V m c main_v0 (ix3 0 k f) := by
    blk_ext [iblk, idx t]
  rw [h, entry_w1]
  rfl

/-- The second weight's block. -/
theorem block4 (k : Fin 1024) (f : Fin 2816) : iblk m c 4 t (ix3 0 k f) = m ((c : Thread nD τ).loc main_arg4) (ix3 0 k f) := by
  have h : iblk m c 4 t (ix3 0 k f) = V m c main_v1 (ix3 0 k f) := by
    blk_ext [iblk, idx t]
  rw [h, entry_w3]
  rfl

/-- The third weight's block. -/
theorem block5 (f : Fin 2816) (j : Fin 1024) : iblk m c 5 t (ix3 0 f j) = m ((c : Thread nD τ).loc main_arg5) (ix3 0 f j) := by
  have h : iblk m c 5 t (ix3 0 f j) = V m c main_v2 (ix3 0 f j) := by
    blk_ext [iblk, idx t]
  rw [h, entry_w2]
  rfl

/-- The reference's result of the arguments in memory. -/
abbrev REF : FVec Ideal S12288x1024 .f32 := FfnRef.ffn (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- The body's result block, read at an index. -/
theorem out_apply (x0 : FVec Ideal S512x1024 .f32) (x1 : FVec Ideal S1x1x6144 .f32) (x2 : FVec Ideal S1x1024 .f32)
    (x3 x4 : FVec Ideal S1x1024x2816 .bf16) (x5 : FVec Ideal S1x2816x1024 .bf16) (r : Fin 512) (j : Fin 1024)
    (h : Fin 1024 → EReal) (hh : ∀ k, h k = Rows.modulated (fun i => x0 (ix2 r i)) (x2 (ix2 0 k)) (x1 (ix3 0 0 ⟨3072 + k.val, by omega⟩))
      (x1 (ix3 0 0 ⟨4096 + k.val, by omega⟩)) k) :
    out0_6 (F := Ideal) x0 x1 x2 x3 x4 x5 (ix2 r j)
      = x0 (ix2 r j) + x1 (ix3 0 0 ⟨5120 + j.val, by omega⟩) * ∑ f : Fin 2816, ((∑ k : Fin 1024, h k * x3 (ix3 0 k f))
          * Rows.sigmoid (∑ k : Fin 1024, h k * x3 (ix3 0 k f)) * ∑ k : Fin 1024, h k * x4 (ix3 0 k f)) * x5 (ix3 0 f j) := by
  refine (congrFun (View.canon_unit_zero (Val := Elt Ideal) (e := .f32) (S := S512x1024) (off := ![0, 0]) (by funext a; fin_cases a <;> rfl)
    inb_S512x1024_S512x1024_0_0 _) _).trans ?_
  have l0 : ∀ i k, View.ld (Val := Elt Ideal) (e' := .f32) x0 r0_0 (ix2 i k) = x0 (ix2 i k) := fun i k => congrFun (View.ld_unit_zero (by funext a; fin_cases a <;> rfl) _ _) _
  have l2 : ∀ k, View.ld (Val := Elt Ideal) (e' := .f32) x2 r0_1 (ix2 0 k) = x2 (ix2 0 k) := fun k => congrFun (View.ld_unit_zero (by funext a; fin_cases a <;> rfl) _ _) _
  have lb : ∀ k : Fin 1024, View.ld (Val := Elt Ideal) (e' := .f32) x1 r0_2 (ix3 0 0 k) = x1 (ix3 0 0 ⟨3072 + k.val, by omega⟩) := fun k =>
    View.ld_unit_apply_of _ _ _ _ _ _ (by intro a; fin_cases a <;> rfl)
  have ls : ∀ k : Fin 1024, View.ld (Val := Elt Ideal) (e' := .f32) x1 r0_3 (ix3 0 0 k) = x1 (ix3 0 0 ⟨4096 + k.val, by omega⟩) := fun k =>
    View.ld_unit_apply_of _ _ _ _ _ _ (by intro a; fin_cases a <;> rfl)
  have lg : ∀ k : Fin 1024, View.ld (Val := Elt Ideal) (e' := .f32) x1 r0_5 (ix3 0 0 k) = x1 (ix3 0 0 ⟨5120 + k.val, by omega⟩) := fun k =>
    View.ld_unit_apply_of _ _ _ _ _ _ (by intro a; fin_cases a <;> rfl)
  have l3 : ∀ (k : Fin 1024) (f : Fin 2816), View.ld (Val := Elt Ideal) (e' := .bf16) x3 r0_4 (ix3 0 k f) = x3 (ix3 0 k f) :=
    fun k f => congrFun (View.ld_unit_zero (by funext a; fin_cases a <;> rfl) _ _) _
  have l4 : ∀ (k : Fin 1024) (f : Fin 2816), View.ld (Val := Elt Ideal) (e' := .bf16) x4 r0_4 (ix3 0 k f) = x4 (ix3 0 k f) :=
    fun k f => congrFun (View.ld_unit_zero (by funext a; fin_cases a <;> rfl) _ _) _
  have l5 : ∀ (f : Fin 2816) (j : Fin 1024), View.ld (Val := Elt Ideal) (e' := .bf16) x5 r0_6 (ix3 0 f j) = x5 (ix3 0 f j) := fun f j => congrFun (View.ld_unit_zero (by funext a; fin_cases a <;> rfl) _ _) _
  rw [pay1_apply]
  simp only [pay3_apply, pay2_apply, l0, l2, lb, ls, lg, l3, l4, l5, hh]

/-- One element of one block is the reference's there. -/
theorem point (r : Fin 512) (j : Fin 1024) :
    out0_6 (iblk m c 0 t) (iblk m c 1 t) (iblk m c 2 t) (iblk m c 3 t) (iblk m c 4 t) (iblk m c 5 t) (ix2 r j)
      = REF m c (ix2 ⟨t.val * 512 + r.val, by have := t_lt t; omega⟩ j) := by
  have ht := t_lt t
  obtain ⟨b, hb⟩ : ∃ b : Fin 3, b.val = t.val / 8 := ⟨⟨t.val / 8, by omega⟩, rfl⟩
  obtain ⟨i, hi⟩ : ∃ i : Fin 4096, i.val = t.val % 8 * 512 + r.val := ⟨⟨t.val % 8 * 512 + r.val, by omega⟩, rfl⟩
  have hrow : (⟨t.val * 512 + r.val, by omega⟩ : Fin 12288) = ⟨b.val * 4096 + i.val, by omega⟩ := Fin.ext (by simp only; omega)
  have hseg : (⟨t.val / 8, by omega⟩ : Fin 3) = b := Fin.ext hb.symm
  rw [hrow, REF, FfnRef.ffn, FfnRef.added_apply]
  refine (out_apply _ _ _ _ _ _ r j (fun k => FfnRef.hidden (FfnRef.normed (FfnRef.segments (X m c)) (m ((c : Thread nD τ).loc main_arg2)))
    (MOD m c) (ix3 b i k)) ?_).trans ?_
  · intro k
    rw [FfnRef.hidden_apply]
    simp only [block0, block1, block2, hrow, hseg]
  · simp only [block0, block1, block3, block4, block5, hrow, hseg, FfnRef.gated_apply, FfnRef.product_apply]

/-- **The kernel's result array is the reference's.** -/
theorem final : (dats m 0 c).arrAt 6 (cfgs 0).N = REF m c := by
  refine (dats m 0 c).arrAt_eq_of_covers 6 _ (by decide +kernel) fun t _ y => ?_
  blk_simp
  rw [after0_6]
  obtain ⟨r, hr⟩ : ∃ r : Fin 512, r.val = (y 0).val := ⟨⟨_, (y 0).isLt⟩, rfl⟩
  obtain ⟨j, hj⟩ : ∃ j : Fin 1024, j.val = (y 1).val := ⟨⟨_, (y 1).isLt⟩, rfl⟩
  have e : y = ix2 r j := by
    blk_ext []
  rw [e]
  refine (point m c t r j).trans ?_
  blk_ext [idx t]

end Cert.Ffn

end
-- ==== Proof.InRef.lean ====
/- The reference's input projection, operation by operation over its four arrays, and read at an index. -/
module

public import proofs.«01_k».proof.Proof.Gen.Reference3Ideal.Run
public import proofs.«01_k».proof.Proof.Rows

@[expose] public section

set_option maxRecDepth 16384

noncomputable section

namespace Cert.InRef

open Idealize.ShloMosaic Idealize.SL.Sem Cert.Reference3Ideal Cert.Reference3Ideal.Gen

/-- The rows over their root mean square, times the weight. -/
def normed (x : FVec Ideal S3x4096x1024 .f32) (g : FVec Ideal S1024 .f32) : FVec Ideal S3x4096x1024 .f32 :=
  mulf (mulf x (broadcastInDim S3x4096x1024 ![0, 1, 2] bcast_S3x4096x1_S3x4096x1024_0_1_2 (Host.rsqrt (addf (Host.divf
      (broadcastInDim S3x4096x1 ![0, 1] bcast_S3x4096_S3x4096x1_0_1 (Host.reduceAdd (mulf x x) (constant S_ .f32 0x00000000#32)
        reducesTo_S3x4096x1024_S3x4096_d2 h_S_)) (broadcastInDim S3x4096x1 ![] bcast_S_S3x4096x1 (constant S_ .f32 0x44800000#32)))
      (broadcastInDim S3x4096x1 ![] bcast_S_S3x4096x1 (constant S_ .f32 0x358637BD#32))))))
    (broadcastInDim S3x4096x1024 ![0, 1, 2] bcast_S1x1x1024_S3x4096x1024_0_1_2 (broadcastInDim S1x1x1024 ![2] bcast_S1024_S1x1x1024_2 g))

/-- The rows scaled and shifted. -/
def hidden (y : FVec Ideal S3x4096x1024 .f32) (mod3 : FVec Ideal S3x1x6144 .f32) : FVec Ideal S3x4096x1024 .f32 :=
  addf (mulf y (broadcastInDim S3x4096x1024 ![0, 1, 2] bcast_S3x1x1024_S3x4096x1024_0_1_2 (addf
      (broadcastInDim S3x1x1024 ![] bcast_S_S3x1x1024 (constant S_ .f32 0x3F800000#32))
      (extractStridedSlice S3x1x1024 ![0, 0, 1024] mod3 slices_S3x1x6144_S3x1x1024_0_0_1024))))
    (broadcastInDim S3x4096x1024 ![0, 1, 2] bcast_S3x1x1024_S3x4096x1024_0_1_2
      (extractStridedSlice S3x1x1024 ![0, 0, 0] mod3 slices_S3x1x6144_S3x1x1024_0_0_0))

/-- The product with the first layer's weight, row by row. -/
def product (h : FVec Ideal S3x4096x1024 .f32) (w : FVec Ideal S4x1024x6144 .f32) : FVec Ideal S12288x6144 .bf16 :=
  truncf .bf16 (shapeCast _ (Host.dotGeneral dot_S3x4096x1024_S1024x6144_S3x4096x6144_2_0_01_1_n_n none h
    (shapeCast _ (extractStridedSlice S1x1024x6144 ![0, 0, 0] w slices_S4x1024x6144_S1x1024x6144_0_0_0) shapeCasts_S1x1024x6144_S1024x6144))
    shapeCasts_S3x4096x6144_S12288x6144) bitsLt_bf16_f32

/-- The rows by segment. -/
def segments (x : FVec Ideal S12288x1024 .f32) : FVec Ideal S3x4096x1024 .f32 :=
  shapeCast _ x shapeCasts_S12288x1024_S3x4096x1024

/-- The reference's result of its four arrays. -/
def projection (x : FVec Ideal S12288x1024 .f32) (mod3 : FVec Ideal S3x1x6144 .f32) (g : FVec Ideal S1024 .f32)
    (w : FVec Ideal S4x1024x6144 .f32) : FVec Ideal S12288x6144 .bf16 :=
  product (hidden (normed (segments x) g) mod3) w

/-- A hidden row's element. -/
theorem hidden_apply (x : FVec Ideal S12288x1024 .f32) (mod3 : FVec Ideal S3x1x6144 .f32) (g : FVec Ideal S1024 .f32)
    (b : Fin 3) (i : Fin 4096) (k : Fin 1024) :
    hidden (normed (segments x) g) mod3 (ix3 b i k)
      = Rows.modulated (fun j => x (ix2 ⟨b.val * 4096 + i.val, by omega⟩ j)) (g (ix1 k)) (mod3 (ix3 b 0 ⟨k.val, by omega⟩))
        (mod3 (ix3 b 0 ⟨1024 + k.val, by omega⟩)) k := by
  pointwise [hidden, normed, segments, Rows.modulated]

/-- An element of the product. -/
theorem product_apply (h : FVec Ideal S3x4096x1024 .f32) (w : FVec Ideal S4x1024x6144 .f32) (b : Fin 3) (i : Fin 4096) (j : Fin 6144) :
    product h w (ix2 ⟨b.val * 4096 + i.val, by omega⟩ j) = ∑ k : Fin 1024, h (ix3 b i k) * w (ix3 0 k j) := by
  pointwise [product]

end Cert.InRef

end
-- ==== Proof.InValue.lean ====
/- The input projection kernel's result array is the reference's. -/
module

public import proofs.«01_k».proof.Proof.Gen.Kernel3Ideal.Value
public import proofs.«01_k».proof.Proof.InRef

@[expose] public section

set_option maxRecDepth 16384

noncomputable section

namespace Cert.In

open Idealize.ShloMosaic Idealize.ShloMosaic.TcCoe Idealize.SL.Sem Cert.Kernel3Ideal Cert.Kernel3Ideal.Gen
open Idealize.ShloMosaic.Pipeline (Dat)

/-- The modulated rows. -/
theorem pay1_apply (x : FVec Ideal S1024x1024 .f32) (g : FVec Ideal S1x1024 .f32) (b s : FVec Ideal S1x1x1024 .f32) (r : Fin 1024) (k : Fin 1024) :
    k0_pay1 (F := Ideal) x g b s (ix2 r k)
      = Rows.modulated (fun j => x (ix2 r j)) (g (ix2 0 k)) (b (ix3 0 0 k)) (s (ix3 0 0 k)) k := by
  pointwise [k0_pay1, Rows.modulated]

/-- The product with the weight's block. -/
theorem pay2_apply (h : FVec Ideal S1024x1024 .bf16) (w : FVec Ideal S1x1024x3072 .bf16) (r : Fin 1024) (j : Fin 3072) :
    k0_pay2 (F := Ideal) h w (ix2 r j) = ∑ k : Fin 1024, h (ix2 r k) * w (ix3 0 k j) := by
  pointwise [k0_pay2]

/-- The windows' block indices: row tile `t / 2`, segment `t / 8`, column tile `t % 2`. -/
theorem idx : ∀ t : Fin cfg0.N, win0_0.index t = ![t.val / 2, 0] ∧ win0_1.index t = ![t.val / 8, 0, 0] ∧ win0_2.index t = ![0, 0]
    ∧ win0_3.index t = ![0, 0, t.val % 2] ∧ win0_4.index t = ![t.val / 2, t.val % 2] ∧ t.val < 24 :=
  (by decide +kernel : ∀ t : Fin grid0.N, _)

/-- The weight, narrowed. -/
def narrow (w : FVec Ideal S4x1024x6144 .f32) : FVec Ideal S4x1024x6144 .bf16 := truncf .bf16 w bitsLt_bf16_f32

/-- The norm's weight as one row. -/
def row (g : FVec Ideal S1024 .f32) : FVec Ideal S1x1024 .f32 := shapeCast _ g shapeCasts_S1024_S1x1024

/-- That row, read. -/
theorem row_apply (g : FVec Ideal S1024 .f32) (k : Fin 1024) : row g (ix2 0 k) = g (ix1 k) := by
  pointwise [row]

variable (m : (ℓ : Loc nD τ sig) → Buf (Elt Ideal) ℓ) (c : Dev nD) (t : Fin cfg0.N)

/-- The grid has 24 points. -/
theorem t_lt : t.val < 24 := (idx t).2.2.2.2.2

/-- The rows in memory. -/
abbrev X : FVec Ideal S12288x1024 .f32 := m ((c : Thread nD τ).loc main_arg0)

/-- The modulation in memory. -/
abbrev MOD : FVec Ideal S3x1x6144 .f32 := m ((c : Thread nD τ).loc main_arg1)

/-- The weight the kernel finds. -/
theorem entry_w : V m c main_v0 = narrow (m ((c : Thread nD τ).loc main_arg3)) := by
  entry_read; rfl

/-- The norm's weight the kernel finds. -/
theorem entry_g : V m c main_v1 = row (m ((c : Thread nD τ).loc main_arg2)) := by
  entry_read; rfl

/-- The rows' block. -/
theorem block0 (r : Fin 1024) (k : Fin 1024) : iblk m c 0 t (ix2 r k) = X m c (ix2 ⟨t.val / 2 * 1024 + r.val, by have := t_lt t; omega⟩ k) := by
  have h : iblk m c 0 t (ix2 r k) = V m c main_arg0 (ix2 ⟨t.val / 2 * 1024 + r.val, by have := t_lt t; omega⟩ k) := by
    blk_ext [iblk, idx t]
  rw [h, V_main_arg0]

/-- The modulation's block. -/
theorem block1 (k : Fin 6144) : iblk m c 1 t (ix3 0 0 k) = MOD m c (ix3 ⟨t.val / 8, by have := t_lt t; omega⟩ 0 k) := by
  have h : iblk m c 1 t (ix3 0 0 k) = V m c main_arg1 (ix3 ⟨t.val / 8, by have := t_lt t; omega⟩ 0 k) := by
    blk_ext [iblk, idx t]
  rw [h, V_main_arg1]

/-- The norm weight's block. -/
theorem block2 (k : Fin 1024) : iblk m c 2 t (ix2 0 k) = m ((c : Thread nD τ).loc main_arg2) (ix1 k) := by
  have h : iblk m c 2 t (ix2 0 k) = V m c main_v1 (ix2 0 k) := by
    blk_ext [iblk, idx t]
  rw [h, entry_g]
  exact row_apply _ k

/-- The weight's block. -/
theorem block3 (k : Fin 1024) (j : Fin 3072) : iblk m c 3 t (ix3 0 k j)
    = m ((c : Thread nD τ).loc main_arg3) (ix3 0 k ⟨t.val % 2 * 3072 + j.val, by omega⟩) := by
  have h : iblk m c 3 t (ix3 0 k j) = V m c main_v0 (ix3 0 k ⟨t.val % 2 * 3072 + j.val, by omega⟩) := by
    blk_ext [iblk, idx t]
  rw [h, entry_w]
  rfl

/-- The modulated row `i` of segment `b`. -/
abbrev H (b : Fin 3) (i : Fin 4096) (k : Fin 1024) : EReal :=
  InRef.hidden (InRef.normed (InRef.segments (X m c)) (m ((c : Thread nD τ).loc main_arg2))) (MOD m c) (ix3 b i k)

/-- A load of 1024 of the modulation's columns. -/
theorem ld_mod (x1 : FVec Ideal S1x1x6144 .f32) (o : ℕ) (ho : o + 1024 ≤ 6144) (inb) (k : Fin 1024) :
    View.ld (Val := Elt Ideal) (e' := .f32) x1 (Rect.unit (s := S1x1x6144) ![0, 0, o] S1x1x1024.size inb) (ix3 0 0 k)
      = x1 (ix3 0 0 ⟨o + k.val, by omega⟩) :=
  View.ld_unit_apply_of _ _ _ _ _ _ (by intro a; fin_cases a <;> rfl)

/-- The body's modulated rows are the reference's. -/
theorem rows_eq (r k : Fin 1024) (b : Fin 3) (i : Fin 4096) (hb : b.val = t.val / 8) (hi : i.val = t.val / 2 % 4 * 1024 + r.val) :
    k0_pay1 (F := Ideal) (iblk m c 0 t) (iblk m c 2 t)
      (View.ld (Val := Elt Ideal) (e' := .f32) (iblk m c 1 t) (Rect.unit (s := S1x1x6144) ![0, 0, 0] S1x1x1024.size inb_S1x1x6144_S1x1x1024_0_0_0))
      (View.ld (Val := Elt Ideal) (e' := .f32) (iblk m c 1 t) (Rect.unit (s := S1x1x6144) ![0, 0, 1024] S1x1x1024.size inb_S1x1x6144_S1x1x1024_0_0_1024))
      (ix2 r k) = H m c b i k := by
  have ht := t_lt t
  have hrow : (⟨t.val / 2 * 1024 + r.val, by omega⟩ : Fin 12288) = ⟨b.val * 4096 + i.val, by omega⟩ := Fin.ext (by simp only; omega)
  have hseg : (⟨t.val / 8, by omega⟩ : Fin 3) = b := Fin.ext hb.symm
  rw [pay1_apply, ld_mod _ 0 (by omega), ld_mod _ 1024 (by omega), H, InRef.hidden_apply]
  simp only [block0, block1, block2, hrow, hseg, Nat.zero_add]

/-- The carried rows after a point that computes them. -/
theorem scratch_A (h0 : t.val % 2 = 0) (r k : Fin 1024) (b : Fin 3) (i : Fin 4096) (hb : b.val = t.val / 8)
    (hi : i.val = t.val / 2 % 4 * 1024 + r.val) :
    (outsAt0 m c t.val t.isLt).2 (ix2 r k) = H m c b i k := by
  rw [outsAt0_A m c t h0]
  frame_out
  exact rows_eq m c t r k b i hb hi

/-- The reference's result of the arguments in memory. -/
abbrev REF : FVec Ideal S12288x6144 .bf16 := InRef.projection (m ((c : Thread nD τ).loc main_arg0)) (m ((c : Thread nD τ).loc main_arg1))
  (m ((c : Thread nD τ).loc main_arg2)) (m ((c : Thread nD τ).loc main_arg3))

/-- One element of one block is the reference's there. -/
theorem point (r : Fin 1024) (j : Fin 3072) :
    (outsAt0 m c t.val t.isLt).1 (ix2 r j)
      = REF m c (ix2 ⟨t.val / 2 * 1024 + r.val, by have := t_lt t; omega⟩ ⟨t.val % 2 * 3072 + j.val, by omega⟩) := by
  have ht := t_lt t
  obtain ⟨b, hb⟩ : ∃ b : Fin 3, b.val = t.val / 8 := ⟨⟨t.val / 8, by omega⟩, rfl⟩
  obtain ⟨i, hi⟩ : ∃ i : Fin 4096, i.val = t.val / 2 % 4 * 1024 + r.val := ⟨⟨t.val / 2 % 4 * 1024 + r.val, by omega⟩, rfl⟩
  have hrow : (⟨t.val / 2 * 1024 + r.val, by omega⟩ : Fin 12288) = ⟨b.val * 4096 + i.val, by omega⟩ := Fin.ext (by simp only; omega)
  rw [hrow, REF, InRef.projection, InRef.product_apply]
  by_cases h0 : t.val % 2 = 0
  · rw [outsAt0_A m c t h0]
    frame_out
    rw [pay2_apply]
    refine Fin.sum_fin_congr fun k => ?_
    exact congrArg₂ (· * ·) (rows_eq m c t r k b i hb hi) (block3 m c t k j)
  · rw [outsAt0_B m c t h0]
    frame_out
    rw [pay2_apply]
    refine Fin.sum_fin_congr fun k => ?_
    refine congrArg₂ (· * ·) ?_ (block3 m c t k j)
    refine (congrFun (Memref.IsWhole.read_unread _ _) _).trans ?_
    exact scratch_A m c ⟨t.val - 1, by have := t.isLt; omega⟩ (by simp only; omega) r k b i (by simp only; omega) (by simp only; omega)

/-- **The kernel's result array is the reference's.** -/
theorem final : (dats m 0 c).arrAt 4 (cfgs 0).N = REF m c := by
  refine (dats m 0 c).arrAt_eq_of_covers 4 _ (by decide +kernel) fun t _ y => ?_
  blk_simp
  rw [after0_4]
  obtain ⟨r, hr⟩ : ∃ r : Fin 1024, r.val = (y 0).val := ⟨⟨_, (y 0).isLt⟩, rfl⟩
  obtain ⟨j, hj⟩ : ∃ j : Fin 3072, j.val = (y 1).val := ⟨⟨_, (y 1).isLt⟩, rfl⟩
  have e : y = ix2 r j := by
    blk_ext []
  rw [e]
  refine (point m c t r j).trans ?_
  blk_ext [idx t]

end Cert.In

end
-- ==== Proof.MergeBody.lean ====
/- The merge kernel's block, read at an index. -/
module

public import proofs.«01_k».proof.Proof.Gen.Kernel4Ideal.Value
public import proofs.«01_k».proof.Proof.Rows

@[expose] public section

set_option maxRecDepth 16384

noncomputable section

namespace Cert.Merge

open Idealize.ShloMosaic Idealize.ShloMosaic.TcCoe Idealize.SL.Sem Cert.Kernel4Ideal Cert.Kernel4Ideal.Gen

/-- Four blocks of 128 columns side by side. -/
theorem beside_apply (p : Fin 4 → FVec Ideal S512x128 .f32) (r : Fin 512) (h : Fin 4) (d : Fin 128) :
    concatenate S512x512 1 [⟨S512x128, p 0⟩, ⟨S512x128, p 1⟩, ⟨S512x128, p 2⟩, ⟨S512x128, p 3⟩]
        concatenates_S512x128_S512x128_S512x128_S512x128_S512x512_d1 (ix2 r ⟨h.val * 128 + d.val, by omega⟩) = p h (ix2 r d) := by
  obtain ⟨n, hn⟩ := h
  have hd := d.isLt
  have cases : n = 0 ∨ n = 1 ∨ n = 2 ∨ n = 3 := by omega
  pointwise
  rcases cases with rfl | rfl | rfl | rfl
  · rw [dif_pos (show 0 * 128 + d.val < 128 by omega)]
    simp only [show 0 * 128 + d.val = d.val by omega]
    rfl
  · rw [dif_neg (show ¬ 1 * 128 + d.val < 128 by omega), dif_pos (show 1 * 128 + d.val - 128 < 128 by omega)]
    simp only [show 1 * 128 + d.val - 128 = d.val by omega]
    rfl
  · rw [dif_neg (show ¬ 2 * 128 + d.val < 128 by omega), dif_neg (show ¬ 2 * 128 + d.val - 128 < 128 by omega),
      dif_pos (show 2 * 128 + d.val - 128 - 128 < 128 by omega)]
    simp only [show 2 * 128 + d.val - 128 - 128 = d.val by omega]
    rfl
  · rw [dif_neg (show ¬ 3 * 128 + d.val < 128 by omega), dif_neg (show ¬ 3 * 128 + d.val - 128 < 128 by omega),
      dif_neg (show ¬ 3 * 128 + d.val - 128 - 128 < 128 by omega)]
    simp only [show 3 * 128 + d.val - 128 - 128 - 128 = d.val by omega]
    rfl

/-- One head of a block over its root mean square, times the weight. -/
def head (o : FVec Ideal S512x512 .f32) (g : FVec Ideal S1x128 .f32) (x : FVec Ideal S512x128 .f32) : FVec Ideal S512x128 .f32 :=
  mulf (mulf x (broadcastTo S512x128 (rsqrt (addf (divf (shapeCast S512x1 (multiReduction .add [1] S512 (mulf x x) 0x00000000#32
    reduces_S512x128_S512 (.inl rfl) rfl) shapeCasts_S512_S512x1) (broadcast S512x1 (Scalar.ofBits .f32 0x43000000#32)))
    (broadcast S512x1 (Scalar.ofBits .f32 0x358637BD#32)))) broadcasts_S512x1_S512x128))
    (broadcastTo S512x128 (shapeCast S1x128 g shapeCasts_S1x128_S1x128) broadcasts_S1x128_S512x128)

/-- The four heads of a block. -/
def headOf (o : FVec Ideal S512x512 .f32) (g : FVec Ideal S1x128 .f32) : Fin 4 → FVec Ideal S512x128 .f32
  | 0 => head o g (extractStridedSlice S512x128 ![0, 0] o slices_S512x512_o0_0_S512x128)
  | 1 => head o g (extractStridedSlice S512x128 ![0, 128] o slices_S512x512_o0_128_S512x128)
  | 2 => head o g (extractStridedSlice S512x128 ![0, 256] o slices_S512x512_o0_256_S512x128)
  | 3 => head o g (extractStridedSlice S512x128 ![0, 384] o slices_S512x512_o0_384_S512x128)

/-- A head's element. -/
theorem headOf_apply (o : FVec Ideal S512x512 .f32) (g : FVec Ideal S1x128 .f32) (r : Fin 512) (h : Fin 4) (d : Fin 128) :
    headOf o g h (ix2 r d) = o (ix2 r ⟨h.val * 128 + d.val, by omega⟩)
      * Ideal.rsqrt (Ideal.div (∑ j : Fin 128, o (ix2 r ⟨h.val * 128 + j.val, by omega⟩) * o (ix2 r ⟨h.val * 128 + j.val, by omega⟩))
        (Ideal.ofBits .f32 0x43000000#32) + Ideal.ofBits .f32 0x358637BD#32) * g (ix2 0 d) := by
  fin_cases h
  all_goals pointwise [headOf, head]

/-- A number through the gate, in a block. -/
theorem gate_apply (o : FVec Ideal S512x512 .f32) (z : FVec Ideal S512x512 .bf16) (r k : Fin 512) :
    truncf (F := Ideal) .bf16 (mulf o (mulf (extf .f32 z bitsLt_bf16_f32) (divf (broadcast S512x512 (Scalar.ofBits .f32 0x3F800000#32))
      (addf (broadcast S512x512 (Scalar.ofBits .f32 0x3F800000#32)) (exp (subf (broadcast S512x512 (Scalar.ofBits .f32 0x00000000#32))
        (extf .f32 z bitsLt_bf16_f32))))))) bitsLt_bf16_f32 (ix2 r k) = o (ix2 r k) * (z (ix2 r k) * Rows.sigmoid (z (ix2 r k))) := by
  pointwise [Rows.sigmoid]
  rw [zero_sub]

/-- The heads of a block through the gate. -/
theorem pay9_apply (f b : FVec Ideal S512x512 .f32) (g : FVec Ideal S1x128 .f32) (z : FVec Ideal S512x512 .bf16) (r : Fin 512) (h : Fin 4) (d : Fin 128) :
    k0_pay9 (F := Ideal) (k0_pay4 f b) (k0_pay5 g) (k0_pay6 f b g) (k0_pay7 f b) (k0_pay8 f b) z (ix2 r ⟨h.val * 128 + d.val, by omega⟩)
      = Rows.headed (fun h d => f (ix2 r ⟨h.val * 128 + d.val, by omega⟩) + b (ix2 r ⟨h.val * 128 + d.val, by omega⟩)) (g (ix2 0 d))
        (z (ix2 r ⟨h.val * 128 + d.val, by omega⟩)) h d := by
  unfold k0_pay9
  simp only [shapeCast_self]
  refine (gate_apply _ _ _ _).trans ?_
  refine (congrArg (· * _) ((beside_apply (headOf (addf f b) g) r h d).trans (headOf_apply _ _ _ _ _))).trans ?_
  rfl

/-- The first two branches' gated sum. -/
theorem pay11_apply (a b : FVec Ideal S512x512 .bf16) (z0 z1 : FVec Ideal S512x1024 .bf16) (w0 w1 : FVec Ideal S1x1x512x1024 .bf16)
    (r : Fin 512) (j : Fin 1024) :
    k0_pay11 (F := Ideal) a b (k0_pay10 z0) w0 z1 w1 (ix2 r j)
      = Rows.sigmoid (z0 (ix2 r j)) * (∑ k : Fin 512, a (ix2 r k) * w0 (ix4 0 0 k j))
        + Rows.sigmoid (z1 (ix2 r j)) * (∑ k : Fin 512, b (ix2 r k) * w1 (ix4 0 0 k j)) := by
  pointwise [k0_pay11, k0_pay10, Rows.sigmoid]
  rw [zero_sub, zero_sub]

/-- The third branch's gate. -/
theorem pay12_apply (z : FVec Ideal S512x1024 .bf16) (r : Fin 512) (j : Fin 1024) :
    k0_pay12 (F := Ideal) z (ix2 r j) = Rows.sigmoid (z (ix2 r j)) := by
  pointwise [k0_pay12, Rows.sigmoid]
  rw [zero_sub]

/-- The block's sum. -/
theorem pay1_apply (a : FVec Ideal S512x512 .bf16) (s g : FVec Ideal S512x1024 .f32) (w : FVec Ideal S1x1x512x1024 .bf16)
    (wo : FVec Ideal S1x1024x1024 .bf16) (x : FVec Ideal S512x1024 .f32) (gate : FVec Ideal S1x1x1024 .f32) (r : Fin 512) (j : Fin 1024) :
    k0_pay1 (F := Ideal) a s g w wo x gate (ix2 r j)
      = x (ix2 r j) + gate (ix3 0 0 j) * ∑ k : Fin 1024, (s (ix2 r k) + g (ix2 r k) * ∑ l : Fin 512, a (ix2 r l) * w (ix4 0 0 l k)) * wo (ix3 0 k j) := by
  pointwise [k0_pay1]

/-- The attention's rows of a point: the prompt's in its tiles, the samples' after them. -/
theorem pay2_apply (i : grid0.Coords) (a b : FVec Ideal S512x512 .bf16) (hi : (i 0).val < 24) :
    k0_pay2 (F := Ideal) i a b = if (i 0).val < 8 then a else b := by
  have e : ∀ n : Nat, n < 24 → Scalar.cmpi .slt (BitVec.ofNat 32 n) 8#32 = if n < 8 then 1#1 else 0#1 := by decide
  unfold k0_pay2
  simp only [shapeCast_self]
  rw [e _ hi]
  split <;> simp [Scalar.select]

/-- The spectral branch's rows of a point, in the same way. -/
theorem pay3_apply (i : grid0.Coords) (a b : FVec Ideal S512x512 .bf16) (hi : (i 0).val < 24) :
    k0_pay3 (F := Ideal) i a b = if (i 0).val < 8 then a else b :=
  pay2_apply i a b hi

end Cert.Merge

end
-- ==== Proof.MergeRef.lean ====
/- The reference's merge of the three branches, operation by operation over its twelve arrays, and read at an index. -/
module

public import proofs.«01_k».proof.Proof.Gen.Reference4Ideal.Run
public import proofs.«01_k».proof.Proof.Rows

@[expose] public section

set_option maxRecDepth 16384

noncomputable section

namespace Cert.MergeRef

open Idealize.ShloMosaic Idealize.SL.Sem Cert.Reference4Ideal Cert.Reference4Ideal.Gen

/-- The prompt's rows over the samples'. -/
def stacked (a : FVec Ideal S4096x512 .f32) (b : FVec Ideal S8192x512 .f32) : FVec Ideal S12288x512 .f32 :=
  concatenate S12288x512 0 [⟨S4096x512, a⟩, ⟨S8192x512, b⟩] concatenates_S4096x512_S8192x512_S12288x512_d0

/-- The two recurrences' sum by head. -/
def heads (f b : FVec Ideal S12288x512 .f32) : FVec Ideal S12288x4x128 .f32 :=
  shapeCast _ (addf f b) shapeCasts_S12288x512_S12288x4x128

/-- The heads over their root mean squares, times the weight. -/
def normed (o : FVec Ideal S12288x4x128 .f32) (g : FVec Ideal S128 .f32) : FVec Ideal S12288x4x128 .f32 :=
  mulf (mulf o (broadcastInDim S12288x4x128 ![0, 1, 2] bcast_S12288x4x1_S12288x4x128_0_1_2 (Host.rsqrt (addf (Host.divf
      (broadcastInDim S12288x4x1 ![0, 1] bcast_S12288x4_S12288x4x1_0_1 (Host.reduceAdd (mulf o o) (constant S_ .f32 0x00000000#32)
        reducesTo_S12288x4x128_S12288x4_d2 h_S_)) (broadcastInDim S12288x4x1 ![] bcast_S_S12288x4x1 (constant S_ .f32 0x43000000#32)))
      (broadcastInDim S12288x4x1 ![] bcast_S_S12288x4x1 (constant S_ .f32 0x358637BD#32))))))
    (broadcastInDim S12288x4x128 ![0, 1, 2] bcast_S1x1x128_S12288x4x128_0_1_2 (broadcastInDim S1x1x128 ![2] bcast_S128_S1x1x128_2 g))

/-- The gate's columns by head. -/
def gateHeads (z : FVec Ideal S12288x6144 .f32) : FVec Ideal S12288x4x128 .f32 :=
  shapeCast _ (extractStridedSlice S12288x512 ![0, 1024] z slices_S12288x6144_S12288x512_0_1024) shapeCasts_S12288x512_S12288x4x128

/-- The heads through the gate, side by side. -/
def gatedHeads (o z : FVec Ideal S12288x4x128 .f32) : FVec Ideal S12288x512 .f32 :=
  shapeCast _ (mulf o (mulf z (Host.divf (broadcastInDim S12288x4x128 ![] bcast_S_S12288x4x128 (constant S_ .f32 0x3F800000#32))
    (addf (broadcastInDim S12288x4x128 ![] bcast_S_S12288x4x128 (constant S_ .f32 0x3F800000#32)) (Host.exp (Host.negf z))))))
    shapeCasts_S12288x4x128_S12288x512

/-- The branches' gates. -/
def gates (z : FVec Ideal S12288x6144 .f32) : FVec Ideal S12288x3x1024 .f32 :=
  Host.divf (broadcastInDim S12288x3x1024 ![] bcast_S_S12288x3x1024 (constant S_ .f32 0x3F800000#32))
    (addf (broadcastInDim S12288x3x1024 ![] bcast_S_S12288x3x1024 (constant S_ .f32 0x3F800000#32)) (Host.exp (Host.negf
      (shapeCast _ (extractStridedSlice S12288x3072 ![0, 2048] z slices_S12288x6144_S12288x3072_0_2048) shapeCasts_S12288x3072_S12288x3x1024))))

/-- A branch's rows through its weight. -/
def product (a : FVec Ideal S12288x512 .f32) (w : FVec Ideal S1x1x512x1024 .f32) : FVec Ideal S12288x1024 .f32 :=
  Host.dotGeneral dot_S12288x512_S512x1024_S12288x1024_1_0_0_1_n_n none a (shapeCast _ w shapeCasts_S1x1x512x1024_S512x1024)

/-- The three branches' gated sum. -/
def merged (s : FVec Ideal S12288x3x1024 .f32) (w : FVec Ideal S4x3x512x1024 .f32) (a b d : FVec Ideal S12288x512 .f32) : FVec Ideal S12288x1024 .f32 :=
  addf (addf
    (mulf (shapeCast _ (extractStridedSlice S12288x1x1024 ![0, 0, 0] s slices_S12288x3x1024_S12288x1x1024_0_0_0) shapeCasts_S12288x1x1024_S12288x1024)
      (product a (extractStridedSlice S1x1x512x1024 ![0, 0, 0, 0] w slices_S4x3x512x1024_S1x1x512x1024_0_0_0_0)))
    (mulf (shapeCast _ (extractStridedSlice S12288x1x1024 ![0, 1, 0] s slices_S12288x3x1024_S12288x1x1024_0_1_0) shapeCasts_S12288x1x1024_S12288x1024)
      (product b (extractStridedSlice S1x1x512x1024 ![0, 1, 0, 0] w slices_S4x3x512x1024_S1x1x512x1024_0_1_0_0))))
    (mulf (shapeCast _ (extractStridedSlice S12288x1x1024 ![0, 2, 0] s slices_S12288x3x1024_S12288x1x1024_0_2_0) shapeCasts_S12288x1x1024_S12288x1024)
      (product d (extractStridedSlice S1x1x512x1024 ![0, 2, 0, 0] w slices_S4x3x512x1024_S1x1x512x1024_0_2_0_0)))

/-- The rows with the merged branches added. -/
def added (u : FVec Ideal S12288x1024 .f32) (x : FVec Ideal S12288x1024 .f32) (mod3 : FVec Ideal S3x1x6144 .f32)
    (w : FVec Ideal S4x1024x1024 .f32) : FVec Ideal S12288x1024 .f32 :=
  shapeCast _ (addf (shapeCast _ x shapeCasts_S12288x1024_S3x4096x1024)
    (mulf (broadcastInDim S3x4096x1024 ![0, 1, 2] bcast_S3x1x1024_S3x4096x1024_0_1_2
        (extractStridedSlice S3x1x1024 ![0, 0, 2048] mod3 slices_S3x1x6144_S3x1x1024_0_0_2048))
      (shapeCast _ (Host.dotGeneral dot_S12288x1024_S1024x1024_S12288x1024_1_0_0_1_n_n none u
        (shapeCast _ (extractStridedSlice S1x1024x1024 ![0, 0, 0] w slices_S4x1024x1024_S1x1024x1024_0_0_0) shapeCasts_S1x1024x1024_S1024x1024))
        shapeCasts_S12288x1024_S3x4096x1024))) shapeCasts_S3x4096x1024_S12288x1024

/-- The reference's result of its twelve arrays. -/
def mix (ap : FVec Ideal S4096x512 .f32) (aq : FVec Ideal S8192x512 .f32) (gf gb : FVec Ideal S12288x512 .f32) (z : FVec Ideal S12288x6144 .f32)
    (fp : FVec Ideal S4096x512 .f32) (fs : FVec Ideal S8192x512 .f32) (x : FVec Ideal S12288x1024 .f32) (mod3 : FVec Ideal S3x1x6144 .f32)
    (g : FVec Ideal S128 .f32) (wb : FVec Ideal S4x3x512x1024 .f32) (wo : FVec Ideal S4x1024x1024 .f32) : FVec Ideal S12288x1024 .f32 :=
  added (merged (gates z) wb (stacked ap aq) (gatedHeads (normed (heads gf gb) g) (gateHeads z)) (stacked fp fs)) x mod3 wo

/-- The reference's run leaves that result. -/
theorem res_eq (m : (ℓ : Loc nD τ sig) → Buf (Elt Ideal) ℓ) (c : Dev nD) :
    Value.res_out0 m c = mix (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := by
  unfold Value.res_out0 Value.res_main_v64
  rfl

/-- Equal arrays give equal results. -/
theorem mix_congr {a0 b0 : FVec Ideal S4096x512 .f32} {a1 b1 : FVec Ideal S8192x512 .f32} {a2 b2 : FVec Ideal S12288x512 .f32} {a3 b3 : FVec Ideal S12288x512 .f32} {a4 b4 : FVec Ideal S12288x6144 .f32} {a5 b5 : FVec Ideal S4096x512 .f32} {a6 b6 : FVec Ideal S8192x512 .f32} {a7 b7 : FVec Ideal S12288x1024 .f32} {a8 b8 : FVec Ideal S3x1x6144 .f32} {a9 b9 : FVec Ideal S128 .f32} {a10 b10 : FVec Ideal S4x3x512x1024 .f32} {a11 b11 : FVec Ideal S4x1024x1024 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) :
    mix a0 a1 a2 a3 a4 a5 a6 a7 a8 a9 a10 a11 = mix b0 b1 b2 b3 b4 b5 b6 b7 b8 b9 b10 b11 := by
  subst h0 h1 h2 h3 h4 h5 h6 h7 h8 h9 h10 h11
  rfl

/-- A stacked row's element. -/
theorem stacked_apply (a : FVec Ideal S4096x512 .f32) (b : FVec Ideal S8192x512 .f32) (i : Fin 12288) (k : Fin 512) :
    stacked a b (ix2 i k) = if h : i.val < 4096 then a (ix2 ⟨i.val, h⟩ k) else b (ix2 ⟨i.val - 4096, by omega⟩ k) := by
  pointwise [stacked]

/-- An element of a head through the gate. -/
theorem gatedHeads_apply (gf gb : FVec Ideal S12288x512 .f32) (g : FVec Ideal S128 .f32) (z : FVec Ideal S12288x6144 .f32)
    (i : Fin 12288) (h : Fin 4) (d : Fin 128) :
    gatedHeads (normed (heads gf gb) g) (gateHeads z) (ix2 i ⟨h.val * 128 + d.val, by omega⟩)
      = Rows.headed (fun h d => gf (ix2 i ⟨h.val * 128 + d.val, by omega⟩) + gb (ix2 i ⟨h.val * 128 + d.val, by omega⟩)) (g (ix1 d))
        (z (ix2 i ⟨1024 + (h.val * 128 + d.val), by omega⟩)) h d := by
  pointwise [gatedHeads, normed, heads, gateHeads, Rows.headed, Rows.sigmoid]

/-- An element of the gated sum. -/
theorem merged_apply (z : FVec Ideal S12288x6144 .f32) (w : FVec Ideal S4x3x512x1024 .f32) (a b d : FVec Ideal S12288x512 .f32)
    (i : Fin 12288) (j : Fin 1024) :
    merged (gates z) w a b d (ix2 i j)
      = Rows.sigmoid (z (ix2 i ⟨2048 + j.val, by omega⟩)) * (∑ k : Fin 512, a (ix2 i k) * w (ix4 0 0 k j))
        + Rows.sigmoid (z (ix2 i ⟨2048 + (1024 + j.val), by omega⟩)) * (∑ k : Fin 512, b (ix2 i k) * w (ix4 0 1 k j))
        + Rows.sigmoid (z (ix2 i ⟨2048 + (2048 + j.val), by omega⟩)) * (∑ k : Fin 512, d (ix2 i k) * w (ix4 0 2 k j)) := by
  pointwise [merged, product, gates, Rows.sigmoid]

/-- An element of the result. -/
theorem added_apply (u x : FVec Ideal S12288x1024 .f32) (mod3 : FVec Ideal S3x1x6144 .f32) (w : FVec Ideal S4x1024x1024 .f32)
    (i : Fin 12288) (j : Fin 1024) :
    added u x mod3 w (ix2 i j) = x (ix2 i j) + mod3 (ix3 ⟨i.val / 4096, by omega⟩ 0 ⟨2048 + j.val, by omega⟩)
      * ∑ k : Fin 1024, u (ix2 i k) * w (ix3 0 k j) := by
  pointwise [added]

end Cert.MergeRef

end
-- ==== Proof.MergeValue.lean ====
/- The merge kernel's result array is the reference's. -/
module

public import proofs.«01_k».proof.Proof.MergeBody
public import proofs.«01_k».proof.Proof.MergeRef

@[expose] public section

set_option maxRecDepth 16384

noncomputable section

namespace Cert.Merge

open Idealize.ShloMosaic Idealize.ShloMosaic.TcCoe Idealize.SL.Sem Cert.Kernel4Ideal Cert.Kernel4Ideal.Gen
open Idealize.ShloMosaic.Pipeline (Dat)

/-- The windows' block indices at every point. -/
theorem idx : ∀ t : Fin cfg0.N, win0_2.index t = ![t.val, 0] ∧ win0_3.index t = ![t.val, 0] ∧ win0_4.index t = ![t.val, 2]
    ∧ win0_7.index t = ![t.val, 2] ∧ win0_8.index t = ![t.val, 3] ∧ win0_9.index t = ![t.val, 4] ∧ win0_10.index t = ![t.val, 0]
    ∧ win0_11.index t = ![t.val / 8, 0, 0] ∧ win0_12.index t = ![0, 0] ∧ win0_13.index t = ![0, 0, 0, 0] ∧ win0_14.index t = ![0, 0, 0]
    ∧ win0_15.index t = ![t.val, 0] ∧ (grid0.coords t 0).val = t.val ∧ t.val < 24 :=
  (by decide +kernel : ∀ t : Fin grid0.N, _)

/-- The prompt's windows' block indices at the prompt's points. -/
theorem idx_lo : ∀ t : Fin cfg0.N, t.val < 8 → win0_0.index t = ![t.val, 0] ∧ win0_5.index t = ![t.val, 0] :=
  (by decide +kernel : ∀ t : Fin grid0.N, _)

/-- The samples' windows' block indices at the samples' points. -/
theorem idx_hi : ∀ t : Fin cfg0.N, ¬ t.val < 8 → win0_1.index t = ![t.val - 8, 0] ∧ win0_6.index t = ![t.val - 8, 0] :=
  (by decide +kernel : ∀ t : Fin grid0.N, _)

/-- The prompt's rows, narrowed. -/
def narrowP (a : FVec Ideal S4096x512 .f32) : FVec Ideal S4096x512 .bf16 := truncf .bf16 a bitsLt_bf16_f32

/-- The samples' rows, narrowed. -/
def narrowS (a : FVec Ideal S8192x512 .f32) : FVec Ideal S8192x512 .bf16 := truncf .bf16 a bitsLt_bf16_f32

/-- The projection, narrowed. -/
def narrowZ (a : FVec Ideal S12288x6144 .f32) : FVec Ideal S12288x6144 .bf16 := truncf .bf16 a bitsLt_bf16_f32

/-- The branches' weights, narrowed. -/
def narrowB (a : FVec Ideal S4x3x512x1024 .f32) : FVec Ideal S4x3x512x1024 .bf16 := truncf .bf16 a bitsLt_bf16_f32

/-- The output weight, narrowed. -/
def narrowO (a : FVec Ideal S4x1024x1024 .f32) : FVec Ideal S4x1024x1024 .bf16 := truncf .bf16 a bitsLt_bf16_f32

/-- The norm's weight as one row. -/
def row (g : FVec Ideal S128 .f32) : FVec Ideal S1x128 .f32 := shapeCast _ g shapeCasts_S128_S1x128

/-- That row, read. -/
theorem row_apply (g : FVec Ideal S128 .f32) (k : Fin 128) : row g (ix2 0 k) = g (ix1 k) := by
  pointwise [row]

variable (m : (ℓ : Loc nD τ sig) → Buf (Elt Ideal) ℓ) (c : Dev nD) (t : Fin cfg0.N)

/-- The grid has 24 points. -/
theorem t_lt : t.val < 24 := (idx t).2.2.2.2.2.2.2.2.2.2.2.2.2

/-- The prompt's attention as the kernel finds it. -/
theorem entry_0 : V m c main_v0 = narrowP (m ((c : Thread nD τ).loc main_arg0)) := by
  entry_read; rfl

/-- The samples' attention. -/
theorem entry_1 : V m c main_v1 = narrowS (m ((c : Thread nD τ).loc main_arg1)) := by
  entry_read; rfl

/-- The projection. -/
theorem entry_2 : V m c main_v2 = narrowZ (m ((c : Thread nD τ).loc main_arg4)) := by
  entry_read; rfl

/-- The prompt's spectral branch. -/
theorem entry_3 : V m c main_v3 = narrowP (m ((c : Thread nD τ).loc main_arg5)) := by
  entry_read; rfl

/-- The samples' spectral branch. -/
theorem entry_4 : V m c main_v4 = narrowS (m ((c : Thread nD τ).loc main_arg6)) := by
  entry_read; rfl

/-- The branches' weights. -/
theorem entry_5 : V m c main_v5 = narrowB (m ((c : Thread nD τ).loc main_arg10)) := by
  entry_read; rfl

/-- The output weight. -/
theorem entry_6 : V m c main_v6 = narrowO (m ((c : Thread nD τ).loc main_arg11)) := by
  entry_read; rfl

/-- The norm's weight. -/
theorem entry_7 : V m c main_v7 = row (m ((c : Thread nD τ).loc main_arg9)) := by
  entry_read; rfl

/-- The prompt's block at the prompt's points. -/
theorem block0 (h : t.val < 8) (r : Fin 512) (k : Fin 512) : iblk m c 0 t (ix2 r k) = m ((c : Thread nD τ).loc main_arg0) (ix2 ⟨t.val * 512 + r.val, by omega⟩ k) := by
  have h' : iblk m c 0 t (ix2 r k) = V m c main_v0 (ix2 ⟨t.val * 512 + r.val, by omega⟩ k) := by
    blk_ext [iblk, idx_lo t h]
  rw [h', entry_0]
  rfl

/-- The prompt's block at the prompt's points. -/
theorem block5 (h : t.val < 8) (r : Fin 512) (k : Fin 512) : iblk m c 5 t (ix2 r k) = m ((c : Thread nD τ).loc main_arg5) (ix2 ⟨t.val * 512 + r.val, by omega⟩ k) := by
  have h' : iblk m c 5 t (ix2 r k) = V m c main_v3 (ix2 ⟨t.val * 512 + r.val, by omega⟩ k) := by
    blk_ext [iblk, idx_lo t h]
  rw [h', entry_3]
  rfl

/-- The samples' block at the samples' points. -/
theorem block1 (h : ¬ t.val < 8) (r : Fin 512) (k : Fin 512) : iblk m c 1 t (ix2 r k) = m ((c : Thread nD τ).loc main_arg1) (ix2 ⟨t.val * 512 + r.val - 4096, by have := t_lt t; omega⟩ k) := by
  have h' : iblk m c 1 t (ix2 r k) = V m c main_v1 (ix2 ⟨t.val * 512 + r.val - 4096, by have := t_lt t; omega⟩ k) := by
    blk_ext [iblk, idx_hi t h]
  rw [h', entry_1]
  rfl

/-- The samples' block at the samples' points. -/
theorem block6 (h : ¬ t.val < 8) (r : Fin 512) (k : Fin 512) : iblk m c 6 t (ix2 r k) = m ((c : Thread nD τ).loc main_arg6) (ix2 ⟨t.val * 512 + r.val - 4096, by have := t_lt t; omega⟩ k) := by
  have h' : iblk m c 6 t (ix2 r k) = V m c main_v4 (ix2 ⟨t.val * 512 + r.val - 4096, by have := t_lt t; omega⟩ k) := by
    blk_ext [iblk, idx_hi t h]
  rw [h', entry_4]
  rfl

/-- A recurrence's block. -/
theorem block2 (r : Fin 512) (k : Fin 512) : iblk m c 2 t (ix2 r k) = m ((c : Thread nD τ).loc main_arg2) (ix2 ⟨t.val * 512 + r.val, by have := t_lt t; omega⟩ k) := by
  have h' : iblk m c 2 t (ix2 r k) = V m c main_arg2 (ix2 ⟨t.val * 512 + r.val, by have := t_lt t; omega⟩ k) := by
    blk_ext [iblk, idx t]
  rw [h', V_main_arg2]

/-- A recurrence's block. -/
theorem block3 (r : Fin 512) (k : Fin 512) : iblk m c 3 t (ix2 r k) = m ((c : Thread nD τ).loc main_arg3) (ix2 ⟨t.val * 512 + r.val, by have := t_lt t; omega⟩ k) := by
  have h' : iblk m c 3 t (ix2 r k) = V m c main_arg3 (ix2 ⟨t.val * 512 + r.val, by have := t_lt t; omega⟩ k) := by
    blk_ext [iblk, idx t]
  rw [h', V_main_arg3]

/-- The block of the recurrences' gate. -/
theorem block4 (r : Fin 512) (k : Fin 512) : iblk m c 4 t (ix2 r k) = m ((c : Thread nD τ).loc main_arg4) (ix2 ⟨t.val * 512 + r.val, by have := t_lt t; omega⟩ ⟨1024 + k.val, by omega⟩) := by
  have h' : iblk m c 4 t (ix2 r k) = V m c main_v2 (ix2 ⟨t.val * 512 + r.val, by have := t_lt t; omega⟩ ⟨1024 + k.val, by omega⟩) := by
    blk_ext [iblk, idx t]
  rw [h', entry_2]
  rfl

/-- A branch's gate's block. -/
theorem block7 (r : Fin 512) (k : Fin 1024) : iblk m c 7 t (ix2 r k) = m ((c : Thread nD τ).loc main_arg4) (ix2 ⟨t.val * 512 + r.val, by have := t_lt t; omega⟩ ⟨2048 + k.val, by omega⟩) := by
  have h' : iblk m c 7 t (ix2 r k) = V m c main_v2 (ix2 ⟨t.val * 512 + r.val, by have := t_lt t; omega⟩ ⟨2048 + k.val, by omega⟩) := by
    blk_ext [iblk, idx t]
  rw [h', entry_2]
  rfl

/-- A branch's gate's block. -/
theorem block8 (r : Fin 512) (k : Fin 1024) : iblk m c 8 t (ix2 r k) = m ((c : Thread nD τ).loc main_arg4) (ix2 ⟨t.val * 512 + r.val, by have := t_lt t; omega⟩ ⟨2048 + (1024 + k.val), by omega⟩) := by
  have h' : iblk m c 8 t (ix2 r k) = V m c main_v2 (ix2 ⟨t.val * 512 + r.val, by have := t_lt t; omega⟩ ⟨2048 + (1024 + k.val), by omega⟩) := by
    blk_ext [iblk, idx t]
  rw [h', entry_2]
  rfl

/-- A branch's gate's block. -/
theorem block9 (r : Fin 512) (k : Fin 1024) : iblk m c 9 t (ix2 r k) = m ((c : Thread nD τ).loc main_arg4) (ix2 ⟨t.val * 512 + r.val, by have := t_lt t; omega⟩ ⟨2048 + (2048 + k.val), by omega⟩) := by
  have h' : iblk m c 9 t (ix2 r k) = V m c main_v2 (ix2 ⟨t.val * 512 + r.val, by have := t_lt t; omega⟩ ⟨2048 + (2048 + k.val), by omega⟩) := by
    blk_ext [iblk, idx t]
  rw [h', entry_2]
  rfl

/-- The rows' block. -/
theorem block10 (r : Fin 512) (k : Fin 1024) : iblk m c 10 t (ix2 r k) = m ((c : Thread nD τ).loc main_arg7) (ix2 ⟨t.val * 512 + r.val, by have := t_lt t; omega⟩ k) := by
  have h' : iblk m c 10 t (ix2 r k) = V m c main_arg7 (ix2 ⟨t.val * 512 + r.val, by have := t_lt t; omega⟩ k) := by
    blk_ext [iblk, idx t]
  rw [h', V_main_arg7]

/-- The modulation's block. -/
theorem block11 (k : Fin 6144) : iblk m c 11 t (ix3 0 0 k) = m ((c : Thread nD τ).loc main_arg8) (ix3 ⟨t.val / 8, by have := t_lt t; omega⟩ 0 k) := by
  have h' : iblk m c 11 t (ix3 0 0 k) = V m c main_arg8 (ix3 ⟨t.val / 8, by have := t_lt t; omega⟩ 0 k) := by
    blk_ext [iblk, idx t]
  rw [h', V_main_arg8]

/-- The norm weight's block. -/
theorem block12 (k : Fin 128) : iblk m c 12 t (ix2 0 k) = m ((c : Thread nD τ).loc main_arg9) (ix1 k) := by
  have h' : iblk m c 12 t (ix2 0 k) = V m c main_v7 (ix2 0 k) := by
    blk_ext [iblk, idx t]
  rw [h', entry_7]
  exact row_apply _ k

/-- The branch weights' block. -/
theorem block13 (b : Fin 3) (l : Fin 512) (k : Fin 1024) : iblk m c 13 t (ix4 0 b l k) = m ((c : Thread nD τ).loc main_arg10) (ix4 0 b l k) := by
  have h' : iblk m c 13 t (ix4 0 b l k) = V m c main_v5 (ix4 0 b l k) := by
    blk_ext [iblk, idx t]
  rw [h', entry_5]
  rfl

/-- The output weight's block. -/
theorem block14 (k j : Fin 1024) : iblk m c 14 t (ix3 0 k j) = m ((c : Thread nD τ).loc main_arg11) (ix3 0 k j) := by
  have h' : iblk m c 14 t (ix3 0 k j) = V m c main_v6 (ix3 0 k j) := by
    blk_ext [iblk, idx t]
  rw [h', entry_6]
  rfl

/-- The body's result block, read at an index. -/
theorem out_apply (i : grid0.Coords) (hi : (i 0).val < 24) (x0 x1 : FVec Ideal S512x512 .bf16) (x2 x3 : FVec Ideal S512x512 .f32) (x4 x5 x6 : FVec Ideal S512x512 .bf16)
    (x7 x8 x9 : FVec Ideal S512x1024 .bf16) (x10 : FVec Ideal S512x1024 .f32) (x11 : FVec Ideal S1x1x6144 .f32) (x12 : FVec Ideal S1x128 .f32)
    (x13 : FVec Ideal S1x3x512x1024 .bf16) (x14 : FVec Ideal S1x1024x1024 .bf16) (r : Fin 512) (j : Fin 1024)
    (o : Fin 512 → EReal) (ho : ∀ (h : Fin 4) (d : Fin 128), o ⟨h.val * 128 + d.val, by omega⟩
      = Rows.headed (fun h d => x2 (ix2 r ⟨h.val * 128 + d.val, by omega⟩) + x3 (ix2 r ⟨h.val * 128 + d.val, by omega⟩)) (x12 (ix2 0 d))
        (x4 (ix2 r ⟨h.val * 128 + d.val, by omega⟩)) h d)
    (a f : Fin 512 → EReal) (ha : ∀ l, (if (i 0).val < 8 then x0 else x1) (ix2 r l) = a l) (hf : ∀ l, (if (i 0).val < 8 then x5 else x6) (ix2 r l) = f l) :
    out0_15 (F := Ideal) i x0 x1 x2 x3 x4 x5 x6 x7 x8 x9 x10 x11 x12 x13 x14 (ix2 r j)
      = x10 (ix2 r j) + x11 (ix3 0 0 ⟨2048 + j.val, by omega⟩) * ∑ k : Fin 1024,
        (Rows.sigmoid (x7 (ix2 r k)) * (∑ l : Fin 512, a l * x13 (ix4 0 0 l k))
          + Rows.sigmoid (x8 (ix2 r k)) * (∑ l : Fin 512, o l * x13 (ix4 0 1 l k))
          + Rows.sigmoid (x9 (ix2 r k)) * (∑ l : Fin 512, f l * x13 (ix4 0 2 l k)))
        * x14 (ix3 0 k j) := by
  refine (congrFun (View.canon_unit_zero (Val := Elt Ideal) (e := .f32) (S := S512x1024) (off := ![0, 0]) (by funext a; fin_cases a <;> rfl)
    inb_S512x1024_S512x1024_0_0 _) _).trans ?_
  have lw : ∀ (x : FVec Ideal S512x1024 .bf16), View.ld (Val := Elt Ideal) (e' := .bf16) x r0_2 = x := fun x =>
    View.ld_unit_zero (by funext a; fin_cases a <;> rfl) _ _
  have lx : ∀ i j, View.ld (Val := Elt Ideal) (e' := .f32) x10 r0_2 (ix2 i j) = x10 (ix2 i j) := fun i j =>
    congrFun (View.ld_unit_zero (by funext a; fin_cases a <;> rfl) _ _) _
  have lf : ∀ (x : FVec Ideal S512x512 .f32), View.ld (Val := Elt Ideal) (e' := .f32) x r0_0 = x := fun x =>
    View.ld_unit_zero (by funext a; fin_cases a <;> rfl) _ _
  have ln : ∀ (x : FVec Ideal S512x512 .bf16), View.ld (Val := Elt Ideal) (e' := .bf16) x r0_0 = x := fun x =>
    View.ld_unit_zero (by funext a; fin_cases a <;> rfl) _ _
  have lg : View.ld (Val := Elt Ideal) (e' := .f32) x12 r0_1 = x12 := View.ld_unit_zero (by funext a; fin_cases a <;> rfl) _ _
  have lo : ∀ k j, View.ld (Val := Elt Ideal) (e' := .bf16) x14 r0_6 (ix3 0 k j) = x14 (ix3 0 k j) := fun k j =>
    congrFun (View.ld_unit_zero (by funext a; fin_cases a <;> rfl) _ _) _
  have l3 : ∀ (l : Fin 512) (k : Fin 1024), View.ld (Val := Elt Ideal) (e' := .bf16) x13 r0_3 (ix4 0 0 l k) = x13 (ix4 0 0 l k) := fun l k =>
    View.ld_unit_apply_of _ _ _ _ _ _ (by intro a; fin_cases a <;> simp)
  have l4 : ∀ (l : Fin 512) (k : Fin 1024), View.ld (Val := Elt Ideal) (e' := .bf16) x13 r0_4 (ix4 0 0 l k) = x13 (ix4 0 1 l k) := fun l k =>
    View.ld_unit_apply_of _ _ _ _ _ _ (by intro a; fin_cases a <;> simp)
  have l5 : ∀ (l : Fin 512) (k : Fin 1024), View.ld (Val := Elt Ideal) (e' := .bf16) x13 r0_5 (ix4 0 0 l k) = x13 (ix4 0 2 l k) := fun l k =>
    View.ld_unit_apply_of _ _ _ _ _ _ (by intro a; fin_cases a <;> simp)
  have lm : ∀ k : Fin 1024, View.ld (Val := Elt Ideal) (e' := .f32) x11 r0_7 (ix3 0 0 k) = x11 (ix3 0 0 ⟨2048 + k.val, by omega⟩) := fun k =>
    View.ld_unit_apply_of _ _ _ _ _ _ (by intro a; fin_cases a <;> rfl)
  have h9 : ∀ l : Fin 512, k0_pay9 (F := Ideal) (k0_pay4 x2 x3) (k0_pay5 x12) (k0_pay6 x2 x3 x12) (k0_pay7 x2 x3) (k0_pay8 x2 x3) x4 (ix2 r l) = o l := by
    intro l
    have hl : l = ⟨(⟨l.val / 128, by omega⟩ : Fin 4).val * 128 + (⟨l.val % 128, by omega⟩ : Fin 128).val, by simp only; omega⟩ :=
      Fin.ext (by simp only; omega)
    rw [hl, ho]
    exact pay9_apply _ _ _ _ _ _ _
  rw [pay1_apply]
  simp only [lw, lx, lf, ln, lg, lo, l3, l4, l5, lm, pay11_apply, pay12_apply, pay2_apply i _ _ hi, pay3_apply i _ _ hi, h9, ha, hf]

/-- The reference's result of the arguments in memory. -/
abbrev REF : FVec Ideal S12288x1024 .f32 := MergeRef.mix (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11))

/-- The attention's block is the stacked rows'. -/
theorem block_att (r k : Fin 512) : (if t.val < 8 then iblk m c 0 t else iblk m c 1 t) (ix2 r k)
    = MergeRef.stacked (m ((c : Thread nD τ).loc main_arg0)) (m ((c : Thread nD τ).loc main_arg1)) (ix2 ⟨t.val * 512 + r.val, by have := t_lt t; omega⟩ k) := by
  rw [MergeRef.stacked_apply]
  by_cases h : t.val < 8
  · rw [if_pos h, dif_pos (show t.val * 512 + r.val < 4096 by omega)]
    exact block0 m c t h r k
  · rw [if_neg h, dif_neg (show ¬ t.val * 512 + r.val < 4096 by omega)]
    exact block1 m c t h r k

/-- The spectral branch's block is the stacked rows'. -/
theorem block_four (r k : Fin 512) : (if t.val < 8 then iblk m c 5 t else iblk m c 6 t) (ix2 r k)
    = MergeRef.stacked (m ((c : Thread nD τ).loc main_arg5)) (m ((c : Thread nD τ).loc main_arg6)) (ix2 ⟨t.val * 512 + r.val, by have := t_lt t; omega⟩ k) := by
  rw [MergeRef.stacked_apply]
  by_cases h : t.val < 8
  · rw [if_pos h, dif_pos (show t.val * 512 + r.val < 4096 by omega)]
    exact block5 m c t h r k
  · rw [if_neg h, dif_neg (show ¬ t.val * 512 + r.val < 4096 by omega)]
    exact block6 m c t h r k

/-- One element of one block is the reference's there. -/
theorem point (r : Fin 512) (j : Fin 1024) :
    out0_15 (grid0.coords t) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (ix2 r j)
      = REF m c (ix2 ⟨t.val * 512 + r.val, by have := t_lt t; omega⟩ j) := by
  have ht := t_lt t
  have hg : (grid0.coords t 0).val = t.val := (idx t).2.2.2.2.2.2.2.2.2.2.2.2.1
  have hseg : (⟨t.val / 8, by omega⟩ : Fin 3) = ⟨(t.val * 512 + r.val) / 4096, by omega⟩ := Fin.ext (by simp only; omega)
  rw [REF, MergeRef.mix, MergeRef.added_apply]
  refine (out_apply _ (by rw [hg]; exact ht) _ _ _ _ _ _ _ _ _ _ _ _ _ _ _ r j
    (fun l => MergeRef.gatedHeads (MergeRef.normed (MergeRef.heads (m ((c : Thread nD τ).loc main_arg2)) (m ((c : Thread nD τ).loc main_arg3)))
      (m ((c : Thread nD τ).loc main_arg9))) (MergeRef.gateHeads (m ((c : Thread nD τ).loc main_arg4))) (ix2 ⟨t.val * 512 + r.val, by omega⟩ l)) ?_
    (fun l => MergeRef.stacked (m ((c : Thread nD τ).loc main_arg0)) (m ((c : Thread nD τ).loc main_arg1)) (ix2 ⟨t.val * 512 + r.val, by omega⟩ l))
    (fun l => MergeRef.stacked (m ((c : Thread nD τ).loc main_arg5)) (m ((c : Thread nD τ).loc main_arg6)) (ix2 ⟨t.val * 512 + r.val, by omega⟩ l))
    (fun l => ?_) (fun l => ?_)).trans ?_
  · intro h d
    rw [MergeRef.gatedHeads_apply]
    simp only [block2, block3, block4, block12]
  · rw [hg]
    exact block_att m c t r l
  · rw [hg]
    exact block_four m c t r l
  · simp only [block7, block8, block9, block10, block11, block13, block14, hseg, MergeRef.merged_apply]

/-- **The kernel's result array is the reference's.** -/
theorem final : (dats m 0 c).arrAt 15 (cfgs 0).N = REF m c := by
  refine (dats m 0 c).arrAt_eq_of_covers 15 _ (by decide +kernel) fun t _ y => ?_
  blk_simp
  rw [after0_15]
  obtain ⟨r, hr⟩ : ∃ r : Fin 512, r.val = (y 0).val := ⟨⟨_, (y 0).isLt⟩, rfl⟩
  obtain ⟨j, hj⟩ : ∃ j : Fin 1024, j.val = (y 1).val := ⟨⟨_, (y 1).isLt⟩, rfl⟩
  have e : y = ix2 r j := by
    blk_ext []
  rw [e]
  refine (point m c t r j).trans ?_
  blk_ext [idx t]

end Cert.Merge

end
-- ==== Proof.TablePre.lean ====
/- What the precondition on the two tables says of their words. -/
module

public import proofs.«01_k».proof.Pre_tables
public import proofs.«01_k».proof.Proof.Gen.Pre_tables
public import Idealize.ShloMosaic.Lib.ReduceAll
public import Idealize.ShloMosaic.Lib.WordCmp
public import Idealize.ShloMosaic.Lib.StableHlo.Predicate
public import Idealize.ShloMosaic.Lib.Affine
public import Idealize.ShloMosaic.Lib.Pointwise

@[expose] public section

noncomputable section

namespace Cert.TablePre

open Idealize.ShloMosaic Cert.Pre_tables Cert.Pre_tables.Gen

/-- A word from zero up to below a small bound, in signed order, names a number below the bound. -/
theorem below (a : BitVec 32) (n : ℕ) (hn : n < 2 ^ 31) (h0 : IntOp.cmpi .sge a 0#32 = 1#1) (h1 : IntOp.cmpi .slt a (BitVec.ofNat 32 n) = 1#1) :
    a.toNat < n := by
  simp only [IntOp.cmpi, BitVec.sle, BitVec.slt, Idealize.ShloMosaic.StableHlo.Predicate.ofBool_eq_one_iff, decide_eq_true_eq, Idealize.ShloMosaic.StableHlo.Predicate.toInt_ofNat_small n hn] at h0 h1
  have e := BitVec.toInt_eq_toNat_cond a
  have := a.isLt
  have z : (0#32 : BitVec 32).toInt = 0 := by decide
  have o : (1#32 : BitVec 32).toInt = 1 := by decide
  split at e <;> omega

/-- A word from one up to a small bound, in signed order, names a number from one up to the bound. -/
theorem between (a : BitVec 32) (n : ℕ) (hn : n < 2 ^ 31) (h0 : IntOp.cmpi .sge a 1#32 = 1#1) (h1 : IntOp.cmpi .sle a (BitVec.ofNat 32 n) = 1#1) :
    1 ≤ a.toNat ∧ a.toNat ≤ n := by
  simp only [IntOp.cmpi, BitVec.sle, Idealize.ShloMosaic.StableHlo.Predicate.ofBool_eq_one_iff, decide_eq_true_eq, Idealize.ShloMosaic.StableHlo.Predicate.toInt_ofNat_small n hn] at h0 h1
  have e := BitVec.toInt_eq_toNat_cond a
  have := a.isLt
  have z : (0#32 : BitVec 32).toInt = 0 := by decide
  have o : (1#32 : BitVec 32).toInt = 1 := by decide
  split at e <;> omega

variable {F : FTy → Type} [FloatOps F] {x : FVec F S28672x1024 .bf16} {te : IVec S56 32} {nv : IVec S1 32} {w1 w3 : FVec F S2x8x1024x3584 .f32}

/-- The precondition, taken apart: every tile names one of eight experts, and between one and fifty-six tiles are used. -/
theorem words (h : Cert.Pre_tables.fn (F := F) x te nv w1 w3 = fun _ => 1#1) :
    (∀ i, (te i).toNat < 8) ∧ ∀ i, 1 ≤ (nv i).toNat ∧ (nv i).toNat ≤ 56 := by
  have h0 := congrFun h ix0
  dsimp only [Cert.Pre_tables.fn] at h0
  obtain ⟨h1, h2⟩ := IntOp.andi_eq_one.1 h0
  refine ⟨fun i => ?_, fun i => ?_⟩
  · obtain ⟨a, b⟩ := IntOp.andi_eq_one.1 (Host.reduce_andi_all _ _ _ _ _ h1 i)
    exact below _ 8 (by decide) a b
  · obtain ⟨a, b⟩ := IntOp.andi_eq_one.1 (Host.reduce_andi_all _ _ _ _ _ h2 i)
    exact between _ 56 (by decide) a b

end Cert.TablePre

end
-- ==== Proof.WordRun.lean ====
module

public import proofs.«01_k».proof.Proof.Gen.Kernel5.Flash.Runs
public import Idealize.ShloMosaic.Lib.VecWindow
public import Idealize.ShloMosaic.Lib.Pipeline.TableIdle

/-! One point of the expert product, in plain terms: which weights the two scratch buffers hold after it and which rows its output block holds, from the blocks it is handed, the two tables and what the scratch buffers held before. -/

@[expose] public section

noncomputable section

namespace Cert.Kernel5.Up

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

variable (T0 : S56.Idx → Elt Bits .i32) (T1 : S1.Idx → Elt Bits .i32) (i : grid0.Coords)

/-- The expert changes at the point: it is the first tile, or the tile before has another entry. -/
abbrev Chg : Prop :=
  Scalar.cmpi .ne (Scalar.extui (Scalar.ori (Scalar.cmpi .eq (BitVec.ofNat 32 (i 1).val) 0#32) (Scalar.cmpi .ne
    (View.readAt (Elt Bits) (tbM0_0).view (Rect.unit (s := S56) (k0_off1 i) S1.size (k0_off1_inb i)).toLoadRect T0 (Shape.Idx.first (numel1_S1.symm ▸ Nat.one_pos)))
    (View.readAt (Elt Bits) (tbM0_0).view (Rect.unit (s := S56) (k0_off2 i) S1.size (k0_off2_inb i)).toLoadRect T0 (Shape.Idx.first (numel1_S1.symm ▸ Nat.one_pos)))))) 0#32 = 1#1

/-- The number of used tiles, as the point reads it. -/
abbrev count : BitVec 32 :=
  View.readAt (Elt Bits) (tbM0_1).view (Rect.unit (s := S1) ![0] S1.size inb_S1_S1_0).toLoadRect T1 (Shape.Idx.first (numel1_S1.symm ▸ Nat.one_pos))

/-- The point's tile is used. -/
abbrev Use : Prop := k0_cond2 i (count T1) = 1#1

/-- The point's tile is padding. -/
abbrev Pad : Prop := k0_cond3 i (count T1) = 1#1

open Classical in
/-- What the first scratch buffer holds after the point. -/
def first (x1 : S1x1x1024x1792.Idx → Elt Bits .f32) (xa : S1024x1792.Idx → Elt Bits .bf16) : S1024x1792.Idx → Elt Bits .bf16 :=
  if Chg T0 i then k0_pay1 (F := Bits) x1 else xa

open Classical in
/-- What the second scratch buffer holds after the point. -/
def second (x2 : S1x1x1024x1792.Idx → Elt Bits .f32) (xa : S1024x1792.Idx → Elt Bits .bf16) : S1024x1792.Idx → Elt Bits .bf16 :=
  if Chg T0 i then k0_pay2 (F := Bits) x2 else xa

open Classical in
/-- What the output block holds after the point, from the rows and the two scratch buffers. -/
def result (x0 : S512x1024.Idx → Elt Bits .bf16) (s0 s1 : S1024x1792.Idx → Elt Bits .bf16) : S512x1792.Idx → Elt Bits .bf16 :=
  if Use T1 i then k0_pay3 (F := Bits) x0 s0 s1 else k0_pay4 (F := Bits)

theorem first_pos {x1 : S1x1x1024x1792.Idx → Elt Bits .f32} {xa : S1024x1792.Idx → Elt Bits .bf16} (h : Chg T0 i) :
    first T0 i x1 xa = k0_pay1 (F := Bits) x1 := by unfold first; exact if_pos h
theorem first_neg {x1 : S1x1x1024x1792.Idx → Elt Bits .f32} {xa : S1024x1792.Idx → Elt Bits .bf16} (h : ¬ Chg T0 i) :
    first T0 i x1 xa = xa := by unfold first; exact if_neg h
theorem second_pos {x2 : S1x1x1024x1792.Idx → Elt Bits .f32} {xa : S1024x1792.Idx → Elt Bits .bf16} (h : Chg T0 i) :
    second T0 i x2 xa = k0_pay2 (F := Bits) x2 := by unfold second; exact if_pos h
theorem second_neg {x2 : S1x1x1024x1792.Idx → Elt Bits .f32} {xa : S1024x1792.Idx → Elt Bits .bf16} (h : ¬ Chg T0 i) :
    second T0 i x2 xa = xa := by unfold second; exact if_neg h
theorem result_pos {x0 : S512x1024.Idx → Elt Bits .bf16} {s0 s1 : S1024x1792.Idx → Elt Bits .bf16} (h : Use T1 i) :
    result T1 i x0 s0 s1 = k0_pay3 (F := Bits) x0 s0 s1 := by unfold result; exact if_pos h
theorem result_neg {x0 : S512x1024.Idx → Elt Bits .bf16} {s0 s1 : S1024x1792.Idx → Elt Bits .bf16} (h : ¬ Use T1 i) :
    result T1 i x0 s0 s1 = k0_pay4 (F := Bits) := by unfold result; exact if_neg h

/-- A whole buffer's contents after a store of all of it. -/
theorem whole_writes {b : Ref sig .tc} (f : b.ty.Contents (Elt Bits)) {off : Fin b.ty.shape.rank → ℕ} (inb : ∀ a, off a + b.ty.shape.size a ≤ b.ty.shape.size a)
    (w : (Rect.unit off b.ty.shape.size inb).shape.Idx → Elt Bits b.ty.elt) :
    (View.whole b).writes (Elt Bits) f [⟨Rect.unit off b.ty.shape.size inb, w⟩] = w :=
  (View.read_whole b _).symm.trans (View.read_writes_full (View.whole b) f inb w [])

section
variable (c : Dev nD) (arg4 : Memref sig .tc .vmem S512x1024 .bf16) (harg4 : arg4.IsWhole) (arg5 : Memref sig .tc .vmem S1x1x1024x1792 .f32) (harg5 : arg5.IsWhole)
    (arg6 : Memref sig .tc .vmem S1x1x1024x1792 .f32) (harg6 : arg6.IsWhole) (arg7 : Memref sig .tc .vmem S512x1792 .bf16) (harg7 : arg7.IsWhole)
    (x0 : S512x1024.Idx → Elt Bits .bf16) (x1 x2 : S1x1x1024x1792.Idx → Elt Bits .f32) (s0 s1 : S1024x1792.Idx → Elt Bits .bf16)

theorem A_first (h1 h2 h3) :
    (kernelRun0_A c i arg4 harg4 arg5 harg5 arg6 harg6 arg7 harg7 T0 T1 x0 x1 x2 h1 h2 h3).2.1 = k0_pay1 (F := Bits) x1 := by
  dsimp only [kernelRun0_A, kernelRun0_A.sl.HS0_1]
  refine (whole_writes (b := cc0_scratch0) _ _ _).trans ?_
  rw [View.readAt_rep_full]

theorem A_second (h1 h2 h3) :
    (kernelRun0_A c i arg4 harg4 arg5 harg5 arg6 harg6 arg7 harg7 T0 T1 x0 x1 x2 h1 h2 h3).2.2.1 = k0_pay2 (F := Bits) x2 := by
  dsimp only [kernelRun0_A, kernelRun0_A.sl.HS1_1]
  refine (whole_writes (b := cc0_scratch1) _ _ _).trans ?_
  rw [View.readAt_rep_full]

theorem D_first (h1 h2 h3) :
    (kernelRun0_D c i arg4 harg4 arg5 harg5 arg6 harg6 arg7 harg7 T0 T1 x0 x1 x2 h1 h2 h3).2.1 = k0_pay1 (F := Bits) x1 := by
  dsimp only [kernelRun0_D, kernelRun0_D.sl.HS0_1]
  refine (whole_writes (b := cc0_scratch0) _ _ _).trans ?_
  rw [View.readAt_rep_full]

theorem D_second (h1 h2 h3) :
    (kernelRun0_D c i arg4 harg4 arg5 harg5 arg6 harg6 arg7 harg7 T0 T1 x0 x1 x2 h1 h2 h3).2.2.1 = k0_pay2 (F := Bits) x2 := by
  dsimp only [kernelRun0_D, kernelRun0_D.sl.HS1_1]
  refine (whole_writes (b := cc0_scratch1) _ _ _).trans ?_
  rw [View.readAt_rep_full]

theorem A_out (h1 h2 h3) (f) :
    arg7.view.read (Elt Bits) (arg7.view.writes (Elt Bits) f (kernelRun0_A c i arg4 harg4 arg5 harg5 arg6 harg6 arg7 harg7 T0 T1 x0 x1 x2 h1 h2 h3).1)
      = k0_pay3 (F := Bits) x0 (k0_pay1 (F := Bits) x1) (k0_pay2 (F := Bits) x2) := by
  dsimp only [kernelRun0_A, kernelRun0_A.sl.HO3_1]
  refine (View.read_writes_full arg7.view f _ _ []).trans ?_
  dsimp only [kernelRun0_A.sl.v20, kernelRun0_A.sl.v22, kernelRun0_A.sl.HS0_1, kernelRun0_A.sl.HS1_1]
  rw [View.readAt_rep_full]
  refine congrArg₂ (k0_pay3 (F := Bits) x0) ((View.readCov_full scM0_0.view _ _ _ []).trans ?_) ((View.readCov_full scM0_1.view _ _ _ []).trans ?_)
  · rw [View.readAt_rep_full]
  · rw [View.readAt_rep_full]

theorem B_out (h1 h2 h3) (f) :
    arg7.view.read (Elt Bits) (arg7.view.writes (Elt Bits) f (kernelRun0_B c i arg4 harg4 arg5 harg5 arg6 harg6 arg7 harg7 T0 T1 x0 x1 x2 s0 s1 h1 h2 h3).1)
      = k0_pay3 (F := Bits) x0 s0 s1 := by
  dsimp only [kernelRun0_B, kernelRun0_B.sl.HO3_1]
  refine (View.read_writes_full arg7.view f _ _ []).trans ?_
  rw [View.readAt_rep_full]
  exact congrArg₂ (k0_pay3 (F := Bits) x0) (View.readAt_full scM0_0.view s0 _) (View.readAt_full scM0_1.view s1 _)

theorem C_out (h1 h2 h3) (f) :
    arg7.view.read (Elt Bits) (arg7.view.writes (Elt Bits) f (kernelRun0_C c i arg4 harg4 arg5 harg5 arg6 harg6 arg7 harg7 T0 T1 x0 x1 x2 s0 s1 h1 h2 h3).1)
      = k0_pay4 (F := Bits) := by
  dsimp only [kernelRun0_C, kernelRun0_C.sl.HO3_1]
  exact View.read_writes_full arg7.view f _ _ []

theorem D_out (h1 h2 h3) (f) :
    arg7.view.read (Elt Bits) (arg7.view.writes (Elt Bits) f (kernelRun0_D c i arg4 harg4 arg5 harg5 arg6 harg6 arg7 harg7 T0 T1 x0 x1 x2 h1 h2 h3).1)
      = k0_pay4 (F := Bits) := by
  dsimp only [kernelRun0_D, kernelRun0_D.sl.HO3_1]
  exact View.read_writes_full arg7.view f _ _ []

end

/-- What a point holds: the three input blocks, the two tables, something of the output block, the two scratch buffers. -/
abbrev held (c : Dev nD) (arg4 : Memref sig .tc .vmem S512x1024 .bf16) (arg5 arg6 : Memref sig .tc .vmem S1x1x1024x1792 .f32)
    (x0 : S512x1024.Idx → Elt Bits .bf16) (x1 x2 : S1x1x1024x1792.Idx → Elt Bits .f32) (O : sProp 𝕄) (s0 s1 : S1024x1792.Idx → Elt Bits .bf16) (R : sProp 𝕄) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (tbM0_0.view.loc (c : Thread nD τ) ↦{fullShare.right} T0)
    ∗ (tbM0_1.view.loc (c : Thread nD τ) ↦{fullShare.right} T1)
    ∗ O
    ∗ (scM0_0.view.loc (c : Thread nD τ) ↦{fullShare} (s0 : Buf (Elt Bits) ((c : Thread nD τ).loc cc0_scratch0)))
    ∗ (scM0_1.view.loc (c : Thread nD τ) ↦{fullShare} (s1 : Buf (Elt Bits) ((c : Thread nD τ).loc cc0_scratch1)))
    ∗ R)

/-- The same, with nothing after it. -/
abbrev left (c : Dev nD) (arg4 : Memref sig .tc .vmem S512x1024 .bf16) (arg5 arg6 : Memref sig .tc .vmem S1x1x1024x1792 .f32)
    (x0 : S512x1024.Idx → Elt Bits .bf16) (x1 x2 : S1x1x1024x1792.Idx → Elt Bits .f32) (O : sProp 𝕄) (s0 s1 : S1024x1792.Idx → Elt Bits .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (tbM0_0.view.loc (c : Thread nD τ) ↦{fullShare.right} T0)
    ∗ (tbM0_1.view.loc (c : Thread nD τ) ↦{fullShare.right} T1)
    ∗ O
    ∗ (scM0_0.view.loc (c : Thread nD τ) ↦{fullShare} (s0 : Buf (Elt Bits) ((c : Thread nD τ).loc cc0_scratch0)))
    ∗ (scM0_1.view.loc (c : Thread nD τ) ↦{fullShare} (s1 : Buf (Elt Bits) ((c : Thread nD τ).loc cc0_scratch1))))

/-- A triple whose output block is a list of stores reading back as `o` and whose scratch buffers end at `s0`, `s1`, stated by `o`, `s0`, `s1`. -/
theorem close (c : Dev nD) (arg4 : Memref sig .tc .vmem S512x1024 .bf16) (arg5 arg6 : Memref sig .tc .vmem S1x1x1024x1792 .f32) (arg7 : Memref sig .tc .vmem S512x1792 .bf16)
    (x0 : S512x1024.Idx → Elt Bits .bf16) (x1 x2 : S1x1x1024x1792.Idx → Elt Bits .f32) (xa0 xa1 s0 s1 r0 r1 : S1024x1792.Idx → Elt Bits .bf16)
    (o : S512x1792.Idx → Elt Bits .bf16) (L : List (View.Piece (Elt Bits) S512x1792 .bf16)) (W : (PUnit → sProp 𝕄) → sProp 𝕄)
    (eo : ∀ f, arg7.view.read (Elt Bits) (arg7.view.writes (Elt Bits) f L) = o) (e0 : r0 = s0) (e1 : r1 = s1)
    (h : ∀ K : PUnit → sProp 𝕄, held T0 T1 c arg4 arg5 arg6 x0 x1 x2 iprop(∃ d, owns (c : Thread nD τ) arg7 fullShare d) xa0 xa1
      iprop(left T0 T1 c arg4 arg5 arg6 x0 x1 x2 iprop(∃ f, arg7.view.loc (c : Thread nD τ) ↦[arg7.view.set]{fullShare} arg7.view.writes (Elt Bits) f L) r0 r1 -∗ K ⟨⟩) ⊢ W K)
    (K : PUnit → sProp 𝕄) :
    held T0 T1 c arg4 arg5 arg6 x0 x1 x2 iprop(∃ d, owns (c : Thread nD τ) arg7 fullShare d) xa0 xa1
      iprop(left T0 T1 c arg4 arg5 arg6 x0 x1 x2 iprop(owns (c : Thread nD τ) arg7 fullShare o) s0 s1 -∗ K ⟨⟩) ⊢ W K := by
  subst e0 e1
  iintro ⟨H0, H1, H2, HT0, HT1, HO, HS0, HS1, Hk⟩
  iapply (h K)
  isplitl [H0]; · iexact H0
  isplitl [H1]; · iexact H1
  isplitl [H2]; · iexact H2
  isplitl [HT0]; · iexact HT0
  isplitl [HT1]; · iexact HT1
  isplitl [HO]; · iexact HO
  isplitl [HS0]; · iexact HS0
  isplitl [HS1]; · iexact HS1
  iintro ⟨H0, H1, H2, HT0, HT1, ⟨%f, HO⟩, HS0, HS1⟩
  iapply Hk
  isplitl [H0]; · iexact H0
  isplitl [H1]; · iexact H1
  isplitl [H2]; · iexact H2
  isplitl [HT0]; · iexact HT0
  isplitl [HT1]; · iexact HT1
  isplitl [HO]
  · unfold owns; iexists _; isplitr; swap; · iexact HO
    ipureintro; exact eo f
  isplitl [HS0]; · iexact HS0
  iexact HS1

/-- The point, from its blocks: the inputs and tables are as they were, the output block holds `result` and the scratch buffers `first` and `second`. -/
theorem run (c : Dev nD) (hp : Pad T1 i ↔ ¬ Use T1 i)
    (arg4 : Memref sig .tc .vmem S512x1024 .bf16) (harg4 : arg4.IsWhole) (arg5 : Memref sig .tc .vmem S1x1x1024x1792 .f32) (harg5 : arg5.IsWhole)
    (arg6 : Memref sig .tc .vmem S1x1x1024x1792 .f32) (harg6 : arg6.IsWhole) (arg7 : Memref sig .tc .vmem S512x1792 .bf16) (harg7 : arg7.IsWhole)
    (x0 : S512x1024.Idx → Elt Bits .bf16) (x1 x2 : S1x1x1024x1792.Idx → Elt Bits .f32) (xa0 xa1 : S1024x1792.Idx → Elt Bits .bf16) (K : PUnit → sProp 𝕄) :
    held T0 T1 c arg4 arg5 arg6 x0 x1 x2 iprop(∃ d, owns (c : Thread nD τ) arg7 fullShare d) xa0 xa1
        iprop(left T0 T1 c arg4 arg5 arg6 x0 x1 x2 iprop(owns (c : Thread nD τ) arg7 fullShare (result T1 i x0 (first T0 i x1 xa0) (second T0 i x2 xa1)))
          (first T0 i x1 xa0) (second T0 i x2 xa1) -∗ K ⟨⟩)
      ⊢ wp frame (wpE (defs₀ (F := Bits)) Variants.none c none) Set.univ (cc0_moe_expert_up i tbM0_0 (Memref.isWhole_whole _) tbM0_1 (Memref.isWhole_whole _) arg4 harg4 arg5 harg5 arg6 harg6 arg7 harg7 scM0_0 (Memref.isWhole_whole _) scM0_1 (Memref.isWhole_whole _)) K := by
  by_cases hc : Chg T0 i
  · rw [first_pos T0 i hc, second_pos T0 i hc]
    by_cases hu : Use T1 i
    · rw [result_pos T1 i hu]
      exact close T0 T1 c arg4 arg5 arg6 arg7 x0 x1 x2 xa0 xa1 _ _ _ _ _ _ (fun K => wp frame _ Set.univ _ K)
        (A_out T0 T1 i c arg4 harg4 arg5 harg5 arg6 harg6 arg7 harg7 x0 x1 x2 hc hu (fun h => hp.mp h hu))
        (A_first T0 T1 i c arg4 harg4 arg5 harg5 arg6 harg6 arg7 harg7 x0 x1 x2 hc hu (fun h => hp.mp h hu))
        (A_second T0 T1 i c arg4 harg4 arg5 harg5 arg6 harg6 arg7 harg7 x0 x1 x2 hc hu (fun h => hp.mp h hu))
        (fun K => (kernelRun0_A c i arg4 harg4 arg5 harg5 arg6 harg6 arg7 harg7 T0 T1 x0 x1 x2 hc hu (fun h => hp.mp h hu)).2.2.2 xa0 xa1 K) K
    · rw [result_neg T1 i hu]
      exact close T0 T1 c arg4 arg5 arg6 arg7 x0 x1 x2 xa0 xa1 _ _ _ _ _ _ (fun K => wp frame _ Set.univ _ K)
        (D_out T0 T1 i c arg4 harg4 arg5 harg5 arg6 harg6 arg7 harg7 x0 x1 x2 hc hu (hp.mpr hu))
        (D_first T0 T1 i c arg4 harg4 arg5 harg5 arg6 harg6 arg7 harg7 x0 x1 x2 hc hu (hp.mpr hu))
        (D_second T0 T1 i c arg4 harg4 arg5 harg5 arg6 harg6 arg7 harg7 x0 x1 x2 hc hu (hp.mpr hu))
        (fun K => (kernelRun0_D c i arg4 harg4 arg5 harg5 arg6 harg6 arg7 harg7 T0 T1 x0 x1 x2 hc hu (hp.mpr hu)).2.2.2 xa0 xa1 K) K
  · rw [first_neg T0 i hc, second_neg T0 i hc]
    by_cases hu : Use T1 i
    · rw [result_pos T1 i hu]
      exact close T0 T1 c arg4 arg5 arg6 arg7 x0 x1 x2 xa0 xa1 _ _ xa0 xa1 _ _ (fun K => wp frame _ Set.univ _ K)
        (B_out T0 T1 i c arg4 harg4 arg5 harg5 arg6 harg6 arg7 harg7 x0 x1 x2 xa0 xa1 hc hu (fun h => hp.mp h hu)) rfl rfl
        (fun K => (kernelRun0_B c i arg4 harg4 arg5 harg5 arg6 harg6 arg7 harg7 T0 T1 x0 x1 x2 xa0 xa1 hc hu (fun h => hp.mp h hu)).2.2.2 K) K
    · rw [result_neg T1 i hu]
      exact close T0 T1 c arg4 arg5 arg6 arg7 x0 x1 x2 xa0 xa1 _ _ xa0 xa1 _ _ (fun K => wp frame _ Set.univ _ K)
        (C_out T0 T1 i c arg4 harg4 arg5 harg5 arg6 harg6 arg7 harg7 x0 x1 x2 xa0 xa1 hc hu (hp.mpr hu)) rfl rfl
        (fun K => (kernelRun0_C c i arg4 harg4 arg5 harg5 arg6 harg6 arg7 harg7 T0 T1 x0 x1 x2 xa0 xa1 hc hu (hp.mpr hu)).2.2.2 K) K

end Cert.Kernel5.Up

end

end
-- ==== Proof.TableWords.lean ====
module

public import Idealize.ShloMosaic.PureOps
public import Idealize.ShloMosaic.Lib.WordCmp
public import Idealize.ShloMosaic.Lib.StableHlo.Predicate

/-! The words an expert product reads from its two tables: which comparisons of them hold, and which numbers they name. -/

@[expose] public section

namespace Cert.TableWords

open Idealize.ShloMosaic

/-- A truth value widened to a word and compared with zero is the truth value. -/
theorem cond_iff (b : BitVec 1) : Scalar.cmpi .ne (Scalar.extui b) 0#32 = 1#1 ↔ b = 1#1 := by
  revert b; decide

/-- A small number's word reads back as the number. -/
theorem toNat_small {j : ℕ} (hj : j < 56) : (BitVec.ofNat 32 j).toNat = j :=
  (BitVec.toNat_ofNat ..).trans (Nat.mod_eq_of_lt (by omega))

/-- The signed order of two words that are not negative is the order of their numbers. -/
theorem slt_small {a b : BitVec 32} (ha : a.toNat < 2 ^ 31) (hb : b.toNat < 2 ^ 31) : a.slt b = decide (a.toNat < b.toNat) := by
  rw [BitVec.slt_eq_decide, BitVec.toInt_eq_toNat_of_lt (by omega), BitVec.toInt_eq_toNat_of_lt (by omega)]
  exact decide_eq_decide.mpr (by omega)

/-- Likewise the signed order with equality. -/
theorem sle_small {a b : BitVec 32} (ha : a.toNat < 2 ^ 31) (hb : b.toNat < 2 ^ 31) : a.sle b = decide (a.toNat ≤ b.toNat) := by
  rw [BitVec.sle_eq_decide, BitVec.toInt_eq_toNat_of_lt (by omega), BitVec.toInt_eq_toNat_of_lt (by omega)]
  exact decide_eq_decide.mpr (by omega)

/-- "Tile `j` is used": the kernel's comparison `j < n`. -/
theorem used_iff {j : ℕ} (hj : j < 56) {n : BitVec 32} (hn : n.toNat ≤ 56) :
    Scalar.cmpi .ne (Scalar.extui (Scalar.cmpi .slt (BitVec.ofNat 32 j) n)) 0#32 = 1#1 ↔ j < n.toNat := by
  rw [cond_iff]
  show BitVec.ofBool ((BitVec.ofNat 32 j).slt n) = 1#1 ↔ _
  rw [slt_small (by rw [toNat_small hj]; omega) (by omega), toNat_small hj]
  by_cases h : j < n.toNat <;> simp [h]

/-- "Tile `j` is not used": the kernel's comparison `j ≥ n`. -/
theorem unused_iff {j : ℕ} (hj : j < 56) {n : BitVec 32} (hn : n.toNat ≤ 56) :
    Scalar.cmpi .ne (Scalar.extui (Scalar.cmpi .sge (BitVec.ofNat 32 j) n)) 0#32 = 1#1 ↔ n.toNat ≤ j := by
  rw [cond_iff]
  show BitVec.ofBool (n.sle (BitVec.ofNat 32 j)) = 1#1 ↔ _
  rw [sle_small (by omega) (by rw [toNat_small hj]; omega), toNat_small hj]
  by_cases h : n.toNat ≤ j <;> simp [h]

/-- "The expert changes at tile `j`": the first tile, or another table entry than the tile before. -/
theorem changed_iff {j : ℕ} (hj : j < 56) (a b : BitVec 32) :
    Scalar.cmpi .ne (Scalar.extui (Scalar.ori (Scalar.cmpi .eq (BitVec.ofNat 32 j) 0#32) (Scalar.cmpi .ne a b))) 0#32 = 1#1
      ↔ j = 0 ∨ a ≠ b := by
  rw [cond_iff]
  show BitVec.ofBool (BitVec.ofNat 32 j == 0#32) ||| BitVec.ofBool (a != b) = 1#1 ↔ _
  have e : (BitVec.ofNat 32 j == 0#32) = decide (j = 0) := by
    rw [beq_eq_decide]
    refine decide_eq_decide.mpr ⟨fun h => ?_, fun h => by rw [h]⟩
    have := congrArg BitVec.toNat h
    rwa [toNat_small hj] at this
  rw [e, bne, beq_eq_decide]
  by_cases h : j = 0 <;> by_cases h' : a = b <;> simp [h, h']

/-- The tile read at tile `j`: `j` itself, or the last used tile. -/
theorem row_toNat {j : ℕ} (hj : j < 56) {n : BitVec 32} (h1 : 1 ≤ n.toNat) (h2 : n.toNat ≤ 56) :
    (Scalar.minsi (BitVec.ofNat 32 j) (Scalar.subi n 1#32)).toNat = min j (n.toNat - 1) := by
  have hs : (n - 1#32).toNat = n.toNat - 1 := by
    rw [BitVec.toNat_sub_of_le (by rw [BitVec.le_def]; exact h1)]; rfl
  show (if (BitVec.ofNat 32 j).slt (n - 1#32) then BitVec.ofNat 32 j else n - 1#32).toNat = _
  rw [slt_small (by rw [toNat_small hj]; omega) (by omega), toNat_small hj, hs]
  by_cases h : j < n.toNat - 1
  · rw [if_pos (by simpa using h), toNat_small hj]; omega
  · rw [if_neg (by simpa using h), hs]; omega

/-- The tile before tile `j`: zero's is itself. -/
theorem prev_toNat {j : ℕ} (hj : j < 56) : (Scalar.maxsi (Scalar.subi (BitVec.ofNat 32 j) 1#32) 0#32).toNat = j - 1 := by
  exact (by decide +kernel : ∀ k : Fin 56, (Scalar.maxsi (Scalar.subi (BitVec.ofNat 32 k.val) 1#32) 0#32).toNat = k.val - 1) ⟨j, hj⟩

end Cert.TableWords

end
-- ==== Proof.WordFrame.lean ====
module

public import proofs.«01_k».proof.Proof.WordTables
public import proofs.«01_k».proof.Proof.Gen.Kernel5.Launch
public import Idealize.ShloMosaic.Lib.Pipeline.Quiescent
public import Idealize.ShloMosaic.Lib.Pipeline.Kit
public import Idealize.ShloMosaic.Lib.Pipeline.FrameBody
public import Idealize.ShloMosaic.Lib.Claim
public import Idealize.ShloMosaic.Adequacy
public import Idealize.ShloMosaic.Init

/-! The expert product at any admissible tables: the pipeline at the tables the memory holds, the two scratch buffers point by point, the obligation of a point, and the run of the whole call. -/

@[expose] public section

noncomputable section

namespace Cert.Kernel5.Up

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the staging cells, embedded whole. -/
abbrev EP : Emb (UR sig nD τ) 𝕄 := emb₁

variable (m : (ℓ : Loc nD τ sig) → Buf (Elt Bits) ℓ) (ρ : Dev nD → PrngReg)

/-- The table of experts the memory holds. -/
def experts : S56.Idx → BitVec 32 := m (((0 : Dev nD) : Thread nD τ).loc main_arg1)

/-- The count of used tiles the memory holds. -/
def used : S1.Idx → BitVec 32 := m (((0 : Dev nD) : Thread nD τ).loc main_arg2)

variable (h : Tab (experts m) (used m))

/-- The tables, admissible; the pipeline at them. -/
def adm : (pcfg0 (F := Bits)).Adm := ⟨pf (experts m) (used m), ok h⟩
abbrev cfgA : Pipeline.Cfg sig Λ₀ := cfg0 (F := Bits) (adm m h)
abbrev pcs : Fin 1 → Pipeline.Cfg sig Λ₀ := Pipeline.pin (pcfgs (F := Bits)) fun _ => adm m h

/-- A point's coordinates. -/
abbrev crd (t : Fin (cfgA m h).N) : grid0.Coords := (cfgA m h).grid.coords t

/-- Each window's current staging buffer. -/
abbrev stg0 (t : Fin (cfgA m h).N) : Memref sig .tc .vmem S512x1024 .bf16 := spec0_0.stage ((cfgA m h).slots t (0 : Fin 4))
abbrev stg1 (t : Fin (cfgA m h).N) : Memref sig .tc .vmem S1x1x1024x1792 .f32 := spec0_1.stage ((cfgA m h).slots t (1 : Fin 4))
abbrev stg2 (t : Fin (cfgA m h).N) : Memref sig .tc .vmem S1x1x1024x1792 .f32 := spec0_2.stage ((cfgA m h).slots t (2 : Fin 4))
abbrev stg3 (t : Fin (cfgA m h).N) : Memref sig .tc .vmem S512x1792 .bf16 := spec0_3.stage ((cfgA m h).slots t (3 : Fin 4))

/-- A window's block at a point, read off its array at launch. -/
def iblk (c : Dev nD) (w : Fin (cfgA m h).W) (t : Fin (cfgA m h).N) : (((cfgA m h).win w).xblock (crd m h t)).Idx → Elt Bits ((cfgA m h).win w).elt :=
  (((cfgA m h).win w).blk t).view.read (Elt Bits) ((s₀ m ρ).mem (((cfgA m h).win w).arr.view.loc (c : Thread nD τ)))

/-- What the first scratch buffer holds before point `n`. -/
def fst (c : Dev nD) : ℕ → S1024x1792.Idx → Elt Bits .bf16
  | 0 => default
  | n + 1 => if hn : n < (cfgA m h).N then first (experts m) (crd m h ⟨n, hn⟩) (iblk m ρ h c (1 : Fin 4) ⟨n, hn⟩) (fst c n) else fst c n

/-- What the second scratch buffer holds before point `n`. -/
def snd (c : Dev nD) : ℕ → S1024x1792.Idx → Elt Bits .bf16
  | 0 => default
  | n + 1 => if hn : n < (cfgA m h).N then second (experts m) (crd m h ⟨n, hn⟩) (iblk m ρ h c (2 : Fin 4) ⟨n, hn⟩) (snd c n) else snd c n

/-- The output block after a point. -/
def out (c : Dev nD) (t : Fin (cfgA m h).N) : S512x1792.Idx → Elt Bits .bf16 :=
  result (used m) (crd m h t) (iblk m ρ h c (0 : Fin 4) t) (fst m ρ h c (t.val + 1)) (snd m ρ h c (t.val + 1))

theorem fst_succ (c : Dev nD) (t : Fin (cfgA m h).N) :
    fst m ρ h c (t.val + 1) = first (experts m) (crd m h t) (iblk m ρ h c (1 : Fin 4) t) (fst m ρ h c t.val) := by
  rw [fst]; exact dif_pos t.isLt

theorem snd_succ (c : Dev nD) (t : Fin (cfgA m h).N) :
    snd m ρ h c (t.val + 1) = second (experts m) (crd m h t) (iblk m ρ h c (2 : Fin 4) t) (snd m ρ h c t.val) := by
  rw [snd]; exact dif_pos t.isLt

/-- Points are numbered tile by tile, one column block after the other. -/
theorem coords_tile : ∀ t : Fin grid0.N, (grid0.coords t 1).val = t.val % 56 := by decide +kernel
theorem coords_column : ∀ t : Fin grid0.N, (grid0.coords t 0).val = t.val / 56 := by decide +kernel

/-- At the first point the expert changes. -/
theorem chg_zero (t : Fin (cfgA m h).N) (h0 : t.val = 0) : Chg (experts m) (crd m h t) :=
  (chg_iff (experts m) (crd m h t)).mpr (.inl ((coords_tile t).trans (by rw [h0])))

/-- A point's first scratch buffer, whatever it held before the first point. -/
theorem fst_step (c : Dev nD) (t : Fin (cfgA m h).N) (a : S1024x1792.Idx → Elt Bits .bf16) (ha : t.val ≠ 0 → a = fst m ρ h c t.val) :
    first (experts m) (crd m h t) (iblk m ρ h c (1 : Fin 4) t) a = fst m ρ h c (t.val + 1) := by
  rw [fst_succ]
  by_cases h0 : t.val = 0
  · rw [first_pos _ _ (chg_zero m h t h0), first_pos _ _ (chg_zero m h t h0)]
  · rw [ha h0]

theorem snd_step (c : Dev nD) (t : Fin (cfgA m h).N) (a : S1024x1792.Idx → Elt Bits .bf16) (ha : t.val ≠ 0 → a = snd m ρ h c t.val) :
    second (experts m) (crd m h t) (iblk m ρ h c (2 : Fin 4) t) a = snd m ρ h c (t.val + 1) := by
  rw [snd_succ]
  by_cases h0 : t.val = 0
  · rw [second_pos _ _ (chg_zero m h t h0), second_pos _ _ (chg_zero m h t h0)]
  · rw [ha h0]

/-- What a core holds before point `n`: the scratch buffers, at what the points so far left in them, and its halves of the tables. -/
def inv (c : Dev nD) (n : ℕ) : sProp 𝕄 :=
  iprop((∃ a : S1024x1792.Idx → Elt Bits .bf16, ⌜n ≠ 0 → a = fst m ρ h c n⌝ ∗ (scM0_0.view.loc (c : Thread nD τ) ↦{fullShare} (a : Buf (Elt Bits) ((c : Thread nD τ).loc cc0_scratch0))))
    ∗ (∃ a : S1024x1792.Idx → Elt Bits .bf16, ⌜n ≠ 0 → a = snd m ρ h c n⌝ ∗ (scM0_1.view.loc (c : Thread nD τ) ↦{fullShare} (a : Buf (Elt Bits) ((c : Thread nD τ).loc cc0_scratch1))))
    ∗ (tbM0_0.view.loc (c : Thread nD τ) ↦{fullShare.right} experts m) ∗ (tbM0_1.view.loc (c : Thread nD τ) ↦{fullShare.right} used m))

/-- The pipeline's proof data. -/
def dats (_ : Fin 1) (c : Dev nD) : Dat τ (Elt Bits) Unit ℕ (UR sig nD τ) ℕ (cfgA m h) c where
  A w := (s₀ m ρ).mem (((cfgA m h).win w).arr.view.loc (c : Thread nD τ))
  after w t := match w with
    | ⟨0, _⟩ => iblk m ρ h c (0 : Fin 4) t
    | ⟨1, _⟩ => iblk m ρ h c (1 : Fin 4) t
    | ⟨2, _⟩ => iblk m ρ h c (2 : Fin 4) t
    | ⟨3, _⟩ => out m ρ h c t
  Φ t := inv m ρ h c t.val
  q _ := fullShare
  owed _ := 0

theorem after_0 (c : Dev nD) (t : Fin (cfgA m h).N) : (dats m ρ h 0 c).after (0 : Fin 4) t = iblk m ρ h c (0 : Fin 4) t := rfl
theorem after_1 (c : Dev nD) (t : Fin (cfgA m h).N) : (dats m ρ h 0 c).after (1 : Fin 4) t = iblk m ρ h c (1 : Fin 4) t := rfl
theorem after_2 (c : Dev nD) (t : Fin (cfgA m h).N) : (dats m ρ h 0 c).after (2 : Fin 4) t = iblk m ρ h c (2 : Fin 4) t := rfl
theorem after_3 (c : Dev nD) (t : Fin (cfgA m h).N) : (dats m ρ h 0 c).after (3 : Fin 4) t = out m ρ h c t := rfl

/-- The rows a point is handed are its block's. -/
theorem before_0 (c : Dev nD) (t : Fin (cfgA m h).N) (d) : (dats m ρ h 0 c).before (0 : Fin 4) t d = iblk m ρ h c (0 : Fin 4) t :=
  ((dats m ρ h 0 c).before_in_eq_fetched (0 : Fin 4) rfl (fun _ => rfl) (fun _ _ _ => rfl) (fun t => by rw [after_0]; unfold Dat.blockOf iblk; rfl) t d).trans
    (by unfold Dat.fetched Dat.blockOf iblk; rfl)

/-- The first weights likewise. -/
theorem before_1 (c : Dev nD) (t : Fin (cfgA m h).N) (d) : (dats m ρ h 0 c).before (1 : Fin 4) t d = iblk m ρ h c (1 : Fin 4) t :=
  ((dats m ρ h 0 c).before_in_eq_fetched (1 : Fin 4) rfl (fun _ => rfl) (fun _ _ _ => rfl) (fun t => by rw [after_1]; unfold Dat.blockOf iblk; rfl) t d).trans
    (by unfold Dat.fetched Dat.blockOf iblk; rfl)

/-- The second weights likewise. -/
theorem before_2 (c : Dev nD) (t : Fin (cfgA m h).N) (d) : (dats m ρ h 0 c).before (2 : Fin 4) t d = iblk m ρ h c (2 : Fin 4) t :=
  ((dats m ρ h 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The body at a point, as the pipeline calls it. -/
abbrev bodyAt (t : Fin (cfgA m h).N) : Prog (TpuEff nD τ sig (Elt Bits) Λ₀ .tc) PUnit :=
  cc0_moe_expert_up (crd m h t) tbM0_0 (Memref.isWhole_whole _) tbM0_1 (Memref.isWhole_whole _)
    (stg0 m h t) (hstage0_0 (((cfgA m h).slots t (0 : Fin 4)).cast nbuf0_0)) (stg1 m h t) (hstage0_1 (((cfgA m h).slots t (1 : Fin 4)).cast nbuf0_1))
    (stg2 m h t) (hstage0_2 (((cfgA m h).slots t (2 : Fin 4)).cast nbuf0_2)) (stg3 m h t) (hstage0_3 (((cfgA m h).slots t (3 : Fin 4)).cast nbuf0_3))
    scM0_0 (Memref.isWhole_whole _) scM0_1 (Memref.isWhole_whole _)

/-- The body at a point, from what the core holds before it. -/
theorem body (c : Dev nD) (t : Fin (cfgA m h).N) (Ow : sProp 𝕄) :
    iprop(inv m ρ h c t.val ∗ Ow
        ∗ owns (c : Thread nD τ) (stg0 m h t) fullShare (iblk m ρ h c (0 : Fin 4) t)
        ∗ owns (c : Thread nD τ) (stg1 m h t) fullShare (iblk m ρ h c (1 : Fin 4) t)
        ∗ owns (c : Thread nD τ) (stg2 m h t) fullShare (iblk m ρ h c (2 : Fin 4) t)
        ∗ (∃ d, owns (c : Thread nD τ) (stg3 m h t) fullShare d))
      ⊢ wp frame (wpE (defs₀ (F := Bits)) Variants.none c none) Set.univ (bodyAt m h t) fun _ =>
          iprop(inv m ρ h c (t.val + 1) ∗ Ow
            ∗ owns (c : Thread nD τ) (stg0 m h t) fullShare (iblk m ρ h c (0 : Fin 4) t)
            ∗ owns (c : Thread nD τ) (stg1 m h t) fullShare (iblk m ρ h c (1 : Fin 4) t)
            ∗ owns (c : Thread nD τ) (stg2 m h t) fullShare (iblk m ρ h c (2 : Fin 4) t)
            ∗ owns (c : Thread nD τ) (stg3 m h t) fullShare (out m ρ h c t)) := by
  rw [owns_eq_rep (c : Thread nD τ) (stg0 m h t), owns_eq_rep (c : Thread nD τ) (stg1 m h t), owns_eq_rep (c : Thread nD τ) (stg2 m h t)]
  unfold inv
  iintro ⟨⟨⟨%a0, %ha0, HS0⟩, ⟨%a1, %ha1, HS1⟩, HT0, HT1⟩, Ho, H0, H1, H2, H3⟩
  iapply (run (experts m) (used m) (crd m h t) c (pad_iff _ h) (stg0 m h t) (hstage0_0 (((cfgA m h).slots t (0 : Fin 4)).cast nbuf0_0)) (stg1 m h t) (hstage0_1 (((cfgA m h).slots t (1 : Fin 4)).cast nbuf0_1))
    (stg2 m h t) (hstage0_2 (((cfgA m h).slots t (2 : Fin 4)).cast nbuf0_2)) (stg3 m h t) (hstage0_3 (((cfgA m h).slots t (3 : Fin 4)).cast nbuf0_3))
    (iblk m ρ h c (0 : Fin 4) t) (iblk m ρ h c (1 : Fin 4) t) (iblk m ρ h c (2 : Fin 4) t) a0 a1 _)
  isplitl [H0]; · iexact H0
  isplitl [H1]; · iexact H1
  isplitl [H2]; · iexact H2
  isplitl [HT0]; · iexact HT0
  isplitl [HT1]; · iexact HT1
  isplitl [H3]; · iexact H3
  isplitl [HS0]; · iexact HS0
  isplitl [HS1]; · iexact HS1
  rw [fst_step m ρ h c t a0 ha0, snd_step m ρ h c t a1 ha1]
  iintro ⟨H0, H1, H2, HT0, HT1, H3, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]; · iexact HT0
    iexact HT1
  isplitl [Ho]; · iexact Ho
  isplitl [H0]; · iexact H0
  isplitl [H1]; · iexact H1
  isplitl [H2]; · iexact H2
  iexact H3

/-- The output window is written at every point. -/
theorem idle_3 (t : Fin (cfgA m h).N) : (cfgA m h).idle (3 : Fin 4) ((cfgA m h).grid.coords t) = false := stored (crd m h t) h

/-- What the core holds at a point's number. -/
theorem inv_at (c : Dev nD) (s : Fin ((cfgA m h).N + 1)) : (dats m ρ h 0 c).Φ s = inv m ρ h c s.val := rfl

/-- The pipeline's obligation of a point. -/
theorem obligation (c : Dev nD) : BodyObligation (dats m ρ h 0 c) (defs₀ (F := Bits)) Variants.none () Set.univ := fun t => by
  rw [bigSep_W0, bigSep_W0]
  rewrite [idle_3]
  simp only [before_0, before_1, before_2, after_0, after_1, after_2, after_3]
  rewrite [inv_at, inv_at, Fin.val_castSucc, Fin.val_succ,
    show (dats m ρ h 0 c).owesAt () t.succ = (dats m ρ h 0 c).owesAt () t.castSucc from rfl]
  iintro ⟨Hi, Ho, ⟨%d0, H0⟩, ⟨%d1, H1⟩, ⟨%d2, H2⟩, ⟨%d3, H3⟩⟩
  iapply (body m ρ h c t ((dats m ρ h 0 c).owesAt () t.castSucc))
  isplitl [Hi]; · iexact Hi
  isplitl [Ho]; · iexact Ho
  isplitl [H0]; · iexact H0
  isplitl [H1]; · iexact H1
  isplitl [H2]; · iexact H2
  iexists _; iexact H3

/-- The cells and tokens the launch starts from. -/
def u₀ : UR sig nD τ :=
  initOf (Pipeline.cells (pcs m h) ((launch0 (F := Bits)).cellOf_inj fun _ => adm m h))
    (Pipeline.launchToks (pcs m h) ((launch0 (F := Bits)).cellOf_inj fun _ => adm m h))

/-- Every window holds its array whole. -/
theorem share_whole (c : Dev nD) (w : Fin (cfgA m h).W) : (dats m ρ h 0 c).share w = fullShare := by
  unfold Dat.share; split <;> rfl

/-- The two tables as the launch hands them over. -/
theorem tables_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- Before the first point: the tables, and scratch buffers holding anything. -/
theorem inv_start (c : Dev nD) :
    iprop(BI.emp ∗ Pipeline.prefHeld pre0 c (fun _ => fullShare.right) (adm m h).1 ∗ Pipeline.scopedRest spec0 c) ⊢ (dats m ρ h 0 c).Φ 0 := by
  rw [tables_held, scopedRest0_eq, inv_at]
  unfold inv
  iintro ⟨-, ⟨HT0, HT1⟩, ⟨%a0, HS0⟩, ⟨%a1, HS1⟩⟩
  isplitl [HS0]
  · iexists a0; isplitr; swap
    · iexact HS0
    · ipureintro; intro h0; exact absurd rfl h0
  isplitl [HS1]
  · iexists a1; isplitr; swap
    · iexact HS1
    · ipureintro; intro h0; exact absurd rfl h0
  isplitl [HT0]
  · iexact HT0
  iexact HT1

/-- After the last point the scratch buffers are given back. -/
theorem inv_end (c : Dev nD) : (dats m ρ h 0 c).Φ (Fin.last (cfgA m h).N) ⊢ iprop(BI.emp ∗ Pipeline.scopedRest spec0 c) := by
  rw [scopedRest0_eq, inv_at]
  unfold inv
  iintro ⟨⟨%a0, -, HS0⟩, ⟨%a1, -, HS1⟩, -, -⟩
  isplitr; · iempintro
  isplitl [HS0]
  · iexists a0; iexact HS0
  iexists a1; iexact HS1

/-- The final memory: every array at what the points wrote, both tables as they were. -/
def Final : PUnit × MemSt nD τ sig (Elt Bits) → Prop := fun r =>
  ∀ c : Dev nD, (∀ w : Fin (cfgA m h).W, r.2.mem (((cfgA m h).win w).arr.view.loc (c : Thread nD τ)) = (dats m ρ h 0 c).arrAt w (cfgA m h).N)
    ∧ ∀ j, r.2.mem ((c : Thread nD τ).loc (pre0.ref j)) = (adm m h).1 j

/-- The tables the pipeline runs at are the ones the memory holds. -/
theorem tables_at (c : Dev nD) (j : Fin 2) : m ((c : Thread nD τ).loc (pre0.ref j)) = (adm m h).1 j := by
  obtain rfl : c = 0 := Subsingleton.elim _ _
  fin_cases j <;> rfl

set_option backward.isDefEq.respectTransparency.types false in
/-- The call runs to its end from any memory whose tables are admissible, every semaphore at zero. -/
theorem runs : θ_run (defs (F := Bits)) (onTc (τ := τ) (main (F := Bits))) (s₀ m ρ) (fun r => Final m ρ h r ∧ r.2.sem = fun _ => 0) :=
  Pipeline.θ_run_region_noSem_pf_quiescent pcfgs (fun _ => adm m h) (dats m ρ h) () ((launch0 (F := Bits)).cellOf_inj fun _ => adm m h) (0 : Fin 1)
    (launch0 (F := Bits)).win.to₀ (launch0 (F := Bits)).pre EP defs₀ Variants.none m ρ main
    (hbody := fun c => (obligation m ρ h c).loose) (hne := (launch0 (F := Bits)).block_pos)
    (harr := (launch0 (F := Bits)).arr_whole) (hstage := (launch0 (F := Bits)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m h) (dats m ρ h) 0 (launch0 (F := Bits)).win.arr_inj c (launch0 (F := Bits)).arr_whole
      (share_whole m ρ h c) _ _ fun _ => rfl)
    (hpf := tables_at m h)
    (X := fun _ => iprop(emp)) (Y := fun _ => iprop(emp)) (Z := fun _ => iprop(emp))
    (hX := fun c => by rw [unscopedRestP0_eq]; iintro -; isplitr <;> iempintro)
    (hin := inv_start m ρ h)
    (hout := inv_end m ρ h)
    (QY := fun _ _ => True)
    (hY := fun c s' => by
      iintro ⟨-, -, HSI⟩; imodintro
      isplitr; · ipureintro; trivial
      iexact HSI)
    (hQ := fun _ hr hz => ⟨fun c => ⟨(hr c).1, (hr c).2.1⟩, hz⟩)

/-- The arguments end as they were, and so do the semaphores; the result ends at what the points wrote. -/
theorem ends : θ_run (defs (F := Bits)) (onTc (τ := τ) (main (F := Bits))) ⟨m, fun _ => 0, ρ⟩ (fun r => (∀ c : Dev nD,
      r.2.mem ((c.tc : Thread nD τ).loc main_v0) = (dats m ρ h 0 c).arrAt (3 : Fin 4) (cfgA m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨(hr.1 c).1 (3 : Fin 4),
    ((hr.1 c).1 (0 : Fin 4)).trans ((dats m ρ h 0 c).arrAt_in (0 : Fin 4) rfl _),
    ((hr.1 c).2 0).trans (tables_at m h c 0).symm, ((hr.1 c).2 1).trans (tables_at m h c 1).symm,
    ((hr.1 c).1 (1 : Fin 4)).trans ((dats m ρ h 0 c).arrAt_in (1 : Fin 4) rfl _),
    ((hr.1 c).1 (2 : Fin 4)).trans ((dats m ρ h 0 c).arrAt_in (2 : Fin 4) rfl _)⟩, hr.2⟩) (runs m ρ h)

end Cert.Kernel5.Up

end

end
-- ==== Proof.UpRun.lean ====
module

public import proofs.«01_k».proof.Proof.Gen.Kernel5Ideal.Flash.Runs
public import Idealize.ShloMosaic.Lib.VecWindow
public import Idealize.ShloMosaic.Lib.Pipeline.TableIdle

/-! One point of the expert product, in plain terms: which weights the two scratch buffers hold after it and which rows its output block holds, from the blocks it is handed, the two tables and what the scratch buffers held before. -/

@[expose] public section

noncomputable section

namespace Cert.Kernel5Ideal.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (T0 : S56.Idx → Elt Ideal .i32) (T1 : S1.Idx → Elt Ideal .i32) (i : grid0.Coords)

/-- The expert changes at the point: it is the first tile, or the tile before has another entry. -/
abbrev Chg : Prop :=
  Scalar.cmpi .ne (Scalar.extui (Scalar.ori (Scalar.cmpi .eq (BitVec.ofNat 32 (i 1).val) 0#32) (Scalar.cmpi .ne
    (View.readAt (Elt Ideal) (tbM0_0).view (Rect.unit (s := S56) (k0_off1 i) S1.size (k0_off1_inb i)).toLoadRect T0 (Shape.Idx.first (numel1_S1.symm ▸ Nat.one_pos)))
    (View.readAt (Elt Ideal) (tbM0_0).view (Rect.unit (s := S56) (k0_off2 i) S1.size (k0_off2_inb i)).toLoadRect T0 (Shape.Idx.first (numel1_S1.symm ▸ Nat.one_pos)))))) 0#32 = 1#1

/-- The number of used tiles, as the point reads it. -/
abbrev count : BitVec 32 :=
  View.readAt (Elt Ideal) (tbM0_1).view (Rect.unit (s := S1) ![0] S1.size inb_S1_S1_0).toLoadRect T1 (Shape.Idx.first (numel1_S1.symm ▸ Nat.one_pos))

/-- The point's tile is used. -/
abbrev Use : Prop := k0_cond2 i (count T1) = 1#1

/-- The point's tile is padding. -/
abbrev Pad : Prop := k0_cond3 i (count T1) = 1#1

open Classical in
/-- What the first scratch buffer holds after the point. -/
def first (x1 : S1x1x1024x1792.Idx → Elt Ideal .f32) (xa : S1024x1792.Idx → Elt Ideal .bf16) : S1024x1792.Idx → Elt Ideal .bf16 :=
  if Chg T0 i then k0_pay1 (F := Ideal) x1 else xa

open Classical in
/-- What the second scratch buffer holds after the point. -/
def second (x2 : S1x1x1024x1792.Idx → Elt Ideal .f32) (xa : S1024x1792.Idx → Elt Ideal .bf16) : S1024x1792.Idx → Elt Ideal .bf16 :=
  if Chg T0 i then k0_pay2 (F := Ideal) x2 else xa

open Classical in
/-- What the output block holds after the point, from the rows and the two scratch buffers. -/
def result (x0 : S512x1024.Idx → Elt Ideal .bf16) (s0 s1 : S1024x1792.Idx → Elt Ideal .bf16) : S512x1792.Idx → Elt Ideal .bf16 :=
  if Use T1 i then k0_pay3 (F := Ideal) x0 s0 s1 else k0_pay4 (F := Ideal)

theorem first_pos {x1 : S1x1x1024x1792.Idx → Elt Ideal .f32} {xa : S1024x1792.Idx → Elt Ideal .bf16} (h : Chg T0 i) :
    first T0 i x1 xa = k0_pay1 (F := Ideal) x1 := by unfold first; exact if_pos h
theorem first_neg {x1 : S1x1x1024x1792.Idx → Elt Ideal .f32} {xa : S1024x1792.Idx → Elt Ideal .bf16} (h : ¬ Chg T0 i) :
    first T0 i x1 xa = xa := by unfold first; exact if_neg h
theorem second_pos {x2 : S1x1x1024x1792.Idx → Elt Ideal .f32} {xa : S1024x1792.Idx → Elt Ideal .bf16} (h : Chg T0 i) :
    second T0 i x2 xa = k0_pay2 (F := Ideal) x2 := by unfold second; exact if_pos h
theorem second_neg {x2 : S1x1x1024x1792.Idx → Elt Ideal .f32} {xa : S1024x1792.Idx → Elt Ideal .bf16} (h : ¬ Chg T0 i) :
    second T0 i x2 xa = xa := by unfold second; exact if_neg h
theorem result_pos {x0 : S512x1024.Idx → Elt Ideal .bf16} {s0 s1 : S1024x1792.Idx → Elt Ideal .bf16} (h : Use T1 i) :
    result T1 i x0 s0 s1 = k0_pay3 (F := Ideal) x0 s0 s1 := by unfold result; exact if_pos h
theorem result_neg {x0 : S512x1024.Idx → Elt Ideal .bf16} {s0 s1 : S1024x1792.Idx → Elt Ideal .bf16} (h : ¬ Use T1 i) :
    result T1 i x0 s0 s1 = k0_pay4 (F := Ideal) := by unfold result; exact if_neg h

/-- A whole buffer's contents after a store of all of it. -/
theorem whole_writes {b : Ref sig .tc} (f : b.ty.Contents (Elt Ideal)) {off : Fin b.ty.shape.rank → ℕ} (inb : ∀ a, off a + b.ty.shape.size a ≤ b.ty.shape.size a)
    (w : (Rect.unit off b.ty.shape.size inb).shape.Idx → Elt Ideal b.ty.elt) :
    (View.whole b).writes (Elt Ideal) f [⟨Rect.unit off b.ty.shape.size inb, w⟩] = w :=
  (View.read_whole b _).symm.trans (View.read_writes_full (View.whole b) f inb w [])

section
variable (c : Dev nD) (arg4 : Memref sig .tc .vmem S512x1024 .bf16) (harg4 : arg4.IsWhole) (arg5 : Memref sig .tc .vmem S1x1x1024x1792 .f32) (harg5 : arg5.IsWhole)
    (arg6 : Memref sig .tc .vmem S1x1x1024x1792 .f32) (harg6 : arg6.IsWhole) (arg7 : Memref sig .tc .vmem S512x1792 .bf16) (harg7 : arg7.IsWhole)
    (x0 : S512x1024.Idx → Elt Ideal .bf16) (x1 x2 : S1x1x1024x1792.Idx → Elt Ideal .f32) (s0 s1 : S1024x1792.Idx → Elt Ideal .bf16)

theorem A_first (h1 h2 h3) :
    (kernelRun0_A c i arg4 harg4 arg5 harg5 arg6 harg6 arg7 harg7 T0 T1 x0 x1 x2 h1 h2 h3).2.1 = k0_pay1 (F := Ideal) x1 := by
  dsimp only [kernelRun0_A, kernelRun0_A.sl.HS0_1]
  refine (whole_writes (b := cc0_scratch0) _ _ _).trans ?_
  rw [View.readAt_rep_full]

theorem A_second (h1 h2 h3) :
    (kernelRun0_A c i arg4 harg4 arg5 harg5 arg6 harg6 arg7 harg7 T0 T1 x0 x1 x2 h1 h2 h3).2.2.1 = k0_pay2 (F := Ideal) x2 := by
  dsimp only [kernelRun0_A, kernelRun0_A.sl.HS1_1]
  refine (whole_writes (b := cc0_scratch1) _ _ _).trans ?_
  rw [View.readAt_rep_full]

theorem D_first (h1 h2 h3) :
    (kernelRun0_D c i arg4 harg4 arg5 harg5 arg6 harg6 arg7 harg7 T0 T1 x0 x1 x2 h1 h2 h3).2.1 = k0_pay1 (F := Ideal) x1 := by
  dsimp only [kernelRun0_D, kernelRun0_D.sl.HS0_1]
  refine (whole_writes (b := cc0_scratch0) _ _ _).trans ?_
  rw [View.readAt_rep_full]

theorem D_second (h1 h2 h3) :
    (kernelRun0_D c i arg4 harg4 arg5 harg5 arg6 harg6 arg7 harg7 T0 T1 x0 x1 x2 h1 h2 h3).2.2.1 = k0_pay2 (F := Ideal) x2 := by
  dsimp only [kernelRun0_D, kernelRun0_D.sl.HS1_1]
  refine (whole_writes (b := cc0_scratch1) _ _ _).trans ?_
  rw [View.readAt_rep_full]

theorem A_out (h1 h2 h3) (f) :
    arg7.view.read (Elt Ideal) (arg7.view.writes (Elt Ideal) f (kernelRun0_A c i arg4 harg4 arg5 harg5 arg6 harg6 arg7 harg7 T0 T1 x0 x1 x2 h1 h2 h3).1)
      = k0_pay3 (F := Ideal) x0 (k0_pay1 (F := Ideal) x1) (k0_pay2 (F := Ideal) x2) := by
  dsimp only [kernelRun0_A, kernelRun0_A.sl.HO3_1]
  refine (View.read_writes_full arg7.view f _ _ []).trans ?_
  dsimp only [kernelRun0_A.sl.v20, kernelRun0_A.sl.v22, kernelRun0_A.sl.HS0_1, kernelRun0_A.sl.HS1_1]
  rw [View.readAt_rep_full]
  refine congrArg₂ (k0_pay3 (F := Ideal) x0) ((View.readCov_full scM0_0.view _ _ _ []).trans ?_) ((View.readCov_full scM0_1.view _ _ _ []).trans ?_)
  · rw [View.readAt_rep_full]
  · rw [View.readAt_rep_full]

theorem B_out (h1 h2 h3) (f) :
    arg7.view.read (Elt Ideal) (arg7.view.writes (Elt Ideal) f (kernelRun0_B c i arg4 harg4 arg5 harg5 arg6 harg6 arg7 harg7 T0 T1 x0 x1 x2 s0 s1 h1 h2 h3).1)
      = k0_pay3 (F := Ideal) x0 s0 s1 := by
  dsimp only [kernelRun0_B, kernelRun0_B.sl.HO3_1]
  refine (View.read_writes_full arg7.view f _ _ []).trans ?_
  rw [View.readAt_rep_full]
  exact congrArg₂ (k0_pay3 (F := Ideal) x0) (View.readAt_full scM0_0.view s0 _) (View.readAt_full scM0_1.view s1 _)

theorem C_out (h1 h2 h3) (f) :
    arg7.view.read (Elt Ideal) (arg7.view.writes (Elt Ideal) f (kernelRun0_C c i arg4 harg4 arg5 harg5 arg6 harg6 arg7 harg7 T0 T1 x0 x1 x2 s0 s1 h1 h2 h3).1)
      = k0_pay4 (F := Ideal) := by
  dsimp only [kernelRun0_C, kernelRun0_C.sl.HO3_1]
  exact View.read_writes_full arg7.view f _ _ []

theorem D_out (h1 h2 h3) (f) :
    arg7.view.read (Elt Ideal) (arg7.view.writes (Elt Ideal) f (kernelRun0_D c i arg4 harg4 arg5 harg5 arg6 harg6 arg7 harg7 T0 T1 x0 x1 x2 h1 h2 h3).1)
      = k0_pay4 (F := Ideal) := by
  dsimp only [kernelRun0_D, kernelRun0_D.sl.HO3_1]
  exact View.read_writes_full arg7.view f _ _ []

end

/-- What a point holds: the three input blocks, the two tables, something of the output block, the two scratch buffers. -/
abbrev held (c : Dev nD) (arg4 : Memref sig .tc .vmem S512x1024 .bf16) (arg5 arg6 : Memref sig .tc .vmem S1x1x1024x1792 .f32)
    (x0 : S512x1024.Idx → Elt Ideal .bf16) (x1 x2 : S1x1x1024x1792.Idx → Elt Ideal .f32) (O : sProp 𝕄) (s0 s1 : S1024x1792.Idx → Elt Ideal .bf16) (R : sProp 𝕄) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (tbM0_0.view.loc (c : Thread nD τ) ↦{fullShare.right} T0)
    ∗ (tbM0_1.view.loc (c : Thread nD τ) ↦{fullShare.right} T1)
    ∗ O
    ∗ (scM0_0.view.loc (c : Thread nD τ) ↦{fullShare} (s0 : Buf (Elt Ideal) ((c : Thread nD τ).loc cc0_scratch0)))
    ∗ (scM0_1.view.loc (c : Thread nD τ) ↦{fullShare} (s1 : Buf (Elt Ideal) ((c : Thread nD τ).loc cc0_scratch1)))
    ∗ R)

/-- The same, with nothing after it. -/
abbrev left (c : Dev nD) (arg4 : Memref sig .tc .vmem S512x1024 .bf16) (arg5 arg6 : Memref sig .tc .vmem S1x1x1024x1792 .f32)
    (x0 : S512x1024.Idx → Elt Ideal .bf16) (x1 x2 : S1x1x1024x1792.Idx → Elt Ideal .f32) (O : sProp 𝕄) (s0 s1 : S1024x1792.Idx → Elt Ideal .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (tbM0_0.view.loc (c : Thread nD τ) ↦{fullShare.right} T0)
    ∗ (tbM0_1.view.loc (c : Thread nD τ) ↦{fullShare.right} T1)
    ∗ O
    ∗ (scM0_0.view.loc (c : Thread nD τ) ↦{fullShare} (s0 : Buf (Elt Ideal) ((c : Thread nD τ).loc cc0_scratch0)))
    ∗ (scM0_1.view.loc (c : Thread nD τ) ↦{fullShare} (s1 : Buf (Elt Ideal) ((c : Thread nD τ).loc cc0_scratch1))))

/-- A triple whose output block is a list of stores reading back as `o` and whose scratch buffers end at `s0`, `s1`, stated by `o`, `s0`, `s1`. -/
theorem close (c : Dev nD) (arg4 : Memref sig .tc .vmem S512x1024 .bf16) (arg5 arg6 : Memref sig .tc .vmem S1x1x1024x1792 .f32) (arg7 : Memref sig .tc .vmem S512x1792 .bf16)
    (x0 : S512x1024.Idx → Elt Ideal .bf16) (x1 x2 : S1x1x1024x1792.Idx → Elt Ideal .f32) (xa0 xa1 s0 s1 r0 r1 : S1024x1792.Idx → Elt Ideal .bf16)
    (o : S512x1792.Idx → Elt Ideal .bf16) (L : List (View.Piece (Elt Ideal) S512x1792 .bf16)) (W : (PUnit → sProp 𝕄) → sProp 𝕄)
    (eo : ∀ f, arg7.view.read (Elt Ideal) (arg7.view.writes (Elt Ideal) f L) = o) (e0 : r0 = s0) (e1 : r1 = s1)
    (h : ∀ K : PUnit → sProp 𝕄, held T0 T1 c arg4 arg5 arg6 x0 x1 x2 iprop(∃ d, owns (c : Thread nD τ) arg7 fullShare d) xa0 xa1
      iprop(left T0 T1 c arg4 arg5 arg6 x0 x1 x2 iprop(∃ f, arg7.view.loc (c : Thread nD τ) ↦[arg7.view.set]{fullShare} arg7.view.writes (Elt Ideal) f L) r0 r1 -∗ K ⟨⟩) ⊢ W K)
    (K : PUnit → sProp 𝕄) :
    held T0 T1 c arg4 arg5 arg6 x0 x1 x2 iprop(∃ d, owns (c : Thread nD τ) arg7 fullShare d) xa0 xa1
      iprop(left T0 T1 c arg4 arg5 arg6 x0 x1 x2 iprop(owns (c : Thread nD τ) arg7 fullShare o) s0 s1 -∗ K ⟨⟩) ⊢ W K := by
  subst e0 e1
  iintro ⟨H0, H1, H2, HT0, HT1, HO, HS0, HS1, Hk⟩
  iapply (h K)
  isplitl [H0]; · iexact H0
  isplitl [H1]; · iexact H1
  isplitl [H2]; · iexact H2
  isplitl [HT0]; · iexact HT0
  isplitl [HT1]; · iexact HT1
  isplitl [HO]; · iexact HO
  isplitl [HS0]; · iexact HS0
  isplitl [HS1]; · iexact HS1
  iintro ⟨H0, H1, H2, HT0, HT1, ⟨%f, HO⟩, HS0, HS1⟩
  iapply Hk
  isplitl [H0]; · iexact H0
  isplitl [H1]; · iexact H1
  isplitl [H2]; · iexact H2
  isplitl [HT0]; · iexact HT0
  isplitl [HT1]; · iexact HT1
  isplitl [HO]
  · unfold owns; iexists _; isplitr; swap; · iexact HO
    ipureintro; exact eo f
  isplitl [HS0]; · iexact HS0
  iexact HS1

/-- The point, from its blocks: the inputs and tables are as they were, the output block holds `result` and the scratch buffers `first` and `second`. -/
theorem run (c : Dev nD) (hp : Pad T1 i ↔ ¬ Use T1 i)
    (arg4 : Memref sig .tc .vmem S512x1024 .bf16) (harg4 : arg4.IsWhole) (arg5 : Memref sig .tc .vmem S1x1x1024x1792 .f32) (harg5 : arg5.IsWhole)
    (arg6 : Memref sig .tc .vmem S1x1x1024x1792 .f32) (harg6 : arg6.IsWhole) (arg7 : Memref sig .tc .vmem S512x1792 .bf16) (harg7 : arg7.IsWhole)
    (x0 : S512x1024.Idx → Elt Ideal .bf16) (x1 x2 : S1x1x1024x1792.Idx → Elt Ideal .f32) (xa0 xa1 : S1024x1792.Idx → Elt Ideal .bf16) (K : PUnit → sProp 𝕄) :
    held T0 T1 c arg4 arg5 arg6 x0 x1 x2 iprop(∃ d, owns (c : Thread nD τ) arg7 fullShare d) xa0 xa1
        iprop(left T0 T1 c arg4 arg5 arg6 x0 x1 x2 iprop(owns (c : Thread nD τ) arg7 fullShare (result T1 i x0 (first T0 i x1 xa0) (second T0 i x2 xa1)))
          (first T0 i x1 xa0) (second T0 i x2 xa1) -∗ K ⟨⟩)
      ⊢ wp frame (wpE (defs₀ (F := Ideal)) Variants.none c none) Set.univ (cc0_moe_expert_up i tbM0_0 (Memref.isWhole_whole _) tbM0_1 (Memref.isWhole_whole _) arg4 harg4 arg5 harg5 arg6 harg6 arg7 harg7 scM0_0 (Memref.isWhole_whole _) scM0_1 (Memref.isWhole_whole _)) K := by
  by_cases hc : Chg T0 i
  · rw [first_pos T0 i hc, second_pos T0 i hc]
    by_cases hu : Use T1 i
    · rw [result_pos T1 i hu]
      exact close T0 T1 c arg4 arg5 arg6 arg7 x0 x1 x2 xa0 xa1 _ _ _ _ _ _ (fun K => wp frame _ Set.univ _ K)
        (A_out T0 T1 i c arg4 harg4 arg5 harg5 arg6 harg6 arg7 harg7 x0 x1 x2 hc hu (fun h => hp.mp h hu))
        (A_first T0 T1 i c arg4 harg4 arg5 harg5 arg6 harg6 arg7 harg7 x0 x1 x2 hc hu (fun h => hp.mp h hu))
        (A_second T0 T1 i c arg4 harg4 arg5 harg5 arg6 harg6 arg7 harg7 x0 x1 x2 hc hu (fun h => hp.mp h hu))
        (fun K => (kernelRun0_A c i arg4 harg4 arg5 harg5 arg6 harg6 arg7 harg7 T0 T1 x0 x1 x2 hc hu (fun h => hp.mp h hu)).2.2.2 xa0 xa1 K) K
    · rw [result_neg T1 i hu]
      exact close T0 T1 c arg4 arg5 arg6 arg7 x0 x1 x2 xa0 xa1 _ _ _ _ _ _ (fun K => wp frame _ Set.univ _ K)
        (D_out T0 T1 i c arg4 harg4 arg5 harg5 arg6 harg6 arg7 harg7 x0 x1 x2 hc hu (hp.mpr hu))
        (D_first T0 T1 i c arg4 harg4 arg5 harg5 arg6 harg6 arg7 harg7 x0 x1 x2 hc hu (hp.mpr hu))
        (D_second T0 T1 i c arg4 harg4 arg5 harg5 arg6 harg6 arg7 harg7 x0 x1 x2 hc hu (hp.mpr hu))
        (fun K => (kernelRun0_D c i arg4 harg4 arg5 harg5 arg6 harg6 arg7 harg7 T0 T1 x0 x1 x2 hc hu (hp.mpr hu)).2.2.2 xa0 xa1 K) K
  · rw [first_neg T0 i hc, second_neg T0 i hc]
    by_cases hu : Use T1 i
    · rw [result_pos T1 i hu]
      exact close T0 T1 c arg4 arg5 arg6 arg7 x0 x1 x2 xa0 xa1 _ _ xa0 xa1 _ _ (fun K => wp frame _ Set.univ _ K)
        (B_out T0 T1 i c arg4 harg4 arg5 harg5 arg6 harg6 arg7 harg7 x0 x1 x2 xa0 xa1 hc hu (fun h => hp.mp h hu)) rfl rfl
        (fun K => (kernelRun0_B c i arg4 harg4 arg5 harg5 arg6 harg6 arg7 harg7 T0 T1 x0 x1 x2 xa0 xa1 hc hu (fun h => hp.mp h hu)).2.2.2 K) K
    · rw [result_neg T1 i hu]
      exact close T0 T1 c arg4 arg5 arg6 arg7 x0 x1 x2 xa0 xa1 _ _ xa0 xa1 _ _ (fun K => wp frame _ Set.univ _ K)
        (C_out T0 T1 i c arg4 harg4 arg5 harg5 arg6 harg6 arg7 harg7 x0 x1 x2 xa0 xa1 hc hu (hp.mpr hu)) rfl rfl
        (fun K => (kernelRun0_C c i arg4 harg4 arg5 harg5 arg6 harg6 arg7 harg7 T0 T1 x0 x1 x2 xa0 xa1 hc hu (hp.mpr hu)).2.2.2 K) K

end Cert.Kernel5Ideal.Up

end

end
-- ==== Proof.UpTables.lean ====
module

public import proofs.«01_k».proof.Proof.UpRun
public import proofs.«01_k».proof.Proof.TableWords
public import Idealize.ShloMosaic.Lib.Affine

/-! What the two tables of the expert product say at a grid point: which tile's rows and which expert's weights it is handed, whether the expert changes there and whether the tile is used. -/

@[expose] public section

noncomputable section

namespace Cert.Kernel5Ideal.Up

open Cert.Kernel5Ideal Cert.Kernel5Ideal.Gen
open Idealize.ShloMosaic

/-- The one index of the count. -/
def one : S1.Idx := fun | 0 => ⟨0, Nat.one_pos⟩

/-- The index of a point's tile in the table of experts. -/
def tile (i : grid0.Coords) : S56.Idx := fun | 0 => ⟨(i 1).val, (i 1).isLt⟩

/-- The index of the tile before. -/
def prev (i : grid0.Coords) : S56.Idx := fun | 0 => ⟨(i 1).val - 1, Nat.lt_of_le_of_lt (Nat.sub_le _ _) (i 1).isLt⟩

/-- Tables the precondition admits: eight experts, and between one and fifty-six used tiles. -/
structure Tab (T0 : S56.Idx → BitVec 32) (T1 : S1.Idx → BitVec 32) : Prop where
  expert : ∀ x, (T0 x).toNat < 8
  some_used : 1 ≤ (T1 one).toNat
  count_le : (T1 one).toNat ≤ 56

/-- The tables as the region reads them. -/
def pf (T0 : S56.Idx → BitVec 32) (T1 : S1.Idx → BitVec 32) : pre0.Contents (Elt Ideal) :=
  fun | ⟨0, _⟩ => T0 | ⟨1, _⟩ => T1 | ⟨_ + 2, h⟩ => absurd h (Nat.not_lt.2 (Nat.le_add_left _ _))

variable (T0 : S56.Idx → BitVec 32) (T1 : S1.Idx → BitVec 32) (i : grid0.Coords)

theorem tile_lt : (i 1).val < 56 := (i 1).isLt
theorem column_lt : (i 0).val < 2 := (i 0).isLt

/-- The one entry of the count, however it is named. -/
theorem at_one (x : S1.Idx) : T1 x = T1 one :=
  congrArg T1 (funext fun a => Fin.ext (by
    have ha : a = 0 := Subsingleton.elim _ _
    subst ha
    have := (x 0).isLt
    have h1 : S1.size 0 = 1 := rfl
    show (x 0).val = 0
    omega))

theorem count_eq : count T1 = T1 one := at_one T1 _

/-- An entry of the table of experts, however it is named. -/
theorem at_tile (x y : S56.Idx) (h : (x 0).val = (y 0).val) : T0 x = T0 y :=
  congrArg T0 (funext fun a => Fin.ext (by
    have ha : a = 0 := Subsingleton.elim _ _
    subst ha; exact h))

/-- The expert changes at the point exactly when it is the first tile or the table's entry is another than the one before. -/
theorem chg_iff : Chg T0 i ↔ (i 1).val = 0 ∨ T0 (tile i) ≠ T0 (prev i) := by
  refine (TableWords.changed_iff (tile_lt i) _ _).trans (or_congr Iff.rfl (not_congr ?_))
  rw [show View.readAt (Elt Ideal) (tbM0_0).view (Rect.unit (s := S56) (k0_off1 i) S1.size (k0_off1_inb i)).toLoadRect T0 (Shape.Idx.first (numel1_S1.symm ▸ Nat.one_pos)) = T0 (tile i) from
      at_tile T0 _ _ (by
        show (BitVec.ofNat 32 (i 1).val).toNat + 1 * 0 = (i 1).val
        rw [TableWords.toNat_small (tile_lt i)]; rfl),
    show View.readAt (Elt Ideal) (tbM0_0).view (Rect.unit (s := S56) (k0_off2 i) S1.size (k0_off2_inb i)).toLoadRect T0 (Shape.Idx.first (numel1_S1.symm ▸ Nat.one_pos)) = T0 (prev i) from
      at_tile T0 _ _ (by
        show (Scalar.maxsi (Scalar.subi (BitVec.ofNat 32 (i 1).val) 1#32) 0#32).toNat + 1 * 0 = (i 1).val - 1
        rw [TableWords.prev_toNat (tile_lt i)]; rfl)]

variable {T0 T1} (h : Tab T0 T1)
include h

/-- The tile is used exactly when it is among the first ones. -/
theorem use_iff : Use T1 i ↔ (i 1).val < (T1 one).toNat := by
  unfold Use; rw [count_eq]; exact TableWords.used_iff (tile_lt i) h.count_le

/-- A tile is padding exactly when it is not used. -/
theorem pad_iff : Pad T1 i ↔ ¬ Use T1 i := by
  rw [use_iff i h]; unfold Pad; rw [count_eq]
  exact (TableWords.unused_iff (tile_lt i) h.count_le).trans Nat.not_lt.symm

/-- The rows a point is handed: its own tile's, or the last used one's. -/
theorem rows_eq : cc0_transform_0 inb_S1_S1_0 numel1_S1 (pf T0 T1) i = ![min (i 1).val ((T1 one).toNat - 1), 0] := by
  have e : (pf T0 T1).at 1 (Rect.unit (s := S1) ![0] S1.size inb_S1_S1_0) numel1_S1 = T1 one := at_one T1 _
  show ![(Scalar.minsi (BitVec.ofNat 32 (i 1).val) (Scalar.subi ((pf T0 T1).at 1 (Rect.unit (s := S1) ![0] S1.size inb_S1_S1_0) numel1_S1) 1#32)).toNat, 0] = _
  rw [e, TableWords.row_toNat (tile_lt i) h.some_used h.count_le]

omit h in
/-- The weights a point is handed: its tile's expert's, its column block's. -/
theorem weights_eq : cc0_transform_1 k0_off1_inb numel1_S1 (pf T0 T1) i = ![0, (T0 (tile i)).toNat, 0, (i 0).val] := by
  have e : (pf T0 T1).at 0 (Rect.unit (s := S56) ![(BitVec.ofNat 32 (i 1).val).toNat] S1.size (k0_off1_inb i)) numel1_S1 = T0 (tile i) :=
    at_tile T0 _ _ (by
      show (BitVec.ofNat 32 (i 1).val).toNat + 1 * 0 = (i 1).val
      rw [TableWords.toNat_small (tile_lt i)]; rfl)
  show ![0, ((pf T0 T1).at 0 (Rect.unit (s := S56) ![(BitVec.ofNat 32 (i 1).val).toNat] S1.size (k0_off1_inb i)) numel1_S1).toNat, 0, (BitVec.ofNat 32 (i 0).val).toNat] = _
  rw [e, TableWords.toNat_small (by have := column_lt i; omega)]

theorem rows_inb : ∀ a, (cc0_transform_0 inb_S1_S1_0 numel1_S1 (pf T0 T1) i a + 1) * S512x1024.size a ≤ S28672x1024.size a := by
  rw [rows_eq i h]
  have := tile_lt i
  refine Fin.forall_fin_two.mpr ⟨?_, le_refl _⟩
  show (min (i 1).val ((T1 one).toNat - 1) + 1) * 512 ≤ 28672
  omega

theorem weights_inb : ∀ a, (cc0_transform_1 k0_off1_inb numel1_S1 (pf T0 T1) i a + 1) * S1x1x1024x1792.size a ≤ S2x8x1024x3584.size a := by
  rw [weights_eq i]
  have h8 := h.expert (tile i)
  have h2 := column_lt i
  intro a
  match a with
  | ⟨0, _⟩ => exact (by decide : (0 + 1) * 1 ≤ 2)
  | ⟨1, _⟩ => show ((T0 (tile i)).toNat + 1) * 1 ≤ 8; omega
  | ⟨2, _⟩ => exact le_refl _
  | ⟨3, _⟩ => show ((i 0).val + 1) * 1792 ≤ 3584; omega

/-- Every block the tables name lies inside its array. -/
theorem ok : ok0 (F := Ideal) (pf T0 T1) :=
  ⟨fun i => ⟨rows_inb i h, .inr (Affine.block_words_dvd (s := S28672x1024) (p := EltTy.packing .bf16) (by decide) (by decide))⟩,
    fun i => ⟨weights_inb i h, .inl rfl⟩, fun i => ⟨weights_inb i h, .inl rfl⟩⟩

/-- The output block is stored at every point. -/
theorem stored : idle0 (F := Ideal) (pf T0 T1) 3 i = false := by
  have e : (pf T0 T1).atD 1 ![0] = T1 one := (dif_pos (by decide)).trans (at_one T1 _)
  show (!(k0_cond2 i ((pf T0 T1).atD 1 ![0]) == 1#1) && !(k0_cond3 i ((pf T0 T1).atD 1 ![0]) == 1#1)) = false
  rw [e, ← count_eq T1]
  by_cases hu : Use T1 i
  · rw [show k0_cond2 i (count T1) = 1#1 from hu]; rfl
  · rw [show k0_cond3 i (count T1) = 1#1 from (pad_iff i h).mpr hu, Bool.and_comm]; rfl

end Cert.Kernel5Ideal.Up

end

end
-- ==== Proof.UpFrame.lean ====
module

public import proofs.«01_k».proof.Proof.UpTables
public import proofs.«01_k».proof.Proof.Gen.Kernel5Ideal.Launch
public import Idealize.ShloMosaic.Lib.Pipeline.Quiescent
public import Idealize.ShloMosaic.Lib.Pipeline.Kit
public import Idealize.ShloMosaic.Lib.Pipeline.FrameBody
public import Idealize.ShloMosaic.Lib.Claim
public import Idealize.ShloMosaic.Adequacy
public import Idealize.ShloMosaic.Init

/-! The expert product at any admissible tables: the pipeline at the tables the memory holds, the two scratch buffers point by point, the obligation of a point, and the run of the whole call. -/

@[expose] public section

noncomputable section

namespace Cert.Kernel5Ideal.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the staging cells, embedded whole. -/
abbrev EP : Emb (UR sig nD τ) 𝕄 := emb₁

variable (m : (ℓ : Loc nD τ sig) → Buf (Elt Ideal) ℓ) (ρ : Dev nD → PrngReg)

/-- The table of experts the memory holds. -/
def experts : S56.Idx → BitVec 32 := m (((0 : Dev nD) : Thread nD τ).loc main_arg1)

/-- The count of used tiles the memory holds. -/
def used : S1.Idx → BitVec 32 := m (((0 : Dev nD) : Thread nD τ).loc main_arg2)

variable (h : Tab (experts m) (used m))

/-- The tables, admissible; the pipeline at them. -/
def adm : (pcfg0 (F := Ideal)).Adm := ⟨pf (experts m) (used m), ok h⟩
abbrev cfgA : Pipeline.Cfg sig Λ₀ := cfg0 (F := Ideal) (adm m h)
abbrev pcs : Fin 1 → Pipeline.Cfg sig Λ₀ := Pipeline.pin (pcfgs (F := Ideal)) fun _ => adm m h

/-- A point's coordinates. -/
abbrev crd (t : Fin (cfgA m h).N) : grid0.Coords := (cfgA m h).grid.coords t

/-- Each window's current staging buffer. -/
abbrev stg0 (t : Fin (cfgA m h).N) : Memref sig .tc .vmem S512x1024 .bf16 := spec0_0.stage ((cfgA m h).slots t (0 : Fin 4))
abbrev stg1 (t : Fin (cfgA m h).N) : Memref sig .tc .vmem S1x1x1024x1792 .f32 := spec0_1.stage ((cfgA m h).slots t (1 : Fin 4))
abbrev stg2 (t : Fin (cfgA m h).N) : Memref sig .tc .vmem S1x1x1024x1792 .f32 := spec0_2.stage ((cfgA m h).slots t (2 : Fin 4))
abbrev stg3 (t : Fin (cfgA m h).N) : Memref sig .tc .vmem S512x1792 .bf16 := spec0_3.stage ((cfgA m h).slots t (3 : Fin 4))

/-- A window's block at a point, read off its array at launch. -/
def iblk (c : Dev nD) (w : Fin (cfgA m h).W) (t : Fin (cfgA m h).N) : (((cfgA m h).win w).xblock (crd m h t)).Idx → Elt Ideal ((cfgA m h).win w).elt :=
  (((cfgA m h).win w).blk t).view.read (Elt Ideal) ((s₀ m ρ).mem (((cfgA m h).win w).arr.view.loc (c : Thread nD τ)))

/-- What the first scratch buffer holds before point `n`. -/
def fst (c : Dev nD) : ℕ → S1024x1792.Idx → Elt Ideal .bf16
  | 0 => default
  | n + 1 => if hn : n < (cfgA m h).N then first (experts m) (crd m h ⟨n, hn⟩) (iblk m ρ h c (1 : Fin 4) ⟨n, hn⟩) (fst c n) else fst c n

/-- What the second scratch buffer holds before point `n`. -/
def snd (c : Dev nD) : ℕ → S1024x1792.Idx → Elt Ideal .bf16
  | 0 => default
  | n + 1 => if hn : n < (cfgA m h).N then second (experts m) (crd m h ⟨n, hn⟩) (iblk m ρ h c (2 : Fin 4) ⟨n, hn⟩) (snd c n) else snd c n

/-- The output block after a point. -/
def out (c : Dev nD) (t : Fin (cfgA m h).N) : S512x1792.Idx → Elt Ideal .bf16 :=
  result (used m) (crd m h t) (iblk m ρ h c (0 : Fin 4) t) (fst m ρ h c (t.val + 1)) (snd m ρ h c (t.val + 1))

theorem fst_succ (c : Dev nD) (t : Fin (cfgA m h).N) :
    fst m ρ h c (t.val + 1) = first (experts m) (crd m h t) (iblk m ρ h c (1 : Fin 4) t) (fst m ρ h c t.val) := by
  rw [fst]; exact dif_pos t.isLt

theorem snd_succ (c : Dev nD) (t : Fin (cfgA m h).N) :
    snd m ρ h c (t.val + 1) = second (experts m) (crd m h t) (iblk m ρ h c (2 : Fin 4) t) (snd m ρ h c t.val) := by
  rw [snd]; exact dif_pos t.isLt

/-- Points are numbered tile by tile, one column block after the other. -/
theorem coords_tile : ∀ t : Fin grid0.N, (grid0.coords t 1).val = t.val % 56 := by decide +kernel
theorem coords_column : ∀ t : Fin grid0.N, (grid0.coords t 0).val = t.val / 56 := by decide +kernel

/-- At the first point the expert changes. -/
theorem chg_zero (t : Fin (cfgA m h).N) (h0 : t.val = 0) : Chg (experts m) (crd m h t) :=
  (chg_iff (experts m) (crd m h t)).mpr (.inl ((coords_tile t).trans (by rw [h0])))

/-- A point's first scratch buffer, whatever it held before the first point. -/
theorem fst_step (c : Dev nD) (t : Fin (cfgA m h).N) (a : S1024x1792.Idx → Elt Ideal .bf16) (ha : t.val ≠ 0 → a = fst m ρ h c t.val) :
    first (experts m) (crd m h t) (iblk m ρ h c (1 : Fin 4) t) a = fst m ρ h c (t.val + 1) := by
  rw [fst_succ]
  by_cases h0 : t.val = 0
  · rw [first_pos _ _ (chg_zero m h t h0), first_pos _ _ (chg_zero m h t h0)]
  · rw [ha h0]

theorem snd_step (c : Dev nD) (t : Fin (cfgA m h).N) (a : S1024x1792.Idx → Elt Ideal .bf16) (ha : t.val ≠ 0 → a = snd m ρ h c t.val) :
    second (experts m) (crd m h t) (iblk m ρ h c (2 : Fin 4) t) a = snd m ρ h c (t.val + 1) := by
  rw [snd_succ]
  by_cases h0 : t.val = 0
  · rw [second_pos _ _ (chg_zero m h t h0), second_pos _ _ (chg_zero m h t h0)]
  · rw [ha h0]

/-- What a core holds before point `n`: the scratch buffers, at what the points so far left in them, and its halves of the tables. -/
def inv (c : Dev nD) (n : ℕ) : sProp 𝕄 :=
  iprop((∃ a : S1024x1792.Idx → Elt Ideal .bf16, ⌜n ≠ 0 → a = fst m ρ h c n⌝ ∗ (scM0_0.view.loc (c : Thread nD τ) ↦{fullShare} (a : Buf (Elt Ideal) ((c : Thread nD τ).loc cc0_scratch0))))
    ∗ (∃ a : S1024x1792.Idx → Elt Ideal .bf16, ⌜n ≠ 0 → a = snd m ρ h c n⌝ ∗ (scM0_1.view.loc (c : Thread nD τ) ↦{fullShare} (a : Buf (Elt Ideal) ((c : Thread nD τ).loc cc0_scratch1))))
    ∗ (tbM0_0.view.loc (c : Thread nD τ) ↦{fullShare.right} experts m) ∗ (tbM0_1.view.loc (c : Thread nD τ) ↦{fullShare.right} used m))

/-- The pipeline's proof data. -/
def dats (_ : Fin 1) (c : Dev nD) : Dat τ (Elt Ideal) Unit ℕ (UR sig nD τ) ℕ (cfgA m h) c where
  A w := (s₀ m ρ).mem (((cfgA m h).win w).arr.view.loc (c : Thread nD τ))
  after w t := match w with
    | ⟨0, _⟩ => iblk m ρ h c (0 : Fin 4) t
    | ⟨1, _⟩ => iblk m ρ h c (1 : Fin 4) t
    | ⟨2, _⟩ => iblk m ρ h c (2 : Fin 4) t
    | ⟨3, _⟩ => out m ρ h c t
  Φ t := inv m ρ h c t.val
  q _ := fullShare
  owed _ := 0

theorem after_0 (c : Dev nD) (t : Fin (cfgA m h).N) : (dats m ρ h 0 c).after (0 : Fin 4) t = iblk m ρ h c (0 : Fin 4) t := rfl
theorem after_1 (c : Dev nD) (t : Fin (cfgA m h).N) : (dats m ρ h 0 c).after (1 : Fin 4) t = iblk m ρ h c (1 : Fin 4) t := rfl
theorem after_2 (c : Dev nD) (t : Fin (cfgA m h).N) : (dats m ρ h 0 c).after (2 : Fin 4) t = iblk m ρ h c (2 : Fin 4) t := rfl
theorem after_3 (c : Dev nD) (t : Fin (cfgA m h).N) : (dats m ρ h 0 c).after (3 : Fin 4) t = out m ρ h c t := rfl

/-- The rows a point is handed are its block's. -/
theorem before_0 (c : Dev nD) (t : Fin (cfgA m h).N) (d) : (dats m ρ h 0 c).before (0 : Fin 4) t d = iblk m ρ h c (0 : Fin 4) t :=
  ((dats m ρ h 0 c).before_in_eq_fetched (0 : Fin 4) rfl (fun _ => rfl) (fun _ _ _ => rfl) (fun t => by rw [after_0]; unfold Dat.blockOf iblk; rfl) t d).trans
    (by unfold Dat.fetched Dat.blockOf iblk; rfl)

/-- The first weights likewise. -/
theorem before_1 (c : Dev nD) (t : Fin (cfgA m h).N) (d) : (dats m ρ h 0 c).before (1 : Fin 4) t d = iblk m ρ h c (1 : Fin 4) t :=
  ((dats m ρ h 0 c).before_in_eq_fetched (1 : Fin 4) rfl (fun _ => rfl) (fun _ _ _ => rfl) (fun t => by rw [after_1]; unfold Dat.blockOf iblk; rfl) t d).trans
    (by unfold Dat.fetched Dat.blockOf iblk; rfl)

/-- The second weights likewise. -/
theorem before_2 (c : Dev nD) (t : Fin (cfgA m h).N) (d) : (dats m ρ h 0 c).before (2 : Fin 4) t d = iblk m ρ h c (2 : Fin 4) t :=
  ((dats m ρ h 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The body at a point, as the pipeline calls it. -/
abbrev bodyAt (t : Fin (cfgA m h).N) : Prog (TpuEff nD τ sig (Elt Ideal) Λ₀ .tc) PUnit :=
  cc0_moe_expert_up (crd m h t) tbM0_0 (Memref.isWhole_whole _) tbM0_1 (Memref.isWhole_whole _)
    (stg0 m h t) (hstage0_0 (((cfgA m h).slots t (0 : Fin 4)).cast nbuf0_0)) (stg1 m h t) (hstage0_1 (((cfgA m h).slots t (1 : Fin 4)).cast nbuf0_1))
    (stg2 m h t) (hstage0_2 (((cfgA m h).slots t (2 : Fin 4)).cast nbuf0_2)) (stg3 m h t) (hstage0_3 (((cfgA m h).slots t (3 : Fin 4)).cast nbuf0_3))
    scM0_0 (Memref.isWhole_whole _) scM0_1 (Memref.isWhole_whole _)

/-- The body at a point, from what the core holds before it. -/
theorem body (c : Dev nD) (t : Fin (cfgA m h).N) (Ow : sProp 𝕄) :
    iprop(inv m ρ h c t.val ∗ Ow
        ∗ owns (c : Thread nD τ) (stg0 m h t) fullShare (iblk m ρ h c (0 : Fin 4) t)
        ∗ owns (c : Thread nD τ) (stg1 m h t) fullShare (iblk m ρ h c (1 : Fin 4) t)
        ∗ owns (c : Thread nD τ) (stg2 m h t) fullShare (iblk m ρ h c (2 : Fin 4) t)
        ∗ (∃ d, owns (c : Thread nD τ) (stg3 m h t) fullShare d))
      ⊢ wp frame (wpE (defs₀ (F := Ideal)) Variants.none c none) Set.univ (bodyAt m h t) fun _ =>
          iprop(inv m ρ h c (t.val + 1) ∗ Ow
            ∗ owns (c : Thread nD τ) (stg0 m h t) fullShare (iblk m ρ h c (0 : Fin 4) t)
            ∗ owns (c : Thread nD τ) (stg1 m h t) fullShare (iblk m ρ h c (1 : Fin 4) t)
            ∗ owns (c : Thread nD τ) (stg2 m h t) fullShare (iblk m ρ h c (2 : Fin 4) t)
            ∗ owns (c : Thread nD τ) (stg3 m h t) fullShare (out m ρ h c t)) := by
  rw [owns_eq_rep (c : Thread nD τ) (stg0 m h t), owns_eq_rep (c : Thread nD τ) (stg1 m h t), owns_eq_rep (c : Thread nD τ) (stg2 m h t)]
  unfold inv
  iintro ⟨⟨⟨%a0, %ha0, HS0⟩, ⟨%a1, %ha1, HS1⟩, HT0, HT1⟩, Ho, H0, H1, H2, H3⟩
  iapply (run (experts m) (used m) (crd m h t) c (pad_iff _ h) (stg0 m h t) (hstage0_0 (((cfgA m h).slots t (0 : Fin 4)).cast nbuf0_0)) (stg1 m h t) (hstage0_1 (((cfgA m h).slots t (1 : Fin 4)).cast nbuf0_1))
    (stg2 m h t) (hstage0_2 (((cfgA m h).slots t (2 : Fin 4)).cast nbuf0_2)) (stg3 m h t) (hstage0_3 (((cfgA m h).slots t (3 : Fin 4)).cast nbuf0_3))
    (iblk m ρ h c (0 : Fin 4) t) (iblk m ρ h c (1 : Fin 4) t) (iblk m ρ h c (2 : Fin 4) t) a0 a1 _)
  isplitl [H0]; · iexact H0
  isplitl [H1]; · iexact H1
  isplitl [H2]; · iexact H2
  isplitl [HT0]; · iexact HT0
  isplitl [HT1]; · iexact HT1
  isplitl [H3]; · iexact H3
  isplitl [HS0]; · iexact HS0
  isplitl [HS1]; · iexact HS1
  rw [fst_step m ρ h c t a0 ha0, snd_step m ρ h c t a1 ha1]
  iintro ⟨H0, H1, H2, HT0, HT1, H3, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]; · iexact HT0
    iexact HT1
  isplitl [Ho]; · iexact Ho
  isplitl [H0]; · iexact H0
  isplitl [H1]; · iexact H1
  isplitl [H2]; · iexact H2
  iexact H3

/-- The output window is written at every point. -/
theorem idle_3 (t : Fin (cfgA m h).N) : (cfgA m h).idle (3 : Fin 4) ((cfgA m h).grid.coords t) = false := stored (crd m h t) h

/-- What the core holds at a point's number. -/
theorem inv_at (c : Dev nD) (s : Fin ((cfgA m h).N + 1)) : (dats m ρ h 0 c).Φ s = inv m ρ h c s.val := rfl

/-- The pipeline's obligation of a point. -/
theorem obligation (c : Dev nD) : BodyObligation (dats m ρ h 0 c) (defs₀ (F := Ideal)) Variants.none () Set.univ := fun t => by
  rw [bigSep_W0, bigSep_W0]
  rewrite [idle_3]
  simp only [before_0, before_1, before_2, after_0, after_1, after_2, after_3]
  rewrite [inv_at, inv_at, Fin.val_castSucc, Fin.val_succ,
    show (dats m ρ h 0 c).owesAt () t.succ = (dats m ρ h 0 c).owesAt () t.castSucc from rfl]
  iintro ⟨Hi, Ho, ⟨%d0, H0⟩, ⟨%d1, H1⟩, ⟨%d2, H2⟩, ⟨%d3, H3⟩⟩
  iapply (body m ρ h c t ((dats m ρ h 0 c).owesAt () t.castSucc))
  isplitl [Hi]; · iexact Hi
  isplitl [Ho]; · iexact Ho
  isplitl [H0]; · iexact H0
  isplitl [H1]; · iexact H1
  isplitl [H2]; · iexact H2
  iexists _; iexact H3

/-- The cells and tokens the launch starts from. -/
def u₀ : UR sig nD τ :=
  initOf (Pipeline.cells (pcs m h) ((launch0 (F := Ideal)).cellOf_inj fun _ => adm m h))
    (Pipeline.launchToks (pcs m h) ((launch0 (F := Ideal)).cellOf_inj fun _ => adm m h))

/-- Every window holds its array whole. -/
theorem share_whole (c : Dev nD) (w : Fin (cfgA m h).W) : (dats m ρ h 0 c).share w = fullShare := by
  unfold Dat.share; split <;> rfl

/-- The two tables as the launch hands them over. -/
theorem tables_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- Before the first point: the tables, and scratch buffers holding anything. -/
theorem inv_start (c : Dev nD) :
    iprop(BI.emp ∗ Pipeline.prefHeld pre0 c (fun _ => fullShare.right) (adm m h).1 ∗ Pipeline.scopedRest spec0 c) ⊢ (dats m ρ h 0 c).Φ 0 := by
  rw [tables_held, scopedRest0_eq, inv_at]
  unfold inv
  iintro ⟨-, ⟨HT0, HT1⟩, ⟨%a0, HS0⟩, ⟨%a1, HS1⟩⟩
  isplitl [HS0]
  · iexists a0; isplitr; swap
    · iexact HS0
    · ipureintro; intro h0; exact absurd rfl h0
  isplitl [HS1]
  · iexists a1; isplitr; swap
    · iexact HS1
    · ipureintro; intro h0; exact absurd rfl h0
  isplitl [HT0]
  · iexact HT0
  iexact HT1

/-- After the last point the scratch buffers are given back. -/
theorem inv_end (c : Dev nD) : (dats m ρ h 0 c).Φ (Fin.last (cfgA m h).N) ⊢ iprop(BI.emp ∗ Pipeline.scopedRest spec0 c) := by
  rw [scopedRest0_eq, inv_at]
  unfold inv
  iintro ⟨⟨%a0, -, HS0⟩, ⟨%a1, -, HS1⟩, -, -⟩
  isplitr; · iempintro
  isplitl [HS0]
  · iexists a0; iexact HS0
  iexists a1; iexact HS1

/-- The final memory: every array at what the points wrote, both tables as they were. -/
def Final : PUnit × MemSt nD τ sig (Elt Ideal) → Prop := fun r =>
  ∀ c : Dev nD, (∀ w : Fin (cfgA m h).W, r.2.mem (((cfgA m h).win w).arr.view.loc (c : Thread nD τ)) = (dats m ρ h 0 c).arrAt w (cfgA m h).N)
    ∧ ∀ j, r.2.mem ((c : Thread nD τ).loc (pre0.ref j)) = (adm m h).1 j

/-- The tables the pipeline runs at are the ones the memory holds. -/
theorem tables_at (c : Dev nD) (j : Fin 2) : m ((c : Thread nD τ).loc (pre0.ref j)) = (adm m h).1 j := by
  obtain rfl : c = 0 := Subsingleton.elim _ _
  fin_cases j <;> rfl

set_option backward.isDefEq.respectTransparency.types false in
/-- The call runs to its end from any memory whose tables are admissible, every semaphore at zero. -/
theorem runs : θ_run (defs (F := Ideal)) (onTc (τ := τ) (main (F := Ideal))) (s₀ m ρ) (fun r => Final m ρ h r ∧ r.2.sem = fun _ => 0) :=
  Pipeline.θ_run_region_noSem_pf_quiescent pcfgs (fun _ => adm m h) (dats m ρ h) () ((launch0 (F := Ideal)).cellOf_inj fun _ => adm m h) (0 : Fin 1)
    (launch0 (F := Ideal)).win.to₀ (launch0 (F := Ideal)).pre EP defs₀ Variants.none m ρ main
    (hbody := fun c => (obligation m ρ h c).loose) (hne := (launch0 (F := Ideal)).block_pos)
    (harr := (launch0 (F := Ideal)).arr_whole) (hstage := (launch0 (F := Ideal)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m h) (dats m ρ h) 0 (launch0 (F := Ideal)).win.arr_inj c (launch0 (F := Ideal)).arr_whole
      (share_whole m ρ h c) _ _ fun _ => rfl)
    (hpf := tables_at m h)
    (X := fun _ => iprop(emp)) (Y := fun _ => iprop(emp)) (Z := fun _ => iprop(emp))
    (hX := fun c => by rw [unscopedRestP0_eq]; iintro -; isplitr <;> iempintro)
    (hin := inv_start m ρ h)
    (hout := inv_end m ρ h)
    (QY := fun _ _ => True)
    (hY := fun c s' => by
      iintro ⟨-, -, HSI⟩; imodintro
      isplitr; · ipureintro; trivial
      iexact HSI)
    (hQ := fun _ hr hz => ⟨fun c => ⟨(hr c).1, (hr c).2.1⟩, hz⟩)

/-- The arguments end as they were, and so do the semaphores; the result ends at what the points wrote. -/
theorem ends : θ_run (defs (F := Ideal)) (onTc (τ := τ) (main (F := Ideal))) ⟨m, fun _ => 0, ρ⟩ (fun r => (∀ c : Dev nD,
      r.2.mem ((c.tc : Thread nD τ).loc main_v0) = (dats m ρ h 0 c).arrAt (3 : Fin 4) (cfgA m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨(hr.1 c).1 (3 : Fin 4),
    ((hr.1 c).1 (0 : Fin 4)).trans ((dats m ρ h 0 c).arrAt_in (0 : Fin 4) rfl _),
    ((hr.1 c).2 0).trans (tables_at m h c 0).symm, ((hr.1 c).2 1).trans (tables_at m h c 1).symm,
    ((hr.1 c).1 (1 : Fin 4)).trans ((dats m ρ h 0 c).arrAt_in (1 : Fin 4) rfl _),
    ((hr.1 c).1 (2 : Fin 4)).trans ((dats m ρ h 0 c).arrAt_in (2 : Fin 4) rfl _)⟩, hr.2⟩) (runs m ρ h)

end Cert.Kernel5Ideal.Up

end

end
-- ==== Proof.UpBody.lean ====
/- The expert product's payloads, read at an index. -/
module

public import proofs.«01_k».proof.Proof.Gen.Kernel5Ideal.Skeleton
public import proofs.«01_k».proof.Proof.Rows

@[expose] public section

set_option maxRecDepth 16384

noncomputable section

namespace Cert.Up

open Idealize.ShloMosaic Idealize.SL.Sem Cert.Kernel5Ideal Cert.Kernel5Ideal.Gen

/-- The first weights' block as the scratch buffer holds it. -/
theorem pay1_apply (w : FVec Ideal S1x1x1024x1792 .f32) (k : Fin 1024) (f : Fin 1792) :
    k0_pay1 (F := Ideal) w (ix2 k f) = w (ix4 0 0 k f) := by
  pointwise [k0_pay1]

/-- The second weights' block as the scratch buffer holds it. -/
theorem pay2_apply (w : FVec Ideal S1x1x1024x1792 .f32) (k : Fin 1024) (f : Fin 1792) :
    k0_pay2 (F := Ideal) w (ix2 k f) = w (ix4 0 0 k f) := by
  pointwise [k0_pay2]

/-- The gated product of a block of rows with the two weights. -/
theorem pay3_apply (x : FVec Ideal S512x1024 .bf16) (a b : FVec Ideal S1024x1792 .bf16) (r : Fin 512) (f : Fin 1792) :
    k0_pay3 (F := Ideal) x a b (ix2 r f)
      = (∑ k : Fin 1024, x (ix2 r k) * a (ix2 k f)) * Rows.sigmoid (∑ k : Fin 1024, x (ix2 r k) * a (ix2 k f))
        * ∑ k : Fin 1024, x (ix2 r k) * b (ix2 k f) := by
  pointwise [k0_pay3, Rows.sigmoid]
  rw [zero_sub]

/-- The block of an unused tile. -/
theorem pay4_apply (r : Fin 512) (f : Fin 1792) : k0_pay4 (F := Ideal) (ix2 r f) = 0 := by
  pointwise [k0_pay4]

end Cert.Up

end
-- ==== Proof.UpRef.lean ====
/- The reference's product with the tiles' experts, operation by operation over its five arrays, and read at an index. -/
module

public import proofs.«01_k».proof.Proof.Gen.Reference5Ideal.Run
public import proofs.«01_k».proof.Proof.Rows
public import proofs.«01_k».proof.Proof.TableWords

@[expose] public section

set_option maxRecDepth 16384

noncomputable section

namespace Cert.UpRef

open Idealize.ShloMosaic Idealize.SL.Sem Cert.Reference5Ideal Cert.Reference5Ideal.Gen

/-- Each row's expert. -/
def expert (te : IVec S56 32) : IVec S28672x1 32 :=
  shapeCast _ (broadcastInDim S56x512 ![0, 1] bcast_S56x1_S56x512_0_1 (broadcastInDim S56x1 ![0] bcast_S56_S56x1_0 te)) shapeCasts_S56x512_S28672x1

/-- Whether a row's tile is used. -/
def used (nv : IVec S1 32) : IVec S28672x1 1 :=
  shapeCast _ (broadcastInDim S56x512 ![0, 1] bcast_S56x1_S56x512_0_1 (broadcastInDim S56x1 ![0] bcast_S56_S56x1_0
    (cmpi .slt (iotaInDim S56 32 0) (broadcastInDim S56 ![] bcast_S_S56 (shapeCast _ nv shapeCasts_S1_S_))))) shapeCasts_S56x512_S28672x1

/-- Where a row is expert `e`'s. -/
def mask (te : IVec S56 32) (nv : IVec S1 32) (e : BitVec 32) : IVec S28672x3584 1 :=
  broadcastInDim S28672x3584 ![0, 1] bcast_S28672x1_S28672x3584_0_1
    (andi (used nv) (cmpi .eq (expert te) (broadcastInDim S28672x1 ![] bcast_S_S28672x1 (constantI S_ 32 e))))

/-- The product of the rows with a matrix. -/
def product (x : FVec Ideal S28672x1024 .bf16) (w : FVec Ideal S1x1x1024x3584 .f32) : FVec Ideal S28672x3584 .f32 :=
  Host.dotGeneral dot_S28672x1024_S1024x3584_S28672x3584_1_0_0_1_n_n none (extf .f32 x bitsLt_bf16_f32 : FVec Ideal S28672x1024 .f32)
    (shapeCast _ w shapeCasts_S1x1x1024x3584_S1024x3584)

/-- A product through the gate. -/
def gated (a : FVec Ideal S28672x3584 .f32) : FVec Ideal S28672x3584 .f32 :=
  mulf a (Host.divf (broadcastInDim S28672x3584 ![] bcast_S_S28672x3584 (constant S_ .f32 0x3F800000#32))
    (addf (broadcastInDim S28672x3584 ![] bcast_S_S28672x3584 (constant S_ .f32 0x3F800000#32)) (Host.exp (Host.negf a))))

/-- One expert's rows filled in. -/
def filled (x : FVec Ideal S28672x1024 .bf16) (te : IVec S56 32) (nv : IVec S1 32) (e : BitVec 32) (a b : FVec Ideal S1x1x1024x3584 .f32)
    (u : FVec Ideal S28672x3584 .f32) : FVec Ideal S28672x3584 .f32 :=
  select (mask te nv e) (mulf (gated (product x a)) (product x b)) u

/-- The reference's result of its five arrays. -/
def up (x : FVec Ideal S28672x1024 .bf16) (te : IVec S56 32) (nv : IVec S1 32) (w1 w3 : FVec Ideal S2x8x1024x3584 .f32) : FVec Ideal S28672x3584 .bf16 :=
  truncf .bf16 (
    filled x te nv 7#32 (extractStridedSlice S1x1x1024x3584 ![0, 7, 0, 0] w1 slices_S2x8x1024x3584_S1x1x1024x3584_0_7_0_0)
      (extractStridedSlice S1x1x1024x3584 ![0, 7, 0, 0] w3 slices_S2x8x1024x3584_S1x1x1024x3584_0_7_0_0) <|
    filled x te nv 6#32 (extractStridedSlice S1x1x1024x3584 ![0, 6, 0, 0] w1 slices_S2x8x1024x3584_S1x1x1024x3584_0_6_0_0)
      (extractStridedSlice S1x1x1024x3584 ![0, 6, 0, 0] w3 slices_S2x8x1024x3584_S1x1x1024x3584_0_6_0_0) <|
    filled x te nv 5#32 (extractStridedSlice S1x1x1024x3584 ![0, 5, 0, 0] w1 slices_S2x8x1024x3584_S1x1x1024x3584_0_5_0_0)
      (extractStridedSlice S1x1x1024x3584 ![0, 5, 0, 0] w3 slices_S2x8x1024x3584_S1x1x1024x3584_0_5_0_0) <|
    filled x te nv 4#32 (extractStridedSlice S1x1x1024x3584 ![0, 4, 0, 0] w1 slices_S2x8x1024x3584_S1x1x1024x3584_0_4_0_0)
      (extractStridedSlice S1x1x1024x3584 ![0, 4, 0, 0] w3 slices_S2x8x1024x3584_S1x1x1024x3584_0_4_0_0) <|
    filled x te nv 3#32 (extractStridedSlice S1x1x1024x3584 ![0, 3, 0, 0] w1 slices_S2x8x1024x3584_S1x1x1024x3584_0_3_0_0)
      (extractStridedSlice S1x1x1024x3584 ![0, 3, 0, 0] w3 slices_S2x8x1024x3584_S1x1x1024x3584_0_3_0_0) <|
    filled x te nv 2#32 (extractStridedSlice S1x1x1024x3584 ![0, 2, 0, 0] w1 slices_S2x8x1024x3584_S1x1x1024x3584_0_2_0_0)
      (extractStridedSlice S1x1x1024x3584 ![0, 2, 0, 0] w3 slices_S2x8x1024x3584_S1x1x1024x3584_0_2_0_0) <|
    filled x te nv 1#32 (extractStridedSlice S1x1x1024x3584 ![0, 1, 0, 0] w1 slices_S2x8x1024x3584_S1x1x1024x3584_0_1_0_0)
      (extractStridedSlice S1x1x1024x3584 ![0, 1, 0, 0] w3 slices_S2x8x1024x3584_S1x1x1024x3584_0_1_0_0) <|
    filled x te nv 0#32 (extractStridedSlice S1x1x1024x3584 ![0, 0, 0, 0] w1 slices_S2x8x1024x3584_S1x1x1024x3584_0_0_0_0)
      (extractStridedSlice S1x1x1024x3584 ![0, 0, 0, 0] w3 slices_S2x8x1024x3584_S1x1x1024x3584_0_0_0_0) <|
    broadcastInDim S28672x3584 ![] bcast_S_S28672x3584 (constant S_ .f32 0x00000000#32)) bitsLt_bf16_f32

/-- The reference's operations leave that result. -/
theorem res_eq (V : Valuation τ sig (Elt Ideal)) :
    Value.val2 V (Proc.devRef .tc main_v108)
      = up (V (Proc.devRef .tc main_arg0)) (V (Proc.devRef .tc main_arg1)) (V (Proc.devRef .tc main_arg2)) (V (Proc.devRef .tc main_arg3))
          (V (Proc.devRef .tc main_arg4)) := by
  rw [Value.val2_main_v108]
  rfl

/-- Arguments that agree give results that agree. -/
theorem up_congr {x x' : FVec Ideal S28672x1024 .bf16} {te te' : IVec S56 32} {nv nv' : IVec S1 32} {w1 w1' w3 w3' : FVec Ideal S2x8x1024x3584 .f32}
    (h0 : x = x') (h1 : te = te') (h2 : nv = nv') (h3 : w1 = w1') (h4 : w3 = w3') : up x te nv w1 w3 = up x' te' nv' w1' w3' := by
  subst h0 h1 h2 h3 h4; rfl

/-- Where a row is expert `e`'s, read at an index. -/
theorem mask_apply (te : IVec S56 32) (nv : IVec S1 32) (e : BitVec 32) (j : Fin 56) (r : Fin 512) (f : Fin 3584) :
    mask te nv e (ix2 ⟨j.val * 512 + r.val, by omega⟩ f)
      = IntOp.andi (IntOp.cmpi .slt (BitVec.ofNat 32 j.val) (nv (ix1 0))) (IntOp.cmpi .eq (te (ix1 j)) e) := by
  pointwise [mask, used, expert]

/-- An element of a product. -/
theorem product_apply (x : FVec Ideal S28672x1024 .bf16) (w : FVec Ideal S1x1x1024x3584 .f32) (i : Fin 28672) (f : Fin 3584) :
    product x w (ix2 i f) = ∑ k : Fin 1024, x (ix2 i k) * w (ix4 0 0 k f) := by
  pointwise [product]

/-- An element through the gate. -/
theorem gated_apply (a : FVec Ideal S28672x3584 .f32) (i : Fin 28672) (f : Fin 3584) :
    gated a (ix2 i f) = a (ix2 i f) * Rows.sigmoid (a (ix2 i f)) := by
  pointwise [gated, Rows.sigmoid]

/-- What the reference computes in row `i` and column `f` with expert `e`. -/
def value (x : FVec Ideal S28672x1024 .bf16) (w1 w3 : FVec Ideal S2x8x1024x3584 .f32) (e : Fin 8) (i : Fin 28672) (f : Fin 3584) : EReal :=
  (∑ k : Fin 1024, x (ix2 i k) * w1 (ix4 0 e k f)) * Rows.sigmoid (∑ k : Fin 1024, x (ix2 i k) * w1 (ix4 0 e k f))
    * ∑ k : Fin 1024, x (ix2 i k) * w3 (ix4 0 e k f)

/-- One expert's matrix, read at an index. -/
theorem slice_apply (w : FVec Ideal S2x8x1024x3584 .f32) (e : Fin 8) (hs : S2x8x1024x3584.Slices ![0, e.val, 0, 0] S1x1x1024x3584) (k : Fin 1024) (f : Fin 3584) :
    extractStridedSlice S1x1x1024x3584 ![0, e.val, 0, 0] w hs (ix4 0 0 k f) = w (ix4 0 e k f) := by
  pointwise

/-- One expert's rows filled in, read at an index. -/
theorem filled_apply (x : FVec Ideal S28672x1024 .bf16) (te : IVec S56 32) (nv : IVec S1 32) (w1 w3 : FVec Ideal S2x8x1024x3584 .f32)
    (e : Fin 8) (hs : S2x8x1024x3584.Slices ![0, e.val, 0, 0] S1x1x1024x3584) (u : FVec Ideal S28672x3584 .f32)
    (j : Fin 56) (r : Fin 512) (f : Fin 3584) (hn : (nv (ix1 0)).toNat ≤ 56) :
    filled x te nv (BitVec.ofNat 32 e.val) (extractStridedSlice S1x1x1024x3584 ![0, e.val, 0, 0] w1 hs)
        (extractStridedSlice S1x1x1024x3584 ![0, e.val, 0, 0] w3 hs) u (ix2 ⟨j.val * 512 + r.val, by omega⟩ f)
      = if j.val < (nv (ix1 0)).toNat ∧ te (ix1 j) = BitVec.ofNat 32 e.val then value x w1 w3 e ⟨j.val * 512 + r.val, by omega⟩ f
        else u (ix2 ⟨j.val * 512 + r.val, by omega⟩ f) := by
  have hm : mask te nv (BitVec.ofNat 32 e.val) (ix2 ⟨j.val * 512 + r.val, by omega⟩ f) = 1#1
      ↔ j.val < (nv (ix1 0)).toNat ∧ te (ix1 j) = BitVec.ofNat 32 e.val := by
    rw [mask_apply, IntOp.andi_eq_one]
    refine and_congr ?_ StableHlo.Predicate.cmpi_eq_iff
    rw [StableHlo.Predicate.slt_iff_toNat (by rw [TableWords.toNat_small j.isLt]; omega) (by omega), TableWords.toNat_small j.isLt]
  show (if mask te nv (BitVec.ofNat 32 e.val) (ix2 ⟨j.val * 512 + r.val, by omega⟩ f) = 1#1 then _ else _) = _
  refine if_congr hm ?_ rfl
  show gated _ _ * product _ _ _ = _
  rw [gated_apply, product_apply, product_apply]
  simp only [slice_apply]
  rfl

/-- The value of the first of eight cases that holds, from the last on, or zero. -/
def pick (P : Fin 8 → Prop) [DecidablePred P] (v : Fin 8 → EReal) : EReal :=
  if P 7 then v 7 else if P 6 then v 6 else if P 5 then v 5 else if P 4 then v 4 else if P 3 then v 3 else if P 2 then v 2
    else if P 1 then v 1 else if P 0 then v 0 else 0

/-- If one case alone holds, its value. -/
theorem pick_one (P : Fin 8 → Prop) [DecidablePred P] (v : Fin 8 → EReal) (e : Fin 8) (h : ∀ i, P i ↔ i = e) : pick P v = v e := by
  unfold pick; simp only [h]
  revert e; intro e _
  fin_cases e <;> rfl

/-- If none holds, zero. -/
theorem pick_none (P : Fin 8 → Prop) [DecidablePred P] (v : Fin 8 → EReal) (h : ∀ i, ¬ P i) : pick P v = 0 := by
  unfold pick; simp only [h, if_false]

/-- An element of the result: the value of the tile's expert. -/
theorem up_apply (x : FVec Ideal S28672x1024 .bf16) (te : IVec S56 32) (nv : IVec S1 32) (w1 w3 : FVec Ideal S2x8x1024x3584 .f32)
    (j : Fin 56) (r : Fin 512) (f : Fin 3584) (hn : (nv (ix1 0)).toNat ≤ 56) :
    up x te nv w1 w3 (ix2 ⟨j.val * 512 + r.val, by omega⟩ f)
      = pick (fun e => j.val < (nv (ix1 0)).toNat ∧ te (ix1 j) = BitVec.ofNat 32 e.val) fun e => value x w1 w3 e ⟨j.val * 512 + r.val, by omega⟩ f := by
  have z : (broadcastInDim S28672x3584 ![] bcast_S_S28672x3584 (constant S_ .f32 0x00000000#32) : FVec Ideal S28672x3584 .f32)
      (ix2 ⟨j.val * 512 + r.val, by omega⟩ f) = 0 := by
    pointwise
  refine (filled_apply x te nv w1 w3 7 _ _ j r f hn).trans (if_congr Iff.rfl rfl ?_)
  refine (filled_apply x te nv w1 w3 6 _ _ j r f hn).trans (if_congr Iff.rfl rfl ?_)
  refine (filled_apply x te nv w1 w3 5 _ _ j r f hn).trans (if_congr Iff.rfl rfl ?_)
  refine (filled_apply x te nv w1 w3 4 _ _ j r f hn).trans (if_congr Iff.rfl rfl ?_)
  refine (filled_apply x te nv w1 w3 3 _ _ j r f hn).trans (if_congr Iff.rfl rfl ?_)
  refine (filled_apply x te nv w1 w3 2 _ _ j r f hn).trans (if_congr Iff.rfl rfl ?_)
  refine (filled_apply x te nv w1 w3 1 _ _ j r f hn).trans (if_congr Iff.rfl rfl ?_)
  exact (filled_apply x te nv w1 w3 0 _ _ j r f hn).trans (if_congr Iff.rfl rfl z)

/-- In a used tile the reference computes the tile's expert's product. -/
theorem up_used (x : FVec Ideal S28672x1024 .bf16) (te : IVec S56 32) (nv : IVec S1 32) (w1 w3 : FVec Ideal S2x8x1024x3584 .f32)
    (j : Fin 56) (r : Fin 512) (f : Fin 3584) (hn : (nv (ix1 0)).toNat ≤ 56) (hj : j.val < (nv (ix1 0)).toNat)
    (e : Fin 8) (he : (te (ix1 j)).toNat = e.val) :
    up x te nv w1 w3 (ix2 ⟨j.val * 512 + r.val, by omega⟩ f) = value x w1 w3 e ⟨j.val * 512 + r.val, by omega⟩ f := by
  rw [up_apply _ _ _ _ _ _ _ _ hn]
  refine pick_one _ _ e fun i => ⟨fun hi => Fin.ext ?_, fun hi => ⟨hj, BitVec.eq_of_toNat_eq ?_⟩⟩
  · rw [← he, hi.2, BitVec.toNat_ofNat]; omega
  · rw [hi, he, BitVec.toNat_ofNat]; omega

/-- In a tile not used it leaves zero. -/
theorem up_unused (x : FVec Ideal S28672x1024 .bf16) (te : IVec S56 32) (nv : IVec S1 32) (w1 w3 : FVec Ideal S2x8x1024x3584 .f32)
    (j : Fin 56) (r : Fin 512) (f : Fin 3584) (hn : (nv (ix1 0)).toNat ≤ 56) (hj : ¬ j.val < (nv (ix1 0)).toNat) :
    up x te nv w1 w3 (ix2 ⟨j.val * 512 + r.val, by omega⟩ f) = 0 := by
  rw [up_apply _ _ _ _ _ _ _ _ hn]
  exact pick_none _ _ fun i hi => hj hi.1

end Cert.UpRef

end
-- ==== Proof.UpValue.lean ====
/- The expert kernel's result array is the reference's. -/
module

public import proofs.«01_k».proof.Proof.UpFrame
public import proofs.«01_k».proof.Proof.UpBody
public import proofs.«01_k».proof.Proof.UpRef

@[expose] public section

set_option maxRecDepth 16384

noncomputable section

namespace Cert.Up

open Idealize.ShloMosaic Idealize.ShloMosaic.TcCoe Idealize.SL.Sem Cert.Kernel5Ideal Cert.Kernel5Ideal.Gen Cert.Kernel5Ideal.Up
open Idealize.ShloMosaic.Pipeline (Dat)

variable (m : (ℓ : Loc nD τ sig) → Buf (Elt Ideal) ℓ) (ρ : Dev nD → PrngReg) (h : Tab (experts m) (used m)) (c : Dev nD) (t : Fin (cfgA m h).N)

/-- The grid has 112 points. -/
theorem t_lt : t.val < 112 := t.isLt

/-- The rows' block index. -/
theorem idx0 : ((cfgA m h).win (0 : Fin 4)).index t = ![min (t.val % 56) ((used m one).toNat - 1), 0] :=
  (rows_eq (crd m h t) h).trans (by rw [coords_tile])

theorem idx1 : ((cfgA m h).win (1 : Fin 4)).index t = ![0, (experts m (tile (crd m h t))).toNat, 0, t.val / 56] :=
  (weights_eq (crd m h t)).trans (by rw [coords_column])

theorem idx2 : ((cfgA m h).win (2 : Fin 4)).index t = ![0, (experts m (tile (crd m h t))).toNat, 0, t.val / 56] :=
  (weights_eq (crd m h t)).trans (by rw [coords_column])

theorem idx3 : ((cfgA m h).win (3 : Fin 4)).index t = ![t.val % 56, t.val / 56] := by
  show ![(BitVec.ofNat 32 (crd m h t 1).val).toNat, (BitVec.ofNat 32 (crd m h t 0).val).toNat] = _
  rw [TableWords.toNat_small (tile_lt _), TableWords.toNat_small (by have := column_lt (crd m h t); omega), coords_tile, coords_column]

/-- The rows in memory. -/
abbrev X : FVec Ideal S28672x1024 .bf16 := m ((c : Thread nD τ).loc main_arg0)
abbrev W1 : FVec Ideal S2x8x1024x3584 .f32 := m ((c : Thread nD τ).loc main_arg3)
abbrev W3 : FVec Ideal S2x8x1024x3584 .f32 := m ((c : Thread nD τ).loc main_arg4)

/-- The rows' block. -/
theorem block0 (r : Fin 512) (k : Fin 1024) :
    iblk m ρ h c (0 : Fin 4) t (ix2 r k) = X m c (ix2 ⟨min (t.val % 56) ((used m one).toNat - 1) * 512 + r.val, by omega⟩ k) := by
  blk_ext [iblk, idx0 m h t]

theorem block1 (k : Fin 1024) (f : Fin 1792) :
    iblk m ρ h c (1 : Fin 4) t (ix4 0 0 k f) = W1 m c (ix4 0 ⟨(experts m (tile (crd m h t))).toNat, h.expert _⟩ k ⟨t.val / 56 * 1792 + f.val, by have := t_lt m h t; omega⟩) := by
  blk_ext [iblk, idx1 m h t]

theorem block2 (k : Fin 1024) (f : Fin 1792) :
    iblk m ρ h c (2 : Fin 4) t (ix4 0 0 k f) = W3 m c (ix4 0 ⟨(experts m (tile (crd m h t))).toNat, h.expert _⟩ k ⟨t.val / 56 * 1792 + f.val, by have := t_lt m h t; omega⟩) := by
  blk_ext [iblk, idx2 m h t]

/-- A tile's entry in the table of experts. -/
def entry (j : Fin 56) : Fin 8 := ⟨(experts m (ix1 j)).toNat, h.expert _⟩

/-- A point's tile is its number past whole columns. -/
theorem tile_eq : tile (crd m h t) = ix1 ⟨t.val % 56, by omega⟩ := by
  funext a
  match a with
  | ⟨0, _⟩ => exact Fin.ext (coords_tile t)

/-- The expert a point's weights are of. -/
theorem entry_eq : (⟨(experts m (tile (crd m h t))).toNat, h.expert _⟩ : Fin 8) = entry m h ⟨t.val % 56, by omega⟩ :=
  Fin.ext (congrArg (fun x => (experts m x).toNat) (tile_eq m h t))

/-- The weights the scratch buffers hold once a point has run: its tile's expert's, its column block's. -/
def held1 (n : ℕ) (hn : n < 112) : FVec Ideal S1024x1792 .bf16 := fun y =>
  W1 m c (ix4 0 (entry m h ⟨n % 56, by omega⟩) (y 0) ⟨n / 56 * 1792 + (y 1).val, by have := (y 1).isLt; have e : S1024x1792.size 1 = 1792 := rfl; omega⟩)
def held3 (n : ℕ) (hn : n < 112) : FVec Ideal S1024x1792 .bf16 := fun y =>
  W3 m c (ix4 0 (entry m h ⟨n % 56, by omega⟩) (y 0) ⟨n / 56 * 1792 + (y 1).val, by have := (y 1).isLt; have e : S1024x1792.size 1 = 1792 := rfl; omega⟩)

/-- A two-axis index is its two entries. -/
theorem pair_eta (y : S1024x1792.Idx) : y = ix2 (y 0) (y 1) := by
  funext a
  match a with
  | ⟨0, _⟩ => rfl
  | ⟨1, _⟩ => rfl

theorem pay1_held : k0_pay1 (F := Ideal) (iblk m ρ h c (1 : Fin 4) t) = held1 m h c t.val (t_lt m h t) := by
  funext y
  rw [pair_eta y]
  refine (pay1_apply _ _ _).trans ((block1 m ρ h c t _ _).trans ?_)
  exact congrArg (fun e => W1 m c (ix4 0 e _ _)) (entry_eq m h t)

theorem pay2_held : k0_pay2 (F := Ideal) (iblk m ρ h c (2 : Fin 4) t) = held3 m h c t.val (t_lt m h t) := by
  funext y
  rw [pair_eta y]
  refine (pay2_apply _ _ _).trans ((block2 m ρ h c t _ _).trans ?_)
  exact congrArg (fun e => W3 m c (ix4 0 e _ _)) (entry_eq m h t)

/-- Where the expert does not change, the point before had the same column block and the same expert. -/
theorem same (hc : ¬ Chg (experts m) (crd m h t)) :
    t.val ≠ 0 ∧ (t.val - 1) / 56 = t.val / 56 ∧ entry m h ⟨(t.val - 1) % 56, by omega⟩ = entry m h ⟨t.val % 56, by omega⟩ := by
  rw [chg_iff, not_or, not_not] at hc
  have h0 : t.val % 56 ≠ 0 := fun e => hc.1 ((coords_tile t).trans e)
  have hp : prev (crd m h t) = ix1 ⟨(t.val - 1) % 56, by omega⟩ := by
    funext a
    match a with
    | ⟨0, _⟩ => exact Fin.ext (show (crd m h t 1).val - 1 = (t.val - 1) % 56 by rw [coords_tile]; omega)
  refine ⟨by omega, by omega, Fin.ext ?_⟩
  show (experts m _).toNat = (experts m _).toNat
  rw [← hp, ← hc.2, tile_eq]

theorem held_same (hc : ¬ Chg (experts m) (crd m h t)) (hn : t.val - 1 < 112) :
    held1 m h c (t.val - 1) hn = held1 m h c t.val (t_lt m h t) ∧ held3 m h c (t.val - 1) hn = held3 m h c t.val (t_lt m h t) := by
  obtain ⟨_, h2, h3⟩ := same m h t hc
  constructor <;> funext y <;> simp only [held1, held3, h2, h3]

/-- The scratch buffers after every point. -/
theorem scratch : ∀ n (hn : n < 112), fst m ρ h c (n + 1) = held1 m h c n hn ∧ snd m ρ h c (n + 1) = held3 m h c n hn := by
  intro n
  induction n with
  | zero =>
    intro hn
    have hc := chg_zero m h ⟨0, hn⟩ rfl
    exact ⟨(fst_succ m ρ h c ⟨0, hn⟩).trans ((first_pos _ _ hc).trans (pay1_held m ρ h c ⟨0, hn⟩)),
      (snd_succ m ρ h c ⟨0, hn⟩).trans ((second_pos _ _ hc).trans (pay2_held m ρ h c ⟨0, hn⟩))⟩
  | succ n ih =>
    intro hn
    obtain ⟨i1, i3⟩ := ih (by omega)
    by_cases hc : Chg (experts m) (crd m h ⟨n + 1, hn⟩)
    · exact ⟨(fst_succ m ρ h c ⟨n + 1, hn⟩).trans ((first_pos _ _ hc).trans (pay1_held m ρ h c ⟨n + 1, hn⟩)),
        (snd_succ m ρ h c ⟨n + 1, hn⟩).trans ((second_pos _ _ hc).trans (pay2_held m ρ h c ⟨n + 1, hn⟩))⟩
    · obtain ⟨s1, s3⟩ := held_same m h c ⟨n + 1, hn⟩ hc (show n < 112 by omega)
      exact ⟨(fst_succ m ρ h c ⟨n + 1, hn⟩).trans ((first_neg _ _ hc).trans (i1.trans s1)),
        (snd_succ m ρ h c ⟨n + 1, hn⟩).trans ((second_neg _ _ hc).trans (i3.trans s3))⟩

/-- The reference's result of the arguments in memory. -/
abbrev REF : FVec Ideal S28672x3584 .bf16 := UpRef.up (X m c) (experts m) (used m) (W1 m c) (W3 m c)

/-- One element of one block is the reference's there. -/
theorem point (r : Fin 512) (f : Fin 1792) :
    out m ρ h c t (ix2 r f) = REF m c (ix2 ⟨t.val % 56 * 512 + r.val, by omega⟩ ⟨t.val / 56 * 1792 + f.val, by have := t_lt m h t; omega⟩) := by
  have hn : (used m (ix1 0)).toNat ≤ 56 := by rw [at_one (used m)]; exact h.count_le
  obtain ⟨s1, s3⟩ := scratch m ρ h c t.val (t_lt m h t)
  by_cases hu : t.val % 56 < (used m (ix1 0)).toNat
  · have hU : Use (used m) (crd m h t) := (use_iff _ h).mpr (by rw [coords_tile, ← at_one (used m) (ix1 0)]; exact hu)
    rw [REF, UpRef.up_used _ _ _ _ _ ⟨t.val % 56, by omega⟩ r _ hn hu (entry m h ⟨t.val % 56, by omega⟩) rfl]
    unfold out
    rw [result_pos _ _ hU, s1, s3]
    refine (pay3_apply _ _ _ r f).trans ?_
    have hr : min (t.val % 56) ((used m one).toNat - 1) = t.val % 56 := by rw [at_one (used m)] at hu; omega
    simp only [block0, hr]
    rfl
  · have hU : ¬ Use (used m) (crd m h t) := fun hU => hu (by
      have := (use_iff _ h).mp hU
      rwa [coords_tile, ← at_one (used m) (ix1 0)] at this)
    rw [REF, UpRef.up_unused _ _ _ _ _ ⟨t.val % 56, by omega⟩ r _ hn hu]
    unfold out
    rw [result_neg _ _ hU]
    exact pay4_apply r f

/-- Tables admitted whatever the memory: every tile the first expert's, one tile used. -/
theorem plain : Tab (fun _ => 0#32) (fun _ => 1#32) := ⟨fun _ => by decide, by decide, by decide⟩

/-- The output's blocks, written at every point, cover its array; its index map reads no table. -/
theorem covers : ((cfgA m h).win (3 : Fin 4)).Covers := by
  show ((cfg0 (F := Ideal) ⟨pf _ _, ok plain⟩).win (3 : Fin 4)).Covers
  decide +kernel

/-- **The kernel's result array is the reference's.** -/
theorem final : (dats m ρ h 0 c).arrAt (3 : Fin 4) (cfgA m h).N = REF m c := by
  refine (dats m ρ h 0 c).arrAt_eq_of_covers (3 : Fin 4) _ (covers m h) fun t _ y => ?_
  blk_simp
  rw [after_3]
  obtain ⟨r, hr⟩ : ∃ r : Fin 512, r.val = (y 0).val := ⟨⟨_, (y 0).isLt⟩, rfl⟩
  obtain ⟨j, hj⟩ : ∃ j : Fin 1792, j.val = (y 1).val := ⟨⟨_, (y 1).isLt⟩, rfl⟩
  have e : y = ix2 r j := by
    blk_ext []
  rw [e]
  refine (point m ρ h c t r j).trans ?_
  blk_ext [idx3 m h t]

end Cert.Up

end
-- ==== Proof.DownPre.lean ====
/- What the precondition of the experts' last product says of the tables' words. -/
module

public import proofs.«01_k».proof.Pre_tables_down
public import proofs.«01_k».proof.Proof.Gen.Pre_tables_down
public import proofs.«01_k».proof.Proof.TablePre

@[expose] public section

noncomputable section

namespace Cert.DownPre

open Idealize.ShloMosaic Cert.Pre_tables_down Cert.Pre_tables_down.Gen

variable {F : FTy → Type} [FloatOps F] {u : FVec F S28672x3584 .bf16} {te : IVec S56 32} {nv : IVec S1 32} {w2 : FVec F S2x8x3584x1024 .f32}

/-- The precondition, taken apart: every tile names one of eight experts, and between one and fifty-six tiles are used. -/
theorem words (h : Cert.Pre_tables_down.fn (F := F) u te nv w2 = fun _ => 1#1) :
    (∀ i, (te i).toNat < 8) ∧ ∀ i, 1 ≤ (nv i).toNat ∧ (nv i).toNat ≤ 56 := by
  have h0 := congrFun h ix0
  dsimp only [Cert.Pre_tables_down.fn] at h0
  obtain ⟨h1, h2⟩ := IntOp.andi_eq_one.1 h0
  refine ⟨fun i => ?_, fun i => ?_⟩
  · obtain ⟨a, b⟩ := IntOp.andi_eq_one.1 (Host.reduce_andi_all _ _ _ _ _ h1 i)
    exact TablePre.below _ 8 (by decide) a b
  · obtain ⟨a, b⟩ := IntOp.andi_eq_one.1 (Host.reduce_andi_all _ _ _ _ _ h2 i)
    exact TablePre.between _ 56 (by decide) a b

end Cert.DownPre

end
-- ==== Proof.DownWordRun.lean ====
module

public import proofs.«01_k».proof.Proof.Gen.Kernel6.Skeleton
public import proofs.«01_k».proof.Proof.Gen.Kernel6.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.VecWindow
public import Idealize.ShloMosaic.PureOps.BitExact
public import Mathlib.Tactic.IntervalCases
public import Idealize.ShloMosaic.Adequacy
public import Idealize.ShloMosaic.Init

/-! One point of the experts' last product, in plain terms: which weights the scratch buffer holds after it and which rows its output block holds, from the blocks it is handed, the two tables and what the scratch buffer held before. -/

@[expose] public section

noncomputable section

namespace Cert.Kernel6.Down

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The two tables and the scratch buffer, whole. -/
abbrev tbM0_0 : Memref sig .tc .smem S56 .i32 := Memref.whole main_arg1
abbrev tbM0_1 : Memref sig .tc .smem S1 .i32 := Memref.whole main_arg2
abbrev scM0_0 : Memref sig .tc .vmem S3584x1024 .bf16 := Memref.whole cc0_scratch0

variable (T0 : S56.Idx → Elt Bits .i32) (T1 : S1.Idx → Elt Bits .i32) (i : grid0.Coords)

/-- The expert changes at the point: it is the first tile, or the tile before has another entry. -/
abbrev Chg : Prop :=
  Scalar.cmpi .ne (Scalar.extui (Scalar.ori (Scalar.cmpi .eq (BitVec.ofNat 32 (i 1).val) 0#32) (Scalar.cmpi .ne
    (View.readAt (Elt Bits) (tbM0_0).view (Rect.unit (s := S56) (k0_off1 i) S1.size (k0_off1_inb i)).toLoadRect T0 (Shape.Idx.first (numel1_S1.symm ▸ Nat.one_pos)))
    (View.readAt (Elt Bits) (tbM0_0).view (Rect.unit (s := S56) (k0_off2 i) S1.size (k0_off2_inb i)).toLoadRect T0 (Shape.Idx.first (numel1_S1.symm ▸ Nat.one_pos)))))) 0#32 = 1#1

/-- The number of used tiles, as the point reads it. -/
abbrev count : BitVec 32 :=
  View.readAt (Elt Bits) (tbM0_1).view (Rect.unit (s := S1) ![0] S1.size inb_S1_S1_0).toLoadRect T1 (Shape.Idx.first (numel1_S1.symm ▸ Nat.one_pos))

/-- The point's tile is used. -/
abbrev Use : Prop := k0_cond2 i (count T1) = 1#1

/-- The point's tile is padding. -/
abbrev Pad : Prop := k0_cond3 i (count T1) = 1#1

/-- A block's rows of 1024 entries cut into eight rows of 128 each, in order. -/
def tiles (y : S512x1024.Idx → Elt Bits .f32) : S4096x128.Idx → Elt Bits .f32 := fun x =>
  y fun | 0 => ⟨(x 0).val / 8, by have := (x 0).isLt; have e : S4096x128.size 0 = 4096 := rfl; show _ < 512; omega⟩
        | 1 => ⟨128 * ((x 0).val % 8) + (x 1).val, by have := (x 1).isLt; have e : S4096x128.size 1 = 128 := rfl; show _ < 1024; omega⟩

open Classical in
/-- What the scratch buffer holds after the point. -/
def first (x1 : S1x1x3584x1024.Idx → Elt Bits .f32) (xa : S3584x1024.Idx → Elt Bits .bf16) : S3584x1024.Idx → Elt Bits .bf16 :=
  if Chg T0 i then k0_pay1 (F := Bits) x1 else xa

open Classical in
/-- What the output block holds after the point, from the rows and the scratch buffer. -/
def result (x0 : S512x3584.Idx → Elt Bits .bf16) (s0 : S3584x1024.Idx → Elt Bits .bf16) : S4096x128.Idx → Elt Bits .f32 :=
  if Use T1 i then tiles (k0_pay2 (F := Bits) x0 s0) else k0_pay11 (F := Bits)

theorem first_pos {x1 : S1x1x3584x1024.Idx → Elt Bits .f32} {xa : S3584x1024.Idx → Elt Bits .bf16} (h : Chg T0 i) :
    first T0 i x1 xa = k0_pay1 (F := Bits) x1 := by unfold first; exact if_pos h
theorem first_neg {x1 : S1x1x3584x1024.Idx → Elt Bits .f32} {xa : S3584x1024.Idx → Elt Bits .bf16} (h : ¬ Chg T0 i) :
    first T0 i x1 xa = xa := by unfold first; exact if_neg h
theorem result_pos {x0 : S512x3584.Idx → Elt Bits .bf16} {s0 : S3584x1024.Idx → Elt Bits .bf16} (h : Use T1 i) :
    result T1 i x0 s0 = tiles (k0_pay2 (F := Bits) x0 s0) := by unfold result; exact if_pos h
theorem result_neg {x0 : S512x3584.Idx → Elt Bits .bf16} {s0 : S3584x1024.Idx → Elt Bits .bf16} (h : ¬ Use T1 i) :
    result T1 i x0 s0 = k0_pay11 (F := Bits) := by unfold result; exact if_neg h

/-- A whole buffer's contents after a store of all of it. -/
theorem whole_writes {b : Ref sig .tc} (f : b.ty.Contents (Elt Bits)) {off : Fin b.ty.shape.rank → ℕ} (inb : ∀ a, off a + b.ty.shape.size a ≤ b.ty.shape.size a)
    (w : (Rect.unit off b.ty.shape.size inb).shape.Idx → Elt Bits b.ty.elt) :
    (View.whole b).writes (Elt Bits) f [⟨Rect.unit off b.ty.shape.size inb, w⟩] = w :=
  (View.read_whole b _).symm.trans (View.read_writes_full (View.whole b) f inb w [])

/-- One of the eight pieces of the output block agrees with the cut rows: every eighth row from `o` on holds the columns from `128 o` on. -/
theorem piece (y : S512x1024.Idx → Elt Bits .f32) {o p : ℕ} (ho : o < 8) (hp : p = 128 * o) (sl : S512x1024.Slices ![0, p] S512x128)
    (inb : ∀ a, S512x128.size a = 0 ∨ (![o, 0] : Fin 2 → ℕ) a + (![8, 1] : Fin 2 → ℕ) a * (S512x128.size a - 1) < S4096x128.size a)
    (sp : ∀ a, 0 < (![8, 1] : Fin 2 → ℕ) a) (x : S512x128.Idx) :
    extractStridedSlice S512x128 ![0, p] y sl x = tiles y ((⟨(⟨![o, 0], S512x128.size, ![8, 1], inb⟩ : LoadRect S4096x128), sp⟩ : Rect S4096x128).emb x) := by
  subst hp
  have h0 : (x 0).val < 512 := (x 0).isLt
  have h1 : (x 1).val < 128 := (x 1).isLt
  refine congrArg y (funext fun a => Fin.ext ?_)
  match a with
  | ⟨0, _⟩ => show 0 + (x 0).val = (o + 8 * (x 0).val) / 8; omega
  | ⟨1, _⟩ => show 128 * o + (x 1).val = 128 * ((o + 8 * (x 0).val) % 8) + (0 + 1 * (x 1).val); omega

/-- An entry of the output block lies in the piece its row number leaves modulo eight. -/
theorem inside {o : ℕ} (y : S4096x128.Idx) (ho : (y 0).val % 8 = o)
    (inb : ∀ a, S512x128.size a = 0 ∨ (![o, 0] : Fin 2 → ℕ) a + (![8, 1] : Fin 2 → ℕ) a * (S512x128.size a - 1) < S4096x128.size a)
    (sp : ∀ a, 0 < (![8, 1] : Fin 2 → ℕ) a) :
    y ∈ (⟨(⟨![o, 0], S512x128.size, ![8, 1], inb⟩ : LoadRect S4096x128), sp⟩ : Rect S4096x128).set := by
  have h0 : (y 0).val < 4096 := (y 0).isLt
  have h1 : (y 1).val < 128 := (y 1).isLt
  refine (LoadRect.mem_set _).mpr fun a => ?_
  match a with
  | ⟨0, _⟩ => exact ⟨(y 0).val / 8, by show _ < 512; omega, by show (y 0).val = o + 8 * ((y 0).val / 8); omega⟩
  | ⟨1, _⟩ => exact ⟨(y 1).val, h1, by show (y 1).val = 0 + 1 * (y 1).val; omega⟩

/-- The eight pieces, last stored first. -/
abbrev pieces (x0 : S512x3584.Idx → Elt Bits .bf16) (s0 : S3584x1024.Idx → Elt Bits .bf16) : List (View.Piece (Elt Bits) S4096x128 .f32) :=
  [⟨⟨(⟨![7, 0], S512x128.size, ![8, 1], inb_S4096x128_S512x128_7_0_s_8_1⟩ : LoadRect S4096x128), spos_8_1⟩, k0_pay10 (F := Bits) x0 s0⟩,
   ⟨⟨(⟨![6, 0], S512x128.size, ![8, 1], inb_S4096x128_S512x128_6_0_s_8_1⟩ : LoadRect S4096x128), spos_8_1⟩, k0_pay9 (F := Bits) x0 s0⟩,
   ⟨⟨(⟨![5, 0], S512x128.size, ![8, 1], inb_S4096x128_S512x128_5_0_s_8_1⟩ : LoadRect S4096x128), spos_8_1⟩, k0_pay8 (F := Bits) x0 s0⟩,
   ⟨⟨(⟨![4, 0], S512x128.size, ![8, 1], inb_S4096x128_S512x128_4_0_s_8_1⟩ : LoadRect S4096x128), spos_8_1⟩, k0_pay7 (F := Bits) x0 s0⟩,
   ⟨⟨(⟨![3, 0], S512x128.size, ![8, 1], inb_S4096x128_S512x128_3_0_s_8_1⟩ : LoadRect S4096x128), spos_8_1⟩, k0_pay6 (F := Bits) x0 s0⟩,
   ⟨⟨(⟨![2, 0], S512x128.size, ![8, 1], inb_S4096x128_S512x128_2_0_s_8_1⟩ : LoadRect S4096x128), spos_8_1⟩, k0_pay5 (F := Bits) x0 s0⟩,
   ⟨⟨(⟨![1, 0], S512x128.size, ![8, 1], inb_S4096x128_S512x128_1_0_s_8_1⟩ : LoadRect S4096x128), spos_8_1⟩, k0_pay4 (F := Bits) x0 s0⟩,
   ⟨⟨(⟨![0, 0], S512x128.size, ![8, 1], inb_S4096x128_S512x128_0_0_s_8_1⟩ : LoadRect S4096x128), spos_8_1⟩, k0_pay3 (F := Bits) x0 s0⟩]

/-- The eight pieces read back are the product's rows cut. -/
theorem pieces_read (v : View sig .tc .vmem S4096x128 .f32) (f : v.ty.Contents (Elt Bits)) (x0 : S512x3584.Idx → Elt Bits .bf16) (s0 : S3584x1024.Idx → Elt Bits .bf16) :
    v.read (Elt Bits) (v.writes (Elt Bits) f (pieces x0 s0)) = tiles (k0_pay2 (F := Bits) x0 s0) := by
  refine funext fun y => View.read_writes_apply_of_pieces v f (tiles (k0_pay2 (F := Bits) x0 s0)) (pieces x0 s0) ?_ y ?_
  · simp only [pieces, List.forall_mem_cons, List.not_mem_nil, false_imp_iff, implies_true, and_true]
    exact ⟨fun x => piece (o := 7) (k0_pay2 (F := Bits) x0 s0) (by decide) rfl slices_S512x1024_o0_896_S512x128 _ _ x,
      fun x => piece (o := 6) (k0_pay2 (F := Bits) x0 s0) (by decide) rfl slices_S512x1024_o0_768_S512x128 _ _ x,
      fun x => piece (o := 5) (k0_pay2 (F := Bits) x0 s0) (by decide) rfl slices_S512x1024_o0_640_S512x128 _ _ x,
      fun x => piece (o := 4) (k0_pay2 (F := Bits) x0 s0) (by decide) rfl slices_S512x1024_o0_512_S512x128 _ _ x,
      fun x => piece (o := 3) (k0_pay2 (F := Bits) x0 s0) (by decide) rfl slices_S512x1024_o0_384_S512x128 _ _ x,
      fun x => piece (o := 2) (k0_pay2 (F := Bits) x0 s0) (by decide) rfl slices_S512x1024_o0_256_S512x128 _ _ x,
      fun x => piece (o := 1) (k0_pay2 (F := Bits) x0 s0) (by decide) rfl slices_S512x1024_o0_128_S512x128 _ _ x,
      fun x => piece (o := 0) (k0_pay2 (F := Bits) x0 s0) (by decide) rfl slices_S512x1024_o0_0_S512x128 _ _ x⟩
  · have h : (y 0).val % 8 < 8 := Nat.mod_lt _ (by decide)
    generalize ho : (y 0).val % 8 = o at h
    interval_cases o
    · exact ⟨_, .tail _ (.tail _ (.tail _ (.tail _ (.tail _ (.tail _ (.tail _ (.head _))))))), inside y ho _ _⟩
    · exact ⟨_, .tail _ (.tail _ (.tail _ (.tail _ (.tail _ (.tail _ (.head _)))))), inside y ho _ _⟩
    · exact ⟨_, .tail _ (.tail _ (.tail _ (.tail _ (.tail _ (.head _))))), inside y ho _ _⟩
    · exact ⟨_, .tail _ (.tail _ (.tail _ (.tail _ (.head _)))), inside y ho _ _⟩
    · exact ⟨_, .tail _ (.tail _ (.tail _ (.head _))), inside y ho _ _⟩
    · exact ⟨_, .tail _ (.tail _ (.head _)), inside y ho _ _⟩
    · exact ⟨_, .tail _ (.head _), inside y ho _ _⟩
    · exact ⟨_, .head _, inside y ho _ _⟩

/-- What a point holds: the two input blocks, the two tables, something of the output block, the scratch buffer. -/
abbrev held (c : Dev nD) (arg4 : Memref sig .tc .vmem S512x3584 .bf16) (arg5 : Memref sig .tc .vmem S1x1x3584x1024 .f32)
    (x0 : S512x3584.Idx → Elt Bits .bf16) (x1 : S1x1x3584x1024.Idx → Elt Bits .f32) (O : sProp 𝕄) (s0 : S3584x1024.Idx → Elt Bits .bf16) (R : sProp 𝕄) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (tbM0_0.view.loc (c : Thread nD τ) ↦{fullShare.right} T0)
    ∗ (tbM0_1.view.loc (c : Thread nD τ) ↦{fullShare.right} T1)
    ∗ O
    ∗ (scM0_0.view.loc (c : Thread nD τ) ↦{fullShare} (s0 : Buf (Elt Bits) ((c : Thread nD τ).loc cc0_scratch0)))
    ∗ R)

/-- What it leaves: the same with the output block at `o` and the scratch buffer at `s`. -/
abbrev left (c : Dev nD) (arg4 : Memref sig .tc .vmem S512x3584 .bf16) (arg5 : Memref sig .tc .vmem S1x1x3584x1024 .f32) (arg6 : Memref sig .tc .vmem S4096x128 .f32)
    (x0 : S512x3584.Idx → Elt Bits .bf16) (x1 : S1x1x3584x1024.Idx → Elt Bits .f32) (o : S4096x128.Idx → Elt Bits .f32) (s : S3584x1024.Idx → Elt Bits .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (tbM0_0.view.loc (c : Thread nD τ) ↦{fullShare.right} T0)
    ∗ (tbM0_1.view.loc (c : Thread nD τ) ↦{fullShare.right} T1)
    ∗ owns (c : Thread nD τ) arg6 fullShare o
    ∗ (∃ r : S3584x1024.Idx → Elt Bits .bf16, ⌜r = s⌝ ∗ (scM0_0.view.loc (c : Thread nD τ) ↦{fullShare} (r : Buf (Elt Bits) ((c : Thread nD τ).loc cc0_scratch0)))))

section
variable (c : Dev nD) (arg4 : Memref sig .tc .vmem S512x3584 .bf16) (harg4 : arg4.IsWhole) (arg5 : Memref sig .tc .vmem S1x1x3584x1024 .f32) (harg5 : arg5.IsWhole)
    (arg6 : Memref sig .tc .vmem S4096x128 .f32) (harg6 : arg6.IsWhole)
    (x0 : S512x3584.Idx → Elt Bits .bf16) (x1 : S1x1x3584x1024.Idx → Elt Bits .f32) (xa : S3584x1024.Idx → Elt Bits .bf16) (K : PUnit → sProp 𝕄)

/-- The body of a point. -/
abbrev point : Prog (TpuEff nD τ sig (Elt Bits) Λ₀ .tc) PUnit :=
  cc0_moe_expert_down i tbM0_0 (Memref.isWhole_whole _) tbM0_1 (Memref.isWhole_whole _) arg4 harg4 arg5 harg5 arg6 harg6 scM0_0 (Memref.isWhole_whole _)

/-- A used tile of a new expert. -/
theorem new_used (hc : Chg T0 i) (hu : Use T1 i) (hp : ¬ Pad T1 i) :
    held T0 T1 c arg4 arg5 x0 x1 iprop(∃ d, owns (c : Thread nD τ) arg6 fullShare d) xa
        iprop(left T0 T1 c arg4 arg5 arg6 x0 x1 (tiles (k0_pay2 (F := Bits) x0 (k0_pay1 (F := Bits) x1))) (k0_pay1 (F := Bits) x1) -∗ K ⟨⟩)
      ⊢ wp frame (wpE (defs₀ (F := Bits)) Variants.none c none) Set.univ (point i arg4 harg4 arg5 harg5 arg6 harg6) K := by
  unfold held left owns point
  rw [cc0_moe_expert_down_eq_skeleton]; unfold cc0_moe_expert_down_skel
  iintro ⟨H0, H1, HT0, HT1, ⟨%d, %f, -, HO⟩, HS, Hk⟩
  have hS : scM0_0.IsWhole := Memref.isWhole_whole _
  have hT0 : tbM0_0.IsWhole := Memref.isWhole_whole _
  have hT1 : tbM0_1.IsWhole := Memref.isWhole_whole _
  sl_exec! (disch := first | (guard_target = Scalar.cmpi = _; exact hc) | (guard_target = k0_cond2 _ _ = _; exact hu) | (guard_target = ¬(k0_cond3 _ _ = _); exact hp))
  sl_step
  iapply Hk
  isplitl [H0]; · iexact H0
  isplitl [H1]; · iexact H1
  isplitl [HT0]; · iexact HT0
  isplitl [HT1]; · iexact HT1
  isplitl [HO]
  · iexists _; isplitr; swap; · iexact HO
    ipureintro
    rw [View.readAt_rep_full]
    refine (pieces_read arg6.view f x0 _).trans (congrArg (fun s => tiles (k0_pay2 (F := Bits) x0 s)) ((View.readCov_full scM0_0.view _ _ _ []).trans ?_))
    rw [View.readAt_rep_full]
  iexists _; isplitr; swap; · iexact HS
  ipureintro
  refine (whole_writes (b := cc0_scratch0) _ _ _).trans ?_
  rw [View.readAt_rep_full]

/-- A used tile of the expert before. -/
theorem old_used (hc : ¬ Chg T0 i) (hu : Use T1 i) (hp : ¬ Pad T1 i) :
    held T0 T1 c arg4 arg5 x0 x1 iprop(∃ d, owns (c : Thread nD τ) arg6 fullShare d) xa
        iprop(left T0 T1 c arg4 arg5 arg6 x0 x1 (tiles (k0_pay2 (F := Bits) x0 xa)) xa -∗ K ⟨⟩)
      ⊢ wp frame (wpE (defs₀ (F := Bits)) Variants.none c none) Set.univ (point i arg4 harg4 arg5 harg5 arg6 harg6) K := by
  unfold held left owns point
  rw [cc0_moe_expert_down_eq_skeleton]; unfold cc0_moe_expert_down_skel
  iintro ⟨H0, H1, HT0, HT1, ⟨%d, %f, -, HO⟩, HS, Hk⟩
  have hS : scM0_0.IsWhole := Memref.isWhole_whole _
  have hT0 : tbM0_0.IsWhole := Memref.isWhole_whole _
  have hT1 : tbM0_1.IsWhole := Memref.isWhole_whole _
  sl_exec! (disch := first | (guard_target = ¬(Scalar.cmpi _ _ _ = _); exact hc) | (guard_target = k0_cond2 _ _ = _; exact hu) | (guard_target = ¬(k0_cond3 _ _ = _); exact hp))
  sl_step
  iapply Hk
  isplitl [H0]; · iexact H0
  isplitl [H1]; · iexact H1
  isplitl [HT0]; · iexact HT0
  isplitl [HT1]; · iexact HT1
  isplitl [HO]
  · iexists _; isplitr; swap; · iexact HO
    ipureintro
    rw [View.readAt_rep_full]
    exact (pieces_read arg6.view f x0 _).trans (congrArg (fun s => tiles (k0_pay2 (F := Bits) x0 s)) (View.readAt_full scM0_0.view xa _))
  iexists _; isplitr; swap; · iexact HS
  ipureintro
  rfl

/-- A padding tile where the expert stays. -/
theorem old_pad (hc : ¬ Chg T0 i) (hu : ¬ Use T1 i) (hp : Pad T1 i) :
    held T0 T1 c arg4 arg5 x0 x1 iprop(∃ d, owns (c : Thread nD τ) arg6 fullShare d) xa
        iprop(left T0 T1 c arg4 arg5 arg6 x0 x1 (k0_pay11 (F := Bits)) xa -∗ K ⟨⟩)
      ⊢ wp frame (wpE (defs₀ (F := Bits)) Variants.none c none) Set.univ (point i arg4 harg4 arg5 harg5 arg6 harg6) K := by
  unfold held left owns point
  rw [cc0_moe_expert_down_eq_skeleton]; unfold cc0_moe_expert_down_skel
  iintro ⟨H0, H1, HT0, HT1, ⟨%d, %f, -, HO⟩, HS, Hk⟩
  have hS : scM0_0.IsWhole := Memref.isWhole_whole _
  have hT0 : tbM0_0.IsWhole := Memref.isWhole_whole _
  have hT1 : tbM0_1.IsWhole := Memref.isWhole_whole _
  sl_exec! (disch := first | (guard_target = ¬(Scalar.cmpi _ _ _ = _); exact hc) | (guard_target = ¬(k0_cond2 _ _ = _); exact hu) | (guard_target = k0_cond3 _ _ = _; exact hp))
  sl_step
  iapply Hk
  isplitl [H0]; · iexact H0
  isplitl [H1]; · iexact H1
  isplitl [HT0]; · iexact HT0
  isplitl [HT1]; · iexact HT1
  isplitl [HO]
  · iexists _; isplitr; swap; · iexact HO
    ipureintro
    exact View.read_writes_full arg6.view _ _ _ []
  iexists _; isplitr; swap; · iexact HS
  ipureintro
  rfl

/-- A padding tile where the expert changes. -/
theorem new_pad (hc : Chg T0 i) (hu : ¬ Use T1 i) (hp : Pad T1 i) :
    held T0 T1 c arg4 arg5 x0 x1 iprop(∃ d, owns (c : Thread nD τ) arg6 fullShare d) xa
        iprop(left T0 T1 c arg4 arg5 arg6 x0 x1 (k0_pay11 (F := Bits)) (k0_pay1 (F := Bits) x1) -∗ K ⟨⟩)
      ⊢ wp frame (wpE (defs₀ (F := Bits)) Variants.none c none) Set.univ (point i arg4 harg4 arg5 harg5 arg6 harg6) K := by
  unfold held left owns point
  rw [cc0_moe_expert_down_eq_skeleton]; unfold cc0_moe_expert_down_skel
  iintro ⟨H0, H1, HT0, HT1, ⟨%d, %f, -, HO⟩, HS, Hk⟩
  have hS : scM0_0.IsWhole := Memref.isWhole_whole _
  have hT0 : tbM0_0.IsWhole := Memref.isWhole_whole _
  have hT1 : tbM0_1.IsWhole := Memref.isWhole_whole _
  sl_exec! (disch := first | (guard_target = Scalar.cmpi = _; exact hc) | (guard_target = ¬(k0_cond2 _ _ = _); exact hu) | (guard_target = k0_cond3 _ _ = _; exact hp))
  sl_step
  iapply Hk
  isplitl [H0]; · iexact H0
  isplitl [H1]; · iexact H1
  isplitl [HT0]; · iexact HT0
  isplitl [HT1]; · iexact HT1
  isplitl [HO]
  · iexists _; isplitr; swap; · iexact HO
    ipureintro
    exact View.read_writes_full arg6.view _ _ _ []
  iexists _; isplitr; swap; · iexact HS
  ipureintro
  refine (whole_writes (b := cc0_scratch0) _ _ _).trans ?_
  rw [View.readAt_rep_full]

/-- The point, from its blocks: the inputs and tables are as they were, the output block holds `result` and the scratch buffer `first`. -/
theorem run (hp : Pad T1 i ↔ ¬ Use T1 i) :
    held T0 T1 c arg4 arg5 x0 x1 iprop(∃ d, owns (c : Thread nD τ) arg6 fullShare d) xa
        iprop(left T0 T1 c arg4 arg5 arg6 x0 x1 (result T1 i x0 (first T0 i x1 xa)) (first T0 i x1 xa) -∗ K ⟨⟩)
      ⊢ wp frame (wpE (defs₀ (F := Bits)) Variants.none c none) Set.univ (point i arg4 harg4 arg5 harg5 arg6 harg6) K := by
  by_cases hc : Chg T0 i
  · rw [first_pos T0 i hc]
    by_cases hu : Use T1 i
    · rw [result_pos T1 i hu]
      exact new_used T0 T1 i c arg4 harg4 arg5 harg5 arg6 harg6 x0 x1 xa K hc hu fun h => hp.mp h hu
    · rw [result_neg T1 i hu]
      exact new_pad T0 T1 i c arg4 harg4 arg5 harg5 arg6 harg6 x0 x1 xa K hc hu (hp.mpr hu)
  · rw [first_neg T0 i hc]
    by_cases hu : Use T1 i
    · rw [result_pos T1 i hu]
      exact old_used T0 T1 i c arg4 harg4 arg5 harg5 arg6 harg6 x0 x1 xa K hc hu fun h => hp.mp h hu
    · rw [result_neg T1 i hu]
      exact old_pad T0 T1 i c arg4 harg4 arg5 harg5 arg6 harg6 x0 x1 xa K hc hu (hp.mpr hu)

end

end Cert.Kernel6.Down

end

end
-- ==== Proof.DownWordFrame.lean ====
module

public import proofs.«01_k».proof.Proof.DownWordTables
public import proofs.«01_k».proof.Proof.Gen.Kernel6.Launch
public import Idealize.ShloMosaic.Lib.Pipeline.Quiescent
public import Idealize.ShloMosaic.Lib.Pipeline.Kit
public import Idealize.ShloMosaic.Lib.Pipeline.FrameBody
public import Idealize.ShloMosaic.Lib.Claim
public import Idealize.ShloMosaic.Adequacy
public import Idealize.ShloMosaic.Init

/-! The experts' last product at any admissible tables: the pipeline at the tables the memory holds, the scratch buffer point by point, the obligation of a point, and the run of the whole call. -/

@[expose] public section

noncomputable section

namespace Cert.Kernel6.Down

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the staging cells, embedded whole. -/
abbrev EP : Emb (UR sig nD τ) 𝕄 := emb₁

variable (m : (ℓ : Loc nD τ sig) → Buf (Elt Bits) ℓ) (ρ : Dev nD → PrngReg)

/-- The table of experts the memory holds. -/
def experts : S56.Idx → BitVec 32 := m (((0 : Dev nD) : Thread nD τ).loc main_arg1)

/-- The count of used tiles the memory holds. -/
def used : S1.Idx → BitVec 32 := m (((0 : Dev nD) : Thread nD τ).loc main_arg2)

variable (h : Tab (experts m) (used m))

/-- The tables, admissible; the pipeline at them. -/
def adm : (pcfg0 (F := Bits)).Adm := ⟨pf (experts m) (used m), ok h⟩
abbrev cfgA : Pipeline.Cfg sig Λ₀ := cfg0 (F := Bits) (adm m h)
abbrev pcs : Fin 1 → Pipeline.Cfg sig Λ₀ := Pipeline.pin (pcfgs (F := Bits)) fun _ => adm m h

/-- A point's coordinates. -/
abbrev crd (t : Fin (cfgA m h).N) : grid0.Coords := (cfgA m h).grid.coords t

/-- Each window's current staging buffer. -/
abbrev stg0 (t : Fin (cfgA m h).N) : Memref sig .tc .vmem S512x3584 .bf16 := spec0_0.stage ((cfgA m h).slots t (0 : Fin 3))
abbrev stg1 (t : Fin (cfgA m h).N) : Memref sig .tc .vmem S1x1x3584x1024 .f32 := spec0_1.stage ((cfgA m h).slots t (1 : Fin 3))
abbrev stg2 (t : Fin (cfgA m h).N) : Memref sig .tc .vmem S4096x128 .f32 := spec0_2.stage ((cfgA m h).slots t (2 : Fin 3))

/-- A window's block at a point, read off its array at launch. -/
def iblk (c : Dev nD) (w : Fin (cfgA m h).W) (t : Fin (cfgA m h).N) : (((cfgA m h).win w).xblock (crd m h t)).Idx → Elt Bits ((cfgA m h).win w).elt :=
  (((cfgA m h).win w).blk t).view.read (Elt Bits) ((s₀ m ρ).mem (((cfgA m h).win w).arr.view.loc (c : Thread nD τ)))

/-- What the scratch buffer holds before point `n`. -/
def fst (c : Dev nD) : ℕ → S3584x1024.Idx → Elt Bits .bf16
  | 0 => default
  | n + 1 => if hn : n < (cfgA m h).N then first (experts m) (crd m h ⟨n, hn⟩) (iblk m ρ h c (1 : Fin 3) ⟨n, hn⟩) (fst c n) else fst c n

/-- The output block after a point. -/
def out (c : Dev nD) (t : Fin (cfgA m h).N) : S4096x128.Idx → Elt Bits .f32 :=
  result (used m) (crd m h t) (iblk m ρ h c (0 : Fin 3) t) (fst m ρ h c (t.val + 1))

theorem fst_succ (c : Dev nD) (t : Fin (cfgA m h).N) :
    fst m ρ h c (t.val + 1) = first (experts m) (crd m h t) (iblk m ρ h c (1 : Fin 3) t) (fst m ρ h c t.val) := by
  rw [fst]; exact dif_pos t.isLt

/-- Points are numbered tile by tile. -/
theorem coords_tile : ∀ t : Fin grid0.N, (grid0.coords t 1).val = t.val % 56 := by decide +kernel

/-- At the first point the expert changes. -/
theorem chg_zero (t : Fin (cfgA m h).N) (h0 : t.val = 0) : Chg (experts m) (crd m h t) :=
  (chg_iff (experts m) (crd m h t)).mpr (.inl ((coords_tile t).trans (by rw [h0])))

/-- A point's scratch buffer, whatever it held before the first point. -/
theorem fst_step (c : Dev nD) (t : Fin (cfgA m h).N) (a : S3584x1024.Idx → Elt Bits .bf16) (ha : t.val ≠ 0 → a = fst m ρ h c t.val) :
    first (experts m) (crd m h t) (iblk m ρ h c (1 : Fin 3) t) a = fst m ρ h c (t.val + 1) := by
  rw [fst_succ]
  by_cases h0 : t.val = 0
  · rw [first_pos _ _ (chg_zero m h t h0), first_pos _ _ (chg_zero m h t h0)]
  · rw [ha h0]

/-- What a core holds before point `n`: the scratch buffer, at what the points so far left in it, and its halves of the tables. -/
def inv (c : Dev nD) (n : ℕ) : sProp 𝕄 :=
  iprop((∃ a : S3584x1024.Idx → Elt Bits .bf16, ⌜n ≠ 0 → a = fst m ρ h c n⌝ ∗ (scM0_0.view.loc (c : Thread nD τ) ↦{fullShare} (a : Buf (Elt Bits) ((c : Thread nD τ).loc cc0_scratch0))))
    ∗ (tbM0_0.view.loc (c : Thread nD τ) ↦{fullShare.right} experts m) ∗ (tbM0_1.view.loc (c : Thread nD τ) ↦{fullShare.right} used m))

/-- The pipeline's proof data. -/
def dats (_ : Fin 1) (c : Dev nD) : Dat τ (Elt Bits) Unit ℕ (UR sig nD τ) ℕ (cfgA m h) c where
  A w := (s₀ m ρ).mem (((cfgA m h).win w).arr.view.loc (c : Thread nD τ))
  after w t := match w with
    | ⟨0, _⟩ => iblk m ρ h c (0 : Fin 3) t
    | ⟨1, _⟩ => iblk m ρ h c (1 : Fin 3) t
    | ⟨2, _⟩ => out m ρ h c t
  Φ t := inv m ρ h c t.val
  q _ := fullShare
  owed _ := 0

theorem after_0 (c : Dev nD) (t : Fin (cfgA m h).N) : (dats m ρ h 0 c).after (0 : Fin 3) t = iblk m ρ h c (0 : Fin 3) t := rfl
theorem after_1 (c : Dev nD) (t : Fin (cfgA m h).N) : (dats m ρ h 0 c).after (1 : Fin 3) t = iblk m ρ h c (1 : Fin 3) t := rfl
theorem after_2 (c : Dev nD) (t : Fin (cfgA m h).N) : (dats m ρ h 0 c).after (2 : Fin 3) t = out m ρ h c t := rfl

/-- The rows a point is handed are its block's. -/
theorem before_0 (c : Dev nD) (t : Fin (cfgA m h).N) (d) : (dats m ρ h 0 c).before (0 : Fin 3) t d = iblk m ρ h c (0 : Fin 3) t :=
  ((dats m ρ h 0 c).before_in_eq_fetched (0 : Fin 3) rfl (fun _ => rfl) (fun _ _ _ => rfl) (fun t => by rw [after_0]; unfold Dat.blockOf iblk; rfl) t d).trans
    (by unfold Dat.fetched Dat.blockOf iblk; rfl)

/-- The weights likewise. -/
theorem before_1 (c : Dev nD) (t : Fin (cfgA m h).N) (d) : (dats m ρ h 0 c).before (1 : Fin 3) t d = iblk m ρ h c (1 : Fin 3) t :=
  ((dats m ρ h 0 c).before_in_eq_fetched (1 : Fin 3) rfl (fun _ => rfl) (fun _ _ _ => rfl) (fun t => by rw [after_1]; unfold Dat.blockOf iblk; rfl) t d).trans
    (by unfold Dat.fetched Dat.blockOf iblk; rfl)

/-- The body at a point, as the pipeline calls it. -/
abbrev bodyAt (t : Fin (cfgA m h).N) : Prog (TpuEff nD τ sig (Elt Bits) Λ₀ .tc) PUnit :=
  cc0_moe_expert_down (crd m h t) tbM0_0 (Memref.isWhole_whole _) tbM0_1 (Memref.isWhole_whole _)
    (stg0 m h t) (hstage0_0 (((cfgA m h).slots t (0 : Fin 3)).cast nbuf0_0)) (stg1 m h t) (hstage0_1 (((cfgA m h).slots t (1 : Fin 3)).cast nbuf0_1))
    (stg2 m h t) (hstage0_2 (((cfgA m h).slots t (2 : Fin 3)).cast nbuf0_2))
    scM0_0 (Memref.isWhole_whole _)

/-- The body at a point, from what the core holds before it. -/
theorem body (c : Dev nD) (t : Fin (cfgA m h).N) (Ow : sProp 𝕄) :
    iprop(inv m ρ h c t.val ∗ Ow
        ∗ owns (c : Thread nD τ) (stg0 m h t) fullShare (iblk m ρ h c (0 : Fin 3) t)
        ∗ owns (c : Thread nD τ) (stg1 m h t) fullShare (iblk m ρ h c (1 : Fin 3) t)
        ∗ (∃ d, owns (c : Thread nD τ) (stg2 m h t) fullShare d))
      ⊢ wp frame (wpE (defs₀ (F := Bits)) Variants.none c none) Set.univ (bodyAt m h t) fun _ =>
          iprop(inv m ρ h c (t.val + 1) ∗ Ow
            ∗ owns (c : Thread nD τ) (stg0 m h t) fullShare (iblk m ρ h c (0 : Fin 3) t)
            ∗ owns (c : Thread nD τ) (stg1 m h t) fullShare (iblk m ρ h c (1 : Fin 3) t)
            ∗ owns (c : Thread nD τ) (stg2 m h t) fullShare (out m ρ h c t)) := by
  rw [owns_eq_rep (c : Thread nD τ) (stg0 m h t), owns_eq_rep (c : Thread nD τ) (stg1 m h t)]
  unfold inv
  iintro ⟨⟨⟨%a, %ha, HS⟩, HT0, HT1⟩, Ho, H0, H1, H2⟩
  iapply (run (experts m) (used m) (crd m h t) c (stg0 m h t) (hstage0_0 (((cfgA m h).slots t (0 : Fin 3)).cast nbuf0_0)) (stg1 m h t) (hstage0_1 (((cfgA m h).slots t (1 : Fin 3)).cast nbuf0_1))
    (stg2 m h t) (hstage0_2 (((cfgA m h).slots t (2 : Fin 3)).cast nbuf0_2))
    (iblk m ρ h c (0 : Fin 3) t) (iblk m ρ h c (1 : Fin 3) t) a _ (pad_iff _ h))
  isplitl [H0]; · iexact H0
  isplitl [H1]; · iexact H1
  isplitl [HT0]; · iexact HT0
  isplitl [HT1]; · iexact HT1
  isplitl [H2]; · iexact H2
  isplitl [HS]; · iexact HS
  rw [fst_step m ρ h c t a ha]
  iintro ⟨H0, H1, HT0, HT1, H2, ⟨%r, %hr, HS⟩⟩
  isplitl [HS HT0 HT1]
  · isplitl [HS]
    · iexists _; isplitr; swap
      · iexact HS
      · ipureintro; intro _; exact hr
    isplitl [HT0]; · iexact HT0
    iexact HT1
  isplitl [Ho]; · iexact Ho
  isplitl [H0]; · iexact H0
  isplitl [H1]; · iexact H1
  iexact H2

/-- The output window is written at every point. -/
theorem idle_2 (t : Fin (cfgA m h).N) : (cfgA m h).idle (2 : Fin 3) ((cfgA m h).grid.coords t) = false := stored (crd m h t) h

/-- What the core holds at a point's number. -/
theorem inv_at (c : Dev nD) (s : Fin ((cfgA m h).N + 1)) : (dats m ρ h 0 c).Φ s = inv m ρ h c s.val := rfl

/-- The pipeline's obligation of a point. -/
theorem obligation (c : Dev nD) : BodyObligation (dats m ρ h 0 c) (defs₀ (F := Bits)) Variants.none () Set.univ := fun t => by
  rw [bigSep_W0, bigSep_W0]
  rewrite [idle_2]
  simp only [before_0, before_1, after_0, after_1, after_2]
  rewrite [inv_at, inv_at, Fin.val_castSucc, Fin.val_succ,
    show (dats m ρ h 0 c).owesAt () t.succ = (dats m ρ h 0 c).owesAt () t.castSucc from rfl]
  iintro ⟨Hi, Ho, ⟨%d0, H0⟩, ⟨%d1, H1⟩, ⟨%d2, H2⟩⟩
  iapply (body m ρ h c t ((dats m ρ h 0 c).owesAt () t.castSucc))
  isplitl [Hi]; · iexact Hi
  isplitl [Ho]; · iexact Ho
  isplitl [H0]; · iexact H0
  isplitl [H1]; · iexact H1
  iexists _; iexact H2

/-- The cells and tokens the launch starts from. -/
def u₀ : UR sig nD τ :=
  initOf (Pipeline.cells (pcs m h) ((launch0 (F := Bits)).cellOf_inj fun _ => adm m h))
    (Pipeline.launchToks (pcs m h) ((launch0 (F := Bits)).cellOf_inj fun _ => adm m h))

/-- Every window holds its array whole. -/
theorem share_whole (c : Dev nD) (w : Fin (cfgA m h).W) : (dats m ρ h 0 c).share w = fullShare := by
  unfold Dat.share; split <;> rfl

/-- The two tables as the launch hands them over. -/
theorem tables_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- Before the first point: the tables, and a scratch buffer holding anything. -/
theorem inv_start (c : Dev nD) :
    iprop(BI.emp ∗ Pipeline.prefHeld pre0 c (fun _ => fullShare.right) (adm m h).1 ∗ Pipeline.scopedRest spec0 c) ⊢ (dats m ρ h 0 c).Φ 0 := by
  rw [tables_held, scopedRest0_eq, inv_at]
  unfold inv
  iintro ⟨-, ⟨HT0, HT1⟩, ⟨%a0, HS0⟩⟩
  isplitl [HS0]
  · iexists a0; isplitr; swap
    · iexact HS0
    · ipureintro; intro h0; exact absurd rfl h0
  isplitl [HT0]
  · iexact HT0
  iexact HT1

/-- After the last point the scratch buffer is given back. -/
theorem inv_end (c : Dev nD) : (dats m ρ h 0 c).Φ (Fin.last (cfgA m h).N) ⊢ iprop(BI.emp ∗ Pipeline.scopedRest spec0 c) := by
  rw [scopedRest0_eq, inv_at]
  unfold inv
  iintro ⟨⟨%a0, -, HS0⟩, -, -⟩
  isplitr; · iempintro
  iexists a0; iexact HS0

/-- The final memory: every array at what the points wrote, both tables as they were. -/
def Final : PUnit × MemSt nD τ sig (Elt Bits) → Prop := fun r =>
  ∀ c : Dev nD, (∀ w : Fin (cfgA m h).W, r.2.mem (((cfgA m h).win w).arr.view.loc (c : Thread nD τ)) = (dats m ρ h 0 c).arrAt w (cfgA m h).N)
    ∧ ∀ j, r.2.mem ((c : Thread nD τ).loc (pre0.ref j)) = (adm m h).1 j

/-- The tables the pipeline runs at are the ones the memory holds. -/
theorem tables_at (c : Dev nD) (j : Fin 2) : m ((c : Thread nD τ).loc (pre0.ref j)) = (adm m h).1 j := by
  obtain rfl : c = 0 := Subsingleton.elim _ _
  fin_cases j <;> rfl

set_option backward.isDefEq.respectTransparency.types false in
/-- The call runs to its end from any memory whose tables are admissible, every semaphore at zero. -/
theorem runs : θ_run (defs (F := Bits)) (onTc (τ := τ) (main (F := Bits))) (s₀ m ρ) (fun r => Final m ρ h r ∧ r.2.sem = fun _ => 0) :=
  Pipeline.θ_run_region_noSem_pf_quiescent pcfgs (fun _ => adm m h) (dats m ρ h) () ((launch0 (F := Bits)).cellOf_inj fun _ => adm m h) (0 : Fin 1)
    (launch0 (F := Bits)).win.to₀ (launch0 (F := Bits)).pre EP defs₀ Variants.none m ρ main
    (hbody := fun c => (obligation m ρ h c).loose) (hne := (launch0 (F := Bits)).block_pos)
    (harr := (launch0 (F := Bits)).arr_whole) (hstage := (launch0 (F := Bits)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m h) (dats m ρ h) 0 (launch0 (F := Bits)).win.arr_inj c (launch0 (F := Bits)).arr_whole
      (share_whole m ρ h c) _ _ fun _ => rfl)
    (hpf := tables_at m h)
    (X := fun _ => iprop(emp)) (Y := fun _ => iprop(emp)) (Z := fun _ => iprop(emp))
    (hX := fun c => by rw [unscopedRestP0_eq]; iintro -; isplitr <;> iempintro)
    (hin := inv_start m ρ h)
    (hout := inv_end m ρ h)
    (QY := fun _ _ => True)
    (hY := fun c s' => by
      iintro ⟨-, -, HSI⟩; imodintro
      isplitr; · ipureintro; trivial
      iexact HSI)
    (hQ := fun _ hr hz => ⟨fun c => ⟨(hr c).1, (hr c).2.1⟩, hz⟩)

/-- The arguments end as they were, and so do the semaphores; the result ends at what the points wrote. -/
theorem ends : θ_run (defs (F := Bits)) (onTc (τ := τ) (main (F := Bits))) ⟨m, fun _ => 0, ρ⟩ (fun r => (∀ c : Dev nD,
      r.2.mem ((c.tc : Thread nD τ).loc main_v0) = (dats m ρ h 0 c).arrAt (2 : Fin 3) (cfgA m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨fun c => ⟨(hr.1 c).1 (2 : Fin 3),
    ((hr.1 c).1 (0 : Fin 3)).trans ((dats m ρ h 0 c).arrAt_in (0 : Fin 3) rfl _),
    ((hr.1 c).2 0).trans (tables_at m h c 0).symm, ((hr.1 c).2 1).trans (tables_at m h c 1).symm,
    ((hr.1 c).1 (1 : Fin 3)).trans ((dats m ρ h 0 c).arrAt_in (1 : Fin 3) rfl _)⟩, hr.2⟩) (runs m ρ h)

end Cert.Kernel6.Down

end

end
-- ==== Proof.DownRun.lean ====
module

public import proofs.«01_k».proof.Proof.Gen.Kernel6Ideal.Skeleton
public import proofs.«01_k».proof.Proof.Gen.Kernel6Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.VecWindow
public import Idealize.ShloMosaic.PureOps.Ideal
public import Idealize.ShloMosaic.Adequacy
public import Idealize.ShloMosaic.Init

/-! One point of the experts' last product, in plain terms: which weights the scratch buffer holds after it and which rows its output block holds, from the blocks it is handed, the two tables and what the scratch buffer held before. -/

@[expose] public section

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The two tables and the scratch buffer, whole. -/
abbrev tbM0_0 : Memref sig .tc .smem S56 .i32 := Memref.whole main_arg1
abbrev tbM0_1 : Memref sig .tc .smem S1 .i32 := Memref.whole main_arg2
abbrev scM0_0 : Memref sig .tc .vmem S3584x1024 .bf16 := Memref.whole cc0_scratch0

variable (T0 : S56.Idx → Elt Ideal .i32) (T1 : S1.Idx → Elt Ideal .i32) (i : grid0.Coords)

/-- The expert changes at the point: it is the first tile, or the tile before has another entry. -/
abbrev Chg : Prop :=
  Scalar.cmpi .ne (Scalar.extui (Scalar.ori (Scalar.cmpi .eq (BitVec.ofNat 32 (i 1).val) 0#32) (Scalar.cmpi .ne
    (View.readAt (Elt Ideal) (tbM0_0).view (Rect.unit (s := S56) (k0_off1 i) S1.size (k0_off1_inb i)).toLoadRect T0 (Shape.Idx.first (numel1_S1.symm ▸ Nat.one_pos)))
    (View.readAt (Elt Ideal) (tbM0_0).view (Rect.unit (s := S56) (k0_off2 i) S1.size (k0_off2_inb i)).toLoadRect T0 (Shape.Idx.first (numel1_S1.symm ▸ Nat.one_pos)))))) 0#32 = 1#1

/-- The number of used tiles, as the point reads it. -/
abbrev count : BitVec 32 :=
  View.readAt (Elt Ideal) (tbM0_1).view (Rect.unit (s := S1) ![0] S1.size inb_S1_S1_0).toLoadRect T1 (Shape.Idx.first (numel1_S1.symm ▸ Nat.one_pos))

/-- The point's tile is used. -/
abbrev Use : Prop := k0_cond2 i (count T1) = 1#1

/-- The point's tile is padding. -/
abbrev Pad : Prop := k0_cond3 i (count T1) = 1#1

/-- A block's rows of 1024 entries cut into eight rows of 128 each, in order. -/
def tiles (y : S512x1024.Idx → Elt Ideal .f32) : S4096x128.Idx → Elt Ideal .f32 := fun x =>
  y fun | 0 => ⟨(x 0).val / 8, by have := (x 0).isLt; have e : S4096x128.size 0 = 4096 := rfl; show _ < 512; omega⟩
        | 1 => ⟨128 * ((x 0).val % 8) + (x 1).val, by have := (x 1).isLt; have e : S4096x128.size 1 = 128 := rfl; show _ < 1024; omega⟩

open Classical in
/-- What the scratch buffer holds after the point. -/
def first (x1 : S1x1x3584x1024.Idx → Elt Ideal .f32) (xa : S3584x1024.Idx → Elt Ideal .bf16) : S3584x1024.Idx → Elt Ideal .bf16 :=
  if Chg T0 i then k0_pay1 (F := Ideal) x1 else xa

open Classical in
/-- What the output block holds after the point, from the rows and the scratch buffer. -/
def result (x0 : S512x3584.Idx → Elt Ideal .bf16) (s0 : S3584x1024.Idx → Elt Ideal .bf16) : S4096x128.Idx → Elt Ideal .f32 :=
  if Use T1 i then tiles (k0_pay2 (F := Ideal) x0 s0) else k0_pay11 (F := Ideal)

theorem first_pos {x1 : S1x1x3584x1024.Idx → Elt Ideal .f32} {xa : S3584x1024.Idx → Elt Ideal .bf16} (h : Chg T0 i) :
    first T0 i x1 xa = k0_pay1 (F := Ideal) x1 := by unfold first; exact if_pos h
theorem first_neg {x1 : S1x1x3584x1024.Idx → Elt Ideal .f32} {xa : S3584x1024.Idx → Elt Ideal .bf16} (h : ¬ Chg T0 i) :
    first T0 i x1 xa = xa := by unfold first; exact if_neg h
theorem result_pos {x0 : S512x3584.Idx → Elt Ideal .bf16} {s0 : S3584x1024.Idx → Elt Ideal .bf16} (h : Use T1 i) :
    result T1 i x0 s0 = tiles (k0_pay2 (F := Ideal) x0 s0) := by unfold result; exact if_pos h
theorem result_neg {x0 : S512x3584.Idx → Elt Ideal .bf16} {s0 : S3584x1024.Idx → Elt Ideal .bf16} (h : ¬ Use T1 i) :
    result T1 i x0 s0 = k0_pay11 (F := Ideal) := by unfold result; exact if_neg h

/-- A whole buffer's contents after a store of all of it. -/
theorem whole_writes {b : Ref sig .tc} (f : b.ty.Contents (Elt Ideal)) {off : Fin b.ty.shape.rank → ℕ} (inb : ∀ a, off a + b.ty.shape.size a ≤ b.ty.shape.size a)
    (w : (Rect.unit off b.ty.shape.size inb).shape.Idx → Elt Ideal b.ty.elt) :
    (View.whole b).writes (Elt Ideal) f [⟨Rect.unit off b.ty.shape.size inb, w⟩] = w :=
  (View.read_whole b _).symm.trans (View.read_writes_full (View.whole b) f inb w [])

/-- One of the eight pieces of the output block agrees with the cut rows: every eighth row from `o` on holds the columns from `128 o` on. -/
theorem piece (y : S512x1024.Idx → Elt Ideal .f32) {o p : ℕ} (ho : o < 8) (hp : p = 128 * o) (sl : S512x1024.Slices ![0, p] S512x128)
    (inb : ∀ a, S512x128.size a = 0 ∨ (![o, 0] : Fin 2 → ℕ) a + (![8, 1] : Fin 2 → ℕ) a * (S512x128.size a - 1) < S4096x128.size a)
    (sp : ∀ a, 0 < (![8, 1] : Fin 2 → ℕ) a) (x : S512x128.Idx) :
    extractStridedSlice S512x128 ![0, p] y sl x = tiles y ((⟨(⟨![o, 0], S512x128.size, ![8, 1], inb⟩ : LoadRect S4096x128), sp⟩ : Rect S4096x128).emb x) := by
  subst hp
  have h0 : (x 0).val < 512 := (x 0).isLt
  have h1 : (x 1).val < 128 := (x 1).isLt
  refine congrArg y (funext fun a => Fin.ext ?_)
  match a with
  | ⟨0, _⟩ => show 0 + (x 0).val = (o + 8 * (x 0).val) / 8; omega
  | ⟨1, _⟩ => show 128 * o + (x 1).val = 128 * ((o + 8 * (x 0).val) % 8) + (0 + 1 * (x 1).val); omega

/-- An entry of the output block lies in the piece its row number leaves modulo eight. -/
theorem inside {o : ℕ} (y : S4096x128.Idx) (ho : (y 0).val % 8 = o)
    (inb : ∀ a, S512x128.size a = 0 ∨ (![o, 0] : Fin 2 → ℕ) a + (![8, 1] : Fin 2 → ℕ) a * (S512x128.size a - 1) < S4096x128.size a)
    (sp : ∀ a, 0 < (![8, 1] : Fin 2 → ℕ) a) :
    y ∈ (⟨(⟨![o, 0], S512x128.size, ![8, 1], inb⟩ : LoadRect S4096x128), sp⟩ : Rect S4096x128).set := by
  have h0 : (y 0).val < 4096 := (y 0).isLt
  have h1 : (y 1).val < 128 := (y 1).isLt
  refine (LoadRect.mem_set _).mpr fun a => ?_
  match a with
  | ⟨0, _⟩ => exact ⟨(y 0).val / 8, by show _ < 512; omega, by show (y 0).val = o + 8 * ((y 0).val / 8); omega⟩
  | ⟨1, _⟩ => exact ⟨(y 1).val, h1, by show (y 1).val = 0 + 1 * (y 1).val; omega⟩

/-- The eight pieces, last stored first. -/
abbrev pieces (x0 : S512x3584.Idx → Elt Ideal .bf16) (s0 : S3584x1024.Idx → Elt Ideal .bf16) : List (View.Piece (Elt Ideal) S4096x128 .f32) :=
  [⟨⟨(⟨![7, 0], S512x128.size, ![8, 1], inb_S4096x128_S512x128_7_0_s_8_1⟩ : LoadRect S4096x128), spos_8_1⟩, k0_pay10 (F := Ideal) x0 s0⟩,
   ⟨⟨(⟨![6, 0], S512x128.size, ![8, 1], inb_S4096x128_S512x128_6_0_s_8_1⟩ : LoadRect S4096x128), spos_8_1⟩, k0_pay9 (F := Ideal) x0 s0⟩,
   ⟨⟨(⟨![5, 0], S512x128.size, ![8, 1], inb_S4096x128_S512x128_5_0_s_8_1⟩ : LoadRect S4096x128), spos_8_1⟩, k0_pay8 (F := Ideal) x0 s0⟩,
   ⟨⟨(⟨![4, 0], S512x128.size, ![8, 1], inb_S4096x128_S512x128_4_0_s_8_1⟩ : LoadRect S4096x128), spos_8_1⟩, k0_pay7 (F := Ideal) x0 s0⟩,
   ⟨⟨(⟨![3, 0], S512x128.size, ![8, 1], inb_S4096x128_S512x128_3_0_s_8_1⟩ : LoadRect S4096x128), spos_8_1⟩, k0_pay6 (F := Ideal) x0 s0⟩,
   ⟨⟨(⟨![2, 0], S512x128.size, ![8, 1], inb_S4096x128_S512x128_2_0_s_8_1⟩ : LoadRect S4096x128), spos_8_1⟩, k0_pay5 (F := Ideal) x0 s0⟩,
   ⟨⟨(⟨![1, 0], S512x128.size, ![8, 1], inb_S4096x128_S512x128_1_0_s_8_1⟩ : LoadRect S4096x128), spos_8_1⟩, k0_pay4 (F := Ideal) x0 s0⟩,
   ⟨⟨(⟨![0, 0], S512x128.size, ![8, 1], inb_S4096x128_S512x128_0_0_s_8_1⟩ : LoadRect S4096x128), spos_8_1⟩, k0_pay3 (F := Ideal) x0 s0⟩]

/-- The eight pieces read back are the product's rows cut. -/
theorem pieces_read (v : View sig .tc .vmem S4096x128 .f32) (f : v.ty.Contents (Elt Ideal)) (x0 : S512x3584.Idx → Elt Ideal .bf16) (s0 : S3584x1024.Idx → Elt Ideal .bf16) :
    v.read (Elt Ideal) (v.writes (Elt Ideal) f (pieces x0 s0)) = tiles (k0_pay2 (F := Ideal) x0 s0) := by
  refine funext fun y => View.read_writes_apply_of_pieces v f (tiles (k0_pay2 (F := Ideal) x0 s0)) (pieces x0 s0) ?_ y ?_
  · simp only [pieces, List.forall_mem_cons, List.not_mem_nil, false_imp_iff, implies_true, and_true]
    exact ⟨fun x => piece (o := 7) (k0_pay2 (F := Ideal) x0 s0) (by decide) rfl slices_S512x1024_o0_896_S512x128 _ _ x,
      fun x => piece (o := 6) (k0_pay2 (F := Ideal) x0 s0) (by decide) rfl slices_S512x1024_o0_768_S512x128 _ _ x,
      fun x => piece (o := 5) (k0_pay2 (F := Ideal) x0 s0) (by decide) rfl slices_S512x1024_o0_640_S512x128 _ _ x,
      fun x => piece (o := 4) (k0_pay2 (F := Ideal) x0 s0) (by decide) rfl slices_S512x1024_o0_512_S512x128 _ _ x,
      fun x => piece (o := 3) (k0_pay2 (F := Ideal) x0 s0) (by decide) rfl slices_S512x1024_o0_384_S512x128 _ _ x,
      fun x => piece (o := 2) (k0_pay2 (F := Ideal) x0 s0) (by decide) rfl slices_S512x1024_o0_256_S512x128 _ _ x,
      fun x => piece (o := 1) (k0_pay2 (F := Ideal) x0 s0) (by decide) rfl slices_S512x1024_o0_128_S512x128 _ _ x,
      fun x => piece (o := 0) (k0_pay2 (F := Ideal) x0 s0) (by decide) rfl slices_S512x1024_o0_0_S512x128 _ _ x⟩
  · have h : (y 0).val % 8 < 8 := Nat.mod_lt _ (by decide)
    generalize ho : (y 0).val % 8 = o at h
    interval_cases o
    · exact ⟨_, .tail _ (.tail _ (.tail _ (.tail _ (.tail _ (.tail _ (.tail _ (.head _))))))), inside y ho _ _⟩
    · exact ⟨_, .tail _ (.tail _ (.tail _ (.tail _ (.tail _ (.tail _ (.head _)))))), inside y ho _ _⟩
    · exact ⟨_, .tail _ (.tail _ (.tail _ (.tail _ (.tail _ (.head _))))), inside y ho _ _⟩
    · exact ⟨_, .tail _ (.tail _ (.tail _ (.tail _ (.head _)))), inside y ho _ _⟩
    · exact ⟨_, .tail _ (.tail _ (.tail _ (.head _))), inside y ho _ _⟩
    · exact ⟨_, .tail _ (.tail _ (.head _)), inside y ho _ _⟩
    · exact ⟨_, .tail _ (.head _), inside y ho _ _⟩
    · exact ⟨_, .head _, inside y ho _ _⟩

/-- What a point holds: the two input blocks, the two tables, something of the output block, the scratch buffer. -/
abbrev held (c : Dev nD) (arg4 : Memref sig .tc .vmem S512x3584 .bf16) (arg5 : Memref sig .tc .vmem S1x1x3584x1024 .f32)
    (x0 : S512x3584.Idx → Elt Ideal .bf16) (x1 : S1x1x3584x1024.Idx → Elt Ideal .f32) (O : sProp 𝕄) (s0 : S3584x1024.Idx → Elt Ideal .bf16) (R : sProp 𝕄) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (tbM0_0.view.loc (c : Thread nD τ) ↦{fullShare.right} T0)
    ∗ (tbM0_1.view.loc (c : Thread nD τ) ↦{fullShare.right} T1)
    ∗ O
    ∗ (scM0_0.view.loc (c : Thread nD τ) ↦{fullShare} (s0 : Buf (Elt Ideal) ((c : Thread nD τ).loc cc0_scratch0)))
    ∗ R)

/-- What it leaves: the same with the output block at `o` and the scratch buffer at `s`. -/
abbrev left (c : Dev nD) (arg4 : Memref sig .tc .vmem S512x3584 .bf16) (arg5 : Memref sig .tc .vmem S1x1x3584x1024 .f32) (arg6 : Memref sig .tc .vmem S4096x128 .f32)
    (x0 : S512x3584.Idx → Elt Ideal .bf16) (x1 : S1x1x3584x1024.Idx → Elt Ideal .f32) (o : S4096x128.Idx → Elt Ideal .f32) (s : S3584x1024.Idx → Elt Ideal .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (tbM0_0.view.loc (c : Thread nD τ) ↦{fullShare.right} T0)
    ∗ (tbM0_1.view.loc (c : Thread nD τ) ↦{fullShare.right} T1)
    ∗ owns (c : Thread nD τ) arg6 fullShare o
    ∗ (∃ r : S3584x1024.Idx → Elt Ideal .bf16, ⌜r = s⌝ ∗ (scM0_0.view.loc (c : Thread nD τ) ↦{fullShare} (r : Buf (Elt Ideal) ((c : Thread nD τ).loc cc0_scratch0)))))

section
variable (c : Dev nD) (arg4 : Memref sig .tc .vmem S512x3584 .bf16) (harg4 : arg4.IsWhole) (arg5 : Memref sig .tc .vmem S1x1x3584x1024 .f32) (harg5 : arg5.IsWhole)
    (arg6 : Memref sig .tc .vmem S4096x128 .f32) (harg6 : arg6.IsWhole)
    (x0 : S512x3584.Idx → Elt Ideal .bf16) (x1 : S1x1x3584x1024.Idx → Elt Ideal .f32) (xa : S3584x1024.Idx → Elt Ideal .bf16) (K : PUnit → sProp 𝕄)

/-- The body of a point. -/
abbrev point : Prog (TpuEff nD τ sig (Elt Ideal) Λ₀ .tc) PUnit :=
  cc0_moe_expert_down i tbM0_0 (Memref.isWhole_whole _) tbM0_1 (Memref.isWhole_whole _) arg4 harg4 arg5 harg5 arg6 harg6 scM0_0 (Memref.isWhole_whole _)

/-- A used tile of a new expert. -/
theorem new_used (hc : Chg T0 i) (hu : Use T1 i) (hp : ¬ Pad T1 i) :
    held T0 T1 c arg4 arg5 x0 x1 iprop(∃ d, owns (c : Thread nD τ) arg6 fullShare d) xa
        iprop(left T0 T1 c arg4 arg5 arg6 x0 x1 (tiles (k0_pay2 (F := Ideal) x0 (k0_pay1 (F := Ideal) x1))) (k0_pay1 (F := Ideal) x1) -∗ K ⟨⟩)
      ⊢ wp frame (wpE (defs₀ (F := Ideal)) Variants.none c none) Set.univ (point i arg4 harg4 arg5 harg5 arg6 harg6) K := by
  unfold held left owns point
  rw [cc0_moe_expert_down_eq_skeleton]; unfold cc0_moe_expert_down_skel
  iintro ⟨H0, H1, HT0, HT1, ⟨%d, %f, -, HO⟩, HS, Hk⟩
  have hS : scM0_0.IsWhole := Memref.isWhole_whole _
  have hT0 : tbM0_0.IsWhole := Memref.isWhole_whole _
  have hT1 : tbM0_1.IsWhole := Memref.isWhole_whole _
  sl_exec! (disch := first | (guard_target = Scalar.cmpi = _; exact hc) | (guard_target = k0_cond2 _ _ = _; exact hu) | (guard_target = ¬(k0_cond3 _ _ = _); exact hp))
  sl_step
  iapply Hk
  isplitl [H0]; · iexact H0
  isplitl [H1]; · iexact H1
  isplitl [HT0]; · iexact HT0
  isplitl [HT1]; · iexact HT1
  isplitl [HO]
  · iexists _; isplitr; swap; · iexact HO
    ipureintro
    rw [View.readAt_rep_full]
    refine (pieces_read arg6.view f x0 _).trans (congrArg (fun s => tiles (k0_pay2 (F := Ideal) x0 s)) ((View.readCov_full scM0_0.view _ _ _ []).trans ?_))
    rw [View.readAt_rep_full]
  iexists _; isplitr; swap; · iexact HS
  ipureintro
  refine (whole_writes (b := cc0_scratch0) _ _ _).trans ?_
  rw [View.readAt_rep_full]

/-- A used tile of the expert before. -/
theorem old_used (hc : ¬ Chg T0 i) (hu : Use T1 i) (hp : ¬ Pad T1 i) :
    held T0 T1 c arg4 arg5 x0 x1 iprop(∃ d, owns (c : Thread nD τ) arg6 fullShare d) xa
        iprop(left T0 T1 c arg4 arg5 arg6 x0 x1 (tiles (k0_pay2 (F := Ideal) x0 xa)) xa -∗ K ⟨⟩)
      ⊢ wp frame (wpE (defs₀ (F := Ideal)) Variants.none c none) Set.univ (point i arg4 harg4 arg5 harg5 arg6 harg6) K := by
  unfold held left owns point
  rw [cc0_moe_expert_down_eq_skeleton]; unfold cc0_moe_expert_down_skel
  iintro ⟨H0, H1, HT0, HT1, ⟨%d, %f, -, HO⟩, HS, Hk⟩
  have hS : scM0_0.IsWhole := Memref.isWhole_whole _
  have hT0 : tbM0_0.IsWhole := Memref.isWhole_whole _
  have hT1 : tbM0_1.IsWhole := Memref.isWhole_whole _
  sl_exec! (disch := first | (guard_target = ¬(Scalar.cmpi _ _ _ = _); exact hc) | (guard_target = k0_cond2 _ _ = _; exact hu) | (guard_target = ¬(k0_cond3 _ _ = _); exact hp))
  sl_step
  iapply Hk
  isplitl [H0]; · iexact H0
  isplitl [H1]; · iexact H1
  isplitl [HT0]; · iexact HT0
  isplitl [HT1]; · iexact HT1
  isplitl [HO]
  · iexists _; isplitr; swap; · iexact HO
    ipureintro
    rw [View.readAt_rep_full]
    exact (pieces_read arg6.view f x0 _).trans (congrArg (fun s => tiles (k0_pay2 (F := Ideal) x0 s)) (View.readAt_full scM0_0.view xa _))
  iexists _; isplitr; swap; · iexact HS
  ipureintro
  rfl

/-- A padding tile where the expert stays. -/
theorem old_pad (hc : ¬ Chg T0 i) (hu : ¬ Use T1 i) (hp : Pad T1 i) :
    held T0 T1 c arg4 arg5 x0 x1 iprop(∃ d, owns (c : Thread nD τ) arg6 fullShare d) xa
        iprop(left T0 T1 c arg4 arg5 arg6 x0 x1 (k0_pay11 (F := Ideal)) xa -∗ K ⟨⟩)
      ⊢ wp frame (wpE (defs₀ (F := Ideal)) Variants.none c none) Set.univ (point i arg4 harg4 arg5 harg5 arg6 harg6) K := by
  unfold held left owns point
  rw [cc0_moe_expert_down_eq_skeleton]; unfold cc0_moe_expert_down_skel
  iintro ⟨H0, H1, HT0, HT1, ⟨%d, %f, -, HO⟩, HS, Hk⟩
  have hS : scM0_0.IsWhole := Memref.isWhole_whole _
  have hT0 : tbM0_0.IsWhole := Memref.isWhole_whole _
  have hT1 : tbM0_1.IsWhole := Memref.isWhole_whole _
  sl_exec! (disch := first | (guard_target = ¬(Scalar.cmpi _ _ _ = _); exact hc) | (guard_target = ¬(k0_cond2 _ _ = _); exact hu) | (guard_target = k0_cond3 _ _ = _; exact hp))
  sl_step
  iapply Hk
  isplitl [H0]; · iexact H0
  isplitl [H1]; · iexact H1
  isplitl [HT0]; · iexact HT0
  isplitl [HT1]; · iexact HT1
  isplitl [HO]
  · iexists _; isplitr; swap; · iexact HO
    ipureintro
    exact View.read_writes_full arg6.view _ _ _ []
  iexists _; isplitr; swap; · iexact HS
  ipureintro
  rfl

/-- A padding tile where the expert changes. -/
theorem new_pad (hc : Chg T0 i) (hu : ¬ Use T1 i) (hp : Pad T1 i) :
    held T0 T1 c arg4 arg5 x0 x1 iprop(∃ d, owns (c : Thread nD τ) arg6 fullShare d) xa
        iprop(left T0 T1 c arg4 arg5 arg6 x0 x1 (k0_pay11 (F := Ideal)) (k0_pay1 (F := Ideal) x1) -∗ K ⟨⟩)
      ⊢ wp frame (wpE (defs₀ (F := Ideal)) Variants.none c none) Set.univ (point i arg4 harg4 arg5 harg5 arg6 harg6) K := by
  unfold held left owns point
  rw [cc0_moe_expert_down_eq_skeleton]; unfold cc0_moe_expert_down_skel
  iintro ⟨H0, H1, HT0, HT1, ⟨%d, %f, -, HO⟩, HS, Hk⟩
  have hS : scM0_0.IsWhole := Memref.isWhole_whole _
  have hT0 : tbM0_0.IsWhole := Memref.isWhole_whole _
  have hT1 : tbM0_1.IsWhole := Memref.isWhole_whole _
  sl_exec! (disch := first | (guard_target = Scalar.cmpi = _; exact hc) | (guard_target = ¬(k0_cond2 _ _ = _); exact hu) | (guard_target = k0_cond3 _ _ = _; exact hp))
  sl_step
  iapply Hk
  isplitl [H0]; · iexact H0
  isplitl [H1]; · iexact H1
  isplitl [HT0]; · iexact HT0
  isplitl [HT1]; · iexact HT1
  isplitl [HO]
  · iexists _; isplitr; swap; · iexact HO
    ipureintro
    exact View.read_writes_full arg6.view _ _ _ []
  iexists _; isplitr; swap; · iexact HS
  ipureintro
  refine (whole_writes (b := cc0_scratch0) _ _ _).trans ?_
  rw [View.readAt_rep_full]

/-- The point, from its blocks: the inputs and tables are as they were, the output block holds `result` and the scratch buffer `first`. -/
theorem run (hp : Pad T1 i ↔ ¬ Use T1 i) :
    held T0 T1 c arg4 arg5 x0 x1 iprop(∃ d, owns (c : Thread nD τ) arg6 fullShare d) xa
        iprop(left T0 T1 c arg4 arg5 arg6 x0 x1 (result T1 i x0 (first T0 i x1 xa)) (first T0 i x1 xa) -∗ K ⟨⟩)
      ⊢ wp frame (wpE (defs₀ (F := Ideal)) Variants.none c none) Set.univ (point i arg4 harg4 arg5 harg5 arg6 harg6) K := by
  by_cases hc : Chg T0 i
  · rw [first_pos T0 i hc]
    by_cases hu : Use T1 i
    · rw [result_pos T1 i hu]
      exact new_used T0 T1 i c arg4 harg4 arg5 harg5 arg6 harg6 x0 x1 xa K hc hu fun h => hp.mp h hu
    · rw [result_neg T1 i hu]
      exact new_pad T0 T1 i c arg4 harg4 arg5 harg5 arg6 harg6 x0 x1 xa K hc hu (hp.mpr hu)
  · rw [first_neg T0 i hc]
    by_cases hu : Use T1 i
    · rw [result_pos T1 i hu]
      exact old_used T0 T1 i c arg4 harg4 arg5 harg5 arg6 harg6 x0 x1 xa K hc hu fun h => hp.mp h hu
    · rw [result_neg T1 i hu]
      exact old_pad T0 T1 i c arg4 harg4 arg5 harg5 arg6 harg6 x0 x1 xa K hc hu (hp.mpr hu)

end

end Cert.Kernel6Ideal.Down

end

end
-- ==== Proof.DownTables.lean ====
module

public import proofs.«01_k».proof.Proof.DownRun
public import proofs.«01_k».proof.Proof.TableWords
public import Idealize.ShloMosaic.Lib.Affine

/-! What the two tables of the experts' last product say at a grid point: which tile's rows and which expert's weights it is handed, whether the expert changes there and whether the tile is used. -/

@[expose] public section

noncomputable section

namespace Cert.Kernel6Ideal.Down

open Cert.Kernel6Ideal Cert.Kernel6Ideal.Gen
open Idealize.ShloMosaic

/-- The one index of the count. -/
def one : S1.Idx := fun | 0 => ⟨0, Nat.one_pos⟩

/-- The index of a point's tile in the table of experts. -/
def tile (i : grid0.Coords) : S56.Idx := fun | 0 => ⟨(i 1).val, (i 1).isLt⟩

/-- The index of the tile before. -/
def prev (i : grid0.Coords) : S56.Idx := fun | 0 => ⟨(i 1).val - 1, Nat.lt_of_le_of_lt (Nat.sub_le _ _) (i 1).isLt⟩

/-- Tables the precondition admits: eight experts, and between one and fifty-six used tiles. -/
structure Tab (T0 : S56.Idx → BitVec 32) (T1 : S1.Idx → BitVec 32) : Prop where
  expert : ∀ x, (T0 x).toNat < 8
  some_used : 1 ≤ (T1 one).toNat
  count_le : (T1 one).toNat ≤ 56

/-- The tables as the region reads them. -/
def pf (T0 : S56.Idx → BitVec 32) (T1 : S1.Idx → BitVec 32) : pre0.Contents (Elt Ideal) :=
  fun | ⟨0, _⟩ => T0 | ⟨1, _⟩ => T1 | ⟨_ + 2, h⟩ => absurd h (Nat.not_lt.2 (Nat.le_add_left _ _))

variable (T0 : S56.Idx → BitVec 32) (T1 : S1.Idx → BitVec 32) (i : grid0.Coords)

theorem tile_lt : (i 1).val < 56 := (i 1).isLt

/-- The one entry of the count, however it is named. -/
theorem at_one (x : S1.Idx) : T1 x = T1 one :=
  congrArg T1 (funext fun a => Fin.ext (by
    have ha : a = 0 := Subsingleton.elim _ _
    subst ha
    have := (x 0).isLt
    have h1 : S1.size 0 = 1 := rfl
    show (x 0).val = 0
    omega))

theorem count_eq : count T1 = T1 one := at_one T1 _

/-- An entry of the table of experts, however it is named. -/
theorem at_tile (x y : S56.Idx) (h : (x 0).val = (y 0).val) : T0 x = T0 y :=
  congrArg T0 (funext fun a => Fin.ext (by
    have ha : a = 0 := Subsingleton.elim _ _
    subst ha; exact h))

/-- The expert changes at the point exactly when it is the first tile or the table's entry is another than the one before. -/
theorem chg_iff : Chg T0 i ↔ (i 1).val = 0 ∨ T0 (tile i) ≠ T0 (prev i) := by
  refine (TableWords.changed_iff (tile_lt i) _ _).trans (or_congr Iff.rfl (not_congr ?_))
  rw [show View.readAt (Elt Ideal) (tbM0_0).view (Rect.unit (s := S56) (k0_off1 i) S1.size (k0_off1_inb i)).toLoadRect T0 (Shape.Idx.first (numel1_S1.symm ▸ Nat.one_pos)) = T0 (tile i) from
      at_tile T0 _ _ (by
        show (BitVec.ofNat 32 (i 1).val).toNat + 1 * 0 = (i 1).val
        rw [TableWords.toNat_small (tile_lt i)]; rfl),
    show View.readAt (Elt Ideal) (tbM0_0).view (Rect.unit (s := S56) (k0_off2 i) S1.size (k0_off2_inb i)).toLoadRect T0 (Shape.Idx.first (numel1_S1.symm ▸ Nat.one_pos)) = T0 (prev i) from
      at_tile T0 _ _ (by
        show (Scalar.maxsi (Scalar.subi (BitVec.ofNat 32 (i 1).val) 1#32) 0#32).toNat + 1 * 0 = (i 1).val - 1
        rw [TableWords.prev_toNat (tile_lt i)]; rfl)]

variable {T0 T1} (h : Tab T0 T1)
include h

/-- The tile is used exactly when it is among the first ones. -/
theorem use_iff : Use T1 i ↔ (i 1).val < (T1 one).toNat := by
  unfold Use; rw [count_eq]; exact TableWords.used_iff (tile_lt i) h.count_le

/-- A tile is padding exactly when it is not used. -/
theorem pad_iff : Pad T1 i ↔ ¬ Use T1 i := by
  rw [use_iff i h]; unfold Pad; rw [count_eq]
  exact (TableWords.unused_iff (tile_lt i) h.count_le).trans Nat.not_lt.symm

/-- The rows a point is handed: its own tile's, or the last used one's. -/
theorem rows_eq : cc0_transform_0 inb_S1_S1_0 numel1_S1 (pf T0 T1) i = ![min (i 1).val ((T1 one).toNat - 1), 0] := by
  have e : (pf T0 T1).at 1 (Rect.unit (s := S1) ![0] S1.size inb_S1_S1_0) numel1_S1 = T1 one := at_one T1 _
  show ![(Scalar.minsi (BitVec.ofNat 32 (i 1).val) (Scalar.subi ((pf T0 T1).at 1 (Rect.unit (s := S1) ![0] S1.size inb_S1_S1_0) numel1_S1) 1#32)).toNat, 0] = _
  rw [e, TableWords.row_toNat (tile_lt i) h.some_used h.count_le]

omit h in
/-- The weights a point is handed: its tile's expert's. -/
theorem weights_eq : cc0_transform_1 k0_off1_inb numel1_S1 (pf T0 T1) i = ![0, (T0 (tile i)).toNat, 0, 0] := by
  have e : (pf T0 T1).at 0 (Rect.unit (s := S56) ![(BitVec.ofNat 32 (i 1).val).toNat] S1.size (k0_off1_inb i)) numel1_S1 = T0 (tile i) :=
    at_tile T0 _ _ (by
      show (BitVec.ofNat 32 (i 1).val).toNat + 1 * 0 = (i 1).val
      rw [TableWords.toNat_small (tile_lt i)]; rfl)
  show ![0, ((pf T0 T1).at 0 (Rect.unit (s := S56) ![(BitVec.ofNat 32 (i 1).val).toNat] S1.size (k0_off1_inb i)) numel1_S1).toNat, 0, 0] = _
  rw [e]

theorem rows_inb : ∀ a, (cc0_transform_0 inb_S1_S1_0 numel1_S1 (pf T0 T1) i a + 1) * S512x3584.size a ≤ S28672x3584.size a := by
  rw [rows_eq i h]
  have := tile_lt i
  refine Fin.forall_fin_two.mpr ⟨?_, ?_⟩
  · show (min (i 1).val ((T1 one).toNat - 1) + 1) * 512 ≤ 28672; omega
  · show (0 + 1) * 3584 ≤ 3584; omega

theorem weights_inb : ∀ a, (cc0_transform_1 k0_off1_inb numel1_S1 (pf T0 T1) i a + 1) * S1x1x3584x1024.size a ≤ S2x8x3584x1024.size a := by
  rw [weights_eq i]
  have h8 := h.expert (tile i)
  intro a
  match a with
  | ⟨0, _⟩ => exact (by decide : (0 + 1) * 1 ≤ 2)
  | ⟨1, _⟩ => show ((T0 (tile i)).toNat + 1) * 1 ≤ 8; omega
  | ⟨2, _⟩ => show (0 + 1) * 3584 ≤ 3584; omega
  | ⟨3, _⟩ => show (0 + 1) * 1024 ≤ 1024; omega

/-- Every block the tables name lies inside its array. -/
theorem ok : ok0 (F := Ideal) (pf T0 T1) :=
  ⟨fun i => ⟨rows_inb i h, .inr (Affine.block_words_dvd (s := S28672x3584) (p := EltTy.packing .bf16) (by decide) (by decide))⟩,
    fun i => ⟨weights_inb i h, .inl rfl⟩⟩

/-- The output block is stored at every point. -/
theorem stored : idle0 (F := Ideal) (pf T0 T1) 2 i = false := by
  have e : (pf T0 T1).atD 1 ![0] = T1 one := (dif_pos (by decide)).trans (at_one T1 _)
  show (!(k0_cond2 i ((pf T0 T1).atD 1 ![0]) == 1#1) && !(k0_cond3 i ((pf T0 T1).atD 1 ![0]) == 1#1)) = false
  rw [e, ← count_eq T1]
  by_cases hu : Use T1 i
  · rw [show k0_cond2 i (count T1) = 1#1 from hu]; rfl
  · rw [show k0_cond3 i (count T1) = 1#1 from (pad_iff i h).mpr hu, Bool.and_comm]; rfl

end Cert.Kernel6Ideal.Down

end

end
-- ==== Proof.DownFrame.lean ====
module

public import proofs.«01_k».proof.Proof.DownTables
public import proofs.«01_k».proof.Proof.Gen.Kernel6Ideal.Launch
public import Idealize.ShloMosaic.Lib.Pipeline.Quiescent
public import Idealize.ShloMosaic.Lib.Pipeline.Kit
public import Idealize.ShloMosaic.Lib.Pipeline.FrameBody
public import Idealize.ShloMosaic.Lib.Claim
public import Idealize.ShloMosaic.Adequacy
public import Idealize.ShloMosaic.Init

/-! The experts' last product at any admissible tables: the pipeline at the tables the memory holds, the scratch buffer point by point, the obligation of a point, and the run of the whole call. -/

@[expose] public section

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the staging cells, embedded whole. -/
abbrev EP : Emb (UR sig nD τ) 𝕄 := emb₁

variable (m : (ℓ : Loc nD τ sig) → Buf (Elt Ideal) ℓ) (ρ : Dev nD → PrngReg)

/-- The table of experts the memory holds. -/
def experts : S56.Idx → BitVec 32 := m (((0 : Dev nD) : Thread nD τ).loc main_arg1)

/-- The count of used tiles the memory holds. -/
def used : S1.Idx → BitVec 32 := m (((0 : Dev nD) : Thread nD τ).loc main_arg2)

variable (h : Tab (experts m) (used m))

/-- The tables, admissible; the pipeline at them. -/
def adm : (pcfg0 (F := Ideal)).Adm := ⟨pf (experts m) (used m), ok h⟩
abbrev cfgA : Pipeline.Cfg sig Λ₀ := cfg0 (F := Ideal) (adm m h)
abbrev pcs : Fin 1 → Pipeline.Cfg sig Λ₀ := Pipeline.pin (pcfgs (F := Ideal)) fun _ => adm m h

/-- A point's coordinates. -/
abbrev crd (t : Fin (cfgA m h).N) : grid0.Coords := (cfgA m h).grid.coords t

/-- Each window's current staging buffer. -/
abbrev stg0 (t : Fin (cfgA m h).N) : Memref sig .tc .vmem S512x3584 .bf16 := spec0_0.stage ((cfgA m h).slots t (0 : Fin 3))
abbrev stg1 (t : Fin (cfgA m h).N) : Memref sig .tc .vmem S1x1x3584x1024 .f32 := spec0_1.stage ((cfgA m h).slots t (1 : Fin 3))
abbrev stg2 (t : Fin (cfgA m h).N) : Memref sig .tc .vmem S4096x128 .f32 := spec0_2.stage ((cfgA m h).slots t (2 : Fin 3))

/-- A window's block at a point, read off its array at launch. -/
def iblk (c : Dev nD) (w : Fin (cfgA m h).W) (t : Fin (cfgA m h).N) : (((cfgA m h).win w).xblock (crd m h t)).Idx → Elt Ideal ((cfgA m h).win w).elt :=
  (((cfgA m h).win w).blk t).view.read (Elt Ideal) ((s₀ m ρ).mem (((cfgA m h).win w).arr.view.loc (c : Thread nD τ)))

/-- What the scratch buffer holds before point `n`. -/
def fst (c : Dev nD) : ℕ → S3584x1024.Idx → Elt Ideal .bf16
  | 0 => default
  | n + 1 => if hn : n < (cfgA m h).N then first (experts m) (crd m h ⟨n, hn⟩) (iblk m ρ h c (1 : Fin 3) ⟨n, hn⟩) (fst c n) else fst c n

/-- The output block after a point. -/
def out (c : Dev nD) (t : Fin (cfgA m h).N) : S4096x128.Idx → Elt Ideal .f32 :=
  result (used m) (crd m h t) (iblk m ρ h c (0 : Fin 3) t) (fst m ρ h c (t.val + 1))

theorem fst_succ (c : Dev nD) (t : Fin (cfgA m h).N) :
    fst m ρ h c (t.val + 1) = first (experts m) (crd m h t) (iblk m ρ h c (1 : Fin 3) t) (fst m ρ h c t.val) := by
  rw [fst]; exact dif_pos t.isLt

/-- Points are numbered tile by tile. -/
theorem coords_tile : ∀ t : Fin grid0.N, (grid0.coords t 1).val = t.val % 56 := by decide +kernel

/-- At the first point the expert changes. -/
theorem chg_zero (t : Fin (cfgA m h).N) (h0 : t.val = 0) : Chg (experts m) (crd m h t) :=
  (chg_iff (experts m) (crd m h t)).mpr (.inl ((coords_tile t).trans (by rw [h0])))

/-- A point's scratch buffer, whatever it held before the first point. -/
theorem fst_step (c : Dev nD) (t : Fin (cfgA m h).N) (a : S3584x1024.Idx → Elt Ideal .bf16) (ha : t.val ≠ 0 → a = fst m ρ h c t.val) :
    first (experts m) (crd m h t) (iblk m ρ h c (1 : Fin 3) t) a = fst m ρ h c (t.val + 1) := by
  rw [fst_succ]
  by_cases h0 : t.val = 0
  · rw [first_pos _ _ (chg_zero m h t h0), first_pos _ _ (chg_zero m h t h0)]
  · rw [ha h0]

/-- What a core holds before point `n`: the scratch buffer, at what the points so far left in it, and its halves of the tables. -/
def inv (c : Dev nD) (n : ℕ) : sProp 𝕄 :=
  iprop((∃ a : S3584x1024.Idx → Elt Ideal .bf16, ⌜n ≠ 0 → a = fst m ρ h c n⌝ ∗ (scM0_0.view.loc (c : Thread nD τ) ↦{fullShare} (a : Buf (Elt Ideal) ((c : Thread nD τ).loc cc0_scratch0))))
    ∗ (tbM0_0.view.loc (c : Thread nD τ) ↦{fullShare.right} experts m) ∗ (tbM0_1.view.loc (c : Thread nD τ) ↦{fullShare.right} used m))

/-- The pipeline's proof data. -/
def dats (_ : Fin 1) (c : Dev nD) : Dat τ (Elt Ideal) Unit ℕ (UR sig nD τ) ℕ (cfgA m h) c where
  A w := (s₀ m ρ).mem (((cfgA m h).win w).arr.view.loc (c : Thread nD τ))
  after w t := match w with
    | ⟨0, _⟩ => iblk m ρ h c (0 : Fin 3) t
    | ⟨1, _⟩ => iblk m ρ h c (1 : Fin 3) t
    | ⟨2, _⟩ => out m ρ h c t
  Φ t := inv m ρ h c t.val
  q _ := fullShare
  owed _ := 0

theorem after_0 (c : Dev nD) (t : Fin (cfgA m h).N) : (dats m ρ h 0 c).after (0 : Fin 3) t = iblk m ρ h c (0 : Fin 3) t := rfl
theorem after_1 (c : Dev nD) (t : Fin (cfgA m h).N) : (dats m ρ h 0 c).after (1 : Fin 3) t = iblk m ρ h c (1 : Fin 3) t := rfl
theorem after_2 (c : Dev nD) (t : Fin (cfgA m h).N) : (dats m ρ h 0 c).after (2 : Fin 3) t = out m ρ h c t := rfl

/-- The rows a point is handed are its block's. -/
theorem before_0 (c : Dev nD) (t : Fin (cfgA m h).N) (d) : (dats m ρ h 0 c).before (0 : Fin 3) t d = iblk m ρ h c (0 : Fin 3) t :=
  ((dats m ρ h 0 c).before_in_eq_fetched (0 : Fin 3) rfl (fun _ => rfl) (fun _ _ _ => rfl) (fun t => by rw [after_0]; unfold Dat.blockOf iblk; rfl) t d).trans
    (by unfold Dat.fetched Dat.blockOf iblk; rfl)

/-- The weights likewise. -/
theorem before_1 (c : Dev nD) (t : Fin (cfgA m h).N) (d) : (dats m ρ h 0 c).before (1 : Fin 3) t d = iblk m ρ h c (1 : Fin 3) t :=
  ((dats m ρ h 0 c).before_in_eq_fetched (1 : Fin 3) rfl (fun _ => rfl) (fun _ _ _ => rfl) (fun t => by rw [after_1]; unfold Dat.blockOf iblk; rfl) t d).trans
    (by unfold Dat.fetched Dat.blockOf iblk; rfl)

/-- The body at a point, as the pipeline calls it. -/
abbrev bodyAt (t : Fin (cfgA m h).N) : Prog (TpuEff nD τ sig (Elt Ideal) Λ₀ .tc) PUnit :=
  cc0_moe_expert_down (crd m h t) tbM0_0 (Memref.isWhole_whole _) tbM0_1 (Memref.isWhole_whole _)
    (stg0 m h t) (hstage0_0 (((cfgA m h).slots t (0 : Fin 3)).cast nbuf0_0)) (stg1 m h t) (hstage0_1 (((cfgA m h).slots t (1 : Fin 3)).cast nbuf0_1))
    (stg2 m h t) (hstage0_2 (((cfgA m h).slots t (2 : Fin 3)).cast nbuf0_2))
    scM0_0 (Memref.isWhole_whole _)

/-- The body at a point, from what the core holds before it. -/
theorem body (c : Dev nD) (t : Fin (cfgA m h).N) (Ow : sProp 𝕄) :
    iprop(inv m ρ h c t.val ∗ Ow
        ∗ owns (c : Thread nD τ) (stg0 m h t) fullShare (iblk m ρ h c (0 : Fin 3) t)
        ∗ owns (c : Thread nD τ) (stg1 m h t) fullShare (iblk m ρ h c (1 : Fin 3) t)
        ∗ (∃ d, owns (c : Thread nD τ) (stg2 m h t) fullShare d))
      ⊢ wp frame (wpE (defs₀ (F := Ideal)) Variants.none c none) Set.univ (bodyAt m h t) fun _ =>
          iprop(inv m ρ h c (t.val + 1) ∗ Ow
            ∗ owns (c : Thread nD τ) (stg0 m h t) fullShare (iblk m ρ h c (0 : Fin 3) t)
            ∗ owns (c : Thread nD τ) (stg1 m h t) fullShare (iblk m ρ h c (1 : Fin 3) t)
            ∗ owns (c : Thread nD τ) (stg2 m h t) fullShare (out m ρ h c t)) := by
  rw [owns_eq_rep (c : Thread nD τ) (stg0 m h t), owns_eq_rep (c : Thread nD τ) (stg1 m h t)]
  unfold inv
  iintro ⟨⟨⟨%a, %ha, HS⟩, HT0, HT1⟩, Ho, H0, H1, H2⟩
  iapply (run (experts m) (used m) (crd m h t) c (stg0 m h t) (hstage0_0 (((cfgA m h).slots t (0 : Fin 3)).cast nbuf0_0)) (stg1 m h t) (hstage0_1 (((cfgA m h).slots t (1 : Fin 3)).cast nbuf0_1))
    (stg2 m h t) (hstage0_2 (((cfgA m h).slots t (2 : Fin 3)).cast nbuf0_2))
    (iblk m ρ h c (0 : Fin 3) t) (iblk m ρ h c (1 : Fin 3) t) a _ (pad_iff _ h))
  isplitl [H0]; · iexact H0
  isplitl [H1]; · iexact H1
  isplitl [HT0]; · iexact HT0
  isplitl [HT1]; · iexact HT1
  isplitl [H2]; · iexact H2
  isplitl [HS]; · iexact HS
  rw [fst_step m ρ h c t a ha]
  iintro ⟨H0, H1, HT0, HT1, H2, ⟨%r, %hr, HS⟩⟩
  isplitl [HS HT0 HT1]
  · isplitl [HS]
    · iexists _; isplitr; swap
      · iexact HS
      · ipureintro; intro _; exact hr
    isplitl [HT0]; · iexact HT0
    iexact HT1
  isplitl [Ho]; · iexact Ho
  isplitl [H0]; · iexact H0
  isplitl [H1]; · iexact H1
  iexact H2

/-- The output window is written at every point. -/
theorem idle_2 (t : Fin (cfgA m h).N) : (cfgA m h).idle (2 : Fin 3) ((cfgA m h).grid.coords t) = false := stored (crd m h t) h

/-- What the core holds at a point's number. -/
theorem inv_at (c : Dev nD) (s : Fin ((cfgA m h).N + 1)) : (dats m ρ h 0 c).Φ s = inv m ρ h c s.val := rfl

/-- The pipeline's obligation of a point. -/
theorem obligation (c : Dev nD) : BodyObligation (dats m ρ h 0 c) (defs₀ (F := Ideal)) Variants.none () Set.univ := fun t => by
  rw [bigSep_W0, bigSep_W0]
  rewrite [idle_2]
  simp only [before_0, before_1, after_0, after_1, after_2]
  rewrite [inv_at, inv_at, Fin.val_castSucc, Fin.val_succ,
    show (dats m ρ h 0 c).owesAt () t.succ = (dats m ρ h 0 c).owesAt () t.castSucc from rfl]
  iintro ⟨Hi, Ho, ⟨%d0, H0⟩, ⟨%d1, H1⟩, ⟨%d2, H2⟩⟩
  iapply (body m ρ h c t ((dats m ρ h 0 c).owesAt () t.castSucc))
  isplitl [Hi]; · iexact Hi
  isplitl [Ho]; · iexact Ho
  isplitl [H0]; · iexact H0
  isplitl [H1]; · iexact H1
  iexists _; iexact H2

/-- The cells and tokens the launch starts from. -/
def u₀ : UR sig nD τ :=
  initOf (Pipeline.cells (pcs m h) ((launch0 (F := Ideal)).cellOf_inj fun _ => adm m h))
    (Pipeline.launchToks (pcs m h) ((launch0 (F := Ideal)).cellOf_inj fun _ => adm m h))

/-- Every window holds its array whole. -/
theorem share_whole (c : Dev nD) (w : Fin (cfgA m h).W) : (dats m ρ h 0 c).share w = fullShare := by
  unfold Dat.share; split <;> rfl

/-- The two tables as the launch hands them over. -/
theorem tables_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- Before the first point: the tables, and a scratch buffer holding anything. -/
theorem inv_start (c : Dev nD) :
    iprop(BI.emp ∗ Pipeline.prefHeld pre0 c (fun _ => fullShare.right) (adm m h).1 ∗ Pipeline.scopedRest spec0 c) ⊢ (dats m ρ h 0 c).Φ 0 := by
  rw [tables_held, scopedRest0_eq, inv_at]
  unfold inv
  iintro ⟨-, ⟨HT0, HT1⟩, ⟨%a0, HS0⟩⟩
  isplitl [HS0]
  · iexists a0; isplitr; swap
    · iexact HS0
    · ipureintro; intro h0; exact absurd rfl h0
  isplitl [HT0]
  · iexact HT0
  iexact HT1

/-- After the last point the scratch buffer is given back. -/
theorem inv_end (c : Dev nD) : (dats m ρ h 0 c).Φ (Fin.last (cfgA m h).N) ⊢ iprop(BI.emp ∗ Pipeline.scopedRest spec0 c) := by
  rw [scopedRest0_eq, inv_at]
  unfold inv
  iintro ⟨⟨%a0, -, HS0⟩, -, -⟩
  isplitr; · iempintro
  iexists a0; iexact HS0

/-- The final memory: every array at what the points wrote, both tables as they were. -/
def Final : PUnit × MemSt nD τ sig (Elt Ideal) → Prop := fun r =>
  ∀ c : Dev nD, (∀ w : Fin (cfgA m h).W, r.2.mem (((cfgA m h).win w).arr.view.loc (c : Thread nD τ)) = (dats m ρ h 0 c).arrAt w (cfgA m h).N)
    ∧ ∀ j, r.2.mem ((c : Thread nD τ).loc (pre0.ref j)) = (adm m h).1 j

/-- The tables the pipeline runs at are the ones the memory holds. -/
theorem tables_at (c : Dev nD) (j : Fin 2) : m ((c : Thread nD τ).loc (pre0.ref j)) = (adm m h).1 j := by
  obtain rfl : c = 0 := Subsingleton.elim _ _
  fin_cases j <;> rfl

set_option backward.isDefEq.respectTransparency.types false in
/-- The call runs to its end from any memory whose tables are admissible, every semaphore at zero. -/
theorem runs : θ_run (defs (F := Ideal)) (onTc (τ := τ) (main (F := Ideal))) (s₀ m ρ) (fun r => Final m ρ h r ∧ r.2.sem = fun _ => 0) :=
  Pipeline.θ_run_region_noSem_pf_quiescent pcfgs (fun _ => adm m h) (dats m ρ h) () ((launch0 (F := Ideal)).cellOf_inj fun _ => adm m h) (0 : Fin 1)
    (launch0 (F := Ideal)).win.to₀ (launch0 (F := Ideal)).pre EP defs₀ Variants.none m ρ main
    (hbody := fun c => (obligation m ρ h c).loose) (hne := (launch0 (F := Ideal)).block_pos)
    (harr := (launch0 (F := Ideal)).arr_whole) (hstage := (launch0 (F := Ideal)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m h) (dats m ρ h) 0 (launch0 (F := Ideal)).win.arr_inj c (launch0 (F := Ideal)).arr_whole
      (share_whole m ρ h c) _ _ fun _ => rfl)
    (hpf := tables_at m h)
    (X := fun _ => iprop(emp)) (Y := fun _ => iprop(emp)) (Z := fun _ => iprop(emp))
    (hX := fun c => by rw [unscopedRestP0_eq]; iintro -; isplitr <;> iempintro)
    (hin := inv_start m ρ h)
    (hout := inv_end m ρ h)
    (QY := fun _ _ => True)
    (hY := fun c s' => by
      iintro ⟨-, -, HSI⟩; imodintro
      isplitr; · ipureintro; trivial
      iexact HSI)
    (hQ := fun _ hr hz => ⟨fun c => ⟨(hr c).1, (hr c).2.1⟩, hz⟩)

/-- The arguments end as they were, and so do the semaphores; the result ends at what the points wrote. -/
theorem ends : θ_run (defs (F := Ideal)) (onTc (τ := τ) (main (F := Ideal))) ⟨m, fun _ => 0, ρ⟩ (fun r => (∀ c : Dev nD,
      r.2.mem ((c.tc : Thread nD τ).loc main_v0) = (dats m ρ h 0 c).arrAt (2 : Fin 3) (cfgA m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨fun c => ⟨(hr.1 c).1 (2 : Fin 3),
    ((hr.1 c).1 (0 : Fin 3)).trans ((dats m ρ h 0 c).arrAt_in (0 : Fin 3) rfl _),
    ((hr.1 c).2 0).trans (tables_at m h c 0).symm, ((hr.1 c).2 1).trans (tables_at m h c 1).symm,
    ((hr.1 c).1 (1 : Fin 3)).trans ((dats m ρ h 0 c).arrAt_in (1 : Fin 3) rfl _)⟩, hr.2⟩) (runs m ρ h)

end Cert.Kernel6Ideal.Down

end

end
-- ==== Proof.DownBody.lean ====
/- The last product's payloads, read at an index. -/
module

public import proofs.«01_k».proof.Proof.DownRun
public import proofs.«01_k».proof.Proof.Rows

@[expose] public section

set_option maxRecDepth 16384

noncomputable section

namespace Cert.Down

open Idealize.ShloMosaic Idealize.SL.Sem Cert.Kernel6Ideal Cert.Kernel6Ideal.Gen

/-- The weights' block as the scratch buffer holds it. -/
theorem pay1_apply (w : FVec Ideal S1x1x3584x1024 .f32) (k : Fin 3584) (f : Fin 1024) :
    k0_pay1 (F := Ideal) w (ix2 k f) = w (ix4 0 0 k f) := by
  pointwise [k0_pay1]

/-- The product of a block of rows with the weights. -/
theorem pay2_apply (x : FVec Ideal S512x3584 .bf16) (a : FVec Ideal S3584x1024 .bf16) (r : Fin 512) (f : Fin 1024) :
    k0_pay2 (F := Ideal) x a (ix2 r f) = ∑ k : Fin 3584, x (ix2 r k) * a (ix2 k f) := by
  pointwise [k0_pay2]

/-- Rows cut, read at an index. -/
theorem tiles_apply (y : FVec Ideal S512x1024 .f32) (q : Fin 4096) (l : Fin 128) :
    Kernel6Ideal.Down.tiles y (ix2 q l) = y (ix2 ⟨q.val / 8, by omega⟩ ⟨128 * (q.val % 8) + l.val, by omega⟩) :=
  congrArg y (funext fun a => match a with | ⟨0, _⟩ => rfl | ⟨1, _⟩ => rfl)

/-- The block of an unused tile. -/
theorem pay11_apply (q : Fin 4096) (l : Fin 128) : k0_pay11 (F := Ideal) (ix2 q l) = 0 := by
  pointwise [k0_pay11]

end Cert.Down

end
-- ==== Proof.DownRef.lean ====
/- The reference's last product with the tiles' experts, operation by operation over its four arrays, and read at an index. -/
module

public import proofs.«01_k».proof.Proof.Gen.Reference6Ideal.Run
public import proofs.«01_k».proof.Proof.UpRef

@[expose] public section

set_option maxRecDepth 16384

noncomputable section

namespace Cert.DownRef

open Idealize.ShloMosaic Idealize.SL.Sem Cert.Reference6Ideal Cert.Reference6Ideal.Gen

/-- Each row's expert. -/
def expert (te : IVec S56 32) : IVec S28672x1 32 :=
  shapeCast _ (broadcastInDim S56x512 ![0, 1] bcast_S56x1_S56x512_0_1 (broadcastInDim S56x1 ![0] bcast_S56_S56x1_0 te)) shapeCasts_S56x512_S28672x1

/-- Whether a row's tile is used. -/
def used (nv : IVec S1 32) : IVec S28672x1 1 :=
  shapeCast _ (broadcastInDim S56x512 ![0, 1] bcast_S56x1_S56x512_0_1 (broadcastInDim S56x1 ![0] bcast_S56_S56x1_0
    (cmpi .slt (iotaInDim S56 32 0) (broadcastInDim S56 ![] bcast_S_S56 (shapeCast _ nv shapeCasts_S1_S_))))) shapeCasts_S56x512_S28672x1

/-- Where a row is expert `e`'s. -/
def mask (te : IVec S56 32) (nv : IVec S1 32) (e : BitVec 32) : IVec S28672x1024 1 :=
  broadcastInDim S28672x1024 ![0, 1] bcast_S28672x1_S28672x1024_0_1
    (andi (used nv) (cmpi .eq (expert te) (broadcastInDim S28672x1 ![] bcast_S_S28672x1 (constantI S_ 32 e))))

/-- The product of the rows with a matrix. -/
def product (u : FVec Ideal S28672x3584 .bf16) (w : FVec Ideal S1x1x3584x1024 .f32) : FVec Ideal S28672x1024 .f32 :=
  Host.dotGeneral dot_S28672x3584_S3584x1024_S28672x1024_1_0_0_1_n_n none (extf .f32 u bitsLt_bf16_f32 : FVec Ideal S28672x3584 .f32)
    (shapeCast _ w shapeCasts_S1x1x3584x1024_S3584x1024)

/-- One expert's rows filled in. -/
def filled (u : FVec Ideal S28672x3584 .bf16) (te : IVec S56 32) (nv : IVec S1 32) (e : BitVec 32) (a : FVec Ideal S1x1x3584x1024 .f32)
    (y : FVec Ideal S28672x1024 .f32) : FVec Ideal S28672x1024 .f32 :=
  select (mask te nv e) (product u a) y

/-- The reference's rows of its four arrays. -/
def rows (u : FVec Ideal S28672x3584 .bf16) (te : IVec S56 32) (nv : IVec S1 32) (w : FVec Ideal S2x8x3584x1024 .f32) : FVec Ideal S28672x1024 .f32 :=
    filled u te nv 7#32 (extractStridedSlice S1x1x3584x1024 ![0, 7, 0, 0] w slices_S2x8x3584x1024_S1x1x3584x1024_0_7_0_0) <|
    filled u te nv 6#32 (extractStridedSlice S1x1x3584x1024 ![0, 6, 0, 0] w slices_S2x8x3584x1024_S1x1x3584x1024_0_6_0_0) <|
    filled u te nv 5#32 (extractStridedSlice S1x1x3584x1024 ![0, 5, 0, 0] w slices_S2x8x3584x1024_S1x1x3584x1024_0_5_0_0) <|
    filled u te nv 4#32 (extractStridedSlice S1x1x3584x1024 ![0, 4, 0, 0] w slices_S2x8x3584x1024_S1x1x3584x1024_0_4_0_0) <|
    filled u te nv 3#32 (extractStridedSlice S1x1x3584x1024 ![0, 3, 0, 0] w slices_S2x8x3584x1024_S1x1x3584x1024_0_3_0_0) <|
    filled u te nv 2#32 (extractStridedSlice S1x1x3584x1024 ![0, 2, 0, 0] w slices_S2x8x3584x1024_S1x1x3584x1024_0_2_0_0) <|
    filled u te nv 1#32 (extractStridedSlice S1x1x3584x1024 ![0, 1, 0, 0] w slices_S2x8x3584x1024_S1x1x3584x1024_0_1_0_0) <|
    filled u te nv 0#32 (extractStridedSlice S1x1x3584x1024 ![0, 0, 0, 0] w slices_S2x8x3584x1024_S1x1x3584x1024_0_0_0_0) <|
    broadcastInDim S28672x1024 ![] bcast_S_S28672x1024 (constant S_ .f32 0x00000000#32)

/-- Its result: the rows reshaped. -/
def down (u : FVec Ideal S28672x3584 .bf16) (te : IVec S56 32) (nv : IVec S1 32) (w : FVec Ideal S2x8x3584x1024 .f32) : FVec Ideal S229376x128 .f32 :=
  shapeCast _ (rows u te nv w) shapeCasts_S28672x1024_S229376x128

/-- The reference's operations leave that result. -/
theorem res_eq (m : (ℓ : Loc nD τ sig) → Buf (Elt Ideal) ℓ) (c : Dev nD) :
    Value.res_main_v68 m c
      = down (m ((c.tc : Thread nD τ).loc main_arg0)) (m ((c.tc : Thread nD τ).loc main_arg1)) (m ((c.tc : Thread nD τ).loc main_arg2))
          (m ((c.tc : Thread nD τ).loc main_arg3)) := by
  unfold Value.res_main_v68
  rfl

/-- Arguments that agree give results that agree. -/
theorem down_congr {u u' : FVec Ideal S28672x3584 .bf16} {te te' : IVec S56 32} {nv nv' : IVec S1 32} {w w' : FVec Ideal S2x8x3584x1024 .f32}
    (h0 : u = u') (h1 : te = te') (h2 : nv = nv') (h3 : w = w') : down u te nv w = down u' te' nv' w' := by
  subst h0 h1 h2 h3; rfl

/-- Where a row is expert `e`'s, read at an index. -/
theorem mask_apply (te : IVec S56 32) (nv : IVec S1 32) (e : BitVec 32) (j : Fin 56) (r : Fin 512) (f : Fin 1024) :
    mask te nv e (ix2 ⟨j.val * 512 + r.val, by omega⟩ f)
      = IntOp.andi (IntOp.cmpi .slt (BitVec.ofNat 32 j.val) (nv (ix1 0))) (IntOp.cmpi .eq (te (ix1 j)) e) := by
  pointwise [mask, used, expert]

/-- An element of a product. -/
theorem product_apply (u : FVec Ideal S28672x3584 .bf16) (w : FVec Ideal S1x1x3584x1024 .f32) (i : Fin 28672) (f : Fin 1024) :
    product u w (ix2 i f) = ∑ k : Fin 3584, u (ix2 i k) * w (ix4 0 0 k f) := by
  pointwise [product]

/-- What the reference computes in row `i` and column `f` with expert `e`. -/
def value (u : FVec Ideal S28672x3584 .bf16) (w : FVec Ideal S2x8x3584x1024 .f32) (e : Fin 8) (i : Fin 28672) (f : Fin 1024) : EReal :=
  ∑ k : Fin 3584, u (ix2 i k) * w (ix4 0 e k f)

/-- One expert's matrix, read at an index. -/
theorem slice_apply (w : FVec Ideal S2x8x3584x1024 .f32) (e : Fin 8) (hs : S2x8x3584x1024.Slices ![0, e.val, 0, 0] S1x1x3584x1024) (k : Fin 3584) (f : Fin 1024) :
    extractStridedSlice S1x1x3584x1024 ![0, e.val, 0, 0] w hs (ix4 0 0 k f) = w (ix4 0 e k f) := by
  pointwise

/-- One expert's rows filled in, read at an index. -/
theorem filled_apply (u : FVec Ideal S28672x3584 .bf16) (te : IVec S56 32) (nv : IVec S1 32) (w : FVec Ideal S2x8x3584x1024 .f32)
    (e : Fin 8) (hs : S2x8x3584x1024.Slices ![0, e.val, 0, 0] S1x1x3584x1024) (y : FVec Ideal S28672x1024 .f32)
    (j : Fin 56) (r : Fin 512) (f : Fin 1024) (hn : (nv (ix1 0)).toNat ≤ 56) :
    filled u te nv (BitVec.ofNat 32 e.val) (extractStridedSlice S1x1x3584x1024 ![0, e.val, 0, 0] w hs) y (ix2 ⟨j.val * 512 + r.val, by omega⟩ f)
      = if j.val < (nv (ix1 0)).toNat ∧ te (ix1 j) = BitVec.ofNat 32 e.val then value u w e ⟨j.val * 512 + r.val, by omega⟩ f
        else y (ix2 ⟨j.val * 512 + r.val, by omega⟩ f) := by
  have hm : mask te nv (BitVec.ofNat 32 e.val) (ix2 ⟨j.val * 512 + r.val, by omega⟩ f) = 1#1
      ↔ j.val < (nv (ix1 0)).toNat ∧ te (ix1 j) = BitVec.ofNat 32 e.val := by
    rw [mask_apply, IntOp.andi_eq_one]
    refine and_congr ?_ StableHlo.Predicate.cmpi_eq_iff
    rw [StableHlo.Predicate.slt_iff_toNat (by rw [TableWords.toNat_small j.isLt]; omega) (by omega), TableWords.toNat_small j.isLt]
  show (if mask te nv (BitVec.ofNat 32 e.val) (ix2 ⟨j.val * 512 + r.val, by omega⟩ f) = 1#1 then _ else _) = _
  refine if_congr hm ?_ rfl
  rw [product_apply]
  simp only [slice_apply]
  rfl

/-- An element of the rows: the value of the tile's expert. -/
theorem rows_apply (u : FVec Ideal S28672x3584 .bf16) (te : IVec S56 32) (nv : IVec S1 32) (w : FVec Ideal S2x8x3584x1024 .f32)
    (j : Fin 56) (r : Fin 512) (f : Fin 1024) (hn : (nv (ix1 0)).toNat ≤ 56) :
    rows u te nv w (ix2 ⟨j.val * 512 + r.val, by omega⟩ f)
      = UpRef.pick (fun e => j.val < (nv (ix1 0)).toNat ∧ te (ix1 j) = BitVec.ofNat 32 e.val) fun e => value u w e ⟨j.val * 512 + r.val, by omega⟩ f := by
  have z : (broadcastInDim S28672x1024 ![] bcast_S_S28672x1024 (constant S_ .f32 0x00000000#32) : FVec Ideal S28672x1024 .f32)
      (ix2 ⟨j.val * 512 + r.val, by omega⟩ f) = 0 := by
    pointwise
  refine (filled_apply u te nv w 7 _ _ j r f hn).trans (if_congr Iff.rfl rfl ?_)
  refine (filled_apply u te nv w 6 _ _ j r f hn).trans (if_congr Iff.rfl rfl ?_)
  refine (filled_apply u te nv w 5 _ _ j r f hn).trans (if_congr Iff.rfl rfl ?_)
  refine (filled_apply u te nv w 4 _ _ j r f hn).trans (if_congr Iff.rfl rfl ?_)
  refine (filled_apply u te nv w 3 _ _ j r f hn).trans (if_congr Iff.rfl rfl ?_)
  refine (filled_apply u te nv w 2 _ _ j r f hn).trans (if_congr Iff.rfl rfl ?_)
  refine (filled_apply u te nv w 1 _ _ j r f hn).trans (if_congr Iff.rfl rfl ?_)
  exact (filled_apply u te nv w 0 _ _ j r f hn).trans (if_congr Iff.rfl rfl z)

/-- The rows reshaped, read at an index: row `j * 4096 + q` of 128 entries is an eighth of row `j * 512 + q / 8`. -/
theorem down_apply (u : FVec Ideal S28672x3584 .bf16) (te : IVec S56 32) (nv : IVec S1 32) (w : FVec Ideal S2x8x3584x1024 .f32)
    (j : Fin 56) (q : Fin 4096) (l : Fin 128) :
    down u te nv w (ix2 ⟨j.val * 4096 + q.val, by omega⟩ l)
      = rows u te nv w (ix2 ⟨j.val * 512 + q.val / 8, by omega⟩ ⟨128 * (q.val % 8) + l.val, by omega⟩) := by
  unfold down
  generalize rows u te nv w = y
  have e : ∀ (a b : Fin 28672) (k n : Fin 1024), a = b → k = n → y (ix2 a k) = y (ix2 b n) := fun _ _ _ _ h g => by rw [h, g]
  refine Eq.trans (?_ : _ = y (ix2 ⟨(j.val * 4096 + q.val) / 8, by omega⟩ ⟨(j.val * 4096 + q.val) % 8 * 128 + l.val, by omega⟩)) (e _ _ _ _ (Fin.ext ?_) (Fin.ext ?_))
  · pointwise
  · show (j.val * 4096 + q.val) / 8 = j.val * 512 + q.val / 8
    omega
  · show (j.val * 4096 + q.val) % 8 * 128 + l.val = 128 * (q.val % 8) + l.val
    omega

/-- In a used tile the reference computes the tile's expert's product. -/
theorem down_used (u : FVec Ideal S28672x3584 .bf16) (te : IVec S56 32) (nv : IVec S1 32) (w : FVec Ideal S2x8x3584x1024 .f32)
    (j : Fin 56) (q : Fin 4096) (l : Fin 128) (hn : (nv (ix1 0)).toNat ≤ 56) (hj : j.val < (nv (ix1 0)).toNat)
    (e : Fin 8) (he : (te (ix1 j)).toNat = e.val) :
    down u te nv w (ix2 ⟨j.val * 4096 + q.val, by omega⟩ l)
      = value u w e ⟨j.val * 512 + q.val / 8, by omega⟩ ⟨128 * (q.val % 8) + l.val, by omega⟩ := by
  refine (down_apply u te nv w j q l).trans ((rows_apply u te nv w j ⟨q.val / 8, by omega⟩ _ hn).trans ?_)
  refine UpRef.pick_one _ _ e fun i => ⟨fun hi => Fin.ext ?_, fun hi => ⟨hj, BitVec.eq_of_toNat_eq ?_⟩⟩
  · rw [← he, hi.2, BitVec.toNat_ofNat]; omega
  · rw [hi, he, BitVec.toNat_ofNat]; omega

/-- In a tile not used it leaves zero. -/
theorem down_unused (u : FVec Ideal S28672x3584 .bf16) (te : IVec S56 32) (nv : IVec S1 32) (w : FVec Ideal S2x8x3584x1024 .f32)
    (j : Fin 56) (q : Fin 4096) (l : Fin 128) (hn : (nv (ix1 0)).toNat ≤ 56) (hj : ¬ j.val < (nv (ix1 0)).toNat) :
    down u te nv w (ix2 ⟨j.val * 4096 + q.val, by omega⟩ l) = 0 := by
  refine (down_apply u te nv w j q l).trans ((rows_apply u te nv w j ⟨q.val / 8, by omega⟩ _ hn).trans ?_)
  exact UpRef.pick_none _ _ fun i hi => hj hi.1

end Cert.DownRef

end
-- ==== Proof.DownValue.lean ====
/- The last expert kernel's result array is the reference's. -/
module

public import proofs.«01_k».proof.Proof.DownFrame
public import proofs.«01_k».proof.Proof.DownBody
public import proofs.«01_k».proof.Proof.DownRef

@[expose] public section

set_option maxRecDepth 16384

noncomputable section

namespace Cert.Down

open Idealize.ShloMosaic Idealize.ShloMosaic.TcCoe Idealize.SL.Sem Cert.Kernel6Ideal Cert.Kernel6Ideal.Gen Cert.Kernel6Ideal.Down
open Idealize.ShloMosaic.Pipeline (Dat)

variable (m : (ℓ : Loc nD τ sig) → Buf (Elt Ideal) ℓ) (ρ : Dev nD → PrngReg) (h : Tab (experts m) (used m)) (c : Dev nD) (t : Fin (cfgA m h).N)

/-- The grid has 56 points. -/
theorem t_lt : t.val < 56 := t.isLt

/-- A point's tile is its number. -/
theorem crd_tile : (crd m h t 1).val = t.val := (coords_tile t).trans (Nat.mod_eq_of_lt (t_lt m h t))

/-- The blocks' indices. -/
theorem idx0 : ((cfgA m h).win (0 : Fin 3)).index t = ![min t.val ((used m one).toNat - 1), 0] :=
  (rows_eq (crd m h t) h).trans (by rw [crd_tile])

theorem idx1 : ((cfgA m h).win (1 : Fin 3)).index t = ![0, (experts m (tile (crd m h t))).toNat, 0, 0] :=
  weights_eq (crd m h t)

theorem idx2 : ((cfgA m h).win (2 : Fin 3)).index t = ![t.val, 0] := by
  show ![(BitVec.ofNat 32 (crd m h t 1).val).toNat, 0] = _
  rw [TableWords.toNat_small (tile_lt _), crd_tile]

/-- The arrays in memory. -/
abbrev U : FVec Ideal S28672x3584 .bf16 := m ((c : Thread nD τ).loc main_arg0)
abbrev W2 : FVec Ideal S2x8x3584x1024 .f32 := m ((c : Thread nD τ).loc main_arg3)

/-- The rows' block. -/
theorem block0 (r : Fin 512) (k : Fin 3584) :
    iblk m ρ h c (0 : Fin 3) t (ix2 r k) = U m c (ix2 ⟨min t.val ((used m one).toNat - 1) * 512 + r.val, by have := t_lt m h t; omega⟩ k) := by
  blk_ext [iblk, idx0 m h t]

/-- The weights' block. -/
theorem block1 (k : Fin 3584) (f : Fin 1024) :
    iblk m ρ h c (1 : Fin 3) t (ix4 0 0 k f) = W2 m c (ix4 0 ⟨(experts m (tile (crd m h t))).toNat, h.expert _⟩ k f) := by
  blk_ext [iblk, idx1 m h t]

/-- A tile's entry in the table of experts. -/
def entry (j : Fin 56) : Fin 8 := ⟨(experts m (ix1 j)).toNat, h.expert _⟩

/-- A point's tile as an index of the table. -/
theorem tile_eq : tile (crd m h t) = ix1 ⟨t.val, t_lt m h t⟩ := by
  funext a
  match a with
  | ⟨0, _⟩ => exact Fin.ext (crd_tile m h t)

/-- The expert a point's weights are of. -/
theorem entry_eq : (⟨(experts m (tile (crd m h t))).toNat, h.expert _⟩ : Fin 8) = entry m h ⟨t.val, t_lt m h t⟩ :=
  Fin.ext (congrArg (fun x => (experts m x).toNat) (tile_eq m h t))

/-- The weights the scratch buffer holds once a point has run: its tile's expert's. -/
def weights (n : ℕ) (hn : n < 56) : FVec Ideal S3584x1024 .bf16 := fun y =>
  W2 m c (ix4 0 (entry m h ⟨n, hn⟩) (y 0) (y 1))

/-- A two-axis index is its two entries. -/
theorem pair_eta (y : S3584x1024.Idx) : y = ix2 (y 0) (y 1) := by
  funext a
  match a with
  | ⟨0, _⟩ => rfl
  | ⟨1, _⟩ => rfl

theorem pay1_weights : k0_pay1 (F := Ideal) (iblk m ρ h c (1 : Fin 3) t) = weights m h c t.val (t_lt m h t) := by
  funext y
  rw [pair_eta y]
  refine (pay1_apply _ _ _).trans ((block1 m ρ h c t _ _).trans ?_)
  exact congrArg (fun e => W2 m c (ix4 0 e _ _)) (entry_eq m h t)

/-- Where the expert does not change, the point before had the same expert. -/
theorem same (hc : ¬ Chg (experts m) (crd m h t)) (hn : t.val - 1 < 56) :
    weights m h c (t.val - 1) hn = weights m h c t.val (t_lt m h t) := by
  rw [chg_iff, not_or, not_not] at hc
  have hp : prev (crd m h t) = ix1 ⟨t.val - 1, hn⟩ := by
    funext a
    match a with
    | ⟨0, _⟩ => exact Fin.ext (show (crd m h t 1).val - 1 = t.val - 1 by rw [crd_tile])
  have e : entry m h ⟨t.val - 1, hn⟩ = entry m h ⟨t.val, t_lt m h t⟩ := by
    refine Fin.ext ?_
    show (experts m _).toNat = (experts m _).toNat
    rw [← hp, ← hc.2, tile_eq]
  funext y; simp only [weights, e]

/-- The scratch buffer after every point. -/
theorem scratch : ∀ n (hn : n < 56), fst m ρ h c (n + 1) = weights m h c n hn := by
  intro n
  induction n with
  | zero =>
    intro hn
    exact (fst_succ m ρ h c ⟨0, hn⟩).trans ((first_pos _ _ (chg_zero m h ⟨0, hn⟩ rfl)).trans (pay1_weights m ρ h c ⟨0, hn⟩))
  | succ n ih =>
    intro hn
    by_cases hc : Chg (experts m) (crd m h ⟨n + 1, hn⟩)
    · exact (fst_succ m ρ h c ⟨n + 1, hn⟩).trans ((first_pos _ _ hc).trans (pay1_weights m ρ h c ⟨n + 1, hn⟩))
    · exact (fst_succ m ρ h c ⟨n + 1, hn⟩).trans ((first_neg _ _ hc).trans
        ((ih (by omega)).trans (same m h c ⟨n + 1, hn⟩ hc (show n < 56 by omega))))

/-- The reference's result of the arguments in memory. -/
abbrev REF : FVec Ideal S229376x128 .f32 := DownRef.down (U m c) (experts m) (used m) (W2 m c)

/-- One element of one block is the reference's there. -/
theorem point (q : Fin 4096) (l : Fin 128) :
    out m ρ h c t (ix2 q l) = REF m c (ix2 ⟨t.val * 4096 + q.val, by have := t_lt m h t; omega⟩ l) := by
  have hn : (used m (ix1 0)).toNat ≤ 56 := by rw [at_one (used m)]; exact h.count_le
  by_cases hu : t.val < (used m (ix1 0)).toNat
  · have hU : Use (used m) (crd m h t) := (use_iff _ h).mpr (by rw [crd_tile, ← at_one (used m) (ix1 0)]; exact hu)
    refine Eq.trans ?_ (DownRef.down_used _ _ _ _ ⟨t.val, t_lt m h t⟩ q l hn hu (entry m h ⟨t.val, t_lt m h t⟩) rfl).symm
    unfold out
    rw [result_pos _ _ hU, scratch m ρ h c t.val (t_lt m h t)]
    refine (tiles_apply _ q l).trans ((pay2_apply _ _ _ _).trans ?_)
    have hr : min t.val ((used m one).toNat - 1) = t.val := by rw [at_one (used m)] at hu; omega
    simp only [block0, hr]
    rfl
  · have hU : ¬ Use (used m) (crd m h t) := fun hU => hu (by
      have := (use_iff _ h).mp hU
      rwa [crd_tile, ← at_one (used m) (ix1 0)] at this)
    refine Eq.trans ?_ (DownRef.down_unused _ _ _ _ ⟨t.val, t_lt m h t⟩ q l hn hu).symm
    unfold out
    rw [result_neg _ _ hU]
    exact pay11_apply q l

/-- Tables admitted whatever the memory: every tile the first expert's, one tile used. -/
theorem plain : Tab (fun _ => 0#32) (fun _ => 1#32) := ⟨fun _ => by decide, by decide, by decide⟩

/-- The output's blocks, written at every point, cover its array; its index map reads no table. -/
theorem covers : ((cfgA m h).win (2 : Fin 3)).Covers := by
  show ((cfg0 (F := Ideal) ⟨pf _ _, ok plain⟩).win (2 : Fin 3)).Covers
  decide +kernel

/-- **The kernel's result array is the reference's.** -/
theorem final : (dats m ρ h 0 c).arrAt (2 : Fin 3) (cfgA m h).N = REF m c := by
  refine (dats m ρ h 0 c).arrAt_eq_of_covers (2 : Fin 3) _ (covers m h) fun t _ y => ?_
  blk_simp
  rw [after_2]
  obtain ⟨q, hq⟩ : ∃ q : Fin 4096, q.val = (y 0).val := ⟨⟨_, (y 0).isLt⟩, rfl⟩
  obtain ⟨l, hl⟩ : ∃ l : Fin 128, l.val = (y 1).val := ⟨⟨_, (y 1).isLt⟩, rfl⟩
  have e : y = ix2 q l := by
    blk_ext []
  rw [e]
  refine (point m ρ h c t q l).trans ?_
  blk_ext [idx2 m h t]

end Cert.Down

end
-- ==== Proof.PrepBody.lean ====
/- The preparing kernel's body read at an index, and the two arrays the host gives it besides the projection. -/
module

public import proofs.«01_k».proof.Proof.Gen.Kernel7Ideal.Value
public import Idealize.ShloMosaic.Lib.Pipeline.ValueKit
public import Idealize.ShloMosaic.Lib.Pointwise

@[expose] public section

set_option maxRecDepth 16384

noncomputable section

namespace Cert.Prep

open Idealize.ShloMosaic Idealize.SL.Sem Cert.Kernel7Ideal Cert.Kernel7Ideal.Gen

/-- The first layer's weight of the keys' norm, once for each of the two heads. -/
def weight (g : FVec Ideal S4x64 .f32) : FVec Ideal S1x128 .f32 :=
  shapeCast _ (extractStridedSlice S1x1x128 ![0, 0, 0] (shapeCast S4x1x128 (shapeCast S4x128 (broadcastInDim S1x4x2x64 ![0, 1, 2, 3]
    bcast_S1x4x1x64_S1x4x2x64_0_1_2_3 (shapeCast S1x4x1x64 g shapeCasts_S4x64_S1x4x1x64)) shapeCasts_S1x4x2x64_S4x128) shapeCasts_S4x128_S4x1x128)
    slices_S4x1x128_S1x1x128_0_0_0) shapeCasts_S1x1x128_S1x128

/-- An element of the weight. -/
theorem weight_apply (g : FVec Ideal S4x64 .f32) (h : Fin 2) (d : Fin 64) : weight g (ix2 0 ⟨h.val * 64 + d.val, by omega⟩) = g (ix2 0 d) := by
  pointwise [weight]

/-- The eight heads' identity. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- The identity spread over the heads' blocks. -/
def spread (e : FVec Ideal S8x8 .f32) (o : FVec Ideal S64x64 .f32) : FVec Ideal S512x512 .f32 :=
  shapeCast _ (mulf (broadcastInDim S8x64x8x64 ![0, 1, 2, 3] bcast_S8x1x8x1_S8x64x8x64_0_1_2_3 (broadcastInDim S8x1x8x1 ![0, 2] bcast_S8x8_S8x1x8x1_0_2 e))
    (broadcastInDim S8x64x8x64 ![0, 1, 2, 3] bcast_S1x64x1x64_S8x64x8x64_0_1_2_3 (broadcastInDim S1x64x1x64 ![1, 3] bcast_S64x64_S1x64x1x64_1_3 o)))
    shapeCasts_S8x64x8x64_S512x512

/-- The blocks of ones, as the kernel is given them. -/
def blocks : FVec Ideal S512x512 .bf16 :=
  truncf .bf16 (spread eye (broadcastInDim S64x64 ![] bcast_S_S64x64 (constant S_ .f32 0x3F800000#32))) bitsLt_bf16_f32

/-- An element of the identity. -/
theorem eye_apply (a b : Fin 8) : eye (ix2 a b) = if a = b then 1 else 0 := by
  have h : eye (ix2 a b) = FloatOps.uitofp (F := Ideal) FTy.f32 (IntOp.cmpi CmpIPredicate.eq (IntOp.addi (BitVec.ofNat 32 a.val) 0#32) (BitVec.ofNat 32 b.val)) := by
    pointwise [eye]
  have w : ∀ a b : Fin 8, IntOp.cmpi CmpIPredicate.eq (IntOp.addi (BitVec.ofNat 32 a.val) 0#32) (BitVec.ofNat 32 b.val) = if a = b then 1#1 else 0#1 := by
    decide
  rw [h, w]
  split
  · show (((1#1 : BitVec 1).toNat : ℝ) : EReal) = 1
    simp
  · show (((0#1 : BitVec 1).toNat : ℝ) : EReal) = 0
    simp

/-- An element of the spread identity. -/
theorem spread_apply (e : FVec Ideal S8x8 .f32) (o : FVec Ideal S64x64 .f32) (a b : Fin 8) (i j : Fin 64) :
    spread e o (ix2 ⟨a.val * 64 + i.val, by omega⟩ ⟨b.val * 64 + j.val, by omega⟩) = e (ix2 a b) * o (ix2 i j) := by
  pointwise [spread]

/-- The constant one. -/
theorem one : Ideal.ofBits .f32 0x3F800000#32 = 1 := by
  simp only [Ideal.ofBits, Ideal.ieee]
  simp
  rw [← EReal.coe_mul]
  norm_num

/-- Division by sixty-four is multiplication by its inverse's constant. -/
theorem mean (s : EReal) : Ideal.div s (Ideal.ofBits .f32 0x42800000#32) = s * Ideal.ofBits .f32 0x3C800000#32 := by
  have h : Ideal.ofBits .f32 0x42800000#32 = ((64 : ℝ) : EReal) := by
    simp only [Ideal.ofBits, Ideal.ieee]
    simp
    rw [← EReal.coe_mul]
    norm_num
  have h' : Ideal.ofBits .f32 0x3C800000#32 = ((1 / 64 : ℝ) : EReal) := by
    simp only [Ideal.ofBits, Ideal.ieee]
    simp
    rw [← EReal.coe_mul]
    norm_num
  rw [h, h', Ideal.div_coe (by norm_num)]

/-- An element of the blocks: one in a head's own block, zero elsewhere. -/
theorem blocks_apply (i j : Fin 512) : blocks (ix2 i j) = if i.val / 64 = j.val / 64 then 1 else 0 := by
  have h : blocks (ix2 i j) = spread eye (fun _ => Ideal.ofBits .f32 0x3F800000#32) (ix2 i j) := rfl
  have hi : i = ⟨(⟨i.val / 64, by omega⟩ : Fin 8).val * 64 + (⟨i.val % 64, by omega⟩ : Fin 64).val, by simp only; omega⟩ :=
    Fin.ext (by simp only; omega)
  have hj : j = ⟨(⟨j.val / 64, by omega⟩ : Fin 8).val * 64 + (⟨j.val % 64, by omega⟩ : Fin 64).val, by simp only; omega⟩ :=
    Fin.ext (by simp only; omega)
  rw [h]
  refine (congrArg₂ (fun i j => spread eye (fun _ => Ideal.ofBits .f32 0x3F800000#32) (ix2 i j)) hi hj).trans ?_
  refine (spread_apply _ _ _ _ _ _).trans ?_
  rw [eye_apply, one, mul_one]
  simp only [Fin.mk.injEq]

/-- A sum over two heads of 64, of which one is taken, is the sum over that head. -/
theorem sum_own (a : Fin 128 → EReal) (h : Fin 2) (d : Fin 64) :
    ∑ j : Fin 128, a j * (if j.val / 64 = (h.val * 64 + d.val) / 64 then 1 else 0) = ∑ e : Fin 64, a ⟨h.val * 64 + e.val, by omega⟩ := by
  have hd : (h.val * 64 + d.val) / 64 = h.val := by omega
  rw [hd, ← (finProdFinEquiv (m := 2) (n := 64)).sum_comp, Fintype.sum_prod_type, Finset.sum_eq_single h]
  · refine Finset.sum_congr rfl fun e _ => ?_
    have h1 : ((finProdFinEquiv (m := 2) (n := 64)) (h, e)).val / 64 = h.val := by
      simp only [finProdFinEquiv_apply_val]; omega
    rw [if_pos h1, mul_one]
    exact congrArg a (Fin.ext (by simp only [finProdFinEquiv_apply_val]; omega))
  · intro b _ hb
    refine Finset.sum_eq_zero fun e _ => ?_
    have h1 : ((finProdFinEquiv (m := 2) (n := 64)) (b, e)).val / 64 = b.val := by
      simp only [finProdFinEquiv_apply_val]; omega
    rw [if_neg (by rw [h1]; exact fun w => hb (Fin.ext w)), mul_zero]
  · exact fun w => absurd (Finset.mem_univ h) w

/-- The keys over one row's head sums. -/
theorem pay12_apply (b : FVec Ideal S512x512 .bf16) (x : FVec Ideal S512x256 .bf16) (g : FVec Ideal S1x128 .f32) (r : Fin 512) (l : Fin 128) :
    k0_pay12 (F := Ideal) (k0_pay3 b) x g (ix2 r l)
      = x (ix2 r ⟨l.val, by omega⟩) * Ideal.rsqrt (((∑ j : Fin 128, x (ix2 r ⟨j.val, by omega⟩) * x (ix2 r ⟨j.val, by omega⟩) * b (ix2 ⟨j.val, by omega⟩ ⟨l.val, by omega⟩))
        + ∑ j : Fin 128, (x (ix2 r ⟨j.val, by omega⟩) * x (ix2 r ⟨j.val, by omega⟩) - x (ix2 r ⟨j.val, by omega⟩) * x (ix2 r ⟨j.val, by omega⟩)) * b (ix2 ⟨j.val, by omega⟩ ⟨l.val, by omega⟩))
          * Ideal.ofBits .f32 0x3C800000#32 + Ideal.ofBits .f32 0x358637BD#32) * g (ix2 0 l) := by
  pointwise [k0_pay12, k0_pay11, k0_pay3]

end Cert.Prep

end
-- ==== Proof.PrepFinite.lean ====
/- What the preparation's precondition says: every element of the projection is a real number. -/
module

public import proofs.«01_k».proof.Pre_finite_prep
public import proofs.«01_k».proof.Proof.Gen.Pre_finite_prep
public import proofs.«01_k».proof.Proof.AttnFinite

@[expose] public section

set_option maxRecDepth 16384

noncomputable section

namespace Cert.PrepFinite

open Idealize.ShloMosaic Cert.Pre_finite_prep Cert.Pre_finite_prep.Gen

variable {z : FVec Ideal S12288x6144 .bf16} {ct st : FVec Ideal S2x4096x128 .f32} {qg kg : FVec Ideal S4x64 .f32}

/-- The precondition at an element: the projection is a real number there. -/
theorem reals (h : Cert.Pre_finite_prep.fn (F := Ideal) z ct st qg kg = fun _ => 1#1) : ∀ i, ∃ a : ℝ, z i = (a : EReal) := by
  have h0 := congrFun h ix0
  dsimp only [Cert.Pre_finite_prep.fn] at h0
  exact fun i => Cert.Finite.real_of_lt _ (Host.reduce_andi_all _ _ _ _ _ h0 i)

end Cert.PrepFinite

end
-- ==== Proof.PrepRef.lean ====
/- The reference's normed keys, operation by operation over the projection and the norm's weights, and read at an index. -/
module

public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.PrepRef

open Idealize.ShloMosaic Idealize.SL.Sem Cert.Reference7Ideal Cert.Reference7Ideal.Gen

/-- The projection's key columns, by head. -/
def heads (z : FVec Ideal S12288x6144 .bf16) : FVec Ideal S12288x2x64 .f32 :=
  shapeCast _ (extf .f32 (extractStridedSlice S12288x128 ![0, 5632] z slices_S12288x6144_S12288x128_0_5632) bitsLt_bf16_f32)
    shapeCasts_S12288x128_S12288x2x64

/-- One over the root mean square of every head. -/
def roots (k : FVec Ideal S12288x2x64 .f32) : FVec Ideal S12288x2x1 .f32 :=
  Host.rsqrt (addf (Host.divf (broadcastInDim S12288x2x1 ![0, 1] bcast_S12288x2_S12288x2x1_0_1 (Host.reduceAdd (mulf k k)
      (constant S_ .f32 0x00000000#32) reducesTo_S12288x2x64_S12288x2_d2 h_S_))
    (broadcastInDim S12288x2x1 ![] bcast_S_S12288x2x1 (constant S_ .f32 0x42800000#32)))
    (broadcastInDim S12288x2x1 ![] bcast_S_S12288x2x1 (constant S_ .f32 0x358637BD#32)))

/-- The first layer's weight of the keys' norm, for every head. -/
def weights (g : FVec Ideal S4x64 .f32) : FVec Ideal S12288x2x64 .f32 :=
  broadcastInDim S12288x2x64 ![0, 1, 2] bcast_S1x1x64_S12288x2x64_0_1_2 (broadcastInDim S1x1x64 ![2] bcast_S64_S1x1x64_2
    (shapeCast _ (extractStridedSlice S1x64 ![0, 0] g slices_S4x64_S1x64_0_0) shapeCasts_S1x64_S64))

/-- The reference's result of the projection and the weights. -/
def keys (z : FVec Ideal S12288x6144 .bf16) (g : FVec Ideal S4x64 .f32) : FVec Ideal S12288x128 .f32 :=
  shapeCast _ (mulf (mulf (heads z) (broadcastInDim S12288x2x64 ![0, 1, 2] bcast_S12288x2x1_S12288x2x64_0_1_2 (roots (heads z))))
    (weights g)) shapeCasts_S12288x2x64_S12288x128

/-- An element of a head. -/
theorem heads_apply (z : FVec Ideal S12288x6144 .bf16) (r : Fin 12288) (h : Fin 2) (d : Fin 64) :
    heads z (ix3 r h d) = z (ix2 r ⟨5632 + (h.val * 64 + d.val), by omega⟩) := by
  pointwise [heads]

/-- One over a head's root mean square. -/
theorem roots_apply (k : FVec Ideal S12288x2x64 .f32) (r : Fin 12288) (h : Fin 2) :
    roots k (ix3 r h 0) = Ideal.rsqrt (Ideal.div (∑ e : Fin 64, k (ix3 r h e) * k (ix3 r h e)) (Ideal.ofBits .f32 0x42800000#32)
      + Ideal.ofBits .f32 0x358637BD#32) := by
  pointwise [roots]

/-- An element of the weights. -/
theorem weights_apply (g : FVec Ideal S4x64 .f32) (r : Fin 12288) (h : Fin 2) (d : Fin 64) : weights g (ix3 r h d) = g (ix2 0 d) := by
  pointwise [weights]

/-- An element of the result: the key over its head's root mean square, times the weight. -/
theorem keys_apply (z : FVec Ideal S12288x6144 .bf16) (g : FVec Ideal S4x64 .f32) (r : Fin 12288) (h : Fin 2) (d : Fin 64) :
    keys z g (ix2 r ⟨h.val * 64 + d.val, by omega⟩) = z (ix2 r ⟨5632 + (h.val * 64 + d.val), by omega⟩)
      * Ideal.rsqrt (Ideal.div (∑ e : Fin 64, z (ix2 r ⟨5632 + (h.val * 64 + e.val), by omega⟩) * z (ix2 r ⟨5632 + (h.val * 64 + e.val), by omega⟩))
        (Ideal.ofBits .f32 0x42800000#32) + Ideal.ofBits .f32 0x358637BD#32) * g (ix2 0 d) := by
  have e : keys z g (ix2 r ⟨h.val * 64 + d.val, by omega⟩) = heads z (ix3 r h d) * roots (heads z) (ix3 r h 0) * weights g (ix3 r h d) := by
    pointwise [keys]
  rw [e, roots_apply, weights_apply]
  simp only [heads_apply]

end Cert.PrepRef

end
-- ==== Proof.PrepValue.lean ====
/- The preparing kernel's keys are the reference's. -/
module

public import proofs.«01_k».proof.Proof.PrepBody
public import proofs.«01_k».proof.Proof.PrepFinite
public import proofs.«01_k».proof.Proof.PrepRef

@[expose] public section

set_option maxRecDepth 16384

noncomputable section

namespace Cert.Prep

open Idealize.ShloMosaic Idealize.ShloMosaic.TcCoe Idealize.SL.Sem Cert.Kernel7Ideal Cert.Kernel7Ideal.Gen
open Idealize.ShloMosaic.Pipeline (Dat)

/-- The windows' block indices at every point. -/
theorem idx : ∀ t : Fin cfg0.N, win0_1.index t = ![t.val, 22] ∧ win0_5.index t = ![0, 0] ∧ win0_6.index t = ![0, 0]
    ∧ win0_8.index t = ![t.val, 0] ∧ t.val < 24 :=
  (by decide +kernel : ∀ t : Fin grid0.N, _)

variable (m : (ℓ : Loc nD τ sig) → Buf (Elt Ideal) ℓ) (c : Dev nD) (t : Fin cfg0.N)

/-- The grid has 24 points. -/
theorem t_lt : t.val < 24 := (idx t).2.2.2.2

/-- The weight as the kernel finds it. -/
theorem entry_weight : V m c main_v20 = weight (m ((c : Thread nD τ).loc main_arg4)) := by
  entry_read; rfl

/-- The blocks of ones as the kernel finds them. -/
theorem entry_blocks : V m c main_v8 = blocks := by
  entry_read; rfl

/-- The projection's block of keys. -/
theorem block1 (r : Fin 512) (k : Fin 256) : iblk m c 1 t (ix2 r k)
    = m ((c : Thread nD τ).loc main_arg0) (ix2 ⟨t.val * 512 + r.val, by have := t_lt t; omega⟩ ⟨5632 + k.val, by omega⟩) := by
  have h' : iblk m c 1 t (ix2 r k) = V m c main_arg0 (ix2 ⟨t.val * 512 + r.val, by have := t_lt t; omega⟩ ⟨5632 + k.val, by omega⟩) := by
    blk_ext [iblk, idx t]
  rw [h', V_main_arg0]

/-- The weight's block. -/
theorem block5 (h : Fin 2) (d : Fin 64) : iblk m c 5 t (ix2 0 ⟨h.val * 64 + d.val, by omega⟩) = m ((c : Thread nD τ).loc main_arg4) (ix2 0 d) := by
  have h' : iblk m c 5 t (ix2 0 ⟨h.val * 64 + d.val, by omega⟩) = V m c main_v20 (ix2 0 ⟨h.val * 64 + d.val, by omega⟩) := by
    blk_ext [iblk, idx t]
  rw [h', entry_weight]
  exact weight_apply _ h d

/-- The block of the blocks of ones. -/
theorem block6 (i j : Fin 512) : iblk m c 6 t (ix2 i j) = if i.val / 64 = j.val / 64 then (1 : EReal) else 0 := by
  have h' : iblk m c 6 t (ix2 i j) = V m c main_v8 (ix2 i j) := by
    blk_ext [iblk, idx t]
  rw [h', entry_blocks]
  exact blocks_apply i j

/-- The body's block of keys, read at an index: the key over the root of its head's mean square, times the weight. -/
theorem out_apply (x0 : FVec Ideal S512x512 .bf16) (x1 : FVec Ideal S512x256 .bf16) (x2 x3 : FVec Ideal S1x512x128 .f32) (x4 : FVec Ideal S1x512 .f32)
    (x5 : FVec Ideal S1x128 .f32) (x6 : FVec Ideal S512x512 .bf16) (hb : ∀ i j : Fin 512, x6 (ix2 i j) = if i.val / 64 = j.val / 64 then 1 else 0)
    (r : Fin 512) (hx : ∀ k, ∃ a : ℝ, x1 (ix2 r k) = (a : EReal)) (h : Fin 2) (d : Fin 64) :
    out0_8 (F := Ideal) x0 x1 x2 x3 x4 x5 x6 (ix2 r ⟨h.val * 64 + d.val, by omega⟩)
      = x1 (ix2 r ⟨h.val * 64 + d.val, by omega⟩)
        * Ideal.rsqrt (Ideal.div (∑ e : Fin 64, x1 (ix2 r ⟨h.val * 64 + e.val, by omega⟩) * x1 (ix2 r ⟨h.val * 64 + e.val, by omega⟩))
          (Ideal.ofBits .f32 0x42800000#32) + Ideal.ofBits .f32 0x358637BD#32) * x5 (ix2 0 ⟨h.val * 64 + d.val, by omega⟩) := by
  refine (congrFun (View.canon_unit_zero (Val := Elt Ideal) (e := .f32) (S := S512x128) (by funext a; fin_cases a <;> rfl) _ _) _).trans ?_
  have l1 : View.ld (Val := Elt Ideal) (e' := .bf16) x1 r0_3 = x1 := View.ld_unit_zero (by funext a; fin_cases a <;> rfl) _ _
  have l5 : View.ld (Val := Elt Ideal) (e' := .f32) x5 r0_4 = x5 := View.ld_unit_zero (by funext a; fin_cases a <;> rfl) _ _
  have l6 : View.ld (Val := Elt Ideal) (e' := .bf16) x6 r0_1 = x6 := View.ld_unit_zero (by funext a; fin_cases a <;> rfl) _ _
  have low : ∀ k, x1 (ix2 r k) * x1 (ix2 r k) - x1 (ix2 r k) * x1 (ix2 r k) = 0 := by
    intro k
    obtain ⟨a, ha⟩ := hx k
    rw [ha, ← EReal.coe_mul, ← EReal.coe_sub, sub_self, EReal.coe_zero]
  rw [k0_pay15, l1, l5, l6, pay12_apply]
  simp only [low, hb, zero_mul, Finset.sum_const_zero, add_zero]
  rw [sum_own (fun j => x1 (ix2 r ⟨j.val, by omega⟩) * x1 (ix2 r ⟨j.val, by omega⟩)) h d, mean]

/-- The reference's result of the arguments in memory. -/
abbrev REF : FVec Ideal S12288x128 .f32 :=
  PrepRef.keys (m ((c : Thread nD τ).loc main_arg0)) (m ((c : Thread nD τ).loc main_arg4))

/-- One element of one block is the reference's there, where the projection's elements are real numbers. -/
theorem point (hz : ∀ i, ∃ a : ℝ, m ((c : Thread nD τ).loc main_arg0) i = (a : EReal)) (r : Fin 512) (h : Fin 2) (d : Fin 64) :
    out0_8 (F := Ideal) (iblk m c 0 t) (iblk m c 1 t) (iblk m c 2 t) (iblk m c 3 t) (iblk m c 4 t) (iblk m c 5 t) (iblk m c 6 t) (ix2 r ⟨h.val * 64 + d.val, by omega⟩)
      = REF m c (ix2 ⟨t.val * 512 + r.val, by have := t_lt t; omega⟩ ⟨h.val * 64 + d.val, by omega⟩) := by
  rw [out_apply _ _ _ _ _ _ _ (block6 m c t) r (fun k => by rw [block1]; exact hz _) h d, REF, PrepRef.keys_apply]
  simp only [block1, block5]

/-- **The kernel's keys are the reference's**, where the projection's elements are real numbers. -/
theorem final (hz : ∀ i, ∃ a : ℝ, m ((c : Thread nD τ).loc main_arg0) i = (a : EReal)) : (dats m 0 c).arrAt 8 (cfgs 0).N = REF m c := by
  refine (dats m 0 c).arrAt_eq_of_covers 8 _ (by decide +kernel) fun t _ y => ?_
  blk_simp
  rw [after0_8]
  obtain ⟨r, hr⟩ : ∃ r : Fin 512, r.val = (y 0).val := ⟨⟨_, (y 0).isLt⟩, rfl⟩
  have y1 : (y 1).val < 128 := (y 1).isLt
  obtain ⟨h, hh⟩ : ∃ h : Fin 2, h.val = (y 1).val / 64 := ⟨⟨(y 1).val / 64, by omega⟩, rfl⟩
  obtain ⟨d, hd⟩ : ∃ d : Fin 64, d.val = (y 1).val % 64 := ⟨⟨(y 1).val % 64, by omega⟩, rfl⟩
  have e : y = ix2 r ⟨h.val * 64 + d.val, by omega⟩ := by
    funext a
    fin_cases a
    · exact Fin.ext hr.symm
    · exact Fin.ext (show (y 1).val = h.val * 64 + d.val by omega)
  rw [e]
  refine (point m c t hz r h d).trans ?_
  blk_ext [idx t]

end Cert.Prep

end
-- ==== Proof.ModBody.lean ====
/- The modulation kernel's body read at an index. -/
module

public import proofs.«01_k».proof.Proof.Gen.Kernel8Ideal.Value
public import proofs.«01_k».proof.Proof.Rows
public import Idealize.ShloMosaic.Lib.Pipeline.ValueKit
public import Idealize.ShloMosaic.Lib.Pointwise

@[expose] public section

set_option maxRecDepth 16384

noncomputable section

namespace Cert.Mod

open Idealize.ShloMosaic Idealize.SL.Sem Cert.Kernel8Ideal Cert.Kernel8Ideal.Gen

/-- The gated value of a number. -/
abbrev silu (a : EReal) : EReal := a * Rows.sigmoid a

/-- A real number's gated value is a real number. -/
theorem silu_real (a : ℝ) : ∃ s : ℝ, silu (a : EReal) = (s : EReal) := by
  have one : Ideal.ofBits .f32 0x3F800000#32 = ((1 : ℝ) : EReal) := by
    simp only [Ideal.ofBits, Ideal.ieee]
    simp
    rw [← EReal.coe_mul]
    norm_num
  have hp : (1 + Real.exp (-a)) ≠ 0 := by positivity
  refine ⟨a * (1 * (1 / (1 + Real.exp (-a)))), ?_⟩
  simp only [silu, Rows.sigmoid]
  rw [one, ← EReal.coe_neg, Ideal.exp_coe, ← EReal.coe_add, Ideal.div_coe hp, ← EReal.coe_mul, ← EReal.coe_mul]

/-- The body's block, read at an index: the product of high parts, the two with a low part, and the bias. -/
theorem pay_apply (x : FVec Ideal S8x1024 .f32) (w : FVec Ideal S1x1024x1536 .f32) (b : FVec Ideal S1x1x1536 .f32) (r : Fin 8) (n : Fin 1536) :
    k0_pay1 (F := Ideal) x w b (ix3 0 r n)
      = (∑ k : Fin 1024, silu (x (ix2 r k)) * w (ix3 0 k n))
        + (∑ k : Fin 1024, (silu (x (ix2 r k)) - silu (x (ix2 r k))) * w (ix3 0 k n))
        + (∑ k : Fin 1024, silu (x (ix2 r k)) * (w (ix3 0 k n) - w (ix3 0 k n))) + b (ix3 0 0 n) := by
  pointwise [k0_pay1, silu, Rows.sigmoid]
  simp only [zero_sub]

end Cert.Mod

end
-- ==== Proof.ModFinite.lean ====
/- What the modulation's precondition says: every conditioning vector and every weight is a real number. -/
module

public import proofs.«01_k».proof.Pre_finite_mod
public import proofs.«01_k».proof.Proof.Gen.Pre_finite_mod
public import proofs.«01_k».proof.Proof.AttnFinite

@[expose] public section

set_option maxRecDepth 16384

noncomputable section

namespace Cert.ModFinite

open Idealize.ShloMosaic Cert.Pre_finite_mod Cert.Pre_finite_mod.Gen

variable {x : FVec Ideal S8x1024 .f32} {w : FVec Ideal S4x1024x6144 .f32} {b : FVec Ideal S4x6144 .f32}

/-- The precondition, taken apart: the conditioning vectors and the weights are real numbers. -/
theorem reals (h : Cert.Pre_finite_mod.fn (F := Ideal) x w b = fun _ => 1#1) :
    (∀ i, ∃ a : ℝ, x i = (a : EReal)) ∧ ∀ i, ∃ a : ℝ, w i = (a : EReal) := by
  have h0 := congrFun h ix0
  dsimp only [Cert.Pre_finite_mod.fn] at h0
  obtain ⟨h1, h2⟩ := IntOp.andi_eq_one.1 h0
  exact ⟨fun i => Cert.Finite.real_of_lt _ (Host.reduce_andi_all _ _ _ _ _ h1 i),
    fun i => Cert.Finite.real_of_lt _ (Host.reduce_andi_all _ _ _ _ _ h2 i)⟩

end Cert.ModFinite

end
-- ==== Proof.ModRef.lean ====
/- The reference's modulation, over the conditioning vectors, the weights and the biases, and read at an index. -/
module

public import proofs.«01_k».proof.Proof.Gen.Reference8Ideal.Run
public import proofs.«01_k».proof.Proof.Rows
public import Idealize.ShloMosaic.Lib.Pipeline.ValueKit
public import Idealize.ShloMosaic.Lib.Pointwise

@[expose] public section

set_option maxRecDepth 16384

noncomputable section

namespace Cert.ModRef

open Idealize.ShloMosaic Idealize.SL.Sem Cert.Reference8Ideal Cert.Reference8Ideal.Gen

/-- The gated conditioning vectors. -/
def gated (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- Each layer's product with the gated vectors. -/
def product (w : FVec Ideal S4x1024x6144 .f32) (y : FVec Ideal S8x1024 .f32) : FVec Ideal S4x8x6144 .f32 :=
  transpose S4x8x6144 [0, 2, 1] (Host.dotGeneral dot_S4x1024x6144_S8x1024_S4x6144x8_1_1_02_0_n_n none w y) transposes_S4x6144x8_S4x8x6144_0_2_1

/-- The reference's result of its three arrays. -/
def modulation (x : FVec Ideal S8x1024 .f32) (w : FVec Ideal S4x1024x6144 .f32) (b : FVec Ideal S4x6144 .f32) : FVec Ideal S4x8x6144 .f32 :=
  addf (product w (gated x)) (broadcastInDim S4x8x6144 ![0, 1, 2] bcast_S4x1x6144_S4x8x6144_0_1_2
    (broadcastInDim S4x1x6144 ![0, 2] bcast_S4x6144_S4x1x6144_0_2 b))

/-- A gated element. -/
theorem gated_apply (x : FVec Ideal S8x1024 .f32) (r : Fin 8) (k : Fin 1024) :
    gated x (ix2 r k) = x (ix2 r k) * Rows.sigmoid (x (ix2 r k)) := by
  pointwise [gated, Rows.sigmoid]

/-- An element of a product. -/
theorem product_apply (w : FVec Ideal S4x1024x6144 .f32) (y : FVec Ideal S8x1024 .f32) (l : Fin 4) (r : Fin 8) (n : Fin 6144) :
    product w y (ix3 l r n) = ∑ k : Fin 1024, w (ix3 l k n) * y (ix2 r k) := by
  pointwise [product]

/-- An element of the result. -/
theorem modulation_apply (x : FVec Ideal S8x1024 .f32) (w : FVec Ideal S4x1024x6144 .f32) (b : FVec Ideal S4x6144 .f32)
    (l : Fin 4) (r : Fin 8) (n : Fin 6144) :
    modulation x w b (ix3 l r n) = (∑ k : Fin 1024, w (ix3 l k n) * (x (ix2 r k) * Rows.sigmoid (x (ix2 r k)))) + b (ix2 l n) := by
  have e : modulation x w b (ix3 l r n) = product w (gated x) (ix3 l r n) + b (ix2 l n) := by
    pointwise [modulation]
  rw [e, product_apply]
  simp only [gated_apply]

end Cert.ModRef

end
-- ==== Proof.ModValue.lean ====
/- The modulation kernel's result array is the reference's. -/
module

public import proofs.«01_k».proof.Proof.ModBody
public import proofs.«01_k».proof.Proof.ModFinite
public import proofs.«01_k».proof.Proof.ModRef

@[expose] public section

set_option maxRecDepth 16384

noncomputable section

namespace Cert.Mod

open Idealize.ShloMosaic Idealize.ShloMosaic.TcCoe Idealize.SL.Sem Cert.Kernel8Ideal Cert.Kernel8Ideal.Gen
open Idealize.ShloMosaic.Pipeline (Dat)

/-- The windows' block indices: layer `t / 4`, column tile `t % 4`. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] ∧ t.val < 16 :=
  (by decide +kernel : ∀ t : Fin grid0.N, _)

variable (m : (ℓ : Loc nD τ sig) → Buf (Elt Ideal) ℓ) (c : Dev nD) (t : Fin cfg0.N)

/-- The grid has 16 points. -/
theorem t_lt : t.val < 16 := (idx t).2.2.2.2

/-- The biases as the kernel finds them. -/
theorem entry_bias : V m c main_v0 = shapeCast S4x1x6144 (m ((c : Thread nD τ).loc main_arg2)) shapeCasts_S4x6144_S4x1x6144 := by
  entry_read; rfl

/-- The conditioning vectors' block is all of them. -/
theorem block0 (r : Fin 8) (k : Fin 1024) : iblk m c 0 t (ix2 r k) = m ((c : Thread nD τ).loc main_arg0) (ix2 r k) := by
  have h : iblk m c 0 t (ix2 r k) = V m c main_arg0 (ix2 r k) := by
    blk_ext [iblk, idx t]
  rw [h, V_main_arg0]

/-- The weights' block. -/
theorem block1 (k : Fin 1024) (n : Fin 1536) : iblk m c 1 t (ix3 0 k n)
    = m ((c : Thread nD τ).loc main_arg1) (ix3 ⟨t.val / 4, by have := t_lt t; omega⟩ k ⟨t.val % 4 * 1536 + n.val, by omega⟩) := by
  have h : iblk m c 1 t (ix3 0 k n) = V m c main_arg1 (ix3 ⟨t.val / 4, by have := t_lt t; omega⟩ k ⟨t.val % 4 * 1536 + n.val, by omega⟩) := by
    blk_ext [iblk, idx t]
  rw [h, V_main_arg1]

/-- A bias, read past its row's unit axis. -/
theorem bias_apply (b : FVec Ideal S4x6144 .f32) (l : Fin 4) (n : Fin 6144) :
    shapeCast S4x1x6144 b shapeCasts_S4x6144_S4x1x6144 (ix3 l 0 n) = b (ix2 l n) := by
  pointwise []

/-- The biases' block. -/
theorem block2 (n : Fin 1536) : iblk m c 2 t (ix3 0 0 n)
    = m ((c : Thread nD τ).loc main_arg2) (ix2 ⟨t.val / 4, by have := t_lt t; omega⟩ ⟨t.val % 4 * 1536 + n.val, by omega⟩) := by
  have h : iblk m c 2 t (ix3 0 0 n) = V m c main_v0 (ix3 ⟨t.val / 4, by have := t_lt t; omega⟩ 0 ⟨t.val % 4 * 1536 + n.val, by omega⟩) := by
    blk_ext [iblk, idx t]
  rw [h, entry_bias]
  exact bias_apply _ _ _

/-- The body's block over real vectors and weights, read at an index: the low parts vanish. -/
theorem out_apply (x0 : FVec Ideal S8x1024 .f32) (x1 : FVec Ideal S1x1024x1536 .f32) (x2 : FVec Ideal S1x1x1536 .f32) (r : Fin 8) (n : Fin 1536)
    (hx : ∀ k, ∃ a : ℝ, x0 (ix2 r k) = (a : EReal)) (hw : ∀ k, ∃ a : ℝ, x1 (ix3 0 k n) = (a : EReal)) :
    out0_3 (F := Ideal) x0 x1 x2 (ix3 0 r n) = (∑ k : Fin 1024, x1 (ix3 0 k n) * silu (x0 (ix2 r k))) + x2 (ix3 0 0 n) := by
  refine (congrFun (View.canon_unit_zero (Val := Elt Ideal) (e := .f32) (S := S1x8x1536) (by funext a; fin_cases a <;> rfl) _ _) _).trans ?_
  have l0 : View.ld (Val := Elt Ideal) (e' := .f32) x0 r0_0 = x0 := View.ld_unit_zero (by funext a; fin_cases a <;> rfl) _ _
  have l1 : View.ld (Val := Elt Ideal) (e' := .f32) x1 r0_1 = x1 := View.ld_unit_zero (by funext a; fin_cases a <;> rfl) _ _
  have l2 : View.ld (Val := Elt Ideal) (e' := .f32) x2 r0_2 = x2 := View.ld_unit_zero (by funext a; fin_cases a <;> rfl) _ _
  have lowx : ∀ k, silu (x0 (ix2 r k)) - silu (x0 (ix2 r k)) = 0 := by
    intro k
    obtain ⟨a, ha⟩ := hx k
    obtain ⟨s, hs⟩ := silu_real a
    rw [ha, hs, ← EReal.coe_sub, sub_self, EReal.coe_zero]
  have loww : ∀ k, x1 (ix3 0 k n) - x1 (ix3 0 k n) = 0 := by
    intro k
    obtain ⟨a, ha⟩ := hw k
    rw [ha, ← EReal.coe_sub, sub_self, EReal.coe_zero]
  rw [l0, l1, l2, pay_apply]
  simp only [lowx, loww, zero_mul, mul_zero, Finset.sum_const_zero, add_zero]
  simp only [mul_comm (silu _)]

/-- The reference's result of the arguments in memory. -/
abbrev REF : FVec Ideal S4x8x6144 .f32 :=
  ModRef.modulation (m ((c : Thread nD τ).loc main_arg0)) (m ((c : Thread nD τ).loc main_arg1)) (m ((c : Thread nD τ).loc main_arg2))

/-- One element of one block is the reference's there, where the vectors and the weights are real numbers. -/
theorem point (hx : ∀ i, ∃ a : ℝ, m ((c : Thread nD τ).loc main_arg0) i = (a : EReal))
    (hw : ∀ i, ∃ a : ℝ, m ((c : Thread nD τ).loc main_arg1) i = (a : EReal)) (r : Fin 8) (n : Fin 1536) :
    out0_3 (F := Ideal) (iblk m c 0 t) (iblk m c 1 t) (iblk m c 2 t) (ix3 0 r n)
      = REF m c (ix3 ⟨t.val / 4, by have := t_lt t; omega⟩ r ⟨t.val % 4 * 1536 + n.val, by omega⟩) := by
  rw [out_apply _ _ _ r n (fun k => by rw [block0]; exact hx _) (fun k => by rw [block1]; exact hw _), REF, ModRef.modulation_apply]
  simp only [block0, block1, block2]

/-- **The kernel's result array is the reference's**, where the vectors and the weights are real numbers. -/
theorem final (hx : ∀ i, ∃ a : ℝ, m ((c : Thread nD τ).loc main_arg0) i = (a : EReal))
    (hw : ∀ i, ∃ a : ℝ, m ((c : Thread nD τ).loc main_arg1) i = (a : EReal)) : (dats m 0 c).arrAt 3 (cfgs 0).N = REF m c := by
  refine (dats m 0 c).arrAt_eq_of_covers 3 _ (by decide +kernel) fun t _ y => ?_
  blk_simp
  rw [after0_3]
  obtain ⟨r, hr⟩ : ∃ r : Fin 8, r.val = (y 1).val := ⟨⟨_, (y 1).isLt⟩, rfl⟩
  obtain ⟨n, hn⟩ : ∃ n : Fin 1536, n.val = (y 2).val := ⟨⟨_, (y 2).isLt⟩, rfl⟩
  have y0 : (y 0).val < 1 := (y 0).isLt
  have e : y = ix3 0 r n := by
    funext a
    fin_cases a
    · exact Fin.ext (show (y 0).val = 0 by omega)
    · exact Fin.ext hr.symm
    · exact Fin.ext hn.symm
  rw [e]
  refine (point m c t hx hw r n).trans ?_
  blk_ext [idx t]

end Cert.Mod

end
-- ==== Proof.PromptBody.lean ====
/- The prompt attention kernel's body as scores, a maximum, a contraction and a quotient, read at an index. -/
module

public import proofs.«01_k».proof.Proof.Gen.Kernel9Ideal.Value
public import proofs.«01_k».proof.Proof.AttnBlock

@[expose] public section

set_option maxRecDepth 16384

noncomputable section

namespace Cert.Prompt

open Idealize.ShloMosaic Idealize.SL.Sem Cert.Kernel9Ideal Cert.Kernel9Ideal.Gen

/-- The scores of one block of keys against the stacked queries. -/
def scores (K : FVec Ideal S256x128 .bf16) (w : FVec Ideal S1024x128 .bf16) : FVec Ideal S256x1024 .f32 :=
  matmul dot_S256x128_S1024x128_S256x1024_1_1_0_0_n_n none (shapeCast S256x128 K shapeCasts_S256x128_S256x128) w
    (constant S256x1024 .f32 0x00000000#32)

/-- A block's maximum score, query by query. -/
def top (s : FVec Ideal S256x1024 .f32) : FVec Ideal S1x1024 .f32 :=
  shapeCast S1x1024 (multiReduction .maximumf [0] S1024 s 0xFF800000#32 reduces_S256x1024_S1024 (.inl rfl) rfl) shapeCasts_S1024_S1x1024

/-- A block's exponentials under its own maximum, contracted with its values. -/
def part (s : FVec Ideal S256x1024 .f32) (v : FVec Ideal S80x256 .bf16) : FVec Ideal S80x1024 .f32 :=
  matmul dot_S80x256_S256x1024_S80x1024_1_0_0_1_n_n none (shapeCast S80x256 v shapeCasts_S80x256_S80x256)
    (truncf .bf16 (exp (subf s (broadcastTo S256x1024 (top s) broadcasts_S1x1024_S256x1024))) bitsLt_bf16_f32)
    (constant S80x1024 .f32 0x00000000#32)

/-- A block's contribution to the sums, brought to the common shift. -/
def term (t M : FVec Ideal S1x1024 .f32) (p : FVec Ideal S80x1024 .f32) : FVec Ideal S80x1024 .f32 :=
  mulf (broadcastTo S80x1024 (exp (subf t M)) broadcasts_S1x1024_S80x1024) p

/-- The quotient of the sums by their row 64, head by head along the columns. -/
def heads (a : FVec Ideal S80x1024 .f32) : FVec Ideal S256x256 .bf16 :=
  have v183 := extractStridedSlice S64x1024 ![0, 0] a slices_S80x1024_o0_0_S64x1024
  have v184 := extractStridedSlice S1x1024 ![64, 0] a slices_S80x1024_o64_0_S1x1024
  have v185 := broadcastTo S64x1024 v184 broadcasts_S1x1024_S64x1024
  have v186 : FVec Ideal S64x1024 .f32 := divf v183 v185
  truncf .bf16 (transpose S256x256 [1, 0] (concatenate S256x256 0
    [⟨S64x256, extractStridedSlice S64x256 ![0, 0] v186 slices_S64x1024_o0_0_S64x256⟩,
     ⟨S64x256, extractStridedSlice S64x256 ![0, 256] v186 slices_S64x1024_o0_256_S64x256⟩,
     ⟨S64x256, extractStridedSlice S64x256 ![0, 512] v186 slices_S64x1024_o0_512_S64x256⟩,
     ⟨S64x256, extractStridedSlice S64x256 ![0, 768] v186 slices_S64x1024_o0_768_S64x256⟩]
    concatenates_S64x256_S64x256_S64x256_S64x256_S256x256_d0) transposes_S256x256_p1_0_S256x256) bitsLt_bf16_f32

/-- The sums of the one block under its own maximum. -/
def sums (s : FVec Ideal S256x1024 .f32) (v : FVec Ideal S80x256 .bf16) : FVec Ideal S80x1024 .f32 :=
  addf (broadcast S80x1024 (Scalar.ofBits (F := Ideal) .f32 0x00000000#32)) (term (top s) (top s) (part s v))

/-- The stacked queries of a block. -/
def stacked (x0 : FVec Ideal S256x256 .bf16) : FVec Ideal S1024x128 .bf16 :=
  have left : IVec S256x128 1 := cmpi .slt (iota .tc S256x128 32 [1] iota_S256x128_d1_w32) (broadcast S256x128 64#32)
  have zero : FVec Ideal S256x128 .bf16 := broadcast S256x128 (Scalar.ofBits (F := Ideal) .bf16 0x0000#16)
  have a : FVec Ideal S256x128 .bf16 := shapeCast S256x128 (View.ld (Val := Elt Ideal) (e' := .bf16) x0 r0_0) shapeCasts_S256x128_S256x128
  have b : FVec Ideal S256x128 .bf16 := shapeCast S256x128 (View.ld (Val := Elt Ideal) (e' := .bf16) x0 r0_1) shapeCasts_S256x128_S256x128
  concatenate S1024x128 0 [⟨S256x128, select left a zero⟩, ⟨S256x128, select left zero a⟩, ⟨S256x128, select left b zero⟩,
    ⟨S256x128, select left zero b⟩] concatenates_S256x128_S256x128_S256x128_S256x128_S1024x128_d0

/-- The block's values, its rows beside the rows of ones, without the rows that are not read. -/
def vals (x2 : FVec Ideal S128x256 .bf16) : FVec Ideal S80x256 .bf16 := View.ld (Val := Elt Ideal) (e' := .bf16) x2 r0_3

/-- The block's keys. -/
def keys (x1 : FVec Ideal S256x128 .bf16) : FVec Ideal S256x128 .bf16 := View.ld (Val := Elt Ideal) (e' := .bf16) x1 r0_2

/-- The body's result is the heads of the sums. -/
theorem out_eq (x0 : FVec Ideal S256x256 .bf16) (x1 : FVec Ideal S256x128 .bf16) (x2 : FVec Ideal S128x256 .bf16) :
    out0_3 (F := Ideal) x0 x1 x2 = heads (sums (scores (keys x1) (stacked x0)) (vals x2)) := by
  refine Eq.trans ?_ (View.canon_unit_zero (Val := Elt Ideal) (e := .bf16) (S := S256x256) (by funext a; fin_cases a <;> rfl)
    inb_S256x256_S256x256_0_0 _)
  rfl

/-- A score is the sum of the products of a key's lanes with the stacked query's. -/
theorem scores_apply (K : FVec Ideal S256x128 .bf16) (w : FVec Ideal S1024x128 .bf16) (k : Fin 256) (j : Fin 1024) :
    scores K w (ix2 k j) = ∑ l : Fin 128, K (ix2 k l) * w (ix2 j l) := by
  pointwise [scores]

/-- A block's maximum, read at a query. -/
theorem top_apply (s : FVec Ideal S256x1024 .f32) (j : Fin 1024) :
    top s (ix2 0 j) = Finset.univ.fold max (Ideal.ofBits .f32 0xFF800000#32) fun k : Fin 256 => s (ix2 k j) := by
  pointwise [top]

/-- The maximum of a block of finite scores is finite. -/
theorem top_real (s : FVec Ideal S256x1024 .f32) (j : Fin 1024) (σ : Fin 256 → ℝ) (h : ∀ k, s (ix2 k j) = (σ k : EReal)) :
    ∃ μ : ℝ, top s (ix2 0 j) = (μ : EReal) := by
  rw [top_apply]
  simp only [h]
  exact Softmax.exists_fold_max (n := 255) σ _ Attn.neg_inf

/-- A block's contribution, read at a row of values and a query. -/
theorem part_apply (s : FVec Ideal S256x1024 .f32) (v : FVec Ideal S80x256 .bf16) (e : Fin 80) (j : Fin 1024) :
    part s v (ix2 e j) = ∑ k : Fin 256, v (ix2 e k) * Ideal.exp (s (ix2 k j) - top s (ix2 0 j)) := by
  pointwise [part]

/-- The result at a row and at lane `d` of head `h`: the quotient of the sums of row `d` and row 64 at that query. -/
theorem heads_apply (a : FVec Ideal S80x1024 .f32) (r : Fin 256) (h : Fin 4) (d : Fin 64) :
    heads a (ix2 r ⟨h.val * 64 + d.val, by omega⟩)
      = Ideal.div (a (ix2 ⟨d.val, by omega⟩ ⟨h.val * 256 + r.val, by omega⟩)) (a (ix2 64 ⟨h.val * 256 + r.val, by omega⟩)) := by
  pointwise [heads]
  fin_vals h with hh
  · rw [dif_pos (by omega)]; simp only [hh, Nat.zero_mul, Nat.zero_add]
  · rw [dif_neg (by omega), dif_pos (by omega)]; simp only [hh, Nat.one_mul, Nat.add_sub_cancel_left]
  · rw [dif_neg (by omega), dif_neg (by omega), dif_pos (by omega)]
    have e : h.val * 64 + d.val - 64 - 64 = d.val := by omega
    simp only [e]; simp only [hh, Nat.reduceMul]
  · rw [dif_neg (by omega), dif_neg (by omega), dif_neg (by omega)]
    have e : h.val * 64 + d.val - 64 - 64 - 64 = d.val := by omega
    simp only [e]; simp only [hh, Nat.reduceMul]

/-- The sums, read at a row of values and a query. -/
theorem sums_apply (s : FVec Ideal S256x1024 .f32) (v : FVec Ideal S80x256 .bf16) (e : Fin 80) (j : Fin 1024) :
    sums s v (ix2 e j) = Ideal.exp (top s (ix2 0 j) - top s (ix2 0 j)) * part s v (ix2 e j) := by
  pointwise [sums, term]

/-- The stacked query of head `h` and row `r`: the head's own 64 lanes in the half that it lies in, zero in the other. -/
theorem stacked_apply (x0 : FVec Ideal S256x256 .bf16) (r : Fin 256) (h : Fin 4) (l : Fin 128) :
    stacked x0 (ix2 ⟨h.val * 256 + r.val, by omega⟩ l)
      = if l.val / 64 = h.val % 2 then x0 (ix2 r ⟨h.val / 2 * 128 + l.val, by omega⟩) else 0 := by
  pointwise [stacked]
  rw [Attn.lane_lt]
  have hl : l.val < 64 ∧ l.val / 64 = 0 ∨ ¬ l.val < 64 ∧ l.val / 64 = 1 := by omega
  have e2 : h.val = 2 → h.val * 256 + r.val - 256 - 256 = r.val := by omega
  have e3 : h.val = 3 → h.val * 256 + r.val - 256 - 256 - 256 = r.val := by omega
  fin_vals h with hh
  · rw [dif_pos (by omega)]
    rcases hl with ⟨hl, hd⟩ | ⟨hl, hd⟩
    · simp only [Scalar.select, hl, hd, hh, ↓reduceIte, Nat.zero_mod, Nat.zero_mul, Nat.zero_add, Nat.zero_div]; rfl
    · simp only [Scalar.select, hl, hd, hh, ↓reduceIte, Nat.zero_mod, one_ne_zero]; rfl
  · rw [dif_neg (by omega), dif_pos (by omega)]
    rcases hl with ⟨hl, hd⟩ | ⟨hl, hd⟩
    · simp only [Scalar.select, hl, hd, hh, ↓reduceIte, Nat.reduceMod, zero_ne_one]; rfl
    · simp only [Scalar.select, hl, hd, hh, ↓reduceIte, Nat.reduceMod, Nat.reduceDiv, Nat.one_mul, Nat.zero_mul, Nat.zero_add,
        Nat.add_sub_cancel_left]; rfl
  · rw [dif_neg (by omega), dif_neg (by omega), dif_pos (by omega)]
    simp only [e2 hh]
    rcases hl with ⟨hl, hd⟩ | ⟨hl, hd⟩
    · simp only [Scalar.select, hl, hd, hh, ↓reduceIte, Nat.reduceMod, Nat.reduceDiv, Nat.one_mul]; rfl
    · simp only [Scalar.select, hl, hd, hh, ↓reduceIte, Nat.reduceMod, one_ne_zero]; rfl
  · rw [dif_neg (by omega), dif_neg (by omega), dif_neg (by omega)]
    simp only [e3 hh]
    rcases hl with ⟨hl, hd⟩ | ⟨hl, hd⟩
    · simp only [Scalar.select, hl, hd, hh, ↓reduceIte, Nat.reduceMod, zero_ne_one]; rfl
    · simp only [Scalar.select, hl, hd, hh, ↓reduceIte, Nat.reduceMod, Nat.reduceDiv, Nat.one_mul]; rfl

/-- A key, read. -/
theorem keys_apply (x1 : FVec Ideal S256x128 .bf16) (k : Fin 256) (l : Fin 128) : keys x1 (ix2 k l) = x1 (ix2 k l) := by
  pointwise [keys]

/-- A value, read. -/
theorem vals_apply (x2 : FVec Ideal S128x256 .bf16) (e : Fin 80) (k : Fin 256) : vals x2 (ix2 e k) = x2 (ix2 ⟨e.val, by omega⟩ k) := by
  pointwise [vals]

/-- **One block.**  From blocks that hold scaled queries, keys with their lanes twice, and values above ones, the body computes the
    softmax-weighted sum of the values, at any finite shift of the exponentials. -/
theorem block_value (x0 : FVec Ideal S256x256 .bf16) (x1 : FVec Ideal S256x128 .bf16) (x2 : FVec Ideal S128x256 .bf16)
    (r : Fin 256) (h : Fin 4) (d : Fin 64) (key : Fin 256 → Fin 64 → ℝ) (qv : Fin 64 → ℝ) (val : Fin 256 → EReal) (s : ℝ)
    (h0 : ∀ e : Fin 64, x0 (ix2 r ⟨h.val * 64 + e.val, by omega⟩) = (qv e : EReal) * (s : EReal))
    (h1 : ∀ (k : Fin 256) (l : Fin 128), x1 (ix2 k l) = (key k ⟨l.val % 64, by omega⟩ : EReal))
    (h2 : ∀ k : Fin 256, x2 (ix2 ⟨d.val, by omega⟩ k) = val k) (h2' : ∀ k : Fin 256, x2 (ix2 ⟨64, by omega⟩ k) = 1) (M : ℝ) :
    out0_3 (F := Ideal) x0 x1 x2 (ix2 r ⟨h.val * 64 + d.val, by omega⟩)
      = ∑ k, val k * Ideal.div (Ideal.exp ((((∑ e, key k e * qv e) * s : ℝ) : EReal) - (M : EReal)))
          (∑ k', Ideal.exp ((((∑ e, key k' e * qv e) * s : ℝ) : EReal) - (M : EReal))) := by
  have hv : ∀ k : Fin 256, vals x2 (ix2 ⟨d.val, by omega⟩ k) = val k := fun k => by rw [vals_apply]; exact h2 k
  have ho : ∀ k : Fin 256, vals x2 (ix2 64 k) = 1 := fun k => by rw [vals_apply]; exact h2' k
  have hσ : ∀ k : Fin 256, scores (keys x1) (stacked x0) (ix2 k ⟨h.val * 256 + r.val, by omega⟩) = (((∑ e, key k e * qv e) * s : ℝ) : EReal) := by
    intro k
    rw [scores_apply]
    simp only [stacked_apply, keys_apply, h1]
    rw [Attn.lanes _ (fun l => x0 (ix2 r ⟨h.val / 2 * 128 + l.val, by omega⟩)) _ (by omega)]
    have e : ∀ e : Fin 64, h.val / 2 * 128 + (h.val % 2 * 64 + e.val) = h.val * 64 + e.val := by omega
    simp only [e, h0, ← EReal.coe_mul, Softmax.coe_sum, Finset.sum_mul, mul_assoc]
  obtain ⟨μ, hμ⟩ := top_real (scores (keys x1) (stacked x0)) ⟨h.val * 256 + r.val, by omega⟩ _ hσ
  rw [out_eq, heads_apply, sums_apply, sums_apply]
  simp only [part_apply, hμ, hσ]
  have hB := Softmax.blocked (C := 1) (n := 256) (fun _ k => (∑ e, key k e * qv e) * s) (fun _ => μ) μ (by norm_num) (by norm_num)
    (fun _ k => vals x2 (ix2 ⟨d.val, by omega⟩ k)) (fun _ k => vals x2 (ix2 64 k)) (fun _ => ho) M
  simp only [Fin.sum_univ_one, hv] at hB
  simp only [hv]
  exact hB

end Cert.Prompt

end
-- ==== Proof.PromptHost.lean ====
/- The three arrays the prompt attention kernel is given, each of one argument, read at an index. -/
module

public import proofs.«01_k».proof.Proof.Gen.Kernel9Ideal.Value
public import Idealize.ShloMosaic.Lib.Pipeline.ValueKit
public import Idealize.ShloMosaic.Lib.Pointwise

@[expose] public section

set_option maxRecDepth 16384

noncomputable section

namespace Cert.PromptHost

open Idealize.ShloMosaic Idealize.ShloMosaic.TcCoe Idealize.SL.Sem Cert.Kernel9Ideal Cert.Kernel9Ideal.Gen

/-- The scaled queries. -/
def queries (q : FVec Ideal S12288x512 .f32) : FVec Ideal S12288x512 .bf16 :=
  truncf .bf16 (mulf q (broadcastInDim S12288x512 ![] bcast_S_S12288x512 (constant S_ .f32 0x3E000000#32))) bitsLt_bf16_f32

/-- The keys, each head's lanes twice. -/
def keys (k : FVec Ideal S12288x128 .f32) : FVec Ideal S12288x256 .bf16 :=
  shapeCast _ (broadcastInDim S12288x2x2x64 ![0, 1, 2, 3] bcast_S12288x2x1x64_S12288x2x2x64_0_1_2_3
    (shapeCast _ (truncf .bf16 k bitsLt_bf16_f32) shapeCasts_S12288x128_S12288x2x1x64)) shapeCasts_S12288x2x2x64_S12288x256

/-- The values transposed, each head's lanes above as many ones. -/
def vals (v : FVec Ideal S12288x128 .f32) : FVec Ideal S256x12288 .bf16 :=
  shapeCast _ (concatenate S2x128x12288 1 [⟨S2x64x12288, transpose S2x64x12288 [1, 2, 0]
      (shapeCast _ (truncf .bf16 v bitsLt_bf16_f32) shapeCasts_S12288x128_S12288x2x64) transposes_S12288x2x64_S2x64x12288_1_2_0⟩,
    ⟨S2x64x12288, broadcastInDim S2x64x12288 ![] bcast_S_S2x64x12288 (constant S_ .bf16 0x3F80#16)⟩]
    concatenates_S2x64x12288_S2x64x12288_S2x128x12288_d1) shapeCasts_S2x128x12288_S256x12288

variable (m : (ℓ : Loc nD τ sig) → Buf (Elt Ideal) ℓ) (c : Dev nD)

/-- The first array the kernel finds: the scaled queries. -/
theorem entry_queries : V m c main_v2 = queries (m ((c : Thread nD τ).loc main_arg0)) := by
  entry_read; rfl

/-- The second array: the keys. -/
theorem entry_keys : V m c main_v6 = keys (m ((c : Thread nD τ).loc main_arg1)) := by
  entry_read; rfl

/-- The third array: the values. -/
theorem entry_vals : V m c main_v12 = vals (m ((c : Thread nD τ).loc main_arg2)) := by
  entry_read; rfl

/-- A scaled query, read. -/
theorem queries_apply (q : FVec Ideal S12288x512 .f32) (i : Fin 12288) (j : Fin 512) :
    queries q (ix2 i j) = q (ix2 i j) * Ideal.ofBits .f32 0x3E000000#32 := by
  pointwise [queries]

/-- A key, read at lane `l` of head `g`. -/
theorem keys_apply (k : FVec Ideal S12288x128 .f32) (i : Fin 12288) (g : Fin 2) (l : Fin 128) :
    keys k (ix2 i ⟨g.val * 128 + l.val, by omega⟩) = k (ix2 i ⟨g.val * 64 + l.val % 64, by omega⟩) := by
  pointwise [keys]
  have e : (g.val * 128 + l.val) % 64 = l.val % 64 := by omega
  simp only [e]

/-- A value, read at lane `d` of head `g`. -/
theorem vals_apply (v : FVec Ideal S12288x128 .f32) (g : Fin 2) (d : Fin 64) (i : Fin 12288) :
    vals v (ix2 ⟨g.val * 128 + d.val, by omega⟩ i) = v (ix2 i ⟨g.val * 64 + d.val, by omega⟩) := by
  pointwise [vals]
  have e : (g.val * 128 + d.val) % 128 = d.val := by omega
  rw [dif_pos (by omega)]
  simp only [e]

/-- The row below a head's values holds ones. -/
theorem vals_one (v : FVec Ideal S12288x128 .f32) (g : Fin 2) (i : Fin 12288) :
    vals v (ix2 ⟨g.val * 128 + 64, by omega⟩ i) = 1 := by
  pointwise [vals]
  rw [dif_neg (by omega)]

end Cert.PromptHost

end
-- ==== Proof.PromptRef.lean ====
/- The reference's prompt attention, operation by operation over its three arrays, and read at an index. -/
module

public import proofs.«01_k».proof.Proof.Gen.Reference9Ideal.Run
public import proofs.«01_k».proof.Proof.Softmax
public import Idealize.ShloMosaic.Lib.Pipeline.ValueKit
public import Idealize.ShloMosaic.Lib.Pointwise

@[expose] public section

set_option maxRecDepth 16384

noncomputable section

namespace Cert.PromptRef

open Idealize.ShloMosaic Idealize.SL.Sem Cert.Reference9Ideal Cert.Reference9Ideal.Gen

/-- The prompt sequences' rows of keys or values, by head. -/
def split (k : FVec Ideal S12288x128 .f32) : FVec Ideal S16x256x2x64 .f32 :=
  shapeCast _ (extractStridedSlice S4096x128 ![0, 0] k slices_S12288x128_S4096x128_0_0) shapeCasts_S4096x128_S16x256x2x64

/-- The scaled scores. -/
def scores (q : FVec Ideal S12288x512 .f32) (K : FVec Ideal S16x256x2x64 .f32) : FVec Ideal S16x2x4x256x256 .f32 :=
  mulf (transpose S16x2x4x256x256 [0, 1, 4, 3, 2] (Host.dotGeneral dot_S16x256x2x64_S16x256x2x4x64_S16x2x256x256x4_3_4_1_13_02_02 none K
      (shapeCast _ (extractStridedSlice S4096x512 ![0, 0] q slices_S12288x512_S4096x512_0_0) shapeCasts_S4096x512_S16x256x2x4x64))
      transposes_S16x2x256x256x4_S16x2x4x256x256_0_1_4_3_2)
    (broadcastInDim S16x2x4x256x256 ![] bcast_S_S16x2x4x256x256 (constant S_ .f32 0x3E000000#32))

/-- The maximum over the keys. -/
def over (s : FVec Ideal S16x2x4x256x256 .f32) : FVec Ideal S16x2x4x256 .f32 :=
  Host.reduce FloatOps.maximumf s (constant S_ .f32 0xFF800000#32) reducesTo_S16x2x4x256x256_S16x2x4x256_d4 h_S_

/-- The larger of −∞ and a maximum. -/
def floored (t : FVec Ideal S16x2x4x256 .f32) : FVec Ideal S16x2x4x256 .f32 :=
  maximumf (broadcastInDim S16x2x4x256 ![] bcast_S_S16x2x4x256 (constant S_ .f32 0xFF800000#32)) t

/-- The largest score of each query. -/
def top (s : FVec Ideal S16x2x4x256x256 .f32) : FVec Ideal S16x2x4x256 .f32 :=
  floored (over s)

/-- The exponentials under the largest score. -/
def exps (s : FVec Ideal S16x2x4x256x256 .f32) : FVec Ideal S16x2x4x256x256 .f32 :=
  Host.exp (subf s (broadcastInDim S16x2x4x256x256 ![0, 1, 2, 3, 4] bcast_S16x2x4x256x1_S16x2x4x256x256_0_1_2_3_4
    (broadcastInDim S16x2x4x256x1 ![0, 1, 2, 3] bcast_S16x2x4x256_S16x2x4x256x1_0_1_2_3 (top s))))

/-- The softmax of exponentials. -/
def weights (e : FVec Ideal S16x2x4x256x256 .f32) : FVec Ideal S16x2x4x256x256 .f32 :=
  Host.divf e (broadcastInDim S16x2x4x256x256 ![0, 1, 2, 3, 4] bcast_S16x2x4x256x1_S16x2x4x256x256_0_1_2_3_4
    (broadcastInDim S16x2x4x256x1 ![0, 1, 2, 3] bcast_S16x2x4x256_S16x2x4x256x1_0_1_2_3
      (Host.reduceAdd e (constant S_ .f32 0x00000000#32) reducesTo_S16x2x4x256x256_S16x2x4x256_d4 h_S_)))

/-- The weighted values, laid out row by row. -/
def rows (V : FVec Ideal S16x256x2x64 .f32) (p : FVec Ideal S16x2x4x256x256 .f32) : FVec Ideal S4096x512 .bf16 :=
  truncf .bf16 (shapeCast _ (transpose S16x256x2x4x64 [0, 4, 1, 3, 2]
    (Host.dotGeneral dot_S16x256x2x64_S16x2x4x256x256_S16x2x64x4x256_1_4_3_23_02_01 none V p)
    transposes_S16x2x64x4x256_S16x256x2x4x64_0_4_1_3_2) shapeCasts_S16x256x2x4x64_S4096x512) bitsLt_bf16_f32

/-- The reference's result of its three arrays. -/
def attention (q : FVec Ideal S12288x512 .f32) (k v : FVec Ideal S12288x128 .f32) :
    FVec Ideal S4096x512 .bf16 :=
  rows (split v) (weights (exps (scores q (split k))))

/-- A row by head. -/
theorem split_apply (k : FVec Ideal S12288x128 .f32) (b : Fin 16) (j : Fin 256) (h : Fin 2) (d : Fin 64) :
    split k (ix4 b j h d) = k (ix2 ⟨b.val * 256 + j.val, by omega⟩ ⟨h.val * 64 + d.val, by omega⟩) := by
  pointwise [split]

/-- A scaled score. -/
theorem scores_apply (q : FVec Ideal S12288x512 .f32) (K : FVec Ideal S16x256x2x64 .f32) (b : Fin 16) (h : Fin 2) (g : Fin 4) (i : Fin 256) (j : Fin 256) :
    scores q K (ix5 b h g i j) = (∑ d : Fin 64, K (ix4 b j h d)
      * q (ix2 ⟨b.val * 256 + i.val, by omega⟩ ⟨h.val * 256 + g.val * 64 + d.val, by omega⟩)) * Ideal.ofBits .f32 0x3E000000#32 := by
  pointwise [scores]

/-- A maximum over the keys. -/
theorem over_apply (s : FVec Ideal S16x2x4x256x256 .f32) (b : Fin 16) (h : Fin 2) (g : Fin 4) (i : Fin 256) :
    over s (ix4 b h g i) = Finset.univ.fold max (Ideal.ofBits .f32 0xFF800000#32) fun j : Fin 256 => s (ix5 b h g i j) := by
  pointwise [over]

/-- The larger of −∞ and a maximum, read. -/
theorem floored_apply (t : FVec Ideal S16x2x4x256 .f32) (b : Fin 16) (h : Fin 2) (g : Fin 4) (i : Fin 256) :
    floored t (ix4 b h g i) = max (Ideal.ofBits .f32 0xFF800000#32) (t (ix4 b h g i)) := by
  pointwise [floored]

/-- The largest score. -/
theorem top_apply (s : FVec Ideal S16x2x4x256x256 .f32) (b : Fin 16) (h : Fin 2) (g : Fin 4) (i : Fin 256) :
    top s (ix4 b h g i) = max (Ideal.ofBits .f32 0xFF800000#32)
      (Finset.univ.fold max (Ideal.ofBits .f32 0xFF800000#32) fun j : Fin 256 => s (ix5 b h g i j)) := by
  rw [top, floored_apply, over_apply]

/-- An exponential. -/
theorem exps_apply (s : FVec Ideal S16x2x4x256x256 .f32) (b : Fin 16) (h : Fin 2) (g : Fin 4) (i : Fin 256) (j : Fin 256) :
    exps s (ix5 b h g i j) = Ideal.exp (s (ix5 b h g i j) - top s (ix4 b h g i)) := by
  pointwise [exps]

/-- A weight. -/
theorem weights_apply (e : FVec Ideal S16x2x4x256x256 .f32) (b : Fin 16) (h : Fin 2) (g : Fin 4) (i : Fin 256) (j : Fin 256) :
    weights e (ix5 b h g i j) = Ideal.div (e (ix5 b h g i j)) (∑ j' : Fin 256, e (ix5 b h g i j')) := by
  pointwise [weights]

/-- A result. -/
theorem rows_apply (V : FVec Ideal S16x256x2x64 .f32) (p : FVec Ideal S16x2x4x256x256 .f32) (b : Fin 16) (h : Fin 2) (g : Fin 4) (i : Fin 256) (d : Fin 64) :
    rows V p (ix2 ⟨b.val * 256 + i.val, by omega⟩ ⟨h.val * 256 + g.val * 64 + d.val, by omega⟩)
      = ∑ j : Fin 256, V (ix4 b j h d) * p (ix5 b h g i j) := by
  pointwise [rows]

/-- **The reference.**  Over finite queries and keys the result is the softmax-weighted sum of the values, the exponentials at some
    finite shift. -/
theorem attention_apply (q : FVec Ideal S12288x512 .f32) (k v : FVec Ideal S12288x128 .f32)
    (b : Fin 16) (h : Fin 2) (g : Fin 4) (i : Fin 256) (d : Fin 64) (key : Fin 256 → Fin 64 → ℝ) (qv : Fin 64 → ℝ) (s : ℝ)
    (hs : Ideal.ofBits .f32 0x3E000000#32 = (s : EReal)) (hk : ∀ j e, split k (ix4 b j h e) = (key j e : EReal))
    (hq : ∀ e : Fin 64, q (ix2 ⟨b.val * 256 + i.val, by omega⟩ ⟨h.val * 256 + g.val * 64 + e.val, by omega⟩) = (qv e : EReal)) :
    ∃ M : ℝ, attention q k v (ix2 ⟨b.val * 256 + i.val, by omega⟩ ⟨h.val * 256 + g.val * 64 + d.val, by omega⟩)
      = ∑ j, split v (ix4 b j h d) * Ideal.div (Ideal.exp ((((∑ e, key j e * qv e) * s : ℝ) : EReal) - (M : EReal)))
          (∑ j', Ideal.exp ((((∑ e, key j' e * qv e) * s : ℝ) : EReal) - (M : EReal))) := by
  have hσ : ∀ j, scores q (split k) (ix5 b h g i j) = (((∑ e, key j e * qv e) * s : ℝ) : EReal) := by
    intro j
    rw [scores_apply]
    simp only [hk, hq, hs, ← EReal.coe_mul, Softmax.coe_sum]
  have hb : Ideal.ofBits .f32 0xFF800000#32 = ⊥ := by simp [Ideal.ofBits, Ideal.ieee]
  obtain ⟨M, hM⟩ := Softmax.exists_fold_max (n := 255) (fun j => (∑ e, key j e * qv e) * s) _ hb
  have ht : top (scores q (split k)) (ix4 b h g i) = (M : EReal) := by
    rw [top_apply]
    simp only [hσ]
    rw [hM, hb]
    exact bot_sup_eq _
  refine ⟨M, ?_⟩
  rw [attention, rows_apply]
  simp only [weights_apply, exps_apply, hσ, ht]

end Cert.PromptRef

end
-- ==== Proof.PromptFinite.lean ====
/- What the prompt attention's precondition says: every query and every key is a real number. -/
module

public import proofs.«01_k».proof.Pre_finite_prompt
public import proofs.«01_k».proof.Proof.Gen.Pre_finite_prompt
public import proofs.«01_k».proof.Proof.AttnFinite

@[expose] public section

set_option maxRecDepth 16384

noncomputable section

namespace Cert.PromptFinite

open Idealize.ShloMosaic Cert.Pre_finite_prompt Cert.Pre_finite_prompt.Gen

variable {q : FVec Ideal S12288x512 .f32} {k v : FVec Ideal S12288x128 .f32}

/-- The precondition, taken apart: the queries and the keys are real numbers. -/
theorem reals (h : Cert.Pre_finite_prompt.fn (F := Ideal) q k v = fun _ => 1#1) :
    (∀ i, ∃ a : ℝ, q i = (a : EReal)) ∧ ∀ i, ∃ a : ℝ, k i = (a : EReal) := by
  have h0 := congrFun h ix0
  dsimp only [Cert.Pre_finite_prompt.fn] at h0
  obtain ⟨h1, h2⟩ := IntOp.andi_eq_one.1 h0
  exact ⟨fun i => Cert.Finite.real_of_lt _ (Host.reduce_andi_all _ _ _ _ _ h1 i),
    fun i => Cert.Finite.real_of_lt _ (Host.reduce_andi_all _ _ _ _ _ h2 i)⟩

end Cert.PromptFinite

end
-- ==== Proof.PromptValue.lean ====
/- The prompt attention kernel's result array is the reference's. -/
module

public import proofs.«01_k».proof.Proof.PromptBody
public import proofs.«01_k».proof.Proof.PromptHost
public import proofs.«01_k».proof.Proof.PromptRef
public import proofs.«01_k».proof.Proof.PromptFinite
public import proofs.«01_k».proof.Proof.AttnValue

@[expose] public section

set_option maxRecDepth 16384

noncomputable section

namespace Cert.PromptValue

open Idealize.ShloMosaic Idealize.ShloMosaic.TcCoe Idealize.SL.Sem Cert.Kernel9Ideal Cert.Kernel9Ideal.Gen
open Idealize.ShloMosaic.Pipeline (Dat)

/-- The windows' block indices: sequence `t / 2`, head group `t % 2`. -/
theorem idx : ∀ t : Fin cfg0.N, win0_0.index t = ![t.val / 2, t.val % 2] ∧ win0_1.index t = ![t.val / 2, t.val % 2]
    ∧ win0_2.index t = ![t.val % 2, t.val / 2] ∧ win0_3.index t = ![t.val / 2, t.val % 2] ∧ t.val < 32 :=
  (by decide +kernel : ∀ t : Fin grid0.N, _)

variable (m : (ℓ : Loc nD τ sig) → Buf (Elt Ideal) ℓ) (c : Dev nD) (t : Fin cfg0.N)

/-- The grid has 32 points. -/
theorem t_lt : t.val < 32 := (idx t).2.2.2.2

/-- The queries in memory. -/
abbrev Q : FVec Ideal S12288x512 .f32 := m ((c : Thread nD τ).loc main_arg0)

/-- The queries' block. -/
theorem block0 (r : Fin 256) (j : Fin 256) : iblk m c 0 t (ix2 r j)
    = Q m c (ix2 ⟨t.val / 2 * 256 + r.val, by have := t_lt t; omega⟩ ⟨t.val % 2 * 256 + j.val, by omega⟩) * Ideal.ofBits .f32 0x3E000000#32 := by
  have h : iblk m c 0 t (ix2 r j) = V m c main_v2 (ix2 ⟨t.val / 2 * 256 + r.val, by have := t_lt t; omega⟩ ⟨t.val % 2 * 256 + j.val, by omega⟩) := by
    blk_ext [iblk, idx t]
  rw [h, PromptHost.entry_queries, PromptHost.queries_apply]

/-- The keys' block. -/
theorem block1 (k : Fin 256) (l : Fin 128) : iblk m c 1 t (ix2 k l)
    = m ((c : Thread nD τ).loc main_arg1) (ix2 ⟨t.val / 2 * 256 + k.val, by have := t_lt t; omega⟩ ⟨t.val % 2 * 64 + l.val % 64, by omega⟩) := by
  have h : iblk m c 1 t (ix2 k l) = V m c main_v6 (ix2 ⟨t.val / 2 * 256 + k.val, by have := t_lt t; omega⟩ ⟨t.val % 2 * 128 + l.val, by omega⟩) := by
    blk_ext [iblk, idx t]
  rw [h, PromptHost.entry_keys]
  exact PromptHost.keys_apply _ _ ⟨t.val % 2, by omega⟩ l

/-- The values' block, in its rows of values. -/
theorem block2 (d : Fin 64) (k : Fin 256) : iblk m c 2 t (ix2 ⟨d.val, by omega⟩ k)
    = m ((c : Thread nD τ).loc main_arg2) (ix2 ⟨t.val / 2 * 256 + k.val, by have := t_lt t; omega⟩ ⟨t.val % 2 * 64 + d.val, by omega⟩) := by
  have h : iblk m c 2 t (ix2 ⟨d.val, by omega⟩ k) = V m c main_v12 (ix2 ⟨t.val % 2 * 128 + d.val, by omega⟩
        ⟨t.val / 2 * 256 + k.val, by have := t_lt t; omega⟩) := by
    blk_ext [iblk, idx t]
  rw [h, PromptHost.entry_vals]
  exact PromptHost.vals_apply _ ⟨t.val % 2, by omega⟩ d _

/-- The values' block, in its row 64. -/
theorem block2_one (k : Fin 256) : iblk m c 2 t (ix2 ⟨64, by omega⟩ k) = (1 : EReal) := by
  have h : iblk m c 2 t (ix2 ⟨64, by omega⟩ k) = V m c main_v12 (ix2 ⟨t.val % 2 * 128 + 64, by omega⟩
        ⟨t.val / 2 * 256 + k.val, by have := t_lt t; omega⟩) := by
    blk_ext [iblk, idx t]
  rw [h, PromptHost.entry_vals]
  exact PromptHost.vals_one _ ⟨t.val % 2, by omega⟩ _

/-- The reference's result of the arguments in memory. -/
abbrev REF : FVec Ideal S4096x512 .bf16 := PromptRef.attention (m ((c : Thread nD τ).loc main_arg0)) (m ((c : Thread nD τ).loc main_arg1))
  (m ((c : Thread nD τ).loc main_arg2))

/-- One element of one block is the reference's there. -/
theorem point (hq : ∀ i, ∃ a : ℝ, m ((c : Thread nD τ).loc main_arg0) i = (a : EReal))
    (hk : ∀ i, ∃ a : ℝ, m ((c : Thread nD τ).loc main_arg1) i = (a : EReal)) (r : Fin 256) (h : Fin 4) (d : Fin 64) :
    out0_3 (F := Ideal) (iblk m c 0 t) (iblk m c 1 t) (iblk m c 2 t) (ix2 r ⟨h.val * 64 + d.val, by omega⟩)
      = REF m c (ix2 ⟨t.val / 2 * 256 + r.val, by have := t_lt t; omega⟩ ⟨t.val % 2 * 256 + h.val * 64 + d.val, by omega⟩) := by
  have ht := t_lt t
  obtain ⟨s, hs⟩ := AttnValue.factor
  choose q hq using hq
  choose k hk using hk
  obtain ⟨b, hb⟩ : ∃ b : Fin 16, b.val = t.val / 2 := ⟨⟨t.val / 2, by omega⟩, rfl⟩
  obtain ⟨g, hg⟩ : ∃ g : Fin 2, g.val = t.val % 2 := ⟨⟨t.val % 2, by omega⟩, rfl⟩
  let key : Fin 256 → Fin 64 → ℝ := fun j e => k (ix2 ⟨b.val * 256 + j.val, by omega⟩ ⟨g.val * 64 + e.val, by omega⟩)
  let qv : Fin 64 → ℝ := fun e => q (ix2 ⟨b.val * 256 + r.val, by omega⟩ ⟨g.val * 256 + h.val * 64 + e.val, by omega⟩)
  have hkey : ∀ j e, PromptRef.split (m ((c : Thread nD τ).loc main_arg1)) (ix4 b j g e) = (key j e : EReal) := by
    intro j e
    rw [PromptRef.split_apply]
    exact hk _
  obtain ⟨M, hM⟩ := PromptRef.attention_apply (m ((c : Thread nD τ).loc main_arg0)) (m ((c : Thread nD τ).loc main_arg1))
    (m ((c : Thread nD τ).loc main_arg2)) b g h r d key qv s hs hkey (fun e => hq _)
  simp only [← hb, ← hg]
  rw [REF, hM]
  refine Prompt.block_value _ _ _ r h d key qv (fun j => PromptRef.split (m ((c : Thread nD τ).loc main_arg2)) (ix4 b j g d)) s
    ?_ ?_ ?_ (block2_one m c t) M
  · intro e
    rw [block0, hs, Q, hq]
    simp only [qv, hb, hg, Nat.add_assoc]
  · intro j l
    rw [block1, hk]
    simp only [key, hb, hg]
  · intro j
    rw [block2, PromptRef.split_apply]
    simp only [hb, hg]

/-- **The kernel's result array is the reference's**, where the queries and the keys are real numbers. -/
theorem final (hq : ∀ i, ∃ a : ℝ, m ((c : Thread nD τ).loc main_arg0) i = (a : EReal))
    (hk : ∀ i, ∃ a : ℝ, m ((c : Thread nD τ).loc main_arg1) i = (a : EReal)) : (dats m 0 c).arrAt 3 (cfgs 0).N = REF m c := by
  refine (dats m 0 c).arrAt_eq_of_covers 3 _ (by decide +kernel) fun t _ y => ?_
  blk_simp
  rw [after0_3]
  have ht := t_lt t
  obtain ⟨r, hr⟩ : ∃ r : Fin 256, r.val = (y 0).val := ⟨⟨_, (y 0).isLt⟩, rfl⟩
  have hy : (y 1).val < 256 := (y 1).isLt
  obtain ⟨h, hh⟩ : ∃ h : Fin 4, h.val = (y 1).val / 64 := ⟨⟨(y 1).val / 64, by omega⟩, rfl⟩
  obtain ⟨d, hd⟩ : ∃ d : Fin 64, d.val = (y 1).val % 64 := ⟨⟨(y 1).val % 64, by omega⟩, rfl⟩
  have e : y = ix2 r ⟨h.val * 64 + d.val, by omega⟩ := by
    funext a
    fin_cases a
    · exact Fin.ext hr.symm
    · exact Fin.ext (show (y 1).val = h.val * 64 + d.val by omega)
  rw [e]
  refine (point m c t hq hk r h d).trans ?_
  blk_ext [idx t]

end Cert.PromptValue

end
-- ==== Proof.ChanRef.lean ====
/- The reference's sums over a group's channels, over the projection, and read at an index. -/
module

public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.ChanRef

open Idealize.ShloMosaic Idealize.SL.Sem Cert.Reference10Ideal Cert.Reference10Ideal.Gen

/-- The products of the two channels' numbers. -/
def products : IVec S128x128 32 :=
  muli (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- The divisor, 128. -/
def divisor : IVec S_ 32 := select (cmpi .eq (id (constantI S_ 32 128#32)) (constantI S_ 32 0#32)) (constantI S_ 32 1#32) (id (constantI S_ 32 128#32))

/-- The remainders of the division, with the dividend's sign. -/
def rests : IVec S128x128 32 := Host.remsi products (broadcastInDim S128x128 ![] bcast_S_S128x128 divisor)

/-- The remainders with the divisor's sign. -/
def residues : IVec S128x128 32 :=
  select (andi (cmpi .ne (cmpi .slt rests (broadcastInDim S128x128 ![] bcast_S_S128x128 (constantI S_ 32 0#32)))
      (broadcastInDim S128x128 ![] bcast_S_S128x128 (cmpi .slt divisor (constantI S_ 32 0#32))))
    (cmpi .ne rests (broadcastInDim S128x128 ![] bcast_S_S128x128 (constantI S_ 32 0#32))))
    (addi rests (broadcastInDim S128x128 ![] bcast_S_S128x128 divisor)) rests

/-- The angles. -/
def angles : FVec Ideal S128x128 .f32 :=
  mulf (sitofp .f32 residues) (broadcastInDim S128x128 ![] bcast_S_S128x128 (constant S_ .f32 0x3D490FDB#32))

/-- The scaled cosines. -/
def cosines : FVec Ideal S128x128 .f32 := mulf (Host.cos angles) (broadcastInDim S128x128 ![] bcast_S_S128x128 (constant S_ .f32 0x3DB504F3#32))

/-- The scaled sines. -/
def sines : FVec Ideal S128x128 .f32 := mulf (Host.sin angles) (broadcastInDim S128x128 ![] bcast_S_S128x128 (constant S_ .f32 0x3DB504F3#32))

/-- The rows' channels by group. -/
def groups (z : FVec Ideal S12288x6144 .bf16) : FVec Ideal S12288x4x128 .f32 :=
  shapeCast _ (extf .f32 (extractStridedSlice S12288x512 ![0, 1536] z slices_S12288x6144_S12288x512_0_1536) bitsLt_bf16_f32) shapeCasts_S12288x512_S12288x4x128

/-- Each group's product with a matrix over its channels. -/
def product (y : FVec Ideal S12288x4x128 .f32) (a : FVec Ideal S128x128 .f32) : FVec Ideal S12288x512 .f32 :=
  shapeCast _ (Host.dotGeneral dot_S12288x4x128_S128x128_S12288x4x128_2_0_01_1_n_n none y a) shapeCasts_S12288x4x128_S12288x512

/-- Two halves side by side. -/
def join (a b : FVec Ideal S12288x512 .f32) : FVec Ideal S12288x1024 .bf16 :=
  truncf .bf16 (concatenate S12288x1024 1 [⟨S12288x512, a⟩, ⟨S12288x512, b⟩] concatenates_S12288x512_S12288x512_S12288x1024_d1) bitsLt_bf16_f32

/-- The reference's result of the projection. -/
def channels (z : FVec Ideal S12288x6144 .bf16) : FVec Ideal S12288x1024 .bf16 :=
  join (product (groups z) cosines) (product (groups z) sines)

/-- An element of the grouped channels. -/
theorem groups_apply (z : FVec Ideal S12288x6144 .bf16) (t : Fin 12288) (g : Fin 4) (j : Fin 128) :
    groups z (ix3 t g j) = z (ix2 t ⟨1536 + (g.val * 128 + j.val), by omega⟩) := by
  pointwise [groups]

/-- An element of a product. -/
theorem product_apply (y : FVec Ideal S12288x4x128 .f32) (a : FVec Ideal S128x128 .f32) (t : Fin 12288) (g : Fin 4) (k : Fin 128) :
    product y a (ix2 t ⟨g.val * 128 + k.val, by omega⟩) = ∑ j : Fin 128, y (ix3 t g j) * a (ix2 j k) := by
  pointwise [product]

/-- An element of the left half. -/
theorem join_left (a b : FVec Ideal S12288x512 .f32) (t : Fin 12288) (k : Fin 512) : join a b (ix2 t ⟨k.val, by omega⟩) = a (ix2 t k) := by
  pointwise [join]

/-- An element of the right half. -/
theorem join_right (a b : FVec Ideal S12288x512 .f32) (t : Fin 12288) (k : Fin 512) : join a b (ix2 t ⟨512 + k.val, by omega⟩) = b (ix2 t k) := by
  pointwise [join]

/-- An element of the cosines' half of the result. -/
theorem channels_left (z : FVec Ideal S12288x6144 .bf16) (t : Fin 12288) (g : Fin 4) (k : Fin 128) :
    channels z (ix2 t ⟨g.val * 128 + k.val, by omega⟩) = ∑ j : Fin 128, z (ix2 t ⟨1536 + (g.val * 128 + j.val), by omega⟩) * cosines (ix2 j k) := by
  refine (join_left _ _ t ⟨g.val * 128 + k.val, by omega⟩).trans ?_
  rw [product_apply]
  simp only [groups_apply]

/-- An element of the sines' half of the result. -/
theorem channels_right (z : FVec Ideal S12288x6144 .bf16) (t : Fin 12288) (g : Fin 4) (k : Fin 128) :
    channels z (ix2 t ⟨512 + (g.val * 128 + k.val), by omega⟩) = ∑ j : Fin 128, z (ix2 t ⟨1536 + (g.val * 128 + j.val), by omega⟩) * sines (ix2 j k) := by
  refine (join_right _ _ t ⟨g.val * 128 + k.val, by omega⟩).trans ?_
  rw [product_apply]
  simp only [groups_apply]

end Cert.ChanRef

end
-- ==== Proof.ChanBody.lean ====
/- The channels' kernel: its body read at an index, and the matrix the host gives it. -/
module

public import proofs.«01_k».proof.Proof.Gen.Kernel10Ideal.Value
public import proofs.«01_k».proof.Proof.ChanRef

@[expose] public section

set_option maxRecDepth 16384

noncomputable section

namespace Cert.Chan

open Idealize.ShloMosaic Idealize.ShloMosaic.TcCoe Idealize.SL.Sem Cert.Kernel10Ideal Cert.Kernel10Ideal.Gen

/-- The products of the two channels' numbers, as the host makes them. -/
def products : IVec S128x128 32 :=
  muli (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- The divisor, 128, as the host makes it. -/
def divisor : IVec S_ 32 := select (cmpi .eq (id (constantI S_ 32 128#32)) (constantI S_ 32 0#32)) (constantI S_ 32 1#32) (id (constantI S_ 32 128#32))

/-- The remainders of the division, with the dividend's sign, as the host makes them. -/
def rests : IVec S128x128 32 := Host.remsi products (broadcastInDim S128x128 ![] bcast_S_S128x128 divisor)

/-- The remainders with the divisor's sign, as the host makes them. -/
def residues : IVec S128x128 32 :=
  select (andi (cmpi .ne (cmpi .slt rests (broadcastInDim S128x128 ![] bcast_S_S128x128 (constantI S_ 32 0#32)))
      (broadcastInDim S128x128 ![] bcast_S_S128x128 (cmpi .slt divisor (constantI S_ 32 0#32))))
    (cmpi .ne rests (broadcastInDim S128x128 ![] bcast_S_S128x128 (constantI S_ 32 0#32))))
    (addi rests (broadcastInDim S128x128 ![] bcast_S_S128x128 divisor)) rests

/-- The angles, as the host makes them. -/
def angles : FVec Ideal S128x128 .f32 :=
  mulf (sitofp .f32 residues) (broadcastInDim S128x128 ![] bcast_S_S128x128 (constant S_ .f32 0x3D490FDB#32))

/-- The scaled cosines, as the host makes them. -/
def cosines : FVec Ideal S128x128 .f32 := mulf (Host.cos angles) (broadcastInDim S128x128 ![] bcast_S_S128x128 (constant S_ .f32 0x3DB504F3#32))

/-- The scaled sines, as the host makes them. -/
def sines : FVec Ideal S128x128 .f32 := mulf (Host.sin angles) (broadcastInDim S128x128 ![] bcast_S_S128x128 (constant S_ .f32 0x3DB504F3#32))

/-- The four groups' identity. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- The identity spread over the groups' blocks. -/
def spread (e : FVec Ideal S4x4 .f32) (o : FVec Ideal S128x128 .f32) : FVec Ideal S512x512 .f32 :=
  shapeCast _ (mulf (broadcastInDim S4x128x4x128 ![0, 1, 2, 3] bcast_S4x1x4x1_S4x128x4x128_0_1_2_3 (broadcastInDim S4x1x4x1 ![0, 2] bcast_S4x4_S4x1x4x1_0_2 e))
    (broadcastInDim S4x128x4x128 ![0, 1, 2, 3] bcast_S1x128x1x128_S4x128x4x128_0_1_2_3 (broadcastInDim S1x128x1x128 ![1, 3] bcast_S128x128_S1x128x1x128_1_3 o)))
    shapeCasts_S4x128x4x128_S512x512

/-- Two halves side by side. -/
def join (a b : FVec Ideal S512x512 .f32) : FVec Ideal S512x1024 .bf16 :=
  truncf .bf16 (concatenate S512x1024 1 [⟨S512x512, a⟩, ⟨S512x512, b⟩] concatenates_S512x512_S512x512_S512x1024_d1) bitsLt_bf16_f32

/-- The matrix the kernel is given: the cosines in a group's own block, and the sines beside. -/
def matrix : FVec Ideal S512x1024 .bf16 := join (spread eye cosines) (spread eye sines)

/-- The contents after two lines of operations are those after the second from those after the first. -/
theorem after_append (l k : List (HloOp τ sig (Elt Ideal))) (σ : Valuation τ sig (Elt Ideal)) :
    StableHlo.after (l ++ k) σ = StableHlo.after k (StableHlo.after l σ) := by
  induction l generalizing σ with
  | nil => rfl
  | cons op l ih => exact ih _

variable (σ : Valuation τ sig (Elt Ideal))

/-- The first line: the products. -/
theorem line0_products : StableHlo.after hostOps0 σ (Proc.devRef .tc main_v5) = products := by
  after_results_simp
  rfl

/-- The first line: the divisor. -/
theorem line0_divisor : StableHlo.after hostOps0 σ (Proc.devRef .tc main_c) = constantI S_ 32 128#32 := by
  after_results_simp

/-- The second line: the residues. -/
theorem line1 (h : σ (Proc.devRef .tc main_v5) = products) (h' : σ (Proc.devRef .tc main_c) = constantI S_ 32 128#32) : StableHlo.after hostOps0_1 σ (Proc.devRef .tc main_v6) = residues := by
  simp only [hostOps0_1, StableHlo.TRef.binary, StableHlo.TRef.nullary, StableHlo.TRef.ternary, StableHlo.TRef.unary, StableHlo.TRef.reshape, StableHlo.TRef.toBuf,
    StableHlo.TRef.ofBuf, cast_eq]
  after_results_simp
  rw [h, h']
  rfl

/-- The third line: the angles. -/
theorem line2_angles (h : σ (Proc.devRef .tc main_v6) = residues) : StableHlo.after hostOps0_2 σ (Proc.devRef .tc main_v9) = angles := by
  after_results_simp
  rw [h]
  rfl

/-- The third line: the cosines. -/
theorem line2_cosines (h : σ (Proc.devRef .tc main_v6) = residues) : StableHlo.after hostOps0_2 σ (Proc.devRef .tc main_v18) = cosines := by
  after_results_simp
  rw [h]
  rfl

/-- The third line: the identity. -/
theorem line2_eye : StableHlo.after hostOps0_2 σ (Proc.devRef .tc main_v15) = eye := by
  after_results_simp
  rfl

/-- The fourth line: the spread cosines. -/
theorem line3_spread (h : σ (Proc.devRef .tc main_v15) = eye) (h' : σ (Proc.devRef .tc main_v18) = cosines) : StableHlo.after hostOps0_3 σ (Proc.devRef .tc main_v19) = spread eye cosines := by
  simp only [hostOps0_3, StableHlo.TRef.binary, StableHlo.TRef.nullary, StableHlo.TRef.ternary, StableHlo.TRef.unary, StableHlo.TRef.reshape, StableHlo.TRef.toBuf,
    StableHlo.TRef.ofBuf, cast_eq]
  after_results_simp
  rw [h, h']
  rfl

/-- The fourth line leaves the angles. -/
theorem line3_angles (h : σ (Proc.devRef .tc main_v9) = angles) : StableHlo.after hostOps0_3 σ (Proc.devRef .tc main_v9) = angles := by
  simp only [hostOps0_3, StableHlo.TRef.binary, StableHlo.TRef.nullary, StableHlo.TRef.ternary, StableHlo.TRef.unary, StableHlo.TRef.reshape, StableHlo.TRef.toBuf,
    StableHlo.TRef.ofBuf, cast_eq]
  after_results_simp
  exact h

/-- The fourth line leaves the identity. -/
theorem line3_eye (h : σ (Proc.devRef .tc main_v15) = eye) : StableHlo.after hostOps0_3 σ (Proc.devRef .tc main_v15) = eye := by
  simp only [hostOps0_3, StableHlo.TRef.binary, StableHlo.TRef.nullary, StableHlo.TRef.ternary, StableHlo.TRef.unary, StableHlo.TRef.reshape, StableHlo.TRef.toBuf,
    StableHlo.TRef.ofBuf, cast_eq]
  after_results_simp
  exact h

/-- The fifth line: the sines. -/
theorem line4_sines (h : σ (Proc.devRef .tc main_v9) = angles) : StableHlo.after hostOps0_4 σ (Proc.devRef .tc main_v22) = sines := by
  after_results_simp
  rw [h]
  rfl

/-- The fifth line leaves the identity. -/
theorem line4_eye (h : σ (Proc.devRef .tc main_v15) = eye) : StableHlo.after hostOps0_4 σ (Proc.devRef .tc main_v15) = eye := by
  after_results_simp
  exact h

/-- The fifth line leaves the spread cosines. -/
theorem line4_spread (h : σ (Proc.devRef .tc main_v19) = spread eye cosines) : StableHlo.after hostOps0_4 σ (Proc.devRef .tc main_v19) = spread eye cosines := by
  after_results_simp
  exact h

/-- The sixth line: the spread sines. -/
theorem line5_spread (h : σ (Proc.devRef .tc main_v15) = eye) (h' : σ (Proc.devRef .tc main_v22) = sines) : StableHlo.after hostOps0_5 σ (Proc.devRef .tc main_v23) = spread eye sines := by
  simp only [hostOps0_5, StableHlo.TRef.binary, StableHlo.TRef.nullary, StableHlo.TRef.ternary, StableHlo.TRef.unary, StableHlo.TRef.reshape, StableHlo.TRef.toBuf,
    StableHlo.TRef.ofBuf, cast_eq]
  after_results_simp
  rw [h, h']
  rfl

/-- The sixth line leaves the spread cosines. -/
theorem line5_left (h : σ (Proc.devRef .tc main_v19) = spread eye cosines) : StableHlo.after hostOps0_5 σ (Proc.devRef .tc main_v19) = spread eye cosines := by
  simp only [hostOps0_5, StableHlo.TRef.binary, StableHlo.TRef.nullary, StableHlo.TRef.ternary, StableHlo.TRef.unary, StableHlo.TRef.reshape, StableHlo.TRef.toBuf,
    StableHlo.TRef.ofBuf, cast_eq]
  after_results_simp
  exact h

/-- The last line: the two side by side. -/
theorem line6 (h : σ (Proc.devRef .tc main_v19) = spread eye cosines) (h' : σ (Proc.devRef .tc main_v23) = spread eye sines) : StableHlo.after hostOps0_6 σ (Proc.devRef .tc main_v25) = matrix := by
  after_results_simp
  rw [h, h']
  rfl

/-- The matrix as the kernel finds it. -/
theorem entry_matrix (m : (ℓ : Loc nD τ sig) → Buf (Elt Ideal) ℓ) (c : Dev nD) : V m c main_v25 = matrix := by
  simp only [V, List.flatten_cons, List.flatten_nil, List.append_nil, after_append]
  have h6 := line1 _ (line0_products fun b => m (c, b)) (line0_divisor fun b => m (c, b))
  have h9 := line2_angles _ h6
  have h15 := line3_eye _ (line2_eye (StableHlo.after hostOps0_1 (StableHlo.after hostOps0 fun b => m (c, b))))
  have h19 := line3_spread _ (line2_eye _) (line2_cosines _ h6)
  have h22 := line4_sines _ (line3_angles _ h9)
  exact line6 _ (line5_left _ (line4_spread _ h19)) (line5_spread _ (line4_eye _ h15) h22)

/-- The angles are the reference's. -/
theorem angles_eq : angles = ChanRef.angles := by
  have h1 : products = ChanRef.products := rfl
  have h2 : divisor = ChanRef.divisor := rfl
  have h3 : rests = ChanRef.rests := by
    unfold rests ChanRef.rests
    rw [h1, h2]
  have h4 : residues = ChanRef.residues := by
    unfold residues ChanRef.residues
    rw [h3, h2]
  unfold angles ChanRef.angles
  rw [h4]

/-- The cosines are the reference's. -/
theorem cosines_eq : cosines = ChanRef.cosines := by
  unfold cosines ChanRef.cosines
  rw [angles_eq]

/-- The sines are the reference's. -/
theorem sines_eq : sines = ChanRef.sines := by
  unfold sines ChanRef.sines
  rw [angles_eq]

/-- An element of the identity. -/
theorem eye_apply (a b : Fin 4) : eye (ix2 a b) = if a = b then 1 else 0 := by
  have h : eye (ix2 a b) = FloatOps.uitofp (F := Ideal) FTy.f32 (IntOp.cmpi CmpIPredicate.eq (IntOp.addi (BitVec.ofNat 32 a.val) 0#32) (BitVec.ofNat 32 b.val)) := by
    pointwise [eye]
  have w : ∀ a b : Fin 4, IntOp.cmpi CmpIPredicate.eq (IntOp.addi (BitVec.ofNat 32 a.val) 0#32) (BitVec.ofNat 32 b.val) = if a = b then 1#1 else 0#1 := by
    decide
  rw [h, w]
  split
  · show (((1#1 : BitVec 1).toNat : ℝ) : EReal) = 1
    simp
  · show (((0#1 : BitVec 1).toNat : ℝ) : EReal) = 0
    simp

/-- An element of the spread identity. -/
theorem spread_apply (e : FVec Ideal S4x4 .f32) (o : FVec Ideal S128x128 .f32) (a b : Fin 4) (i j : Fin 128) :
    spread e o (ix2 ⟨a.val * 128 + i.val, by omega⟩ ⟨b.val * 128 + j.val, by omega⟩) = e (ix2 a b) * o (ix2 i j) := by
  pointwise [spread]

/-- An element of the left half. -/
theorem join_left (a b : FVec Ideal S512x512 .f32) (i k : Fin 512) : join a b (ix2 i ⟨k.val, by omega⟩) = a (ix2 i k) := by
  pointwise [join]

/-- An element of the right half. -/
theorem join_right (a b : FVec Ideal S512x512 .f32) (i k : Fin 512) : join a b (ix2 i ⟨512 + k.val, by omega⟩) = b (ix2 i k) := by
  pointwise [join]

/-- An element of the matrix's cosines. -/
theorem matrix_left (a b : Fin 4) (i j : Fin 128) :
    matrix (ix2 ⟨a.val * 128 + i.val, by omega⟩ ⟨b.val * 128 + j.val, by omega⟩) = (if a = b then 1 else 0) * ChanRef.cosines (ix2 i j) := by
  refine (join_left _ _ _ ⟨b.val * 128 + j.val, by omega⟩).trans ?_
  rw [spread_apply, eye_apply, cosines_eq]

/-- An element of the matrix's sines. -/
theorem matrix_right (a b : Fin 4) (i j : Fin 128) :
    matrix (ix2 ⟨a.val * 128 + i.val, by omega⟩ ⟨512 + (b.val * 128 + j.val), by omega⟩) = (if a = b then 1 else 0) * ChanRef.sines (ix2 i j) := by
  refine (join_right _ _ _ ⟨b.val * 128 + j.val, by omega⟩).trans ?_
  rw [spread_apply, eye_apply, sines_eq]

/-- A sum over four groups of 128, of which one is taken, is the sum over that group. -/
theorem sum_own (x w : Fin 512 → EReal) (f : Fin 128 → EReal) (b : Fin 4)
    (hw : ∀ (a : Fin 4) (i : Fin 128), w ⟨a.val * 128 + i.val, by omega⟩ = (if a = b then 1 else 0) * f i) :
    ∑ k : Fin 512, x k * w k = ∑ i : Fin 128, x ⟨b.val * 128 + i.val, by omega⟩ * f i := by
  have e : ∀ (a : Fin 4) (i : Fin 128), (finProdFinEquiv (m := 4) (n := 128)) (a, i) = ⟨a.val * 128 + i.val, by omega⟩ := fun a i =>
    Fin.ext (by simp only [finProdFinEquiv_apply_val]; omega)
  rw [← (finProdFinEquiv (m := 4) (n := 128)).sum_comp, Fintype.sum_prod_type, Finset.sum_eq_single b]
  · refine Finset.sum_congr rfl fun i _ => ?_
    rw [e, hw, if_pos rfl, one_mul]
  · intro a _ ha
    refine Finset.sum_eq_zero fun i _ => ?_
    rw [e, hw, if_neg ha, zero_mul, mul_zero]
  · exact fun h => absurd (Finset.mem_univ b) h

/-- The body's block, read at an index: the product with the matrix. -/
theorem pay_apply (x : FVec Ideal S512x512 .bf16) (w : FVec Ideal S512x1024 .bf16) (r : Fin 512) (j : Fin 1024) :
    k0_pay1 (F := Ideal) x w (ix2 r j) = ∑ k : Fin 512, x (ix2 r k) * w (ix2 k j) := by
  pointwise [k0_pay1]

/-- The body's block of its two blocks, read at an index. -/
theorem out_apply (x0 : FVec Ideal S512x512 .bf16) (x1 : FVec Ideal S512x1024 .bf16) (r : Fin 512) (j : Fin 1024) :
    out0_2 (F := Ideal) x0 x1 (ix2 r j) = ∑ k : Fin 512, x0 (ix2 r k) * x1 (ix2 k j) := by
  refine (congrFun (View.canon_unit_zero (Val := Elt Ideal) (e := .bf16) (S := S512x1024) (by funext a; fin_cases a <;> rfl) _ _) _).trans ?_
  have l0 : View.ld (Val := Elt Ideal) (e' := .bf16) x0 r0_0 = x0 := View.ld_unit_zero (by funext a; fin_cases a <;> rfl) _ _
  have l1 : View.ld (Val := Elt Ideal) (e' := .bf16) x1 r0_1 = x1 := View.ld_unit_zero (by funext a; fin_cases a <;> rfl) _ _
  rw [l0, l1, pay_apply]

end Cert.Chan

end
-- ==== Proof.ChanValue.lean ====
/- The channels' kernel's result array is the reference's. -/
module

public import proofs.«01_k».proof.Proof.ChanBody

@[expose] public section

set_option maxRecDepth 16384

noncomputable section

namespace Cert.Chan

open Idealize.ShloMosaic Idealize.ShloMosaic.TcCoe Idealize.SL.Sem Cert.Kernel10Ideal Cert.Kernel10Ideal.Gen
open Idealize.ShloMosaic.Pipeline (Dat)

/-- The windows' block indices at every point. -/
theorem idx : ∀ t : Fin cfg0.N, win0_0.index t = ![t.val, 3] ∧ win0_1.index t = ![0, 0] ∧ win0_2.index t = ![t.val, 0] ∧ t.val < 24 :=
  (by decide +kernel : ∀ t : Fin grid0.N, _)

variable (m : (ℓ : Loc nD τ sig) → Buf (Elt Ideal) ℓ) (c : Dev nD) (t : Fin cfg0.N)

/-- The grid has 24 points. -/
theorem t_lt : t.val < 24 := (idx t).2.2.2

/-- The projection's block of channels. -/
theorem block0 (r : Fin 512) (k : Fin 512) : iblk m c 0 t (ix2 r k)
    = m ((c : Thread nD τ).loc main_arg0) (ix2 ⟨t.val * 512 + r.val, by have := t_lt t; omega⟩ ⟨1536 + k.val, by omega⟩) := by
  have h : iblk m c 0 t (ix2 r k) = V m c main_arg0 (ix2 ⟨t.val * 512 + r.val, by have := t_lt t; omega⟩ ⟨1536 + k.val, by omega⟩) := by
    blk_ext [iblk, idx t]
  rw [h, V_main_arg0]

/-- The matrix's block is all of it. -/
theorem block1 (k : Fin 512) (j : Fin 1024) : iblk m c 1 t (ix2 k j) = matrix (ix2 k j) := by
  have h : iblk m c 1 t (ix2 k j) = V m c main_v25 (ix2 k j) := by
    blk_ext [iblk, idx t]
  rw [h, entry_matrix]

/-- The reference's result of the argument in memory. -/
abbrev REF : FVec Ideal S12288x1024 .bf16 := ChanRef.channels (m ((c : Thread nD τ).loc main_arg0))

/-- One element of one block's left half is the reference's there. -/
theorem point_left (r : Fin 512) (g : Fin 4) (k : Fin 128) :
    out0_2 (F := Ideal) (iblk m c 0 t) (iblk m c 1 t) (ix2 r ⟨g.val * 128 + k.val, by omega⟩)
      = REF m c (ix2 ⟨t.val * 512 + r.val, by have := t_lt t; omega⟩ ⟨g.val * 128 + k.val, by omega⟩) := by
  rw [out_apply, REF, ChanRef.channels_left]
  simp only [block0, block1]
  exact sum_own (fun k => m ((c : Thread nD τ).loc main_arg0) (ix2 ⟨t.val * 512 + r.val, by have := t_lt t; omega⟩ ⟨1536 + k.val, by omega⟩))
    (fun i => matrix (ix2 i ⟨g.val * 128 + k.val, by omega⟩)) (fun i => ChanRef.cosines (ix2 i k)) g fun a i => matrix_left a g i k

/-- One element of one block's right half is the reference's there. -/
theorem point_right (r : Fin 512) (g : Fin 4) (k : Fin 128) :
    out0_2 (F := Ideal) (iblk m c 0 t) (iblk m c 1 t) (ix2 r ⟨512 + (g.val * 128 + k.val), by omega⟩)
      = REF m c (ix2 ⟨t.val * 512 + r.val, by have := t_lt t; omega⟩ ⟨512 + (g.val * 128 + k.val), by omega⟩) := by
  rw [out_apply, REF, ChanRef.channels_right]
  simp only [block0, block1]
  exact sum_own (fun k => m ((c : Thread nD τ).loc main_arg0) (ix2 ⟨t.val * 512 + r.val, by have := t_lt t; omega⟩ ⟨1536 + k.val, by omega⟩))
    (fun i => matrix (ix2 i ⟨512 + (g.val * 128 + k.val), by omega⟩)) (fun i => ChanRef.sines (ix2 i k)) g fun a i => matrix_right a g i k

/-- One element of one block is the reference's there. -/
theorem point (r : Fin 512) (j : Fin 1024) : out0_2 (F := Ideal) (iblk m c 0 t) (iblk m c 1 t) (ix2 r j)
    = REF m c (ix2 ⟨t.val * 512 + r.val, by have := t_lt t; omega⟩ j) := by
  by_cases h : j.val < 512
  · have e : j = ⟨(⟨j.val / 128, by omega⟩ : Fin 4).val * 128 + (⟨j.val % 128, by omega⟩ : Fin 128).val, by simp only; omega⟩ := Fin.ext (by simp only; omega)
    rw [e]
    exact point_left m c t r _ _
  · have e : j = ⟨512 + ((⟨(j.val - 512) / 128, by omega⟩ : Fin 4).val * 128 + (⟨(j.val - 512) % 128, by omega⟩ : Fin 128).val), by simp only; omega⟩ :=
      Fin.ext (by simp only; omega)
    rw [e]
    exact point_right m c t r _ _

/-- **The kernel's result array is the reference's.** -/
theorem final : (dats m 0 c).arrAt 2 (cfgs 0).N = REF m c := by
  refine (dats m 0 c).arrAt_eq_of_covers 2 _ (by decide +kernel) fun t _ y => ?_
  blk_simp
  rw [after0_2]
  obtain ⟨r, hr⟩ : ∃ r : Fin 512, r.val = (y 0).val := ⟨⟨_, (y 0).isLt⟩, rfl⟩
  obtain ⟨j, hj⟩ : ∃ j : Fin 1024, j.val = (y 1).val := ⟨⟨_, (y 1).isLt⟩, rfl⟩
  have e : y = ix2 r j := by
    funext a
    fin_cases a
    · exact Fin.ext hr.symm
    · exact Fin.ext hj.symm
  rw [e]
  refine (point m c t r j).trans ?_
  blk_ext [idx t]

end Cert.Chan

end
-- ==== Proof.PosRef.lean ====
/- The reference's sum over the positions of the sampled tokens, over the channels' array and the two matrices, and read at an index. -/
module

public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.PosRef

open Idealize.ShloMosaic Idealize.SL.Sem Cert.Reference11Ideal Cert.Reference11Ideal.Gen

/-- The rows of the sequences, with the cosines' half and the sines' half apart. -/
def rows (x : FVec Ideal S12288x1024 .bf16) : FVec Ideal S2x4096x2x512 .f32 :=
  shapeCast _ (extf .f32 (extractStridedSlice S8192x1024 ![4096, 0] x slices_S12288x1024_S8192x1024_4096_0) bitsLt_bf16_f32) shapeCasts_S8192x1024_S2x4096x2x512

/-- The cosines' half. -/
def first (y : FVec Ideal S2x4096x2x512 .f32) : FVec Ideal S2x4096x512 .f32 :=
  shapeCast _ (extractStridedSlice S2x4096x1x512 ![0, 0, 0, 0] y slices_S2x4096x2x512_S2x4096x1x512_0_0_0_0) shapeCasts_S2x4096x1x512_S2x4096x512

/-- The sines' half. -/
def second (y : FVec Ideal S2x4096x2x512 .f32) : FVec Ideal S2x4096x512 .f32 :=
  shapeCast _ (extractStridedSlice S2x4096x1x512 ![0, 0, 1, 0] y slices_S2x4096x2x512_S2x4096x1x512_0_0_1_0) shapeCasts_S2x4096x1x512_S2x4096x512

/-- Each sequence's product with a matrix over its positions. -/
def product (y : FVec Ideal S2x4096x512 .f32) (a : FVec Ideal S4096x4096 .bf16) : FVec Ideal S2x4096x512 .f32 :=
  transpose S2x4096x512 [0, 2, 1] (Host.dotGeneral dot_S2x4096x512_S4096x4096_S2x512x4096_1_1_02_0_n_n none y (extf .f32 a bitsLt_bf16_f32))
    transposes_S2x512x4096_S2x4096x512_0_2_1

/-- The reference's result of its three arrays. -/
def mix (x : FVec Ideal S12288x1024 .bf16) (a s : FVec Ideal S4096x4096 .bf16) : FVec Ideal S8192x512 .bf16 :=
  truncf .bf16 (shapeCast _ (addf (product (first (rows x)) a) (product (second (rows x)) s)) shapeCasts_S2x4096x512_S8192x512) bitsLt_bf16_f32

/-- An element of the cosines' half. -/
theorem first_apply (x : FVec Ideal S12288x1024 .bf16) (b : Fin 2) (k : Fin 4096) (c : Fin 512) :
    first (rows x) (ix3 b k c) = x (ix2 ⟨4096 + (b.val * 4096 + k.val), by omega⟩ ⟨c.val, by omega⟩) := by
  have h : first (rows x) (ix3 b k c) = rows x (ix4 b k 0 c) := by
    pointwise [first]
  rw [h]
  pointwise [rows]

/-- An element of the sines' half. -/
theorem second_apply (x : FVec Ideal S12288x1024 .bf16) (b : Fin 2) (k : Fin 4096) (c : Fin 512) :
    second (rows x) (ix3 b k c) = x (ix2 ⟨4096 + (b.val * 4096 + k.val), by omega⟩ ⟨512 + c.val, by omega⟩) := by
  have h : second (rows x) (ix3 b k c) = rows x (ix4 b k 1 c) := by
    pointwise [second]
  rw [h]
  pointwise [rows]

/-- An element of a product. -/
theorem product_apply (y : FVec Ideal S2x4096x512 .f32) (a : FVec Ideal S4096x4096 .bf16) (b : Fin 2) (j : Fin 4096) (c : Fin 512) :
    product y a (ix3 b j c) = ∑ k : Fin 4096, y (ix3 b k c) * a (ix2 j k) := by
  pointwise [product]

/-- An element of the result: the two halves' sums over the sequence's positions. -/
theorem mix_apply (x : FVec Ideal S12288x1024 .bf16) (a s : FVec Ideal S4096x4096 .bf16) (b : Fin 2) (j : Fin 4096) (c : Fin 512) :
    mix x a s (ix2 ⟨b.val * 4096 + j.val, by omega⟩ c)
      = (∑ k : Fin 4096, x (ix2 ⟨4096 + (b.val * 4096 + k.val), by omega⟩ ⟨c.val, by omega⟩) * a (ix2 j k))
        + ∑ k : Fin 4096, x (ix2 ⟨4096 + (b.val * 4096 + k.val), by omega⟩ ⟨512 + c.val, by omega⟩) * s (ix2 j k) := by
  have e : mix x a s (ix2 ⟨b.val * 4096 + j.val, by omega⟩ c) = product (first (rows x)) a (ix3 b j c) + product (second (rows x)) s (ix3 b j c) := by
    pointwise [mix]
  rw [e, product_apply, product_apply]
  simp only [first_apply, second_apply]

end Cert.PosRef

end
-- ==== Proof.PosValue.lean ====
/- The positions' kernel of the sampled tokens: its result array is the reference's. -/
module

public import proofs.«01_k».proof.Proof.Gen.Kernel11Ideal.Value
public import proofs.«01_k».proof.Proof.PosRef

@[expose] public section

set_option maxRecDepth 16384

noncomputable section

namespace Cert.Pos

open Idealize.ShloMosaic Idealize.ShloMosaic.TcCoe Idealize.SL.Sem Cert.Kernel11Ideal Cert.Kernel11Ideal.Gen
open Idealize.ShloMosaic.Pipeline (Dat)

/-- The body's block, read at an index: the two products over the positions. -/
theorem pay_apply (a : FVec Ideal S512x4096 .bf16) (x : FVec Ideal S4096x512 .bf16) (s : FVec Ideal S512x4096 .bf16) (y : FVec Ideal S4096x512 .bf16) (r : Fin 512) (c : Fin 512) :
    k0_pay1 (F := Ideal) a x s y (ix2 r c) = (∑ k : Fin 4096, a (ix2 r k) * x (ix2 k c)) + ∑ k : Fin 4096, s (ix2 r k) * y (ix2 k c) := by
  pointwise [k0_pay1]

/-- The body's block of its four blocks, read at an index. -/
theorem out_apply (x0 x1 : FVec Ideal S512x4096 .bf16) (x2 x3 : FVec Ideal S4096x512 .bf16) (r : Fin 512) (c : Fin 512) :
    out0_4 (F := Ideal) x0 x1 x2 x3 (ix2 r c) = (∑ k : Fin 4096, x0 (ix2 r k) * x2 (ix2 k c)) + ∑ k : Fin 4096, x1 (ix2 r k) * x3 (ix2 k c) := by
  refine (congrFun (View.canon_unit_zero (Val := Elt Ideal) (e := .bf16) (S := S512x512) (by funext a; fin_cases a <;> rfl) _ _) _).trans ?_
  have l0 : View.ld (Val := Elt Ideal) (e' := .bf16) x0 r0_0 = x0 := View.ld_unit_zero (by funext a; fin_cases a <;> rfl) _ _
  have l1 : View.ld (Val := Elt Ideal) (e' := .bf16) x1 r0_0 = x1 := View.ld_unit_zero (by funext a; fin_cases a <;> rfl) _ _
  have l2 : View.ld (Val := Elt Ideal) (e' := .bf16) x2 r0_1 = x2 := View.ld_unit_zero (by funext a; fin_cases a <;> rfl) _ _
  have l3 : View.ld (Val := Elt Ideal) (e' := .bf16) x3 r0_1 = x3 := View.ld_unit_zero (by funext a; fin_cases a <;> rfl) _ _
  rw [l0, l1, l2, l3, pay_apply]

/-- The windows' block indices at every point. -/
theorem idx : ∀ t : Fin cfg0.N, win0_0.index t = ![t.val % 8, 0] ∧ win0_1.index t = ![t.val % 8, 0] ∧ win0_2.index t = ![1 + t.val / 8, 0] ∧ win0_3.index t = ![1 + t.val / 8, 1]
    ∧ win0_4.index t = ![t.val, 0] ∧ t.val < 16 :=
  (by decide +kernel : ∀ t : Fin grid0.N, _)

variable (m : (ℓ : Loc nD τ sig) → Buf (Elt Ideal) ℓ) (c : Dev nD) (t : Fin cfg0.N)

/-- The grid has 16 points. -/
theorem t_lt : t.val < 16 := (idx t).2.2.2.2.2

/-- The first matrix's block. -/
theorem block0 (r : Fin 512) (k : Fin 4096) : iblk m c 0 t (ix2 r k) = m ((c : Thread nD τ).loc main_arg1) (ix2 ⟨t.val % 8 * 512 + r.val, by omega⟩ k) := by
  have h : iblk m c 0 t (ix2 r k) = V m c main_arg1 (ix2 ⟨t.val % 8 * 512 + r.val, by omega⟩ k) := by
    blk_ext [iblk, idx t]
  rw [h, V_main_arg1]

/-- The second matrix's block. -/
theorem block1 (r : Fin 512) (k : Fin 4096) : iblk m c 1 t (ix2 r k) = m ((c : Thread nD τ).loc main_arg2) (ix2 ⟨t.val % 8 * 512 + r.val, by omega⟩ k) := by
  have h : iblk m c 1 t (ix2 r k) = V m c main_arg2 (ix2 ⟨t.val % 8 * 512 + r.val, by omega⟩ k) := by
    blk_ext [iblk, idx t]
  rw [h, V_main_arg2]

/-- The sequence's block of the cosines' half. -/
theorem block2 (k : Fin 4096) (j : Fin 512) : iblk m c 2 t (ix2 k j)
    = m ((c : Thread nD τ).loc main_arg0) (ix2 ⟨4096 + (t.val / 8 * 4096 + k.val), by have := t_lt t; omega⟩ ⟨j.val, by omega⟩) := by
  have h : iblk m c 2 t (ix2 k j) = V m c main_arg0 (ix2 ⟨4096 + (t.val / 8 * 4096 + k.val), by have := t_lt t; omega⟩ ⟨j.val, by omega⟩) := by
    blk_ext [iblk, idx t]
  rw [h, V_main_arg0]

/-- The sequence's block of the sines' half. -/
theorem block3 (k : Fin 4096) (j : Fin 512) : iblk m c 3 t (ix2 k j)
    = m ((c : Thread nD τ).loc main_arg0) (ix2 ⟨4096 + (t.val / 8 * 4096 + k.val), by have := t_lt t; omega⟩ ⟨512 + j.val, by omega⟩) := by
  have h : iblk m c 3 t (ix2 k j) = V m c main_arg0 (ix2 ⟨4096 + (t.val / 8 * 4096 + k.val), by have := t_lt t; omega⟩ ⟨512 + j.val, by omega⟩) := by
    blk_ext [iblk, idx t]
  rw [h, V_main_arg0]

/-- The reference's result of the arguments in memory. -/
abbrev REF : FVec Ideal S8192x512 .bf16 :=
  PosRef.mix (m ((c : Thread nD τ).loc main_arg0)) (m ((c : Thread nD τ).loc main_arg1)) (m ((c : Thread nD τ).loc main_arg2))

/-- One element of one block is the reference's there. -/
theorem point (r : Fin 512) (j : Fin 512) :
    out0_4 (F := Ideal) (iblk m c 0 t) (iblk m c 1 t) (iblk m c 2 t) (iblk m c 3 t) (ix2 r j)
      = REF m c (ix2 ⟨t.val / 8 * 4096 + (t.val % 8 * 512 + r.val), by have := t_lt t; omega⟩ j) := by
  rw [out_apply]
  refine Eq.trans ?_ (PosRef.mix_apply _ _ _ ⟨t.val / 8, by have := t_lt t; omega⟩ ⟨t.val % 8 * 512 + r.val, by omega⟩ j).symm
  simp only [block0, block1, block2, block3]
  exact congrArg₂ (· + ·) (Finset.sum_congr rfl fun k _ => mul_comm _ _) (Finset.sum_congr rfl fun k _ => mul_comm _ _)

/-- **The kernel's result array is the reference's.** -/
theorem final : (dats m 0 c).arrAt 4 (cfgs 0).N = REF m c := by
  refine (dats m 0 c).arrAt_eq_of_covers 4 _ (by decide +kernel) fun t _ y => ?_
  blk_simp
  rw [after0_4]
  obtain ⟨r, hr⟩ : ∃ r : Fin 512, r.val = (y 0).val := ⟨⟨_, (y 0).isLt⟩, rfl⟩
  obtain ⟨j, hj⟩ : ∃ j : Fin 512, j.val = (y 1).val := ⟨⟨_, (y 1).isLt⟩, rfl⟩
  have e : y = ix2 r j := by
    funext a
    fin_cases a
    · exact Fin.ext hr.symm
    · exact Fin.ext hj.symm
  rw [e]
  refine (point m c t r j).trans ?_
  blk_ext [idx t]

end Cert.Pos

end
-- ==== Proof.WaveRef.lean ====
/- The reference's sum over the positions of the prompt, over the channels' array and the two matrices, and read at an index. -/
module

public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.WaveRef

open Idealize.ShloMosaic Idealize.SL.Sem Cert.Reference12Ideal Cert.Reference12Ideal.Gen

/-- The rows of the sequences, with the cosines' half and the sines' half apart. -/
def rows (x : FVec Ideal S12288x1024 .bf16) : FVec Ideal S16x256x2x512 .f32 :=
  shapeCast _ (extf .f32 (extractStridedSlice S4096x1024 ![0, 0] x slices_S12288x1024_S4096x1024_0_0) bitsLt_bf16_f32) shapeCasts_S4096x1024_S16x256x2x512

/-- The cosines' half. -/
def first (y : FVec Ideal S16x256x2x512 .f32) : FVec Ideal S16x256x512 .f32 :=
  shapeCast _ (extractStridedSlice S16x256x1x512 ![0, 0, 0, 0] y slices_S16x256x2x512_S16x256x1x512_0_0_0_0) shapeCasts_S16x256x1x512_S16x256x512

/-- The sines' half. -/
def second (y : FVec Ideal S16x256x2x512 .f32) : FVec Ideal S16x256x512 .f32 :=
  shapeCast _ (extractStridedSlice S16x256x1x512 ![0, 0, 1, 0] y slices_S16x256x2x512_S16x256x1x512_0_0_1_0) shapeCasts_S16x256x1x512_S16x256x512

/-- Each sequence's product with a matrix over its positions. -/
def product (y : FVec Ideal S16x256x512 .f32) (a : FVec Ideal S256x256 .bf16) : FVec Ideal S16x256x512 .f32 :=
  transpose S16x256x512 [0, 2, 1] (Host.dotGeneral dot_S16x256x512_S256x256_S16x512x256_1_1_02_0_n_n none y (extf .f32 a bitsLt_bf16_f32))
    transposes_S16x512x256_S16x256x512_0_2_1

/-- The reference's result of its three arrays. -/
def mix (x : FVec Ideal S12288x1024 .bf16) (a s : FVec Ideal S256x256 .bf16) : FVec Ideal S4096x512 .bf16 :=
  truncf .bf16 (shapeCast _ (addf (product (first (rows x)) a) (product (second (rows x)) s)) shapeCasts_S16x256x512_S4096x512) bitsLt_bf16_f32

/-- An element of the cosines' half. -/
theorem first_apply (x : FVec Ideal S12288x1024 .bf16) (b : Fin 16) (k : Fin 256) (c : Fin 512) :
    first (rows x) (ix3 b k c) = x (ix2 ⟨b.val * 256 + k.val, by omega⟩ ⟨c.val, by omega⟩) := by
  have h : first (rows x) (ix3 b k c) = rows x (ix4 b k 0 c) := by
    pointwise [first]
  rw [h]
  pointwise [rows]

/-- An element of the sines' half. -/
theorem second_apply (x : FVec Ideal S12288x1024 .bf16) (b : Fin 16) (k : Fin 256) (c : Fin 512) :
    second (rows x) (ix3 b k c) = x (ix2 ⟨b.val * 256 + k.val, by omega⟩ ⟨512 + c.val, by omega⟩) := by
  have h : second (rows x) (ix3 b k c) = rows x (ix4 b k 1 c) := by
    pointwise [second]
  rw [h]
  pointwise [rows]

/-- An element of a product. -/
theorem product_apply (y : FVec Ideal S16x256x512 .f32) (a : FVec Ideal S256x256 .bf16) (b : Fin 16) (j : Fin 256) (c : Fin 512) :
    product y a (ix3 b j c) = ∑ k : Fin 256, y (ix3 b k c) * a (ix2 j k) := by
  pointwise [product]

/-- An element of the result: the two halves' sums over the sequence's positions. -/
theorem mix_apply (x : FVec Ideal S12288x1024 .bf16) (a s : FVec Ideal S256x256 .bf16) (b : Fin 16) (j : Fin 256) (c : Fin 512) :
    mix x a s (ix2 ⟨b.val * 256 + j.val, by omega⟩ c)
      = (∑ k : Fin 256, x (ix2 ⟨b.val * 256 + k.val, by omega⟩ ⟨c.val, by omega⟩) * a (ix2 j k))
        + ∑ k : Fin 256, x (ix2 ⟨b.val * 256 + k.val, by omega⟩ ⟨512 + c.val, by omega⟩) * s (ix2 j k) := by
  have e : mix x a s (ix2 ⟨b.val * 256 + j.val, by omega⟩ c) = product (first (rows x)) a (ix3 b j c) + product (second (rows x)) s (ix3 b j c) := by
    pointwise [mix]
  rw [e, product_apply, product_apply]
  simp only [first_apply, second_apply]

end Cert.WaveRef

end
-- ==== Proof.WaveValue.lean ====
/- The positions' kernel of the prompt: its result array is the reference's. -/
module

public import proofs.«01_k».proof.Proof.Gen.Kernel12Ideal.Value
public import proofs.«01_k».proof.Proof.WaveRef

@[expose] public section

set_option maxRecDepth 16384

noncomputable section

namespace Cert.Wave

open Idealize.ShloMosaic Idealize.ShloMosaic.TcCoe Idealize.SL.Sem Cert.Kernel12Ideal Cert.Kernel12Ideal.Gen
open Idealize.ShloMosaic.Pipeline (Dat)

/-- The body's block, read at an index: the two products over the positions. -/
theorem pay_apply (a : FVec Ideal S256x256 .bf16) (x : FVec Ideal S256x512 .bf16) (s : FVec Ideal S256x256 .bf16) (y : FVec Ideal S256x512 .bf16) (r : Fin 256) (c : Fin 512) :
    k0_pay1 (F := Ideal) a x s y (ix2 r c) = (∑ k : Fin 256, a (ix2 r k) * x (ix2 k c)) + ∑ k : Fin 256, s (ix2 r k) * y (ix2 k c) := by
  pointwise [k0_pay1]

/-- The body's block of its four blocks, read at an index. -/
theorem out_apply (x0 x1 : FVec Ideal S256x256 .bf16) (x2 x3 : FVec Ideal S256x512 .bf16) (r : Fin 256) (c : Fin 512) :
    out0_4 (F := Ideal) x0 x1 x2 x3 (ix2 r c) = (∑ k : Fin 256, x0 (ix2 r k) * x2 (ix2 k c)) + ∑ k : Fin 256, x1 (ix2 r k) * x3 (ix2 k c) := by
  refine (congrFun (View.canon_unit_zero (Val := Elt Ideal) (e := .bf16) (S := S256x512) (by funext a; fin_cases a <;> rfl) _ _) _).trans ?_
  have l0 : View.ld (Val := Elt Ideal) (e' := .bf16) x0 r0_0 = x0 := View.ld_unit_zero (by funext a; fin_cases a <;> rfl) _ _
  have l1 : View.ld (Val := Elt Ideal) (e' := .bf16) x1 r0_0 = x1 := View.ld_unit_zero (by funext a; fin_cases a <;> rfl) _ _
  have l2 : View.ld (Val := Elt Ideal) (e' := .bf16) x2 r0_1 = x2 := View.ld_unit_zero (by funext a; fin_cases a <;> rfl) _ _
  have l3 : View.ld (Val := Elt Ideal) (e' := .bf16) x3 r0_1 = x3 := View.ld_unit_zero (by funext a; fin_cases a <;> rfl) _ _
  rw [l0, l1, l2, l3, pay_apply]

/-- The windows' block indices at every point. -/
theorem idx : ∀ t : Fin cfg0.N, win0_0.index t = ![0, 0] ∧ win0_1.index t = ![0, 0] ∧ win0_2.index t = ![t.val, 0] ∧ win0_3.index t = ![t.val, 1]
    ∧ win0_4.index t = ![t.val, 0] ∧ t.val < 16 :=
  (by decide +kernel : ∀ t : Fin grid0.N, _)

variable (m : (ℓ : Loc nD τ sig) → Buf (Elt Ideal) ℓ) (c : Dev nD) (t : Fin cfg0.N)

/-- The grid has 16 points. -/
theorem t_lt : t.val < 16 := (idx t).2.2.2.2.2

/-- The first matrix's block. -/
theorem block0 (r : Fin 256) (k : Fin 256) : iblk m c 0 t (ix2 r k) = m ((c : Thread nD τ).loc main_arg1) (ix2 r k) := by
  have h : iblk m c 0 t (ix2 r k) = V m c main_arg1 (ix2 r k) := by
    blk_ext [iblk, idx t]
  rw [h, V_main_arg1]

/-- The second matrix's block. -/
theorem block1 (r : Fin 256) (k : Fin 256) : iblk m c 1 t (ix2 r k) = m ((c : Thread nD τ).loc main_arg2) (ix2 r k) := by
  have h : iblk m c 1 t (ix2 r k) = V m c main_arg2 (ix2 r k) := by
    blk_ext [iblk, idx t]
  rw [h, V_main_arg2]

/-- The sequence's block of the cosines' half. -/
theorem block2 (k : Fin 256) (j : Fin 512) : iblk m c 2 t (ix2 k j)
    = m ((c : Thread nD τ).loc main_arg0) (ix2 ⟨t.val * 256 + k.val, by have := t_lt t; omega⟩ ⟨j.val, by omega⟩) := by
  have h : iblk m c 2 t (ix2 k j) = V m c main_arg0 (ix2 ⟨t.val * 256 + k.val, by have := t_lt t; omega⟩ ⟨j.val, by omega⟩) := by
    blk_ext [iblk, idx t]
  rw [h, V_main_arg0]

/-- The sequence's block of the sines' half. -/
theorem block3 (k : Fin 256) (j : Fin 512) : iblk m c 3 t (ix2 k j)
    = m ((c : Thread nD τ).loc main_arg0) (ix2 ⟨t.val * 256 + k.val, by have := t_lt t; omega⟩ ⟨512 + j.val, by omega⟩) := by
  have h : iblk m c 3 t (ix2 k j) = V m c main_arg0 (ix2 ⟨t.val * 256 + k.val, by have := t_lt t; omega⟩ ⟨512 + j.val, by omega⟩) := by
    blk_ext [iblk, idx t]
  rw [h, V_main_arg0]

/-- The reference's result of the arguments in memory. -/
abbrev REF : FVec Ideal S4096x512 .bf16 :=
  WaveRef.mix (m ((c : Thread nD τ).loc main_arg0)) (m ((c : Thread nD τ).loc main_arg1)) (m ((c : Thread nD τ).loc main_arg2))

/-- One element of one block is the reference's there. -/
theorem point (r : Fin 256) (j : Fin 512) :
    out0_4 (F := Ideal) (iblk m c 0 t) (iblk m c 1 t) (iblk m c 2 t) (iblk m c 3 t) (ix2 r j)
      = REF m c (ix2 ⟨t.val * 256 + r.val, by have := t_lt t; omega⟩ j) := by
  rw [out_apply]
  refine Eq.trans ?_ (WaveRef.mix_apply _ _ _ ⟨t.val, t_lt t⟩ r j).symm
  simp only [block0, block1, block2, block3]
  exact congrArg₂ (· + ·) (Finset.sum_congr rfl fun k _ => mul_comm _ _) (Finset.sum_congr rfl fun k _ => mul_comm _ _)

/-- **The kernel's result array is the reference's.** -/
theorem final : (dats m 0 c).arrAt 4 (cfgs 0).N = REF m c := by
  refine (dats m 0 c).arrAt_eq_of_covers 4 _ (by decide +kernel) fun t _ y => ?_
  blk_simp
  rw [after0_4]
  obtain ⟨r, hr⟩ : ∃ r : Fin 256, r.val = (y 0).val := ⟨⟨_, (y 0).isLt⟩, rfl⟩
  obtain ⟨j, hj⟩ : ∃ j : Fin 512, j.val = (y 1).val := ⟨⟨_, (y 1).isLt⟩, rfl⟩
  have e : y = ix2 r j := by
    funext a
    fin_cases a
    · exact Fin.ext hr.symm
    · exact Fin.ext hj.symm
  rw [e]
  refine (point m c t r j).trans ?_
  blk_ext [idx t]

end Cert.Wave

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Flash.Runs
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Flash.Runs
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_tables_down
public import proofs.«01_k».proof.Proof.Gen.Pre_finite_mod
public import proofs.«01_k».proof.Proof.Gen.Pre_finite_prompt
public import proofs.«01_k».proof.Proof.Gen.Pre_finite_prep
public import proofs.«01_k».proof.Proof.Gen.Pre_tables
public import proofs.«01_k».proof.Proof.Gen.Pre_finite
public import proofs.«01_k».proof.Proof.AttnValue
public import proofs.«01_k».proof.Proof.FfnValue
public import proofs.«01_k».proof.Proof.InValue
public import proofs.«01_k».proof.Proof.MergeValue
public import proofs.«01_k».proof.Proof.TablePre
public import proofs.«01_k».proof.Proof.WordFrame
public import proofs.«01_k».proof.Proof.UpValue
public import proofs.«01_k».proof.Proof.DownPre
public import proofs.«01_k».proof.Proof.DownWordFrame
public import proofs.«01_k».proof.Proof.DownValue
public import proofs.«01_k».proof.Proof.PrepValue
public import proofs.«01_k».proof.Proof.ModValue
public import proofs.«01_k».proof.Proof.PromptValue
public import proofs.«01_k».proof.Proof.ChanValue
public import proofs.«01_k».proof.Proof.PosValue
public import proofs.«01_k».proof.Proof.WaveValue
public import Idealize.ShloMosaic.Adequacy
public import Idealize.ShloMosaic.Init

@[expose] public section

noncomputable section

namespace Cert.Proof

open Idealize.ShloMosaic Idealize.SL.Sem Cert.Kernel

/-- The reference of the attention leaves its arguments and every counter. -/
theorem attention_reference_frame : Cert.quiescent_ReferenceIdeal (hReferenceIdeal := Cert.ReferenceIdeal.Gen.facts) := by
  intro m g _
  exact (θ_run (Cert.ReferenceIdeal.defs (F := Ideal)) _ _).mono
    (fun r h => ⟨fun c => (h c).2, sem_eq_zero_of_no_sems (by decide) r.2⟩) (Cert.ReferenceIdeal.Value.run (F := Ideal) m g)

/-- The attention kernel computes the reference's attention. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · run_from Cert.ReferenceIdeal.Value.run m' g'
    exact (Cert.AttnRef.res_eq m' c).trans (by rw [(hagree c).1, (hagree c).2.1, (hagree c).2.2.1, (hagree c).2.2.2.1, (hagree c).2.2.2.2]; exact (Cert.AttnValue.final m c (hpre c)).symm)

/-- The reference of the dense feed-forward layer leaves its arguments and every counter. -/
theorem ffn_reference_frame : Cert.quiescent_Reference2Ideal (hReference2Ideal := Cert.Reference2Ideal.Gen.facts) := by
  intro m g _
  exact (θ_run (Cert.Reference2Ideal.defs (F := Ideal)) _ _).mono
    (fun r h => ⟨fun c => (h c).2, sem_eq_zero_of_no_sems (by decide) r.2⟩) (Cert.Reference2Ideal.Value.run (F := Ideal) m g)

/-- The reference of the input projection leaves its arguments and every counter. -/
theorem projection_reference_frame : Cert.quiescent_Reference3Ideal (hReference3Ideal := Cert.Reference3Ideal.Gen.facts) := by
  intro m g _
  exact (θ_run (Cert.Reference3Ideal.defs (F := Ideal)) _ _).mono
    (fun r h => ⟨fun c => (h c).2, sem_eq_zero_of_no_sems (by decide) r.2⟩) (Cert.Reference3Ideal.Value.run (F := Ideal) m g)

/-- The reference of the branches' merge leaves its arguments and every counter. -/
theorem merge_reference_frame : Cert.quiescent_Reference4Ideal (hReference4Ideal := Cert.Reference4Ideal.Gen.facts) := by
  intro m g _
  exact (θ_run (Cert.Reference4Ideal.defs (F := Ideal)) _ _).mono
    (fun r h => ⟨fun c => (h c).2, sem_eq_zero_of_no_sems (by decide) r.2⟩) (Cert.Reference4Ideal.Value.run (F := Ideal) m g)

/-- The dense feed-forward kernel computes the reference's layer. -/
theorem ffn : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    exact (Cert.FfnRef.res_eq m' c).trans (by
      rw [(hagree c).1, (hagree c).2.1, (hagree c).2.2.1, (hagree c).2.2.2.1, (hagree c).2.2.2.2.1, (hagree c).2.2.2.2.2]
      exact (Cert.Ffn.final m c).symm)

/-- The projecting kernel computes the reference's projection. -/
theorem projection : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    exact (show _ = Cert.InRef.projection _ _ _ _ from rfl).trans (Cert.In.final m c).symm

/-- The merging kernel computes the reference's merge. -/
theorem merge : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    obtain ⟨h0, h1, h2, h3, h4, h5, h6, h7, h8, h9, h10, h11⟩ := hagree c
    exact (Cert.MergeRef.res_eq m' c).trans ((Cert.MergeRef.mix_congr h0 h1 h2 h3 h4 h5 h6 h7 h8 h9 h10 h11).trans (Cert.Merge.final m c).symm)

/-- The tables the precondition admits are admitted at the program's own reading of them. -/
theorem up_tables (m : (ℓ : Loc Cert.Kernel5Ideal.nD Cert.Kernel5Ideal.τ Cert.Kernel5Ideal.sig) → Buf (Elt Ideal) ℓ)
    (h : Cert.Pre_Kernel5Ideal (hPre_tables := Cert.Pre_tables.Gen.facts) m) : Cert.Kernel5Ideal.Up.Tab (Cert.Kernel5Ideal.Up.experts m) (Cert.Kernel5Ideal.Up.used m) :=
  have w := Cert.TablePre.words (h 0)
  ⟨w.1, (w.2 _).1, (w.2 _).2⟩

/-- Likewise of the program over words. -/
theorem word_tables (m : (ℓ : Loc Cert.Kernel5.nD Cert.Kernel5.τ Cert.Kernel5.sig) → Buf (Elt Bits) ℓ)
    (h : Cert.Pre_Kernel5 (hPre_tables := Cert.Pre_tables.Gen.facts) m) : Cert.Kernel5.Up.Tab (Cert.Kernel5.Up.experts m) (Cert.Kernel5.Up.used m) :=
  have w := Cert.TablePre.words (h 0)
  ⟨w.1, (w.2 _).1, (w.2 _).2⟩

/-- The expert kernel over words leaves its arguments and every counter. -/
theorem word_frame : Cert.quiescent_Kernel5 (hKernel5 := Cert.Kernel5.Gen.facts) (hPre_tables := Cert.Pre_tables.Gen.facts) := by
  intro m g h
  exact (θ_run (Cert.Kernel5.defs (F := Bits)) _ _).mono (fun r hr => ⟨fun c => (hr.1 c).2, hr.2⟩) (Cert.Kernel5.Up.ends m g (word_tables m h))

/-- The expert kernel over numbers leaves its arguments and every counter. -/
theorem up_frame : Cert.quiescent_Kernel5Ideal (hKernel5Ideal := Cert.Kernel5Ideal.Gen.facts) (hPre_tables := Cert.Pre_tables.Gen.facts) := by
  intro m g h
  exact (θ_run (Cert.Kernel5Ideal.defs (F := Ideal)) _ _).mono (fun r hr => ⟨fun c => (hr.1 c).2, hr.2⟩) (Cert.Kernel5Ideal.Up.ends m g (up_tables m h))

/-- The reference of the expert product leaves its arguments and every counter. -/
theorem up_reference_frame : Cert.quiescent_Reference5Ideal (hReference5Ideal := Cert.Reference5Ideal.Gen.facts) := by
  intro m g _
  exact (θ_run (Cert.Reference5Ideal.defs (F := Ideal)) _ _).mono
    (fun r h => ⟨fun c => (h c).2, sem_eq_zero_of_no_sems (by decide) r.2⟩) (Cert.Reference5Ideal.Value.run (F := Ideal) m g)

/-- The expert kernel computes the reference's product with the tiles' experts. -/
theorem up : Cert.algebraic_Kernel5Ideal_Reference5Ideal (hKernel5Ideal := Cert.Kernel5Ideal.Gen.facts)
    (hReference5Ideal := Cert.Reference5Ideal.Gen.facts) (hPre_tables := Cert.Pre_tables.Gen.facts) := by
  intro m g m' g' hpre hagree
  refine ⟨fun c => Cert.Up.REF m c, (θ_run (Cert.Kernel5Ideal.defs (F := Ideal)) _ _).mono (fun r hr c => ?_) (Cert.Kernel5Ideal.Up.ends m g (up_tables m hpre)),
    (θ_run (Cert.Reference5Ideal.defs (F := Ideal)) _ _).mono (fun r hr c => ?_) (Cert.Reference5Ideal.Value.run (F := Ideal) m' g')⟩
  · exact ⟨((hr.1 c).1).trans (Cert.Up.final m g (up_tables m hpre) c), (hr.1 c).2⟩
  · refine ⟨(hr c).1.trans ?_, (hr c).2⟩
    obtain ⟨h0, h1, h2, h3, h4⟩ := hagree c
    obtain rfl : c = 0 := Subsingleton.elim _ _
    exact (Cert.Reference5Ideal.Value.val2_main_v108 _).symm.trans ((Cert.UpRef.res_eq _).trans (Cert.UpRef.up_congr h0 h1 h2 h3 h4))

/-- The tables the second precondition admits are admitted at the down kernel's own reading of them. -/
theorem down_tables (m : (ℓ : Loc Cert.Kernel6Ideal.nD Cert.Kernel6Ideal.τ Cert.Kernel6Ideal.sig) → Buf (Elt Ideal) ℓ)
    (h : Cert.Pre_Kernel6Ideal (hPre_tables_down := Cert.Pre_tables_down.Gen.facts) m) : Cert.Kernel6Ideal.Down.Tab (Cert.Kernel6Ideal.Down.experts m) (Cert.Kernel6Ideal.Down.used m) :=
  have w := Cert.DownPre.words (h 0)
  ⟨w.1, (w.2 _).1, (w.2 _).2⟩

/-- Likewise of the down program over words. -/
theorem down_word_tables (m : (ℓ : Loc Cert.Kernel6.nD Cert.Kernel6.τ Cert.Kernel6.sig) → Buf (Elt Bits) ℓ)
    (h : Cert.Pre_Kernel6 (hPre_tables_down := Cert.Pre_tables_down.Gen.facts) m) : Cert.Kernel6.Down.Tab (Cert.Kernel6.Down.experts m) (Cert.Kernel6.Down.used m) :=
  have w := Cert.DownPre.words (h 0)
  ⟨w.1, (w.2 _).1, (w.2 _).2⟩

/-- The down kernel over words leaves its arguments and every counter. -/
theorem down_word_frame : Cert.quiescent_Kernel6 (hKernel6 := Cert.Kernel6.Gen.facts) (hPre_tables_down := Cert.Pre_tables_down.Gen.facts) := by
  intro m g h
  exact (θ_run (Cert.Kernel6.defs (F := Bits)) _ _).mono (fun r hr => ⟨fun c => (hr.1 c).2, hr.2⟩) (Cert.Kernel6.Down.ends m g (down_word_tables m h))

/-- The down kernel over numbers leaves its arguments and every counter. -/
theorem down_frame : Cert.quiescent_Kernel6Ideal (hKernel6Ideal := Cert.Kernel6Ideal.Gen.facts) (hPre_tables_down := Cert.Pre_tables_down.Gen.facts) := by
  intro m g h
  exact (θ_run (Cert.Kernel6Ideal.defs (F := Ideal)) _ _).mono (fun r hr => ⟨fun c => (hr.1 c).2, hr.2⟩) (Cert.Kernel6Ideal.Down.ends m g (down_tables m h))

/-- The reference of the down product leaves its arguments and every counter. -/
theorem down_reference_frame : Cert.quiescent_Reference6Ideal (hReference6Ideal := Cert.Reference6Ideal.Gen.facts) := by
  intro m g _
  exact (θ_run (Cert.Reference6Ideal.defs (F := Ideal)) _ _).mono
    (fun r h => ⟨fun c => (h c).2, sem_eq_zero_of_no_sems (by decide) r.2⟩) (Cert.Reference6Ideal.Value.run (F := Ideal) m g)

/-- The down kernel computes the reference's product with the tiles' experts. -/
theorem down : Cert.algebraic_Kernel6Ideal_Reference6Ideal (hKernel6Ideal := Cert.Kernel6Ideal.Gen.facts)
    (hReference6Ideal := Cert.Reference6Ideal.Gen.facts) (hPre_tables_down := Cert.Pre_tables_down.Gen.facts) := by
  intro m g m' g' hpre hagree
  refine ⟨fun c => Cert.Down.REF m c, (θ_run (Cert.Kernel6Ideal.defs (F := Ideal)) _ _).mono (fun r hr c => ?_) (Cert.Kernel6Ideal.Down.ends m g (down_tables m hpre)),
    (θ_run (Cert.Reference6Ideal.defs (F := Ideal)) _ _).mono (fun r hr c => ?_) (Cert.Reference6Ideal.Value.run (F := Ideal) m' g')⟩
  · exact ⟨((hr.1 c).1).trans (Cert.Down.final m g (down_tables m hpre) c), (hr.1 c).2⟩
  · refine ⟨(hr c).1.trans ?_, (hr c).2⟩
    obtain ⟨h0, h1, h2, h3⟩ := hagree c
    obtain rfl : c = 0 := Subsingleton.elim _ _
    exact (Cert.DownRef.res_eq m' 0).trans (Cert.DownRef.down_congr h0 h1 h2 h3)

/-- The reference of the attention's preparation leaves its arguments and every counter. -/
theorem prep_reference_frame : Cert.quiescent_Reference7Ideal (hReference7Ideal := Cert.Reference7Ideal.Gen.facts) := by
  intro m g _
  exact (θ_run (Cert.Reference7Ideal.defs (F := Ideal)) _ _).mono
    (fun r h => ⟨fun c => (h c).2, sem_eq_zero_of_no_sems (by decide) r.2⟩) (Cert.Reference7Ideal.Value.run (F := Ideal) m g)

/-- The preparing kernel computes the reference's normed keys. -/
theorem prep : Cert.algebraic_Kernel7Ideal_Reference7Ideal_pre_finite_prep (hKernel7Ideal := Cert.Kernel7Ideal.Gen.facts)
    (hReference7Ideal := Cert.Reference7Ideal.Gen.facts) (hPre_finite_prep := Cert.Pre_finite_prep.Gen.facts) := by
  pair_intro
  · run_from Cert.Kernel7Ideal.Gen.run_main m g
    · exact Cert.Kernel7Ideal.Gen.V_main_arg3 m c
    · exact Cert.Kernel7Ideal.Gen.V_main_arg4 m c
  · run_from Cert.Reference7Ideal.Value.run m' g'
    exact (show _ = Cert.PrepRef.keys _ _ from rfl).trans (Cert.Prep.final m c (Cert.PrepFinite.reals (hpre c))).symm

/-- The reference of the modulation leaves its arguments and every counter. -/
theorem modulation_reference_frame : Cert.quiescent_Reference8Ideal (hReference8Ideal := Cert.Reference8Ideal.Gen.facts) := by
  intro m g _
  exact (θ_run (Cert.Reference8Ideal.defs (F := Ideal)) _ _).mono
    (fun r h => ⟨fun c => (h c).2, sem_eq_zero_of_no_sems (by decide) r.2⟩) (Cert.Reference8Ideal.Value.run (F := Ideal) m g)

/-- The modulation kernel computes the reference's modulation. -/
theorem modulation : Cert.algebraic_Kernel8Ideal_Reference8Ideal_pre_finite_mod (hKernel8Ideal := Cert.Kernel8Ideal.Gen.facts)
    (hReference8Ideal := Cert.Reference8Ideal.Gen.facts) (hPre_finite_mod := Cert.Pre_finite_mod.Gen.facts) := by
  pair_intro
  · run_from Cert.Kernel8Ideal.Gen.run_main m g
  · run_from Cert.Reference8Ideal.Value.run m' g'
    exact (show _ = Cert.ModRef.modulation _ _ _ from rfl).trans (Cert.Mod.final m c (Cert.ModFinite.reals (hpre c)).1 (Cert.ModFinite.reals (hpre c)).2).symm

/-- The reference of the prompt attention leaves its arguments and every counter. -/
theorem prompt_reference_frame : Cert.quiescent_Reference9Ideal (hReference9Ideal := Cert.Reference9Ideal.Gen.facts) := by
  intro m g _
  exact (θ_run (Cert.Reference9Ideal.defs (F := Ideal)) _ _).mono
    (fun r h => ⟨fun c => (h c).2, sem_eq_zero_of_no_sems (by decide) r.2⟩) (Cert.Reference9Ideal.Value.run (F := Ideal) m g)

/-- The prompt attention kernel computes the reference's attention. -/
theorem prompt : Cert.algebraic_Kernel9Ideal_Reference9Ideal_pre_finite_prompt (hKernel9Ideal := Cert.Kernel9Ideal.Gen.facts)
    (hReference9Ideal := Cert.Reference9Ideal.Gen.facts) (hPre_finite_prompt := Cert.Pre_finite_prompt.Gen.facts) := by
  pair_intro
  · run_from Cert.Kernel9Ideal.Gen.run_main m g
  · run_from Cert.Reference9Ideal.Value.run m' g'
    exact (show _ = Cert.PromptRef.attention _ _ _ from rfl).trans
      (Cert.PromptValue.final m c (Cert.PromptFinite.reals (hpre c)).1 (Cert.PromptFinite.reals (hpre c)).2).symm

/-- The reference of the channels' sums leaves its arguments and every counter. -/
theorem channels_reference_frame : Cert.quiescent_Reference10Ideal (hReference10Ideal := Cert.Reference10Ideal.Gen.facts) := by
  intro m g _
  exact (θ_run (Cert.Reference10Ideal.defs (F := Ideal)) _ _).mono
    (fun r h => ⟨fun c => (h c).2, sem_eq_zero_of_no_sems (by decide) r.2⟩) (Cert.Reference10Ideal.Value.run (F := Ideal) m g)

/-- The channels' kernel computes the reference's sums over each group's channels. -/
theorem channels : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    exact (show _ = Cert.ChanRef.channels _ from rfl).trans ((congrArg Cert.ChanRef.channels (hagree c)).trans (Cert.Chan.final m c).symm)

/-- The reference of the sampled tokens' position sums leaves its arguments and every counter. -/
theorem positions_reference_frame : Cert.quiescent_Reference11Ideal (hReference11Ideal := Cert.Reference11Ideal.Gen.facts) := by
  intro m g _
  exact (θ_run (Cert.Reference11Ideal.defs (F := Ideal)) _ _).mono
    (fun r h => ⟨fun c => (h c).2, sem_eq_zero_of_no_sems (by decide) r.2⟩) (Cert.Reference11Ideal.Value.run (F := Ideal) m g)

/-- The positions' kernel of the sampled tokens computes the reference's sums over each sequence's positions. -/
theorem positions : Cert.algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · run_from Cert.Reference11Ideal.Value.run m' g'
    exact (show _ = Cert.PosRef.mix _ _ _ from rfl).trans (Cert.Pos.final m c).symm

/-- The reference of the prompt's position sums leaves its arguments and every counter. -/
theorem waves_reference_frame : Cert.quiescent_Reference12Ideal (hReference12Ideal := Cert.Reference12Ideal.Gen.facts) := by
  intro m g _
  exact (θ_run (Cert.Reference12Ideal.defs (F := Ideal)) _ _).mono
    (fun r h => ⟨fun c => (h c).2, sem_eq_zero_of_no_sems (by decide) r.2⟩) (Cert.Reference12Ideal.Value.run (F := Ideal) m g)

/-- The positions' kernel of the prompt computes the reference's sums over each sequence's positions. -/
theorem waves : Cert.algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    exact (show _ = Cert.WaveRef.mix _ _ _ from rfl).trans (Cert.Wave.final m c).symm

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts, Cert.Pre_tables.Gen.facts, Cert.Pre_tables_down.Gen.facts, Cert.Pre_finite_prep.Gen.facts,
  Cert.Pre_finite_mod.Gen.facts, Cert.Pre_finite_prompt.Gen.facts,
  fun m ρ _ => Cert.Kernel.Gen.frame m ρ, fun m ρ _ => Cert.KernelIdeal.Gen.frame m ρ, fun m ρ _ => Cert.KernelIdeal.Gen.frame m ρ,
  attention_reference_frame, fun m g _ => attention_reference_frame m g trivial,
  fun m ρ _ => Cert.Kernel2.Gen.frame m ρ, fun m ρ _ => Cert.Kernel2Ideal.Gen.frame m ρ, ffn_reference_frame,
  fun m ρ _ => Cert.Kernel3.Gen.frame m ρ, fun m ρ _ => Cert.Kernel3Ideal.Gen.frame m ρ, projection_reference_frame,
  fun m ρ _ => Cert.Kernel4.Gen.frame m ρ, fun m ρ _ => Cert.Kernel4Ideal.Gen.frame m ρ, merge_reference_frame,
  word_frame, up_frame, up_reference_frame, fun m g _ => up_reference_frame m g trivial,
  down_word_frame, down_frame, down_reference_frame, fun m g _ => down_reference_frame m g trivial,
  fun m ρ _ => Cert.Kernel7.Gen.frame m ρ, fun m ρ _ => Cert.Kernel7Ideal.Gen.frame m ρ, fun m ρ _ => Cert.Kernel7Ideal.Gen.frame m ρ,
  prep_reference_frame, fun m g _ => prep_reference_frame m g trivial,
  fun m ρ _ => Cert.Kernel8.Gen.frame m ρ, fun m ρ _ => Cert.Kernel8Ideal.Gen.frame m ρ, fun m ρ _ => Cert.Kernel8Ideal.Gen.frame m ρ,
  modulation_reference_frame, fun m g _ => modulation_reference_frame m g trivial,
  fun m ρ _ => Cert.Kernel9.Gen.frame m ρ, fun m ρ _ => Cert.Kernel9Ideal.Gen.frame m ρ, fun m ρ _ => Cert.Kernel9Ideal.Gen.frame m ρ,
  prompt_reference_frame, fun m g _ => prompt_reference_frame m g trivial,
  fun m ρ _ => Cert.Kernel10.Gen.frame m ρ, fun m ρ _ => Cert.Kernel10Ideal.Gen.frame m ρ, channels_reference_frame,
  fun m ρ _ => Cert.Kernel11.Gen.frame m ρ, fun m ρ _ => Cert.Kernel11Ideal.Gen.frame m ρ, positions_reference_frame,
  fun m ρ _ => Cert.Kernel12.Gen.frame m ρ, fun m ρ _ => Cert.Kernel12Ideal.Gen.frame m ρ, waves_reference_frame,
  trivial, attention, trivial, ffn, trivial, projection, trivial, merge, trivial, up, trivial, down, trivial, prep,
  trivial, modulation, trivial, prompt,
  trivial, channels, trivial, positions, trivial, waves⟩

end Cert.Proof

end
